-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v153) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v26)) (v1 : (c : Dev Cert.Kernel5Ideal.nD) → Buf (Elt Ideal) ((c.tc : Thread Cert.Kernel5Ideal.nD Cert.Kernel5Ideal.τ).loc Cert.Kernel5Ideal.main_v41)) (v2 : (c : Dev Cert.Kernel5Ideal.nD) → Buf (Elt Ideal) ((c.tc : Thread Cert.Kernel5Ideal.nD Cert.Kernel5Ideal.τ).loc Cert.Kernel5Ideal.main_v53)) (v3 : (c : Dev Cert.Kernel5Ideal.nD) → Buf (Elt Ideal) ((c.tc : Thread Cert.Kernel5Ideal.nD Cert.Kernel5Ideal.τ).loc Cert.Kernel5Ideal.main_v65)) (v4 : (c : Dev Cert.Kernel5Ideal.nD) → Buf (Elt Ideal) ((c.tc : Thread Cert.Kernel5Ideal.nD Cert.Kernel5Ideal.τ).loc Cert.Kernel5Ideal.main_v71)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26) = v0 c
          ∧ r.2.mem ((c.tc : Thread Cert.Kernel5Ideal.nD Cert.Kernel5Ideal.τ).loc Cert.Kernel5Ideal.main_v41) = v1 c
          ∧ r.2.mem ((c.tc : Thread Cert.Kernel5Ideal.nD Cert.Kernel5Ideal.τ).loc Cert.Kernel5Ideal.main_v53) = v2 c
          ∧ r.2.mem ((c.tc : Thread Cert.Kernel5Ideal.nD Cert.Kernel5Ideal.τ).loc Cert.Kernel5Ideal.main_v65) = v3 c
          ∧ r.2.mem ((c.tc : Thread Cert.Kernel5Ideal.nD Cert.Kernel5Ideal.τ).loc Cert.Kernel5Ideal.main_v71) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_v84) = v2 c
          ∧ r.2.mem ((c.tc : Thread Cert.Reference5Ideal.nD Cert.Reference5Ideal.τ).loc Cert.Reference5Ideal.main_v96) = v3 c
          ∧ r.2.mem ((c.tc : Thread Cert.Reference5Ideal.nD Cert.Reference5Ideal.τ).loc Cert.Reference5Ideal.main_v102) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_qk.lean ====
abbrev S8x2048x17408 : Shape := ⟨3, ![8, 2048, 17408]⟩
abbrev S8x2048x6144 : Shape := ⟨3, ![8, 2048, 6144]⟩
abbrev S_ : Shape := ⟨0, ![]⟩

class Facts : Prop where
  slices_S8x2048x17408_S8x2048x6144_0_0_0 : S8x2048x17408.Slices ![0, 0, 0] S8x2048x6144
  bcast_S_S8x2048x6144 : S_.BroadcastsInDim S8x2048x6144 (![] : Fin 0 → Fin S8x2048x6144.rank)
  reducesTo_S8x2048x6144_S_d0_1_2 : S8x2048x6144.ReducesTo [0, 1, 2] S_
  h_S_ : 0 < S_.numel

variable [Facts]

def fn {F : FTy → Type} [FloatOps F] (main_arg0 : FVec F S8x2048x17408 .f32) : IVec S_ 1 :=
  let main_v0 : FVec F S8x2048x6144 .f32 := (extractStridedSlice S8x2048x6144 ![0, 0, 0] · slices_S8x2048x17408_S8x2048x6144_0_0_0) main_arg0
  let main_v1 : FVec F S8x2048x6144 .f32 := Host.absf main_v0
  let main_cst : FVec F S_ .f32 := constant S_ .f32 0x7F800000#32
  let main_v2 : FVec F S8x2048x6144 .f32 := broadcastInDim S8x2048x6144 ![] bcast_S_S8x2048x6144 main_cst
  let main_v3 : IVec S8x2048x6144 1 := cmpf .olt main_v1 main_v2
  let main_c : IVec S_ 1 := constantI S_ 1 1#1
  let main_v4 : IVec S_ 1 := (fun x v => Host.reduce IntOp.andi x v reducesTo_S8x2048x6144_S_d0_1_2 h_S_) main_v3 main_c
  main_v4
-- ==== Kernel.lean ====
abbrev S8x2048x17408 : Shape := ⟨3, ![8, 2048, 17408]⟩
abbrev S8x2048x1024 : Shape := ⟨3, ![8, 2048, 1024]⟩
abbrev S1x8x2x8x128x128 : Shape := ⟨6, ![1, 8, 2, 8, 128, 128]⟩
abbrev S1x8x2x8x512x128 : Shape := ⟨6, ![1, 8, 2, 8, 512, 128]⟩
abbrev S1x8x2x8x2048x128 : Shape := ⟨6, ![1, 8, 2, 8, 2048, 128]⟩
abbrev S1x2048x128 : Shape := ⟨3, ![1, 2048, 128]⟩
abbrev S1x1x2x1x128x128 : Shape := ⟨6, ![1, 1, 2, 1, 128, 128]⟩
abbrev S1x1x2x1x512x128 : Shape := ⟨6, ![1, 1, 2, 1, 512, 128]⟩
abbrev S1x1x2x1x2048x128 : Shape := ⟨6, ![1, 1, 2, 1, 2048, 128]⟩
abbrev S3x2048x128 : Shape := ⟨3, ![3, 2048, 128]⟩
abbrev S1x128x128 : Shape := ⟨3, ![1, 128, 128]⟩
abbrev S128x128 : Shape := ⟨2, ![128, 128]⟩
abbrev S1x1x1x1x128x128 : Shape := ⟨6, ![1, 1, 1, 1, 128, 128]⟩
abbrev S1x512x128 : Shape := ⟨3, ![1, 512, 128]⟩
abbrev S512x128 : Shape := ⟨2, ![512, 128]⟩
abbrev S1x1x1x1x512x128 : Shape := ⟨6, ![1, 1, 1, 1, 512, 128]⟩
abbrev S2048x128 : Shape := ⟨2, ![2048, 128]⟩
abbrev S1x1x1x1x2048x128 : Shape := ⟨6, ![1, 1, 1, 1, 2048, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S256x256 : Shape := ⟨2, ![256, 256]⟩

abbrev nBuf : Space → Nat
  | .hbm => 5
  | .vmem => 29
  | .smem => 0
  | _ => 0

abbrev bufTy : (tb : Table) → Fin (tcTables nBuf tb) → BufTy
  | .hbm, ⟨0, _⟩ => ⟨S8x2048x17408, .f32⟩
  | .hbm, ⟨1, _⟩ => ⟨S8x2048x1024, .bf16⟩
  | .hbm, ⟨2, _⟩ => ⟨S1x8x2x8x128x128, .f32⟩
  | .hbm, ⟨3, _⟩ => ⟨S1x8x2x8x512x128, .f32⟩
  | .hbm, ⟨4, _⟩ => ⟨S1x8x2x8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .bf16⟩
  | .local _ .vmem, ⟨19, _⟩ => ⟨S1x2048x128, .bf16⟩
  | .local _ .vmem, ⟨20, _⟩ => ⟨S1x1x2x1x128x128, .f32⟩
  | .local _ .vmem, ⟨21, _⟩ => ⟨S1x1x2x1x128x128, .f32⟩
  | .local _ .vmem, ⟨22, _⟩ => ⟨S1x1x2x1x512x128, .f32⟩
  | .local _ .vmem, ⟨23, _⟩ => ⟨S1x1x2x1x512x128, .f32⟩
  | .local _ .vmem, ⟨24, _⟩ => ⟨S1x1x2x1x2048x128, .f32⟩
  | .local _ .vmem, ⟨25, _⟩ => ⟨S1x1x2x1x2048x128, .f32⟩
  | .local _ .vmem, ⟨26, _⟩ => ⟨S3x2048x128, .f32⟩
  | .local _ .vmem, ⟨27, _⟩ => ⟨S3x2048x128, .f32⟩
  | .local _ .vmem, ⟨28, _⟩ => ⟨S3x2048x128, .f32⟩
  | _, _ => ⟨S8x2048x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def k0_off1 (c0_i32_50 : BitVec 32) : Fin 3 → Nat :=
  let c0_64 : Index := 0#32
  let c0_i32 : BitVec 32 := 0#32
  let c16_i32 : BitVec 32 := 16#32
  let v34 : BitVec 32 := Scalar.muli c0_i32 c16_i32
  let v35 : BitVec 32 := Scalar.addi v34 c0_i32_50
  let c0_i32_52 : BitVec 32 := 0#32
  let v37 : BitVec 1 := Scalar.cmpi .sgt v35 c0_i32_52
  let v38 : BitVec 32 := Scalar.extui v37
  let c0_i32_53 : BitVec 32 := 0#32
  let v39 : BitVec 1 := Scalar.cmpi .slt v35 c0_i32_53
  let v40 : BitVec 32 := Scalar.extui v39
  let v41 : BitVec 32 := Scalar.subi v38 v40
  let c16_i32_51 : BitVec 32 := 16#32
  let c0_i32_54 : BitVec 32 := 0#32
  let v42 : BitVec 1 := Scalar.cmpi .sgt c16_i32_51 c0_i32_54
  let v43 : BitVec 32 := Scalar.extui v42
  let c0_i32_55 : BitVec 32 := 0#32
  let v44 : BitVec 1 := Scalar.cmpi .slt c16_i32_51 c0_i32_55
  let v45 : BitVec 32 := Scalar.extui v44
  let v46 : BitVec 32 := Scalar.subi v43 v45
  let v47 : BitVec 1 := Scalar.cmpi .ne v41 v46
  let v48 : BitVec 32 := Scalar.remsi v35 c16_i32_51
  let c0_i32_56 : BitVec 32 := 0#32
  let v49 : BitVec 1 := Scalar.cmpi .ne v48 c0_i32_56
  let v50 : BitVec 1 := Scalar.andi v47 v49
  let v36 : BitVec 32 := Scalar.divsi v35 c16_i32_51
  let c1_i32 : BitVec 32 := 1#32
  let v51 : BitVec 32 := Scalar.subi v36 c1_i32
  let v52 : BitVec 32 := Scalar.select v50 v51 v36
  let c1_i32_63 : BitVec 32 := 1#32
  let c16_i32_57 : BitVec 32 := 16#32
  let c0_i32_58 : BitVec 32 := 0#32
  let v53 : BitVec 1 := Scalar.cmpi .eq c16_i32_57 c0_i32_58
  let c1_i32_59 : BitVec 32 := 1#32
  let v54 : BitVec 32 := Scalar.select v53 c1_i32_59 c16_i32_57
  let v55 : BitVec 32 := Scalar.remsi v35 v54
  let c0_i32_61 : BitVec 32 := 0#32
  let v57 : BitVec 1 := Scalar.cmpi .slt v55 c0_i32_61
  let c0_i32_62 : BitVec 32 := 0#32
  let v58 : BitVec 1 := Scalar.cmpi .slt v54 c0_i32_62
  let v59 : BitVec 1 := Scalar.xori v57 v58
  let c0_i32_60 : BitVec 32 := 0#32
  let v56 : BitVec 1 := Scalar.cmpi .ne v55 c0_i32_60
  let v60 : BitVec 1 := Scalar.andi v59 v56
  let v61 : BitVec 32 := Scalar.addi v55 v54
  let v62 : BitVec 32 := Scalar.select v60 v61 v55
  let c128_i32 : BitVec 32 := 128#32
  let v63 : BitVec 32 := Scalar.muli v62 c128_i32
  let v64 : BitVec 32 := Scalar.muli c1_i32_63 v63
  let v65 : BitVec 32 := Scalar.addi v52 v64
  let v66 : Index := Scalar.indexCast v65
  let c0_65 : Index := 0#32
  ![0, v66.toNat, 0]
def k0_off2 (c0_i32_50 : BitVec 32) : Fin 3 → Nat :=
  let c0_72 : Index := 0#32
  let c0_i32 : BitVec 32 := 0#32
  let c16_i32 : BitVec 32 := 16#32
  let v34 : BitVec 32 := Scalar.muli c0_i32 c16_i32
  let v35 : BitVec 32 := Scalar.addi v34 c0_i32_50
  let c0_i32_52 : BitVec 32 := 0#32
  let v37 : BitVec 1 := Scalar.cmpi .sgt v35 c0_i32_52
  let v38 : BitVec 32 := Scalar.extui v37
  let c0_i32_53 : BitVec 32 := 0#32
  let v39 : BitVec 1 := Scalar.cmpi .slt v35 c0_i32_53
  let v40 : BitVec 32 := Scalar.extui v39
  let v41 : BitVec 32 := Scalar.subi v38 v40
  let c16_i32_51 : BitVec 32 := 16#32
  let c0_i32_54 : BitVec 32 := 0#32
  let v42 : BitVec 1 := Scalar.cmpi .sgt c16_i32_51 c0_i32_54
  let v43 : BitVec 32 := Scalar.extui v42
  let c0_i32_55 : BitVec 32 := 0#32
  let v44 : BitVec 1 := Scalar.cmpi .slt c16_i32_51 c0_i32_55
  let v45 : BitVec 32 := Scalar.extui v44
  let v46 : BitVec 32 := Scalar.subi v43 v45
  let v47 : BitVec 1 := Scalar.cmpi .ne v41 v46
  let v48 : BitVec 32 := Scalar.remsi v35 c16_i32_51
  let c0_i32_56 : BitVec 32 := 0#32
  let v49 : BitVec 1 := Scalar.cmpi .ne v48 c0_i32_56
  let v50 : BitVec 1 := Scalar.andi v47 v49
  let v36 : BitVec 32 := Scalar.divsi v35 c16_i32_51
  let c1_i32 : BitVec 32 := 1#32
  let v51 : BitVec 32 := Scalar.subi v36 c1_i32
  let v52 : BitVec 32 := Scalar.select v50 v51 v36
  let c1_i32_71 : BitVec 32 := 1#32
  let c16_i32_57 : BitVec 32 := 16#32
  let c0_i32_58 : BitVec 32 := 0#32
  let v53 : BitVec 1 := Scalar.cmpi .eq c16_i32_57 c0_i32_58
  let c1_i32_59 : BitVec 32 := 1#32
  let v54 : BitVec 32 := Scalar.select v53 c1_i32_59 c16_i32_57
  let v55 : BitVec 32 := Scalar.remsi v35 v54
  let c0_i32_61 : BitVec 32 := 0#32
  let v57 : BitVec 1 := Scalar.cmpi .slt v55 c0_i32_61
  let c0_i32_62 : BitVec 32 := 0#32
  let v58 : BitVec 1 := Scalar.cmpi .slt v54 c0_i32_62
  let v59 : BitVec 1 := Scalar.xori v57 v58
  let c0_i32_60 : BitVec 32 := 0#32
  let v56 : BitVec 1 := Scalar.cmpi .ne v55 c0_i32_60
  let v60 : BitVec 1 := Scalar.andi v59 v56
  let v61 : BitVec 32 := Scalar.addi v55 v54
  let v62 : BitVec 32 := Scalar.select v60 v61 v55
  let c1_i32_68 : BitVec 32 := 1#32
  let v74 : BitVec 32 := Scalar.subi v62 c1_i32_68
  let c0_i32_69 : BitVec 32 := 0#32
  let v75 : BitVec 32 := Scalar.maxsi v74 c0_i32_69
  let c128_i32_70 : BitVec 32 := 128#32
  let v76 : BitVec 32 := Scalar.muli v75 c128_i32_70
  let v77 : BitVec 32 := Scalar.muli c1_i32_71 v76
  let v78 : BitVec 32 := Scalar.addi v52 v77
  let v79 : Index := Scalar.indexCast v78
  let c0_73 : Index := 0#32
  ![0, v79.toNat, 0]
def k0_off3 (c0_i32_50 : BitVec 32) : Fin 3 → Nat :=
  let c0_640 : Index := 0#32
  let c0_i32 : BitVec 32 := 0#32
  let c16_i32 : BitVec 32 := 16#32
  let v34 : BitVec 32 := Scalar.muli c0_i32 c16_i32
  let v35 : BitVec 32 := Scalar.addi v34 c0_i32_50
  let c0_i32_52 : BitVec 32 := 0#32
  let v37 : BitVec 1 := Scalar.cmpi .sgt v35 c0_i32_52
  let v38 : BitVec 32 := Scalar.extui v37
  let c0_i32_53 : BitVec 32 := 0#32
  let v39 : BitVec 1 := Scalar.cmpi .slt v35 c0_i32_53
  let v40 : BitVec 32 := Scalar.extui v39
  let v41 : BitVec 32 := Scalar.subi v38 v40
  let c16_i32_51 : BitVec 32 := 16#32
  let c0_i32_54 : BitVec 32 := 0#32
  let v42 : BitVec 1 := Scalar.cmpi .sgt c16_i32_51 c0_i32_54
  let v43 : BitVec 32 := Scalar.extui v42
  let c0_i32_55 : BitVec 32 := 0#32
  let v44 : BitVec 1 := Scalar.cmpi .slt c16_i32_51 c0_i32_55
  let v45 : BitVec 32 := Scalar.extui v44
  let v46 : BitVec 32 := Scalar.subi v43 v45
  let v47 : BitVec 1 := Scalar.cmpi .ne v41 v46
  let v48 : BitVec 32 := Scalar.remsi v35 c16_i32_51
  let c0_i32_56 : BitVec 32 := 0#32
  let v49 : BitVec 1 := Scalar.cmpi .ne v48 c0_i32_56
  let v50 : BitVec 1 := Scalar.andi v47 v49
  let v36 : BitVec 32 := Scalar.divsi v35 c16_i32_51
  let c1_i32 : BitVec 32 := 1#32
  let v51 : BitVec 32 := Scalar.subi v36 c1_i32
  let v52 : BitVec 32 := Scalar.select v50 v51 v36
  let c1_i32_63 : BitVec 32 := 1#32
  let c16_i32_57 : BitVec 32 := 16#32
  let c0_i32_58 : BitVec 32 := 0#32
  let v53 : BitVec 1 := Scalar.cmpi .eq c16_i32_57 c0_i32_58
  let c1_i32_59 : BitVec 32 := 1#32
  let v54 : BitVec 32 := Scalar.select v53 c1_i32_59 c16_i32_57
  let v55 : BitVec 32 := Scalar.remsi v35 v54
  let c0_i32_61 : BitVec 32 := 0#32
  let v57 : BitVec 1 := Scalar.cmpi .slt v55 c0_i32_61
  let c0_i32_62 : BitVec 32 := 0#32
  let v58 : BitVec 1 := Scalar.cmpi .slt v54 c0_i32_62
  let v59 : BitVec 1 := Scalar.xori v57 v58
  let c0_i32_60 : BitVec 32 := 0#32
  let v56 : BitVec 1 := Scalar.cmpi .ne v55 c0_i32_60
  let v60 : BitVec 1 := Scalar.andi v59 v56
  let v61 : BitVec 32 := Scalar.addi v55 v54
  let v62 : BitVec 32 := Scalar.select v60 v61 v55
  let c128_i32 : BitVec 32 := 128#32
  let v63 : BitVec 32 := Scalar.muli v62 c128_i32
  let v64 : BitVec 32 := Scalar.muli c1_i32_63 v63
  let v65 : BitVec 32 := Scalar.addi v52 v64
  let v1298 : Index := Scalar.indexCast v65
  let c0_641 : Index := 0#32
  ![0, v1298.toNat, 0]
def k0_off4 (c0_i32_739 : BitVec 32) : Fin 3 → Nat :=
  let c0_755 : Index := 0#32
  let c0_i32_737 : BitVec 32 := 0#32
  let c16_i32_738 : BitVec 32 := 16#32
  let v1522 : BitVec 32 := Scalar.muli c0_i32_737 c16_i32_738
  let v1523 : BitVec 32 := Scalar.addi v1522 c0_i32_739
  let c0_i32_741 : BitVec 32 := 0#32
  let v1525 : BitVec 1 := Scalar.cmpi .sgt v1523 c0_i32_741
  let v1526 : BitVec 32 := Scalar.extui v1525
  let c0_i32_742 : BitVec 32 := 0#32
  let v1527 : BitVec 1 := Scalar.cmpi .slt v1523 c0_i32_742
  let v1528 : BitVec 32 := Scalar.extui v1527
  let v1529 : BitVec 32 := Scalar.subi v1526 v1528
  let c4_i32_740 : BitVec 32 := 4#32
  let c0_i32_743 : BitVec 32 := 0#32
  let v1530 : BitVec 1 := Scalar.cmpi .sgt c4_i32_740 c0_i32_743
  let v1531 : BitVec 32 := Scalar.extui v1530
  let c0_i32_744 : BitVec 32 := 0#32
  let v1532 : BitVec 1 := Scalar.cmpi .slt c4_i32_740 c0_i32_744
  let v1533 : BitVec 32 := Scalar.extui v1532
  let v1534 : BitVec 32 := Scalar.subi v1531 v1533
  let v1535 : BitVec 1 := Scalar.cmpi .ne v1529 v1534
  let v1536 : BitVec 32 := Scalar.remsi v1523 c4_i32_740
  let c0_i32_745 : BitVec 32 := 0#32
  let v1537 : BitVec 1 := Scalar.cmpi .ne v1536 c0_i32_745
  let v1538 : BitVec 1 := Scalar.andi v1535 v1537
  let v1524 : BitVec 32 := Scalar.divsi v1523 c4_i32_740
  let c1_i32_746 : BitVec 32 := 1#32
  let v1539 : BitVec 32 := Scalar.subi v1524 c1_i32_746
  let v1540 : BitVec 32 := Scalar.select v1538 v1539 v1524
  let c4_i32_754 : BitVec 32 := 4#32
  let c4_i32_747 : BitVec 32 := 4#32
  let c0_i32_748 : BitVec 32 := 0#32
  let v1541 : BitVec 1 := Scalar.cmpi .eq c4_i32_747 c0_i32_748
  let c1_i32_749 : BitVec 32 := 1#32
  let v1542 : BitVec 32 := Scalar.select v1541 c1_i32_749 c4_i32_747
  let v1543 : BitVec 32 := Scalar.remsi v1523 v1542
  let c0_i32_751 : BitVec 32 := 0#32
  let v1545 : BitVec 1 := Scalar.cmpi .slt v1543 c0_i32_751
  let c0_i32_752 : BitVec 32 := 0#32
  let v1546 : BitVec 1 := Scalar.cmpi .slt v1542 c0_i32_752
  let v1547 : BitVec 1 := Scalar.xori v1545 v1546
  let c0_i32_750 : BitVec 32 := 0#32
  let v1544 : BitVec 1 := Scalar.cmpi .ne v1543 c0_i32_750
  let v1548 : BitVec 1 := Scalar.andi v1547 v1544
  let v1549 : BitVec 32 := Scalar.addi v1543 v1542
  let v1550 : BitVec 32 := Scalar.select v1548 v1549 v1543
  let c128_i32_753 : BitVec 32 := 128#32
  let v1551 : BitVec 32 := Scalar.muli v1550 c128_i32_753
  let v1552 : BitVec 32 := Scalar.muli c4_i32_754 v1551
  let v1553 : BitVec 32 := Scalar.addi v1540 v1552
  let v1554 : Index := Scalar.indexCast v1553
  let c0_756 : Index := 0#32
  ![0, v1554.toNat, 0]
def k0_off5 (c0_i32_739 : BitVec 32) : Fin 3 → Nat :=
  let c0_763 : Index := 0#32
  let c0_i32_737 : BitVec 32 := 0#32
  let c16_i32_738 : BitVec 32 := 16#32
  let v1522 : BitVec 32 := Scalar.muli c0_i32_737 c16_i32_738
  let v1523 : BitVec 32 := Scalar.addi v1522 c0_i32_739
  let c0_i32_741 : BitVec 32 := 0#32
  let v1525 : BitVec 1 := Scalar.cmpi .sgt v1523 c0_i32_741
  let v1526 : BitVec 32 := Scalar.extui v1525
  let c0_i32_742 : BitVec 32 := 0#32
  let v1527 : BitVec 1 := Scalar.cmpi .slt v1523 c0_i32_742
  let v1528 : BitVec 32 := Scalar.extui v1527
  let v1529 : BitVec 32 := Scalar.subi v1526 v1528
  let c4_i32_740 : BitVec 32 := 4#32
  let c0_i32_743 : BitVec 32 := 0#32
  let v1530 : BitVec 1 := Scalar.cmpi .sgt c4_i32_740 c0_i32_743
  let v1531 : BitVec 32 := Scalar.extui v1530
  let c0_i32_744 : BitVec 32 := 0#32
  let v1532 : BitVec 1 := Scalar.cmpi .slt c4_i32_740 c0_i32_744
  let v1533 : BitVec 32 := Scalar.extui v1532
  let v1534 : BitVec 32 := Scalar.subi v1531 v1533
  let v1535 : BitVec 1 := Scalar.cmpi .ne v1529 v1534
  let v1536 : BitVec 32 := Scalar.remsi v1523 c4_i32_740
  let c0_i32_745 : BitVec 32 := 0#32
  let v1537 : BitVec 1 := Scalar.cmpi .ne v1536 c0_i32_745
  let v1538 : BitVec 1 := Scalar.andi v1535 v1537
  let v1524 : BitVec 32 := Scalar.divsi v1523 c4_i32_740
  let c1_i32_746 : BitVec 32 := 1#32
  let v1539 : BitVec 32 := Scalar.subi v1524 c1_i32_746
  let v1540 : BitVec 32 := Scalar.select v1538 v1539 v1524
  let c4_i32_762 : BitVec 32 := 4#32
  let c4_i32_747 : BitVec 32 := 4#32
  let c0_i32_748 : BitVec 32 := 0#32
  let v1541 : BitVec 1 := Scalar.cmpi .eq c4_i32_747 c0_i32_748
  let c1_i32_749 : BitVec 32 := 1#32
  let v1542 : BitVec 32 := Scalar.select v1541 c1_i32_749 c4_i32_747
  let v1543 : BitVec 32 := Scalar.remsi v1523 v1542
  let c0_i32_751 : BitVec 32 := 0#32
  let v1545 : BitVec 1 := Scalar.cmpi .slt v1543 c0_i32_751
  let c0_i32_752 : BitVec 32 := 0#32
  let v1546 : BitVec 1 := Scalar.cmpi .slt v1542 c0_i32_752
  let v1547 : BitVec 1 := Scalar.xori v1545 v1546
  let c0_i32_750 : BitVec 32 := 0#32
  let v1544 : BitVec 1 := Scalar.cmpi .ne v1543 c0_i32_750
  let v1548 : BitVec 1 := Scalar.andi v1547 v1544
  let v1549 : BitVec 32 := Scalar.addi v1543 v1542
  let v1550 : BitVec 32 := Scalar.select v1548 v1549 v1543
  let c1_i32_759 : BitVec 32 := 1#32
  let v1562 : BitVec 32 := Scalar.subi v1550 c1_i32_759
  let c0_i32_760 : BitVec 32 := 0#32
  let v1563 : BitVec 32 := Scalar.maxsi v1562 c0_i32_760
  let c128_i32_761 : BitVec 32 := 128#32
  let v1564 : BitVec 32 := Scalar.muli v1563 c128_i32_761
  let v1565 : BitVec 32 := Scalar.muli c4_i32_762 v1564
  let v1566 : BitVec 32 := Scalar.addi v1540 v1565
  let v1567 : Index := Scalar.indexCast v1566
  let c0_764 : Index := 0#32
  ![0, v1567.toNat, 0]
def k0_off6 (c0_i32_739 : BitVec 32) : Fin 3 → Nat :=
  let c1_1346 : Index := 1#32
  let c0_i32_737 : BitVec 32 := 0#32
  let c16_i32_738 : BitVec 32 := 16#32
  let v1522 : BitVec 32 := Scalar.muli c0_i32_737 c16_i32_738
  let v1523 : BitVec 32 := Scalar.addi v1522 c0_i32_739
  let c0_i32_741 : BitVec 32 := 0#32
  let v1525 : BitVec 1 := Scalar.cmpi .sgt v1523 c0_i32_741
  let v1526 : BitVec 32 := Scalar.extui v1525
  let c0_i32_742 : BitVec 32 := 0#32
  let v1527 : BitVec 1 := Scalar.cmpi .slt v1523 c0_i32_742
  let v1528 : BitVec 32 := Scalar.extui v1527
  let v1529 : BitVec 32 := Scalar.subi v1526 v1528
  let c4_i32_740 : BitVec 32 := 4#32
  let c0_i32_743 : BitVec 32 := 0#32
  let v1530 : BitVec 1 := Scalar.cmpi .sgt c4_i32_740 c0_i32_743
  let v1531 : BitVec 32 := Scalar.extui v1530
  let c0_i32_744 : BitVec 32 := 0#32
  let v1532 : BitVec 1 := Scalar.cmpi .slt c4_i32_740 c0_i32_744
  let v1533 : BitVec 32 := Scalar.extui v1532
  let v1534 : BitVec 32 := Scalar.subi v1531 v1533
  let v1535 : BitVec 1 := Scalar.cmpi .ne v1529 v1534
  let v1536 : BitVec 32 := Scalar.remsi v1523 c4_i32_740
  let c0_i32_745 : BitVec 32 := 0#32
  let v1537 : BitVec 1 := Scalar.cmpi .ne v1536 c0_i32_745
  let v1538 : BitVec 1 := Scalar.andi v1535 v1537
  let v1524 : BitVec 32 := Scalar.divsi v1523 c4_i32_740
  let c1_i32_746 : BitVec 32 := 1#32
  let v1539 : BitVec 32 := Scalar.subi v1524 c1_i32_746
  let v1540 : BitVec 32 := Scalar.select v1538 v1539 v1524
  let c4_i32_754 : BitVec 32 := 4#32
  let c4_i32_747 : BitVec 32 := 4#32
  let c0_i32_748 : BitVec 32 := 0#32
  let v1541 : BitVec 1 := Scalar.cmpi .eq c4_i32_747 c0_i32_748
  let c1_i32_749 : BitVec 32 := 1#32
  let v1542 : BitVec 32 := Scalar.select v1541 c1_i32_749 c4_i32_747
  let v1543 : BitVec 32 := Scalar.remsi v1523 v1542
  let c0_i32_751 : BitVec 32 := 0#32
  let v1545 : BitVec 1 := Scalar.cmpi .slt v1543 c0_i32_751
  let c0_i32_752 : BitVec 32 := 0#32
  let v1546 : BitVec 1 := Scalar.cmpi .slt v1542 c0_i32_752
  let v1547 : BitVec 1 := Scalar.xori v1545 v1546
  let c0_i32_750 : BitVec 32 := 0#32
  let v1544 : BitVec 1 := Scalar.cmpi .ne v1543 c0_i32_750
  let v1548 : BitVec 1 := Scalar.andi v1547 v1544
  let v1549 : BitVec 32 := Scalar.addi v1543 v1542
  let v1550 : BitVec 32 := Scalar.select v1548 v1549 v1543
  let c128_i32_753 : BitVec 32 := 128#32
  let v1551 : BitVec 32 := Scalar.muli v1550 c128_i32_753
  let v1552 : BitVec 32 := Scalar.muli c4_i32_754 v1551
  let v1553 : BitVec 32 := Scalar.addi v1540 v1552
  let v2786 : Index := Scalar.indexCast v1553
  let c0_1347 : Index := 0#32
  ![1, v2786.toNat, 0]
def k0_off7 (c0_i32_1445 : BitVec 32) : Fin 3 → Nat :=
  let c0_1461 : Index := 0#32
  let c0_i32_1443 : BitVec 32 := 0#32
  let c16_i32_1444 : BitVec 32 := 16#32
  let v3010 : BitVec 32 := Scalar.muli c0_i32_1443 c16_i32_1444
  let v3011 : BitVec 32 := Scalar.addi v3010 c0_i32_1445
  let c0_i32_1447 : BitVec 32 := 0#32
  let v3013 : BitVec 1 := Scalar.cmpi .sgt v3011 c0_i32_1447
  let v3014 : BitVec 32 := Scalar.extui v3013
  let c0_i32_1448 : BitVec 32 := 0#32
  let v3015 : BitVec 1 := Scalar.cmpi .slt v3011 c0_i32_1448
  let v3016 : BitVec 32 := Scalar.extui v3015
  let v3017 : BitVec 32 := Scalar.subi v3014 v3016
  let c1_i32_1446 : BitVec 32 := 1#32
  let c0_i32_1449 : BitVec 32 := 0#32
  let v3018 : BitVec 1 := Scalar.cmpi .sgt c1_i32_1446 c0_i32_1449
  let v3019 : BitVec 32 := Scalar.extui v3018
  let c0_i32_1450 : BitVec 32 := 0#32
  let v3020 : BitVec 1 := Scalar.cmpi .slt c1_i32_1446 c0_i32_1450
  let v3021 : BitVec 32 := Scalar.extui v3020
  let v3022 : BitVec 32 := Scalar.subi v3019 v3021
  let v3023 : BitVec 1 := Scalar.cmpi .ne v3017 v3022
  let v3024 : BitVec 32 := Scalar.remsi v3011 c1_i32_1446
  let c0_i32_1451 : BitVec 32 := 0#32
  let v3025 : BitVec 1 := Scalar.cmpi .ne v3024 c0_i32_1451
  let v3026 : BitVec 1 := Scalar.andi v3023 v3025
  let v3012 : BitVec 32 := Scalar.divsi v3011 c1_i32_1446
  let c1_i32_1452 : BitVec 32 := 1#32
  let v3027 : BitVec 32 := Scalar.subi v3012 c1_i32_1452
  let v3028 : BitVec 32 := Scalar.select v3026 v3027 v3012
  let c16_i32_1460 : BitVec 32 := 16#32
  let c1_i32_1453 : BitVec 32 := 1#32
  let c0_i32_1454 : BitVec 32 := 0#32
  let v3029 : BitVec 1 := Scalar.cmpi .eq c1_i32_1453 c0_i32_1454
  let c1_i32_1455 : BitVec 32 := 1#32
  let v3030 : BitVec 32 := Scalar.select v3029 c1_i32_1455 c1_i32_1453
  let v3031 : BitVec 32 := Scalar.remsi v3011 v3030
  let c0_i32_1457 : BitVec 32 := 0#32
  let v3033 : BitVec 1 := Scalar.cmpi .slt v3031 c0_i32_1457
  let c0_i32_1458 : BitVec 32 := 0#32
  let v3034 : BitVec 1 := Scalar.cmpi .slt v3030 c0_i32_1458
  let v3035 : BitVec 1 := Scalar.xori v3033 v3034
  let c0_i32_1456 : BitVec 32 := 0#32
  let v3032 : BitVec 1 := Scalar.cmpi .ne v3031 c0_i32_1456
  let v3036 : BitVec 1 := Scalar.andi v3035 v3032
  let v3037 : BitVec 32 := Scalar.addi v3031 v3030
  let v3038 : BitVec 32 := Scalar.select v3036 v3037 v3031
  let c128_i32_1459 : BitVec 32 := 128#32
  let v3039 : BitVec 32 := Scalar.muli v3038 c128_i32_1459
  let v3040 : BitVec 32 := Scalar.muli c16_i32_1460 v3039
  let v3041 : BitVec 32 := Scalar.addi v3028 v3040
  let v3042 : Index := Scalar.indexCast v3041
  let c0_1462 : Index := 0#32
  ![0, v3042.toNat, 0]
def k0_off8 (c0_i32_1445 : BitVec 32) : Fin 3 → Nat :=
  let c2 : Index := 2#32
  let c0_i32_1443 : BitVec 32 := 0#32
  let c16_i32_1444 : BitVec 32 := 16#32
  let v3010 : BitVec 32 := Scalar.muli c0_i32_1443 c16_i32_1444
  let v3011 : BitVec 32 := Scalar.addi v3010 c0_i32_1445
  let c0_i32_1447 : BitVec 32 := 0#32
  let v3013 : BitVec 1 := Scalar.cmpi .sgt v3011 c0_i32_1447
  let v3014 : BitVec 32 := Scalar.extui v3013
  let c0_i32_1448 : BitVec 32 := 0#32
  let v3015 : BitVec 1 := Scalar.cmpi .slt v3011 c0_i32_1448
  let v3016 : BitVec 32 := Scalar.extui v3015
  let v3017 : BitVec 32 := Scalar.subi v3014 v3016
  let c1_i32_1446 : BitVec 32 := 1#32
  let c0_i32_1449 : BitVec 32 := 0#32
  let v3018 : BitVec 1 := Scalar.cmpi .sgt c1_i32_1446 c0_i32_1449
  let v3019 : BitVec 32 := Scalar.extui v3018
  let c0_i32_1450 : BitVec 32 := 0#32
  let v3020 : BitVec 1 := Scalar.cmpi .slt c1_i32_1446 c0_i32_1450
  let v3021 : BitVec 32 := Scalar.extui v3020
  let v3022 : BitVec 32 := Scalar.subi v3019 v3021
  let v3023 : BitVec 1 := Scalar.cmpi .ne v3017 v3022
  let v3024 : BitVec 32 := Scalar.remsi v3011 c1_i32_1446
  let c0_i32_1451 : BitVec 32 := 0#32
  let v3025 : BitVec 1 := Scalar.cmpi .ne v3024 c0_i32_1451
  let v3026 : BitVec 1 := Scalar.andi v3023 v3025
  let v3012 : BitVec 32 := Scalar.divsi v3011 c1_i32_1446
  let c1_i32_1452 : BitVec 32 := 1#32
  let v3027 : BitVec 32 := Scalar.subi v3012 c1_i32_1452
  let v3028 : BitVec 32 := Scalar.select v3026 v3027 v3012
  let c16_i32_1460 : BitVec 32 := 16#32
  let c1_i32_1453 : BitVec 32 := 1#32
  let c0_i32_1454 : BitVec 32 := 0#32
  let v3029 : BitVec 1 := Scalar.cmpi .eq c1_i32_1453 c0_i32_1454
  let c1_i32_1455 : BitVec 32 := 1#32
  let v3030 : BitVec 32 := Scalar.select v3029 c1_i32_1455 c1_i32_1453
  let v3031 : BitVec 32 := Scalar.remsi v3011 v3030
  let c0_i32_1457 : BitVec 32 := 0#32
  let v3033 : BitVec 1 := Scalar.cmpi .slt v3031 c0_i32_1457
  let c0_i32_1458 : BitVec 32 := 0#32
  let v3034 : BitVec 1 := Scalar.cmpi .slt v3030 c0_i32_1458
  let v3035 : BitVec 1 := Scalar.xori v3033 v3034
  let c0_i32_1456 : BitVec 32 := 0#32
  let v3032 : BitVec 1 := Scalar.cmpi .ne v3031 c0_i32_1456
  let v3036 : BitVec 1 := Scalar.andi v3035 v3032
  let v3037 : BitVec 32 := Scalar.addi v3031 v3030
  let v3038 : BitVec 32 := Scalar.select v3036 v3037 v3031
  let c128_i32_1459 : BitVec 32 := 128#32
  let v3039 : BitVec 32 := Scalar.muli v3038 c128_i32_1459
  let v3040 : BitVec 32 := Scalar.muli c16_i32_1460 v3039
  let v3041 : BitVec 32 := Scalar.addi v3028 v3040
  let v3970 : Index := Scalar.indexCast v3041
  let c0_1908 : Index := 0#32
  ![2, v3970.toNat, 0]
@[reducible] def k0_t1_loop : Scf.Loop 32 :=
  let c0_i32_2004 : BitVec 32 := 0#32
  let c16_i32_2005 : BitVec 32 := 16#32
  let v4194 : BitVec 32 := Scalar.addi c0_i32_2004 c16_i32_2005
  let c1_i32_2006 : BitVec 32 := 1#32
  ⟨c0_i32_2004, v4194, c1_i32_2006⟩
def k0_mult1 (k0_t1 : Fin k0_t1_loop.trips) : BitVec 32 :=
  let c0_i32_2004 : BitVec 32 := 0#32
  let c1_i32_2006 : BitVec 32 := 1#32
  let arg18 : BitVec 32 := Scf.iv c0_i32_2004 c1_i32_2006 k0_t1
  let c128_i32_2008 : BitVec 32 := 128#32
  let v4195 : BitVec 32 := Scalar.muli arg18 c128_i32_2008
  v4195
def k0_off9 (k0_t1 : Fin k0_t1_loop.trips) : Fin 3 → Nat :=
  let c0_2009 : Index := 0#32
  let c0_i32_2004 : BitVec 32 := 0#32
  let c1_i32_2006 : BitVec 32 := 1#32
  let arg18 : BitVec 32 := Scf.iv c0_i32_2004 c1_i32_2006 k0_t1
  let c128_i32_2008 : BitVec 32 := 128#32
  let v4195 : BitVec 32 := Scalar.muli arg18 c128_i32_2008
  let v4196 : BitVec 32 := v4195
  let v4197 : Index := Scalar.indexCast v4196
  let c0_2010 : Index := 0#32
  ![0, v4197.toNat, 0]
def k0_off10 (k0_t1 : Fin k0_t1_loop.trips) : Fin 3 → Nat :=
  let c1_2011 : Index := 1#32
  let c0_i32_2004 : BitVec 32 := 0#32
  let c1_i32_2006 : BitVec 32 := 1#32
  let arg18 : BitVec 32 := Scf.iv c0_i32_2004 c1_i32_2006 k0_t1
  let c128_i32_2008 : BitVec 32 := 128#32
  let v4195 : BitVec 32 := Scalar.muli arg18 c128_i32_2008
  let v4196 : BitVec 32 := v4195
  let v4200 : Index := Scalar.indexCast v4196
  let c0_2012 : Index := 0#32
  ![1, v4200.toNat, 0]
def k0_off11 (k0_t1 : Fin k0_t1_loop.trips) : Fin 3 → Nat :=
  let c2_2013 : Index := 2#32
  let c0_i32_2004 : BitVec 32 := 0#32
  let c1_i32_2006 : BitVec 32 := 1#32
  let arg18 : BitVec 32 := Scf.iv c0_i32_2004 c1_i32_2006 k0_t1
  let c128_i32_2008 : BitVec 32 := 128#32
  let v4195 : BitVec 32 := Scalar.muli arg18 c128_i32_2008
  let v4196 : BitVec 32 := v4195
  let v4203 : Index := Scalar.indexCast v4196
  let c0_2014 : Index := 0#32
  ![2, v4203.toNat, 0]
def k0_off12 (k0_t1 : Fin k0_t1_loop.trips) : Fin 3 → Nat :=
  let c0_2029 : Index := 0#32
  let c0_i32_2004 : BitVec 32 := 0#32
  let c1_i32_2006 : BitVec 32 := 1#32
  let arg18 : BitVec 32 := Scf.iv c0_i32_2004 c1_i32_2006 k0_t1
  let c128_i32_2008 : BitVec 32 := 128#32
  let v4195 : BitVec 32 := Scalar.muli arg18 c128_i32_2008
  let v4196 : BitVec 32 := v4195
  let v4248 : Index := Scalar.indexCast v4196
  let c0_2030 : Index := 0#32
  ![0, v4248.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, arg1.toNat, c0_i32_1.toNat, c0_i32_2.toNat]

def cc0_transform_11 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, arg1.toNat, c0_i32_1.toNat, c0_i32_2.toNat]

def cc0_transform_12 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, arg1.toNat, c0_i32_1.toNat, c0_i32_2.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2x1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8x2048x17408 : Shape := ⟨3, ![8, 2048, 17408]⟩
abbrev S8x2048x3072 : Shape := ⟨3, ![8, 2048, 3072]⟩
abbrev S8x2048x3x8x128 : Shape := ⟨5, ![8, 2048, 3, 8, 128]⟩
abbrev S8x2048x1x8x128 : Shape := ⟨5, ![8, 2048, 1, 8, 128]⟩
abbrev S8x2048x8x128 : Shape := ⟨4, ![8, 2048, 8, 128]⟩
abbrev S8x8x2048x128 : Shape := ⟨4, ![8, 8, 2048, 128]⟩
abbrev S8x8x2048x2048 : Shape := ⟨4, ![8, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x128x128 : Shape := ⟨4, ![8, 8, 128, 128]⟩
abbrev S8x1x8x128x128 : Shape := ⟨5, ![8, 1, 8, 128, 128]⟩
abbrev S8x2x8x128x128 : Shape := ⟨5, ![8, 2, 8, 128, 128]⟩
abbrev S1x8x2x8x128x128 : Shape := ⟨6, ![1, 8, 2, 8, 128, 128]⟩
abbrev S8x8x512x128 : Shape := ⟨4, ![8, 8, 512, 128]⟩
abbrev S8x1x8x512x128 : Shape := ⟨5, ![8, 1, 8, 512, 128]⟩
abbrev S8x2x8x512x128 : Shape := ⟨5, ![8, 2, 8, 512, 128]⟩
abbrev S1x8x2x8x512x128 : Shape := ⟨6, ![1, 8, 2, 8, 512, 128]⟩
abbrev S8x1x8x2048x128 : Shape := ⟨5, ![8, 1, 8, 2048, 128]⟩
abbrev S8x2x8x2048x128 : Shape := ⟨5, ![8, 2, 8, 2048, 128]⟩
abbrev S1x8x2x8x2048x128 : Shape := ⟨6, ![1, 8, 2, 8, 2048, 128]⟩
abbrev S1x8x8x2048 : Shape := ⟨4, ![1, 8, 8, 2048]⟩
abbrev S3x8x8x2048 : Shape := ⟨4, ![3, 8, 8, 2048]⟩
abbrev S3x8x8x2048x1 : Shape := ⟨5, ![3, 8, 8, 2048, 1]⟩
abbrev S1x8x8x2048x128 : Shape := ⟨5, ![1, 8, 8, 2048, 128]⟩
abbrev S3x8x8x2048x128 : Shape := ⟨5, ![3, 8, 8, 2048, 128]⟩
abbrev S8x2048x1024 : Shape := ⟨3, ![8, 2048, 1024]⟩

abbrev nBuf : Space → Nat
  | .hbm => 218
  | .vmem => 0
  | .smem => 0
  | _ => 0

abbrev hbmTy0_0 (i : Nat) : BufTy := match i % 128 with
  | 0 => ⟨S8x2048x17408, .f32⟩
  | 1 => ⟨S8x2048x3072, .f32⟩
  | 2 => ⟨S8x2048x3072, .f32⟩
  | 3 => ⟨S8x2048x3072, .f32⟩
  | 4 => ⟨S8x2048x3x8x128, .f32⟩
  | 5 => ⟨S8x2048x1x8x128, .f32⟩
  | 6 => ⟨S8x2048x8x128, .f32⟩
  | 7 => ⟨S8x8x2048x128, .f32⟩
  | 8 => ⟨S8x2048x3x8x128, .f32⟩
  | 9 => ⟨S8x2048x1x8x128, .f32⟩
  | 10 => ⟨S8x2048x8x128, .f32⟩
  | 11 => ⟨S8x8x2048x128, .f32⟩
  | 12 => ⟨S8x2048x3x8x128, .f32⟩
  | 13 => ⟨S8x2048x1x8x128, .f32⟩
  | 14 => ⟨S8x2048x8x128, .f32⟩
  | 15 => ⟨S8x8x2048x128, .f32⟩
  | 16 => ⟨S8x8x2048x2048, .f32⟩
  | 17 => ⟨S_, .f32⟩
  | 18 => ⟨S8x8x2048x2048, .f32⟩
  | 19 => ⟨S8x8x2048x2048, .f32⟩
  | 20 => ⟨S2048, .i32⟩
  | 21 => ⟨S2048x1, .i32⟩
  | 22 => ⟨S1x2048, .i32⟩
  | 23 => ⟨S2048x2048, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S_, .i32⟩
  | 30 => ⟨S2048x2048, .i32⟩
  | 31 => ⟨S2048x2048, .i1⟩
  | 32 => ⟨S2048x2048, .i1⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i1⟩
  | 40 => ⟨S_, .f32⟩
  | 41 => ⟨S_, .f32⟩
  | 42 => ⟨S8x8x2048x2048, .i1⟩
  | 43 => ⟨S8x8x2048x2048, .f32⟩
  | 44 => ⟨S8x8x2048x2048, .f32⟩
  | 45 => ⟨S_, .f32⟩
  | 46 => ⟨S8x8x2048, .f32⟩
  | 47 => ⟨S8x8x2048x1, .f32⟩
  | 48 => ⟨S8x8x2048x2048, .f32⟩
  | 49 => ⟨S8x8x2048x2048, .f32⟩
  | 50 => ⟨S8x8x2048x2048, .f32⟩
  | 51 => ⟨S_, .f32⟩
  | 52 => ⟨S8x8x2048, .f32⟩
  | 53 => ⟨S8x8x2048x1, .f32⟩
  | 54 => ⟨S8x8x2048x128, .f32⟩
  | 55 => ⟨S8x8x2048x128, .f32⟩
  | 56 => ⟨S8x8x2048x128, .f32⟩
  | 57 => ⟨S8x8x2048x1, .f32⟩
  | 58 => ⟨S8x8x2048x1, .f32⟩
  | 59 => ⟨S8x8x2048, .f32⟩
  | 60 => ⟨S8x8x128x128, .f32⟩
  | 61 => ⟨S8x8x128x128, .f32⟩
  | 62 => ⟨S8x1x8x128x128, .f32⟩
  | 63 => ⟨S8x1x8x128x128, .f32⟩
  | 64 => ⟨S8x2x8x128x128, .f32⟩
  | 65 => ⟨S1x8x2x8x128x128, .f32⟩
  | 66 => ⟨S8x2048x3x8x128, .f32⟩
  | 67 => ⟨S8x2048x1x8x128, .f32⟩
  | 68 => ⟨S8x2048x8x128, .f32⟩
  | 69 => ⟨S8x8x2048x128, .f32⟩
  | 70 => ⟨S8x2048x3x8x128, .f32⟩
  | 71 => ⟨S8x2048x1x8x128, .f32⟩
  | 72 => ⟨S8x2048x8x128, .f32⟩
  | 73 => ⟨S8x8x2048x128, .f32⟩
  | 74 => ⟨S8x2048x3x8x128, .f32⟩
  | 75 => ⟨S8x2048x1x8x128, .f32⟩
  | 76 => ⟨S8x2048x8x128, .f32⟩
  | 77 => ⟨S8x8x2048x128, .f32⟩
  | 78 => ⟨S8x8x2048x2048, .f32⟩
  | 79 => ⟨S_, .f32⟩
  | 80 => ⟨S8x8x2048x2048, .f32⟩
  | 81 => ⟨S8x8x2048x2048, .f32⟩
  | 82 => ⟨S2048, .i32⟩
  | 83 => ⟨S2048x1, .i32⟩
  | 84 => ⟨S1x2048, .i32⟩
  | 85 => ⟨S2048x2048, .i32⟩
  | 86 => ⟨S2048x2048, .i32⟩
  | 87 => ⟨S2048x2048, .i32⟩
  | 88 => ⟨S_, .i32⟩
  | 89 => ⟨S2048x2048, .i32⟩
  | 90 => ⟨S2048x2048, .i1⟩
  | 91 => ⟨S_, .i32⟩
  | 92 => ⟨S2048x2048, .i32⟩
  | 93 => ⟨S2048x2048, .i1⟩
  | 94 => ⟨S2048x2048, .i1⟩
  | 95 => ⟨S_, .i32⟩
  | 96 => ⟨S2048x2048, .i32⟩
  | 97 => ⟨S2048x2048, .i32⟩
  | 98 => ⟨S_, .i32⟩
  | 99 => ⟨S2048x2048, .i32⟩
  | 100 => ⟨S2048x2048, .i1⟩
  | 101 => ⟨S2048x2048, .i1⟩
  | 102 => ⟨S_, .f32⟩
  | 103 => ⟨S_, .f32⟩
  | 104 => ⟨S8x8x2048x2048, .i1⟩
  | 105 => ⟨S8x8x2048x2048, .f32⟩
  | 106 => ⟨S8x8x2048x2048, .f32⟩
  | 107 => ⟨S_, .f32⟩
  | 108 => ⟨S8x8x2048, .f32⟩
  | 109 => ⟨S8x8x2048x1, .f32⟩
  | 110 => ⟨S8x8x2048x2048, .f32⟩
  | 111 => ⟨S8x8x2048x2048, .f32⟩
  | 112 => ⟨S8x8x2048x2048, .f32⟩
  | 113 => ⟨S_, .f32⟩
  | 114 => ⟨S8x8x2048, .f32⟩
  | 115 => ⟨S8x8x2048x1, .f32⟩
  | 116 => ⟨S8x8x2048x128, .f32⟩
  | 117 => ⟨S8x8x2048x128, .f32⟩
  | 118 => ⟨S8x8x2048x128, .f32⟩
  | 119 => ⟨S8x8x2048x1, .f32⟩
  | 120 => ⟨S8x8x2048x1, .f32⟩
  | 121 => ⟨S8x8x2048, .f32⟩
  | 122 => ⟨S8x8x512x128, .f32⟩
  | 123 => ⟨S8x8x512x128, .f32⟩
  | 124 => ⟨S8x1x8x512x128, .f32⟩
  | 125 => ⟨S8x1x8x512x128, .f32⟩
  | 126 => ⟨S8x2x8x512x128, .f32⟩
  | 127 => ⟨S1x8x2x8x512x128, .f32⟩
  | _ => ⟨S8x2048x17408, .f32⟩

abbrev hbmTy0_1 (i : Nat) : BufTy := match i % 128 with
  | 0 => ⟨S8x2048x3x8x128, .f32⟩
  | 1 => ⟨S8x2048x1x8x128, .f32⟩
  | 2 => ⟨S8x2048x8x128, .f32⟩
  | 3 => ⟨S8x8x2048x128, .f32⟩
  | 4 => ⟨S8x2048x3x8x128, .f32⟩
  | 5 => ⟨S8x2048x1x8x128, .f32⟩
  | 6 => ⟨S8x2048x8x128, .f32⟩
  | 7 => ⟨S8x8x2048x128, .f32⟩
  | 8 => ⟨S8x2048x3x8x128, .f32⟩
  | 9 => ⟨S8x2048x1x8x128, .f32⟩
  | 10 => ⟨S8x2048x8x128, .f32⟩
  | 11 => ⟨S8x8x2048x128, .f32⟩
  | 12 => ⟨S8x8x2048x2048, .f32⟩
  | 13 => ⟨S_, .f32⟩
  | 14 => ⟨S8x8x2048x2048, .f32⟩
  | 15 => ⟨S8x8x2048x2048, .f32⟩
  | 16 => ⟨S2048, .i32⟩
  | 17 => ⟨S2048x1, .i32⟩
  | 18 => ⟨S1x2048, .i32⟩
  | 19 => ⟨S2048x2048, .i32⟩
  | 20 => ⟨S2048x2048, .i32⟩
  | 21 => ⟨S2048x2048, .i32⟩
  | 22 => ⟨S_, .i32⟩
  | 23 => ⟨S2048x2048, .i32⟩
  | 24 => ⟨S2048x2048, .i1⟩
  | 25 => ⟨S_, .i32⟩
  | 26 => ⟨S2048x2048, .i32⟩
  | 27 => ⟨S2048x2048, .i1⟩
  | 28 => ⟨S2048x2048, .i1⟩
  | 29 => ⟨S_, .i32⟩
  | 30 => ⟨S2048x2048, .i32⟩
  | 31 => ⟨S2048x2048, .i32⟩
  | 32 => ⟨S_, .i32⟩
  | 33 => ⟨S2048x2048, .i32⟩
  | 34 => ⟨S2048x2048, .i1⟩
  | 35 => ⟨S2048x2048, .i1⟩
  | 36 => ⟨S_, .f32⟩
  | 37 => ⟨S_, .f32⟩
  | 38 => ⟨S8x8x2048x2048, .i1⟩
  | 39 => ⟨S8x8x2048x2048, .f32⟩
  | 40 => ⟨S8x8x2048x2048, .f32⟩
  | 41 => ⟨S_, .f32⟩
  | 42 => ⟨S8x8x2048, .f32⟩
  | 43 => ⟨S8x8x2048x1, .f32⟩
  | 44 => ⟨S8x8x2048x2048, .f32⟩
  | 45 => ⟨S8x8x2048x2048, .f32⟩
  | 46 => ⟨S8x8x2048x2048, .f32⟩
  | 47 => ⟨S_, .f32⟩
  | 48 => ⟨S8x8x2048, .f32⟩
  | 49 => ⟨S8x8x2048x1, .f32⟩
  | 50 => ⟨S8x8x2048x128, .f32⟩
  | 51 => ⟨S8x8x2048x128, .f32⟩
  | 52 => ⟨S8x8x2048x128, .f32⟩
  | 53 => ⟨S8x8x2048x1, .f32⟩
  | 54 => ⟨S8x8x2048x1, .f32⟩
  | 55 => ⟨S8x8x2048, .f32⟩
  | 56 => ⟨S8x1x8x2048x128, .f32⟩
  | 57 => ⟨S8x1x8x2048x128, .f32⟩
  | 58 => ⟨S8x2x8x2048x128, .f32⟩
  | 59 => ⟨S1x8x2x8x2048x128, .f32⟩
  | 60 => ⟨S1x8x8x2048, .f32⟩
  | 61 => ⟨S1x8x8x2048, .f32⟩
  | 62 => ⟨S1x8x8x2048, .f32⟩
  | 63 => ⟨S3x8x8x2048, .f32⟩
  | 64 => ⟨S_, .f32⟩
  | 65 => ⟨S8x8x2048, .f32⟩
  | 66 => ⟨S_, .f32⟩
  | 67 => ⟨S8x8x2048, .f32⟩
  | 68 => ⟨S8x8x2048, .f32⟩
  | 69 => ⟨S1x8x8x2048, .f32⟩
  | 70 => ⟨S3x8x8x2048, .f32⟩
  | 71 => ⟨S3x8x8x2048, .f32⟩
  | 72 => ⟨S3x8x8x2048, .f32⟩
  | 73 => ⟨S_, .f32⟩
  | 74 => ⟨S8x8x2048, .f32⟩
  | 75 => ⟨S1x8x8x2048, .f32⟩
  | 76 => ⟨S3x8x8x2048, .f32⟩
  | 77 => ⟨S3x8x8x2048, .f32⟩
  | 78 => ⟨S3x8x8x2048x1, .f32⟩
  | 79 => ⟨S1x8x8x2048x128, .f32⟩
  | 80 => ⟨S1x8x8x2048x128, .f32⟩
  | 81 => ⟨S1x8x8x2048x128, .f32⟩
  | 82 => ⟨S3x8x8x2048x128, .f32⟩
  | 83 => ⟨S3x8x8x2048x128, .f32⟩
  | 84 => ⟨S3x8x8x2048x128, .f32⟩
  | 85 => ⟨S_, .f32⟩
  | 86 => ⟨S8x8x2048x128, .f32⟩
  | 87 => ⟨S8x2048x8x128, .f32⟩
  | 88 => ⟨S8x2048x1024, .f32⟩
  | 89 => ⟨S8x2048x1024, .bf16⟩
  | _ => ⟨S8x2048x17408, .f32⟩

abbrev hbmTy (i : Nat) : BufTy := match i / 128 with
  | 0 => hbmTy0_0 i
  | 1 => hbmTy0_1 i
  | _ => ⟨S8x2048x17408, .f32⟩

abbrev bufTy : (tb : Table) → Fin (tcTables nBuf tb) → BufTy
  | .hbm, ⟨i, _⟩ => hbmTy i
  | _, _ => ⟨S8x2048x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_c : Ref sig .tc := ⟨.hbm, 26, rfl⟩
abbrev main_v24 : Ref sig .tc := ⟨.hbm, 27, rfl⟩
abbrev main_v25 : Ref sig .tc := ⟨.hbm, 28, rfl⟩
abbrev main_c_0 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_c_1 : Ref sig .tc := ⟨.hbm, 33, rfl⟩
abbrev main_v29 : Ref sig .tc := ⟨.hbm, 34, rfl⟩
abbrev main_v30 : Ref sig .tc := ⟨.hbm, 35, rfl⟩
abbrev main_c_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_c_7 : Ref sig .tc := ⟨.hbm, 88, rfl⟩
abbrev main_v75 : Ref sig .tc := ⟨.hbm, 89, rfl⟩
abbrev main_v76 : Ref sig .tc := ⟨.hbm, 90, rfl⟩
abbrev main_c_8 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_c_9 : Ref sig .tc := ⟨.hbm, 95, rfl⟩
abbrev main_v80 : Ref sig .tc := ⟨.hbm, 96, rfl⟩
abbrev main_v81 : Ref sig .tc := ⟨.hbm, 97, rfl⟩
abbrev main_c_10 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_11 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_13 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_14 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_c_15 : Ref sig .tc := ⟨.hbm, 150, rfl⟩
abbrev main_v126 : Ref sig .tc := ⟨.hbm, 151, rfl⟩
abbrev main_v127 : Ref sig .tc := ⟨.hbm, 152, rfl⟩
abbrev main_c_16 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_c_17 : Ref sig .tc := ⟨.hbm, 157, rfl⟩
abbrev main_v131 : Ref sig .tc := ⟨.hbm, 158, rfl⟩
abbrev main_v132 : Ref sig .tc := ⟨.hbm, 159, rfl⟩
abbrev main_c_18 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_19 : Ref sig .tc := ⟨.hbm, 164, rfl⟩
abbrev main_call2_v0 : Ref sig .tc := ⟨.hbm, 165, rfl⟩
abbrev main_call2_v1 : Ref sig .tc := ⟨.hbm, 166, rfl⟩
abbrev main_call2_v2 : Ref sig .tc := ⟨.hbm, 167, rfl⟩
abbrev main_v136 : Ref sig .tc := ⟨.hbm, 168, rfl⟩
abbrev main_cst_20 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_21 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_22 : Ref sig .tc := ⟨.hbm, 192, rfl⟩
abbrev main_v158 : Ref sig .tc := ⟨.hbm, 193, rfl⟩
abbrev main_cst_23 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_24 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_25 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩

abbrev nD : Nat := 1
abbrev τ : Topo := Topo.v7x

variable {F : FTy → Type} [FloatOps F]
-- ==== Kernel2.lean ====
abbrev S8x2048x2048 : Shape := ⟨3, ![8, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S16384x2048 : Shape := ⟨2, ![16384, 2048]⟩
abbrev S2048 : Shape := ⟨1, ![2048]⟩
abbrev S1024x2048 : Shape := ⟨2, ![1024, 2048]⟩
abbrev S1x2048x256 : Shape := ⟨3, ![1, 2048, 256]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩
abbrev S1024x256 : Shape := ⟨2, ![1024, 256]⟩

abbrev nBuf : Space → Nat
  | .hbm => 9
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x2048 : Shape := ⟨3, ![8, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S2048x5632 : Shape := ⟨2, ![2048, 5632]⟩
abbrev S8x2048x5632 : Shape := ⟨3, ![8, 2048, 5632]⟩
abbrev S5632x2048 : Shape := ⟨2, ![5632, 2048]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x5632, .f32⟩
  | .hbm, ⟨23, _⟩ => ⟨S8x2048x5632, .f32⟩
  | .hbm, ⟨24, _⟩ => ⟨S8x2048x5632, .f32⟩
  | .hbm, ⟨25, _⟩ => ⟨S8x2048x5632, .f32⟩
  | .hbm, ⟨26, _⟩ => ⟨S_, .f32⟩
  | .hbm, ⟨27, _⟩ => ⟨S8x2048x5632, .f32⟩
  | .hbm, ⟨28, _⟩ => ⟨S8x2048x5632, .f32⟩
  | .hbm, ⟨29, _⟩ => ⟨S_, .f32⟩
  | .hbm, ⟨30, _⟩ => ⟨S8x2048x5632, .f32⟩
  | .hbm, ⟨31, _⟩ => ⟨S8x2048x5632, .f32⟩
  | .hbm, ⟨32, _⟩ => ⟨S8x2048x5632, .f32⟩
  | .hbm, ⟨33, _⟩ => ⟨S2048x5632, .f32⟩
  | .hbm, ⟨34, _⟩ => ⟨S8x2048x5632, .f32⟩
  | .hbm, ⟨35, _⟩ => ⟨S8x2048x5632, .f32⟩
  | .hbm, ⟨36, _⟩ => ⟨S5632x2048, .f32⟩
  | .hbm, ⟨37, _⟩ => ⟨S8x2048x2048, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S16384x17408 : Shape := ⟨2, ![16384, 17408]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S256x2048 : Shape := ⟨2, ![256, 2048]⟩
abbrev S256x1024 : Shape := ⟨2, ![256, 1024]⟩

abbrev nBuf : Space → Nat
  | .hbm => 14
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x2048, .bf16⟩
  | .hbm, ⟨3, _⟩ => ⟨S16384x17408, .f32⟩
  | .hbm, ⟨4, _⟩ => ⟨S1x1024x2048, .f32⟩
  | .hbm, ⟨5, _⟩ => ⟨S1x2048x2048, .f32⟩
  | .hbm, ⟨6, _⟩ => ⟨S1x2048x2048, .f32⟩
  | .hbm, ⟨7, _⟩ => ⟨S1024x2048, .f32⟩
  | .hbm, ⟨8, _⟩ => ⟨S1024x2048, .bf16⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x2048, .bf16⟩
  | .local _ .vmem, ⟨15, _⟩ => ⟨S2048x2048, .bf16⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_5 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_6 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x2048 : Shape := ⟨2, ![16384, 2048]⟩
abbrev S16384x1024 : Shape := ⟨2, ![16384, 1024]⟩
abbrev S16384x17408 : Shape := ⟨2, ![16384, 17408]⟩
abbrev S1x1024x2048 : Shape := ⟨3, ![1, 1024, 2048]⟩
abbrev S1x2048x2048 : Shape := ⟨3, ![1, 2048, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x2048, .bf16⟩
  | .hbm, ⟨3, _⟩ => ⟨S16384x17408, .f32⟩
  | .hbm, ⟨4, _⟩ => ⟨S1x1024x2048, .f32⟩
  | .hbm, ⟨5, _⟩ => ⟨S1x2048x2048, .f32⟩
  | .hbm, ⟨6, _⟩ => ⟨S1x2048x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x1024, .f32⟩
  | .hbm, ⟨18, _⟩ => ⟨S1024x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S2048x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S2048x2048, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel4.lean ====
abbrev S16384x2048 : Shape := ⟨2, ![16384, 2048]⟩
abbrev S1x8x2048x256 : Shape := ⟨4, ![1, 8, 2048, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S8x2048x256 : Shape := ⟨3, ![8, 2048, 256]⟩
abbrev S16384x256 : Shape := ⟨2, ![16384, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 16
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x8x2048x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S8x2048x256, .f32⟩
  | .hbm, ⟨7, _⟩ => ⟨S16384x256, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S256x2048, .f32⟩
  | .hbm, ⟨13, _⟩ => ⟨S256x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x2048 : Shape := ⟨2, ![16384, 2048]⟩
abbrev S1x8x2048x256 : Shape := ⟨4, ![1, 8, 2048, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S8x2048x256 : Shape := ⟨3, ![8, 2048, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S2048x2048 : Shape := ⟨2, ![2048, 2048]⟩
abbrev S256x2048 : Shape := ⟨2, ![256, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x8x2048x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S8x2048x256, .f32⟩
  | .hbm, ⟨7, _⟩ => ⟨S16384x256, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S2048x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S256x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S128x4x2048 : Shape := ⟨3, ![128, 4, 2048]⟩
abbrev S1x128x3x2048 : Shape := ⟨4, ![1, 128, 3, 2048]⟩
abbrev S1x2048 : Shape := ⟨2, ![1, 2048]⟩
abbrev S1x2048x17408 : Shape := ⟨3, ![1, 2048, 17408]⟩
abbrev S512x2048 : Shape := ⟨2, ![512, 2048]⟩
abbrev S512 : Shape := ⟨1, ![512]⟩
abbrev S_ : Shape := ⟨0, ![]⟩
abbrev S64 : Shape := ⟨1, ![64]⟩
abbrev S512x1 : Shape := ⟨2, ![512, 1]⟩
abbrev S1x64 : Shape := ⟨2, ![1, 64]⟩
abbrev S512x64 : Shape := ⟨2, ![512, 64]⟩
abbrev S512x128 : Shape := ⟨2, ![512, 128]⟩
abbrev S2048x17408 : Shape := ⟨2, ![2048, 17408]⟩
abbrev S2048 : Shape := ⟨1, ![2048]⟩
abbrev S512x17408 : Shape := ⟨2, ![512, 17408]⟩
abbrev S2048x512 : Shape := ⟨2, ![2048, 512]⟩
abbrev S512x512 : Shape := ⟨2, ![512, 512]⟩
abbrev S64x128 : Shape := ⟨2, ![64, 128]⟩
abbrev S512x9216 : Shape := ⟨2, ![512, 9216]⟩
abbrev S128x4x3x3x8x128 : Shape := ⟨6, ![128, 4, 3, 3, 8, 128]⟩
abbrev S3x128x3x8x4x128 : Shape := ⟨6, ![3, 128, 3, 8, 4, 128]⟩
abbrev S1x128x3x8x4x128 : Shape := ⟨6, ![1, 128, 3, 8, 4, 128]⟩
abbrev S128x3x8x4x128 : Shape := ⟨5, ![128, 3, 8, 4, 128]⟩
abbrev S128x1x8x4x128 : Shape := ⟨5, ![128, 1, 8, 4, 128]⟩
abbrev S128x8x4x128 : Shape := ⟨4, ![128, 8, 4, 128]⟩
abbrev S128x2x8x4x128 : Shape := ⟨5, ![128, 2, 8, 4, 128]⟩
abbrev S1x128x2x8x4x128 : Shape := ⟨6, ![1, 128, 2, 8, 4, 128]⟩
abbrev S128x3x2048 : Shape := ⟨3, ![128, 3, 2048]⟩
abbrev S128x7x2048 : Shape := ⟨3, ![128, 7, 2048]⟩

abbrev nBuf : Space → Nat
  | .hbm => 100
  | .vmem => 11
  | .smem => 0
  | _ => 0

abbrev bufTy : (tb : Table) → Fin (tcTables nBuf tb) → BufTy
  | .hbm, ⟨0, _⟩ => ⟨S128x4x2048, .f32⟩
  | .hbm, ⟨1, _⟩ => ⟨S1x128x3x2048, .f32⟩
  | .hbm, ⟨2, _⟩ => ⟨S1x2048, .f32⟩
  | .hbm, ⟨3, _⟩ => ⟨S1x2048x17408, .f32⟩
  | .hbm, ⟨4, _⟩ => ⟨S512x2048, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S_, .i1⟩
  | .hbm, ⟨22, _⟩ => ⟨S512, .i1⟩
  | .hbm, ⟨23, _⟩ => ⟨S512, .i1⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S512, .f32⟩
  | .hbm, ⟨40, _⟩ => ⟨S512x1, .f32⟩
  | .hbm, ⟨41, _⟩ => ⟨S1x64, .f32⟩
  | .hbm, ⟨42, _⟩ => ⟨S512x64, .f32⟩
  | .hbm, ⟨43, _⟩ => ⟨S512x64, .f32⟩
  | .hbm, ⟨44, _⟩ => ⟨S512x64, .f32⟩
  | .hbm, ⟨45, _⟩ => ⟨S512x64, .f32⟩
  | .hbm, ⟨46, _⟩ => ⟨S512x64, .f32⟩
  | .hbm, ⟨47, _⟩ => ⟨S512x128, .f32⟩
  | .hbm, ⟨48, _⟩ => ⟨S512x64, .f32⟩
  | .hbm, ⟨49, _⟩ => ⟨S512x128, .f32⟩
  | .hbm, ⟨50, _⟩ => ⟨S2048x17408, .f32⟩
  | .hbm, ⟨51, _⟩ => ⟨S2048x17408, .bf16⟩
  | .hbm, ⟨52, _⟩ => ⟨S2048, .f32⟩
  | .hbm, ⟨53, _⟩ => ⟨S1x2048, .f32⟩
  | .hbm, ⟨54, _⟩ => ⟨S512x17408, .f32⟩
  | .hbm, ⟨55, _⟩ => ⟨S512x9216, .f32⟩
  | .hbm, ⟨56, _⟩ => ⟨S128x4x3x3x8x128, .f32⟩
  | .hbm, ⟨57, _⟩ => ⟨S3x128x3x8x4x128, .f32⟩
  | .hbm, ⟨58, _⟩ => ⟨S1x128x3x8x4x128, .f32⟩
  | .hbm, ⟨59, _⟩ => ⟨S128x3x8x4x128, .f32⟩
  | .hbm, ⟨60, _⟩ => ⟨S128x1x8x4x128, .f32⟩
  | .hbm, ⟨61, _⟩ => ⟨S128x8x4x128, .f32⟩
  | .hbm, ⟨62, _⟩ => ⟨S1x128x3x8x4x128, .f32⟩
  | .hbm, ⟨63, _⟩ => ⟨S128x3x8x4x128, .f32⟩
  | .hbm, ⟨64, _⟩ => ⟨S128x1x8x4x128, .f32⟩
  | .hbm, ⟨65, _⟩ => ⟨S128x8x4x128, .f32⟩
  | .hbm, ⟨66, _⟩ => ⟨S128x1x8x4x128, .f32⟩
  | .hbm, ⟨67, _⟩ => ⟨S128x1x8x4x128, .f32⟩
  | .hbm, ⟨68, _⟩ => ⟨S128x2x8x4x128, .f32⟩
  | .hbm, ⟨69, _⟩ => ⟨S1x128x2x8x4x128, .f32⟩
  | .hbm, ⟨70, _⟩ => ⟨S1x128x3x8x4x128, .f32⟩
  | .hbm, ⟨71, _⟩ => ⟨S128x3x8x4x128, .f32⟩
  | .hbm, ⟨72, _⟩ => ⟨S128x1x8x4x128, .f32⟩
  | .hbm, ⟨73, _⟩ => ⟨S128x8x4x128, .f32⟩
  | .hbm, ⟨74, _⟩ => ⟨S1x128x3x8x4x128, .f32⟩
  | .hbm, ⟨75, _⟩ => ⟨S128x3x8x4x128, .f32⟩
  | .hbm, ⟨76, _⟩ => ⟨S128x1x8x4x128, .f32⟩
  | .hbm, ⟨77, _⟩ => ⟨S128x8x4x128, .f32⟩
  | .hbm, ⟨78, _⟩ => ⟨S128x1x8x4x128, .f32⟩
  | .hbm, ⟨79, _⟩ => ⟨S128x1x8x4x128, .f32⟩
  | .hbm, ⟨80, _⟩ => ⟨S128x2x8x4x128, .f32⟩
  | .hbm, ⟨81, _⟩ => ⟨S1x128x2x8x4x128, .f32⟩
  | .hbm, ⟨82, _⟩ => ⟨S1x128x3x8x4x128, .f32⟩
  | .hbm, ⟨83, _⟩ => ⟨S128x3x8x4x128, .f32⟩
  | .hbm, ⟨84, _⟩ => ⟨S128x1x8x4x128, .f32⟩
  | .hbm, ⟨85, _⟩ => ⟨S128x8x4x128, .f32⟩
  | .hbm, ⟨86, _⟩ => ⟨S1x128x3x8x4x128, .f32⟩
  | .hbm, ⟨87, _⟩ => ⟨S128x3x8x4x128, .f32⟩
  | .hbm, ⟨88, _⟩ => ⟨S128x1x8x4x128, .f32⟩
  | .hbm, ⟨89, _⟩ => ⟨S128x8x4x128, .f32⟩
  | .hbm, ⟨90, _⟩ => ⟨S128x1x8x4x128, .f32⟩
  | .hbm, ⟨91, _⟩ => ⟨S128x1x8x4x128, .f32⟩
  | .hbm, ⟨92, _⟩ => ⟨S128x2x8x4x128, .f32⟩
  | .hbm, ⟨93, _⟩ => ⟨S1x128x2x8x4x128, .f32⟩
  | .hbm, ⟨94, _⟩ => ⟨S512x2048, .f32⟩
  | .hbm, ⟨95, _⟩ => ⟨S128x4x2048, .f32⟩
  | .hbm, ⟨96, _⟩ => ⟨S128x3x2048, .f32⟩
  | .hbm, ⟨97, _⟩ => ⟨S128x7x2048, .f32⟩
  | .hbm, ⟨98, _⟩ => ⟨S128x3x2048, .f32⟩
  | .hbm, ⟨99, _⟩ => ⟨S1x128x3x2048, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x2048, .bf16⟩
  | .local _ .vmem, ⟨9, _⟩ => ⟨S512x512, .f32⟩
  | .local _ .vmem, ⟨10, _⟩ => ⟨S512x512, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 35], ![false, false]⟩

def k0_cond2 (i : grid0.Coords) : BitVec 1 :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c1_i32_6 : BitVec 32 := 1#32
  let v14 : BitVec 1 := Scalar.cmpi .sge arg1 c1_i32_6
  let v15 : BitVec 1 := Scalar.andi v13 v14
  let c12_i32 : BitVec 32 := 12#32
  let v16 : BitVec 1 := Scalar.cmpi .slt arg1 c12_i32
  let v17 : BitVec 1 := Scalar.andi v15 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg1 : BitVec 32 := BitVec.ofNat 32 (i 1).val
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_14 : BitVec 32 := 1#32
  let v30 : BitVec 1 := Scalar.cmpi .eq v29 c1_i32_14
  let c1_i32_15 : BitVec 32 := 1#32
  let v31 : BitVec 1 := Scalar.cmpi .sge arg1 c1_i32_15
  let v32 : BitVec 1 := Scalar.andi v30 v31
  let c12_i32_16 : BitVec 32 := 12#32
  let v33 : BitVec 1 := Scalar.cmpi .slt arg1 c12_i32_16
  let v34 : BitVec 1 := Scalar.andi v32 v33
  let v35 : BitVec 32 := Scalar.extui v34
  let c0_i32_17 : BitVec 32 := 0#32
  let v36 : BitVec 1 := Scalar.cmpi .ne v35 c0_i32_17
  v36

def k0_cond4 (i : grid0.Coords) : BitVec 1 :=
  let arg1 : BitVec 32 := BitVec.ofNat 32 (i 1).val
  let c12_i32_18 : BitVec 32 := 12#32
  let v37 : BitVec 1 := Scalar.cmpi .eq arg1 c12_i32_18
  let v38 : BitVec 32 := Scalar.extui v37
  let c0_i32_19 : BitVec 32 := 0#32
  let v39 : BitVec 1 := Scalar.cmpi .ne v38 c0_i32_19
  v39

def k0_cond5 (i : grid0.Coords) : BitVec 1 :=
  let arg1 : BitVec 32 := BitVec.ofNat 32 (i 1).val
  let c12_i32_20 : BitVec 32 := 12#32
  let v40 : BitVec 1 := Scalar.cmpi .sgt arg1 c12_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .slt arg1 c12_i32
  let c1_i32 : BitVec 32 := 1#32
  let v1 : BitVec 32 := Scalar.subi arg1 c1_i32
  let v2 : BitVec 32 := Scalar.select v0 arg1 v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S128x4x2048 : Shape := ⟨3, ![128, 4, 2048]⟩
abbrev S1x128x3x2048 : Shape := ⟨4, ![1, 128, 3, 2048]⟩
abbrev S1x2048 : Shape := ⟨2, ![1, 2048]⟩
abbrev S1x2048x17408 : Shape := ⟨3, ![1, 2048, 17408]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S2048 : Shape := ⟨1, ![2048]⟩
abbrev S1x1x2048 : Shape := ⟨3, ![1, 1, 2048]⟩
abbrev S2048x17408 : Shape := ⟨2, ![2048, 17408]⟩
abbrev S128x4x17408 : Shape := ⟨3, ![128, 4, 17408]⟩
abbrev S128x4x6144 : Shape := ⟨3, ![128, 4, 6144]⟩
abbrev S128x4x48x128 : Shape := ⟨4, ![128, 4, 48, 128]⟩
abbrev S128x48x4x128 : Shape := ⟨4, ![128, 48, 4, 128]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S128x48x4x64 : Shape := ⟨4, ![128, 48, 4, 64]⟩
abbrev S1x1x4x64 : Shape := ⟨4, ![1, 1, 4, 64]⟩
abbrev S128x4x11264 : Shape := ⟨3, ![128, 4, 11264]⟩
abbrev S512x17408 : Shape := ⟨2, ![512, 17408]⟩
abbrev S512x9216 : Shape := ⟨2, ![512, 9216]⟩
abbrev S128x4x3x3x8x128 : Shape := ⟨6, ![128, 4, 3, 3, 8, 128]⟩
abbrev S3x128x3x8x4x128 : Shape := ⟨6, ![3, 128, 3, 8, 4, 128]⟩
abbrev S1x128x3x8x4x128 : Shape := ⟨6, ![1, 128, 3, 8, 4, 128]⟩
abbrev S128x3x8x4x128 : Shape := ⟨5, ![128, 3, 8, 4, 128]⟩
abbrev S128x1x8x4x128 : Shape := ⟨5, ![128, 1, 8, 4, 128]⟩
abbrev S128x8x4x128 : Shape := ⟨4, ![128, 8, 4, 128]⟩
abbrev S128x2x8x4x128 : Shape := ⟨5, ![128, 2, 8, 4, 128]⟩
abbrev S1x128x2x8x4x128 : Shape := ⟨6, ![1, 128, 2, 8, 4, 128]⟩
abbrev S512x2048 : Shape := ⟨2, ![512, 2048]⟩
abbrev S128x3x2048 : Shape := ⟨3, ![128, 3, 2048]⟩
abbrev S128x7x2048 : Shape := ⟨3, ![128, 7, 2048]⟩

abbrev nBuf : Space → Nat
  | .hbm => 113
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x128x3x2048, .f32⟩
  | .hbm, ⟨2, _⟩ => ⟨S1x2048, .f32⟩
  | .hbm, ⟨3, _⟩ => ⟨S1x2048x17408, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S128x4x2048, .f32⟩
  | .hbm, ⟨9, _⟩ => ⟨S_, .f32⟩
  | .hbm, ⟨10, _⟩ => ⟨S128x4, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S_, .f32⟩
  | .hbm, ⟨16, _⟩ => ⟨S128x4x1, .f32⟩
  | .hbm, ⟨17, _⟩ => ⟨S128x4x1, .f32⟩
  | .hbm, ⟨18, _⟩ => ⟨S128x4x1, .f32⟩
  | .hbm, ⟨19, _⟩ => ⟨S128x4x2048, .f32⟩
  | .hbm, ⟨20, _⟩ => ⟨S128x4x2048, .f32⟩
  | .hbm, ⟨21, _⟩ => ⟨S2048, .f32⟩
  | .hbm, ⟨22, _⟩ => ⟨S1x1x2048, .f32⟩
  | .hbm, ⟨23, _⟩ => ⟨S128x4x2048, .f32⟩
  | .hbm, ⟨24, _⟩ => ⟨S128x4x2048, .f32⟩
  | .hbm, ⟨25, _⟩ => ⟨S2048x17408, .f32⟩
  | .hbm, ⟨26, _⟩ => ⟨S128x4x17408, .f32⟩
  | .hbm, ⟨27, _⟩ => ⟨S128x4x6144, .f32⟩
  | .hbm, ⟨28, _⟩ => ⟨S128x4x48x128, .f32⟩
  | .hbm, ⟨29, _⟩ => ⟨S128x48x4x128, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S4, .f32⟩
  | .hbm, ⟨39, _⟩ => ⟨S4x1, .f32⟩
  | .hbm, ⟨40, _⟩ => ⟨S1x64, .f32⟩
  | .hbm, ⟨41, _⟩ => ⟨S4x64, .f32⟩
  | .hbm, ⟨42, _⟩ => ⟨S4x64, .f32⟩
  | .hbm, ⟨43, _⟩ => ⟨S4x64, .f32⟩
  | .hbm, ⟨44, _⟩ => ⟨S4x64, .f32⟩
  | .hbm, ⟨45, _⟩ => ⟨S4x64, .f32⟩
  | .hbm, ⟨46, _⟩ => ⟨S128x48x4x64, .f32⟩
  | .hbm, ⟨47, _⟩ => ⟨S128x48x4x64, .f32⟩
  | .hbm, ⟨48, _⟩ => ⟨S1x1x4x64, .f32⟩
  | .hbm, ⟨49, _⟩ => ⟨S128x48x4x64, .f32⟩
  | .hbm, ⟨50, _⟩ => ⟨S128x48x4x64, .f32⟩
  | .hbm, ⟨51, _⟩ => ⟨S1x1x4x64, .f32⟩
  | .hbm, ⟨52, _⟩ => ⟨S128x48x4x64, .f32⟩
  | .hbm, ⟨53, _⟩ => ⟨S128x48x4x64, .f32⟩
  | .hbm, ⟨54, _⟩ => ⟨S128x48x4x64, .f32⟩
  | .hbm, ⟨55, _⟩ => ⟨S1x1x4x64, .f32⟩
  | .hbm, ⟨56, _⟩ => ⟨S128x48x4x64, .f32⟩
  | .hbm, ⟨57, _⟩ => ⟨S128x48x4x64, .f32⟩
  | .hbm, ⟨58, _⟩ => ⟨S1x1x4x64, .f32⟩
  | .hbm, ⟨59, _⟩ => ⟨S128x48x4x64, .f32⟩
  | .hbm, ⟨60, _⟩ => ⟨S128x48x4x64, .f32⟩
  | .hbm, ⟨61, _⟩ => ⟨S128x48x4x64, .f32⟩
  | .hbm, ⟨62, _⟩ => ⟨S128x48x4x128, .f32⟩
  | .hbm, ⟨63, _⟩ => ⟨S128x4x48x128, .f32⟩
  | .hbm, ⟨64, _⟩ => ⟨S128x4x6144, .f32⟩
  | .hbm, ⟨65, _⟩ => ⟨S128x4x11264, .f32⟩
  | .hbm, ⟨66, _⟩ => ⟨S128x4x17408, .f32⟩
  | .hbm, ⟨67, _⟩ => ⟨S512x17408, .f32⟩
  | .hbm, ⟨68, _⟩ => ⟨S512x9216, .f32⟩
  | .hbm, ⟨69, _⟩ => ⟨S128x4x3x3x8x128, .f32⟩
  | .hbm, ⟨70, _⟩ => ⟨S3x128x3x8x4x128, .f32⟩
  | .hbm, ⟨71, _⟩ => ⟨S1x128x3x8x4x128, .f32⟩
  | .hbm, ⟨72, _⟩ => ⟨S128x3x8x4x128, .f32⟩
  | .hbm, ⟨73, _⟩ => ⟨S128x1x8x4x128, .f32⟩
  | .hbm, ⟨74, _⟩ => ⟨S128x8x4x128, .f32⟩
  | .hbm, ⟨75, _⟩ => ⟨S1x128x3x8x4x128, .f32⟩
  | .hbm, ⟨76, _⟩ => ⟨S128x3x8x4x128, .f32⟩
  | .hbm, ⟨77, _⟩ => ⟨S128x1x8x4x128, .f32⟩
  | .hbm, ⟨78, _⟩ => ⟨S128x8x4x128, .f32⟩
  | .hbm, ⟨79, _⟩ => ⟨S128x1x8x4x128, .f32⟩
  | .hbm, ⟨80, _⟩ => ⟨S128x1x8x4x128, .f32⟩
  | .hbm, ⟨81, _⟩ => ⟨S128x2x8x4x128, .f32⟩
  | .hbm, ⟨82, _⟩ => ⟨S1x128x2x8x4x128, .f32⟩
  | .hbm, ⟨83, _⟩ => ⟨S1x128x3x8x4x128, .f32⟩
  | .hbm, ⟨84, _⟩ => ⟨S128x3x8x4x128, .f32⟩
  | .hbm, ⟨85, _⟩ => ⟨S128x1x8x4x128, .f32⟩
  | .hbm, ⟨86, _⟩ => ⟨S128x8x4x128, .f32⟩
  | .hbm, ⟨87, _⟩ => ⟨S1x128x3x8x4x128, .f32⟩
  | .hbm, ⟨88, _⟩ => ⟨S128x3x8x4x128, .f32⟩
  | .hbm, ⟨89, _⟩ => ⟨S128x1x8x4x128, .f32⟩
  | .hbm, ⟨90, _⟩ => ⟨S128x8x4x128, .f32⟩
  | .hbm, ⟨91, _⟩ => ⟨S128x1x8x4x128, .f32⟩
  | .hbm, ⟨92, _⟩ => ⟨S128x1x8x4x128, .f32⟩
  | .hbm, ⟨93, _⟩ => ⟨S128x2x8x4x128, .f32⟩
  | .hbm, ⟨94, _⟩ => ⟨S1x128x2x8x4x128, .f32⟩
  | .hbm, ⟨95, _⟩ => ⟨S1x128x3x8x4x128, .f32⟩
  | .hbm, ⟨96, _⟩ => ⟨S128x3x8x4x128, .f32⟩
  | .hbm, ⟨97, _⟩ => ⟨S128x1x8x4x128, .f32⟩
  | .hbm, ⟨98, _⟩ => ⟨S128x8x4x128, .f32⟩
  | .hbm, ⟨99, _⟩ => ⟨S1x128x3x8x4x128, .f32⟩
  | .hbm, ⟨100, _⟩ => ⟨S128x3x8x4x128, .f32⟩
  | .hbm, ⟨101, _⟩ => ⟨S128x1x8x4x128, .f32⟩
  | .hbm, ⟨102, _⟩ => ⟨S128x8x4x128, .f32⟩
  | .hbm, ⟨103, _⟩ => ⟨S128x1x8x4x128, .f32⟩
  | .hbm, ⟨104, _⟩ => ⟨S128x1x8x4x128, .f32⟩
  | .hbm, ⟨105, _⟩ => ⟨S128x2x8x4x128, .f32⟩
  | .hbm, ⟨106, _⟩ => ⟨S1x128x2x8x4x128, .f32⟩
  | .hbm, ⟨107, _⟩ => ⟨S512x2048, .f32⟩
  | .hbm, ⟨108, _⟩ => ⟨S128x4x2048, .f32⟩
  | .hbm, ⟨109, _⟩ => ⟨S128x3x2048, .f32⟩
  | .hbm, ⟨110, _⟩ => ⟨S128x7x2048, .f32⟩
  | .hbm, ⟨111, _⟩ => ⟨S128x3x2048, .f32⟩
  | .hbm, ⟨112, _⟩ => ⟨S1x128x3x2048, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩

abbrev nD : Nat := 1
abbrev τ : Topo := Topo.v7x

variable {F : FTy → Type} [FloatOps F]
-- ==== Kernel6.lean ====
abbrev S512x2048 : Shape := ⟨2, ![512, 2048]⟩
abbrev S1x128x4x256 : Shape := ⟨4, ![1, 128, 4, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S128x4x256 : Shape := ⟨3, ![128, 4, 256]⟩
abbrev S512x256 : Shape := ⟨2, ![512, 256]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩

abbrev nBuf : Space → Nat
  | .hbm => 16
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S1x128x4x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S128x4x256, .f32⟩
  | .hbm, ⟨7, _⟩ => ⟨S512x256, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S256x2048, .f32⟩
  | .hbm, ⟨13, _⟩ => ⟨S256x2048, .bf16⟩
  | .hbm, ⟨14, _⟩ => ⟨S1x2048, .f32⟩
  | .hbm, ⟨15, _⟩ => ⟨S512x2048, .f32⟩
  | .local _ .vmem, ⟨0, _⟩ => ⟨S512x2048, .f32⟩
  | .local _ .vmem, ⟨1, _⟩ => ⟨S512x256, .f32⟩
  | .local _ .vmem, ⟨2, _⟩ => ⟨S1x2048, .f32⟩
  | .local _ .vmem, ⟨3, _⟩ => ⟨S2048x2048, .bf16⟩
  | .local _ .vmem, ⟨4, _⟩ => ⟨S256x2048, .bf16⟩
  | .local _ .vmem, ⟨5, _⟩ => ⟨S1x2048, .f32⟩
  | .local _ .vmem, ⟨6, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S512x2048 : Shape := ⟨2, ![512, 2048]⟩
abbrev S1x128x4x256 : Shape := ⟨4, ![1, 128, 4, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S128x4x256 : Shape := ⟨3, ![128, 4, 256]⟩
abbrev S512x256 : Shape := ⟨2, ![512, 256]⟩
abbrev S_ : Shape := ⟨0, ![]⟩
abbrev S512 : Shape := ⟨1, ![512]⟩
abbrev S512x1 : Shape := ⟨2, ![512, 1]⟩
abbrev S2048x2048 : Shape := ⟨2, ![2048, 2048]⟩
abbrev S256x2048 : Shape := ⟨2, ![256, 2048]⟩

abbrev nBuf : Space → Nat
  | .hbm => 55
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x128x4x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S128x4x256, .f32⟩
  | .hbm, ⟨7, _⟩ => ⟨S512x256, .f32⟩
  | .hbm, ⟨8, _⟩ => ⟨S2048, .f32⟩
  | .hbm, ⟨9, _⟩ => ⟨S512x2048, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x2048, .f32⟩
  | .hbm, ⟨21, _⟩ => ⟨S512x2048, .f32⟩
  | .hbm, ⟨22, _⟩ => ⟨S1x2048, .f32⟩
  | .hbm, ⟨23, _⟩ => ⟨S512x2048, .f32⟩
  | .hbm, ⟨24, _⟩ => ⟨S512x2048, .f32⟩
  | .hbm, ⟨25, _⟩ => ⟨S2048x2048, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S256x2048, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S_, .f32⟩
  | .hbm, ⟨47, _⟩ => ⟨S512x1, .f32⟩
  | .hbm, ⟨48, _⟩ => ⟨S512x1, .f32⟩
  | .hbm, ⟨49, _⟩ => ⟨S512x1, .f32⟩
  | .hbm, ⟨50, _⟩ => ⟨S512x2048, .f32⟩
  | .hbm, ⟨51, _⟩ => ⟨S512x2048, .f32⟩
  | .hbm, ⟨52, _⟩ => ⟨S1x2048, .f32⟩
  | .hbm, ⟨53, _⟩ => ⟨S512x2048, .f32⟩
  | .hbm, ⟨54, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.AttnBody.lean ====
module

public import proofs.«01_k».proof.Proof.Gen.KernelIdeal.Frame
public import proofs.«01_k».proof.Proof.Gen.KernelIdeal.Loops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- The body's run: the pieces its stores leave in the three cache outputs and in the three scratch buffers, and the
    combining loop's pieces over those scratch contents, with the proof that the body runs to them. -/
noncomputable def bodyRun (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) :
    Σ' (L12 : List (View.Piece (Elt F) S1x1x2x1x128x128 .f32)), Σ' (L13 : List (View.Piece (Elt F) S1x1x2x1x512x128 .f32)), Σ' (L14 : List (View.Piece (Elt F) S1x1x2x1x2048x128 .f32)), Σ' (L15 : List (View.Piece (Elt F) S3x2048x128 .f32)), Σ' (L16 : List (View.Piece (Elt F) S3x2048x128 .f32)), { L17 : List (View.Piece (Elt F) S3x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, (arg12.view.loc (c : Thread nD τ) ↦[arg12.view.set]{fullShare} arg12.view.writes (Elt F) f L12)) ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (∃ f15 f16 f17 f11, (arg15.view.loc (c : Thread nD τ) ↦[arg15.view.set]{fullShare} arg15.view.writes (Elt F) f15 L15) ∗ (arg16.view.loc (c : Thread nD τ) ↦[arg16.view.set]{fullShare} arg16.view.writes (Elt F) f16 L16) ∗ (arg17.view.loc (c : Thread nD τ) ↦[arg17.view.set]{fullShare} arg17.view.writes (Elt F) f17 L17) ∗ (arg11.view.loc (c : Thread nD τ) ↦[arg11.view.set]{fullShare} arg11.view.writes (Elt F) f11 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg15.view.writes (Elt F) f15 L15) (arg16.view.writes (Elt F) f16 L16) (arg17.view.writes (Elt F) f17 L17) k0_t1_loop.trips)))) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_attn_prompt_eq_skeleton]; unfold cc0_attn_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]; · iexists _; iexact H12
    isplitl [H13]; · iexists _; iexact H13
    isplitl [H14]; · iexists _; iexact H14
    iexists f15, f16, f17, f11
    isplitl [H15]; · iexact H15
    isplitl [H16]; · iexact H16
    isplitl [H17]; · iexact H17
    iexact H11

end Cert.KernelIdeal.Attn

end
-- ==== Proof.AttnBlocks.lean ====
module

public import proofs.«01_k».proof.Proof.AttnBody

@[expose] public section

set_option maxRecDepth 16384

noncomputable section

/-!
# What one block of queries stores

The body treats three groups of heads, sixteen blocks of 128 query rows in each.  A block's scores are the
products of its query rows with its own key rows and, in the first two groups, with the key rows of the block
before it in the same residue class.  Here the three things a block stores — the sum of values weighted by the
exponentials, the row maximum and the sum of the exponentials — are named as functions of the rows it loads, and
the lists of pieces that `bodyRun` found are restated over those names.
-/

namespace Cert.KernelIdeal.Attn

open Cert.KernelIdeal Cert.KernelIdeal.Gen
open Idealize.ShloMosaic Idealize.ShloMosaic.TcCoe Idealize.ShloMosaic.Tactic
open Idealize.SL.Sem

variable {F : FTy → Type} [FloatOps F]

/-! ## The rectangles -/

/-- The rows of block `r` of the first group. -/
def cur1 (r : Fin 16) : Rect S1x2048x128 := Rect.unit ![0, 128 * r.val, 0] S1x128x128.size
  (by revert r; decide +kernel)

/-- The rows of the block before it (of block 0 itself where there is none). -/
def prv1 (r : Fin 16) : Rect S1x2048x128 := Rect.unit ![0, 128 * (r.val - 1), 0] S1x128x128.size
  (by revert r; decide +kernel)

/-- Every fourth row: block `r` of the second group. -/
def cur2 (r : Fin 16) : LoadRect S1x2048x128 :=
  ⟨k0_off4 (BitVec.ofNat 32 r.val), S1x128x128.size, ![1, 4, 1], k0_off4_inb r⟩

/-- The block before it in its residue class. -/
def prv2 (r : Fin 16) : LoadRect S1x2048x128 :=
  ⟨k0_off5 (BitVec.ofNat 32 r.val), S1x128x128.size, ![1, 4, 1], k0_off5_inb r⟩

/-- Every sixteenth row: block `r` of the third group. -/
def cur3 (r : Fin 16) : LoadRect S1x2048x128 :=
  ⟨k0_off7 (BitVec.ofNat 32 r.val), S1x128x128.size, ![1, 16, 1], k0_off7_inb r⟩

/-- Where block `r` of the first group is stored in a scratch buffer. -/
def st1 (r : Fin 16) : Rect S3x2048x128 := Rect.unit ![0, 128 * r.val, 0] S1x128x128.size
  (by revert r; decide +kernel)

/-- Where block `r` of the second group is stored. -/
def st2 (r : Fin 16) : Rect S3x2048x128 :=
  ⟨⟨k0_off6 (BitVec.ofNat 32 r.val), S1x128x128.size, ![1, 4, 1], k0_off6_inb r⟩, spos_1_4_1⟩

/-- Where block `r` of the third group is stored. -/
def st3 (r : Fin 16) : Rect S3x2048x128 :=
  ⟨⟨k0_off8 (BitVec.ofNat 32 r.val), S1x128x128.size, ![1, 16, 1], k0_off8_inb r⟩, spos_1_16_1⟩

/-- The rows a rectangle selects. -/
def rowsAt (X : Vec F S1x2048x128 .f32) (R : LoadRect S1x2048x128) : R.shape.Idx → Elt F .f32 := fun j => X (R.idx j)

/-! ## The stages of a block -/

/-- A loaded block as the operand of a product. -/
def operand (X : Vec F S1x128x128 .f32) : FVec F S128x128 .bf16 :=
  truncf .bf16 (shapeCast S128x128 X shapeCasts_S1x128x128_S128x128) bitsLt_bf16_f32

/-- A query row sees the key rows of its own block up to its own. -/
def ownMask : IVec S128x128 1 := cmpi .sle (iota .tc S128x128 32 [1] iota_S128x128_d1_w32) (iota .tc S128x128 32 [0] iota_S128x128_d0_w32)

/-- And, in the block before, the key rows from its own row on. -/
def prvMask : IVec S128x128 1 := cmpi .sge (iota .tc S128x128 32 [1] iota_S128x128_d1_w32) (iota .tc S128x128 32 [0] iota_S128x128_d0_w32)

/-- The scores of a block against the block before it (present where `z` is set) and itself. -/
def scores2 (z : BitVec 1) (q kp kc : Vec F S1x128x128 .f32) : FVec F S128x256 .f32 :=
  select (concatenate S128x256 1 [⟨S128x128, andi prvMask (broadcast S128x128 z)⟩, ⟨S128x128, ownMask⟩] concatenates_S128x128_S128x128_S128x256_d1)
    (mulf (matmul dot_S128x128_S256x128_S128x256_1_1_0_0_n_n none (operand q)
        (concatenate S256x128 0 [⟨S128x128, operand kp⟩, ⟨S128x128, operand kc⟩] concatenates_S128x128_S128x128_S256x128_d0)
        (constant S128x256 .f32 0x00000000#32))
      (broadcast S128x256 (Scalar.ofBits .f32 0x3DB504F3#32)))
    (broadcast S128x256 (Scalar.ofBits .f32 0xFF800000#32))

/-- The largest score of each row. -/
def max2 (s : FVec F S128x256 .f32) : FVec F S128x1 .f32 :=
  shapeCast S128x1 (multiReduction .maximumf [1] S128 s 0xFF800000#32 reduces_S128x256_S128 (.inl rfl) rfl) shapeCasts_S128_S128x1

/-- The exponentials of the scores less their row's largest. -/
def exp2 (s : FVec F S128x256 .f32) : FVec F S128x256 .bf16 :=
  truncf .bf16 (exp (subf s (broadcastTo S128x256 (max2 s) broadcasts_S128x1_S128x256))) bitsLt_bf16_f32

/-- The exponentials times the values and, beside them, times a block of ones. -/
def both2 (e : FVec F S128x256 .bf16) (vp vc : Vec F S1x128x128 .f32) : FVec F S128x256 .f32 :=
  matmul dot_S128x256_S256x256_S128x256_1_0_0_1_n_n none e
    (concatenate S256x256 1 [⟨S256x128, concatenate S256x128 0 [⟨S128x128, operand vp⟩, ⟨S128x128, operand vc⟩] concatenates_S128x128_S128x128_S256x128_d0⟩,
      ⟨S256x128, broadcast S256x128 (Scalar.ofBits .bf16 0x3F80#16)⟩] concatenates_S256x128_S256x128_S256x256_d1)
    (constant S128x256 .f32 0x00000000#32)

/-- The scores of a block against itself. -/
def scores1 (q kc : Vec F S1x128x128 .f32) : FVec F S128x128 .f32 :=
  select ownMask
    (mulf (matmul dot_S128x128_S128x128_S128x128_1_1_0_0_n_n none (operand q) (operand kc) (constant S128x128 .f32 0x00000000#32))
      (broadcast S128x128 (Scalar.ofBits .f32 0x3DB504F3#32)))
    (broadcast S128x128 (Scalar.ofBits .f32 0xFF800000#32))

/-- The largest score of each row. -/
def max1 (s : FVec F S128x128 .f32) : FVec F S128x1 .f32 :=
  shapeCast S128x1 (multiReduction .maximumf [1] S128 s 0xFF800000#32 reduces_S128x128_S128 (.inl rfl) rfl) shapeCasts_S128_S128x1

/-- The exponentials of the scores less their row's largest. -/
def exp1 (s : FVec F S128x128 .f32) : FVec F S128x128 .bf16 :=
  truncf .bf16 (exp (subf s (broadcastTo S128x128 (max1 s) broadcasts_S128x1_S128x128))) bitsLt_bf16_f32

/-- The exponentials times the values and, beside them, times a block of ones. -/
def both1 (e : FVec F S128x128 .bf16) (vc : Vec F S1x128x128 .f32) : FVec F S128x256 .f32 :=
  matmul dot_S128x128_S128x256_S128x256_1_0_0_1_n_n none e
    (concatenate S128x256 1 [⟨S128x128, operand vc⟩, ⟨S128x128, broadcast S128x128 (Scalar.ofBits .bf16 0x3F80#16)⟩] concatenates_S128x128_S128x128_S128x256_d1)
    (constant S128x256 .f32 0x00000000#32)

/-- The weighted values, as stored. -/
def accPart (b : FVec F S128x256 .f32) : FVec F S1x128x128 .f32 :=
  shapeCast S1x128x128 (extractStridedSlice S128x128 ![0, 0] b slices_S128x256_o0_0_S128x128) shapeCasts_S128x128_S1x128x128

/-- The sums of the exponentials, as stored. -/
def sumPart (b : FVec F S128x256 .f32) : FVec F S1x128x128 .f32 :=
  shapeCast S1x128x128 (extractStridedSlice S128x128 ![0, 128] b slices_S128x256_o0_128_S128x128) shapeCasts_S128x128_S1x128x128

/-- The row maxima, as stored: one copy in every lane. -/
def maxPart (m : FVec F S128x1 .f32) : FVec F S1x128x128 .f32 :=
  shapeCast S1x128x128 (broadcastTo S128x128 (shapeCast S128x1 m shapeCasts_S128x1_S128x1) broadcasts_S128x1_S128x128) shapeCasts_S128x128_S1x128x128

/-! ## The blocks -/

/-- Whether block `r` of the first group has a block before it. -/
def has1 (r : Fin 16) : BitVec 1 := Scalar.cmpi .sgt (BitVec.ofNat 32 r.val) 0#32

/-- Whether block `r` of the second group has one. -/
def has2 (r : Fin 16) : BitVec 1 := Scalar.cmpi .sgt (BitVec.ofNat 32 (r.val % 4)) 0#32

def sc1 (q k : Vec F S1x2048x128 .f32) (r : Fin 16) : FVec F S128x256 .f32 :=
  scores2 (has1 r) (rowsAt q (cur1 r).toLoadRect) (rowsAt k (prv1 r).toLoadRect) (rowsAt k (cur1 r).toLoadRect)

def sc2 (q k : Vec F S1x2048x128 .f32) (r : Fin 16) : FVec F S128x256 .f32 :=
  scores2 (has2 r) (rowsAt q (cur2 r)) (rowsAt k (prv2 r)) (rowsAt k (cur2 r))

def sc3 (q k : Vec F S1x2048x128 .f32) (r : Fin 16) : FVec F S128x128 .f32 :=
  scores1 (rowsAt q (cur3 r)) (rowsAt k (cur3 r))

def bo1 (q k v : Vec F S1x2048x128 .f32) (r : Fin 16) : FVec F S128x256 .f32 :=
  both2 (exp2 (sc1 q k r)) (rowsAt v (prv1 r).toLoadRect) (rowsAt v (cur1 r).toLoadRect)

def bo2 (q k v : Vec F S1x2048x128 .f32) (r : Fin 16) : FVec F S128x256 .f32 :=
  both2 (exp2 (sc2 q k r)) (rowsAt v (prv2 r)) (rowsAt v (cur2 r))

def bo3 (q k v : Vec F S1x2048x128 .f32) (r : Fin 16) : FVec F S128x256 .f32 :=
  both1 (exp1 (sc3 q k r)) (rowsAt v (cur3 r))

/-- The blocks, the last stored first. -/
def down : List (Fin 16) := [15, 14, 13, 12, 11, 10, 9, 8, 7, 6, 5, 4, 3, 2, 1, 0]

/-- What the sixteen blocks of each group store in the first scratch buffer. -/
def accPieces (q1 q2 q3 k1 k2 k3 v1 v2 v3 : Vec F S1x2048x128 .f32) : List (View.Piece (Elt F) S3x2048x128 .f32) :=
  down.map (fun r => (⟨st3 r, accPart (bo3 q3 k3 v3 r)⟩ : View.Piece (Elt F) S3x2048x128 .f32)) ++
  (down.map (fun r => (⟨st2 r, accPart (bo2 q2 k2 v2 r)⟩ : View.Piece (Elt F) S3x2048x128 .f32)) ++
   down.map (fun r => (⟨st1 r, accPart (bo1 q1 k1 v1 r)⟩ : View.Piece (Elt F) S3x2048x128 .f32)))

/-- In the second. -/
def maxPieces (q1 q2 q3 k1 k2 k3 : Vec F S1x2048x128 .f32) : List (View.Piece (Elt F) S3x2048x128 .f32) :=
  down.map (fun r => (⟨st3 r, maxPart (max1 (sc3 q3 k3 r))⟩ : View.Piece (Elt F) S3x2048x128 .f32)) ++
  (down.map (fun r => (⟨st2 r, maxPart (max2 (sc2 q2 k2 r))⟩ : View.Piece (Elt F) S3x2048x128 .f32)) ++
   down.map (fun r => (⟨st1 r, maxPart (max2 (sc1 q1 k1 r))⟩ : View.Piece (Elt F) S3x2048x128 .f32)))

/-- In the third. -/
def sumPieces (q1 q2 q3 k1 k2 k3 v1 v2 v3 : Vec F S1x2048x128 .f32) : List (View.Piece (Elt F) S3x2048x128 .f32) :=
  down.map (fun r => (⟨st3 r, sumPart (bo3 q3 k3 v3 r)⟩ : View.Piece (Elt F) S3x2048x128 .f32)) ++
  (down.map (fun r => (⟨st2 r, sumPart (bo2 q2 k2 v2 r)⟩ : View.Piece (Elt F) S3x2048x128 .f32)) ++
   down.map (fun r => (⟨st1 r, sumPart (bo1 q1 k1 v1 r)⟩ : View.Piece (Elt F) S3x2048x128 .f32)))

end Cert.KernelIdeal.Attn
-- ==== Proof.AttnPieces.lean ====
module

public import proofs.«01_k».proof.Proof.AttnBlocks

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL.Sem

variable {F : FTy → Type} [FloatOps F]

/-- A load from a buffer held at contents that read `X`. -/
theorem readAt_unread (m : Memref sig .tc .vmem S1x2048x128 .f32) (h : m.IsWhole) (X : Vec F S1x2048x128 .f32) (R : LoadRect S1x2048x128) :
    m.view.readAt (Elt F) R (h.unread X) = rowsAt X R := by
  show (fun j => m.view.read (Elt F) (h.unread X) (R.idx j)) = rowsAt X R
  rw [h.read_unread]; rfl

set_option maxHeartbeats 0 in
/-- The pieces the run found in the first scratch buffer. -/
theorem accPieces_eq (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) :
    (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).2.2.2.1 = accPieces x0 x1 x2 x3 x4 x5 x6 x7 x8 := by
  unfold bodyRun
  dsimp only
  sl_unfold_words
  simp only [readAt_unread]
  rfl

set_option maxHeartbeats 0 in
/-- The pieces the run found in the second scratch buffer. -/
theorem maxPieces_eq (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) :
    (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).2.2.2.2.1 = maxPieces x0 x1 x2 x3 x4 x5 := by
  unfold bodyRun
  dsimp only
  sl_unfold_words
  simp only [readAt_unread]
  rfl

set_option maxHeartbeats 0 in
/-- The pieces the run found in the third scratch buffer. -/
theorem sumPieces_eq (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) :
    (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).2.2.2.2.2.1 = sumPieces x0 x1 x2 x3 x4 x5 x6 x7 x8 := by
  unfold bodyRun
  dsimp only
  sl_unfold_words
  simp only [readAt_unread]
  rfl

end Cert.KernelIdeal.Attn
-- ==== Proof.AttnCombine.lean ====
module

public import proofs.«01_k».proof.Proof.AttnPieces

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL.Sem

variable {F : FTy → Type} [FloatOps F]

/-! ## The combining loop -/

/-- Rows `128 k … 128 k + 127` of group `g` of a scratch buffer's contents. -/
def grp0 (Y : Vec F S3x2048x128 .f32) (k : Fin k0_t1_loop.trips) : Vec F S1x128x128 .f32 :=
  View.ld Y (Rect.unit (s := S3x2048x128) (k0_off9 k) S1x128x128.size (k0_off9_inb k))

def grp1 (Y : Vec F S3x2048x128 .f32) (k : Fin k0_t1_loop.trips) : Vec F S1x128x128 .f32 :=
  View.ld Y (Rect.unit (s := S3x2048x128) (k0_off10 k) S1x128x128.size (k0_off10_inb k))

def grp2 (Y : Vec F S3x2048x128 .f32) (k : Fin k0_t1_loop.trips) : Vec F S1x128x128 .f32 :=
  View.ld Y (Rect.unit (s := S3x2048x128) (k0_off11 k) S1x128x128.size (k0_off11_inb k))

/-- A loaded group as a matrix. -/
def mat (X : Vec F S1x128x128 .f32) : FVec F S128x128 .f32 := shapeCast S128x128 X shapeCasts_S1x128x128_S128x128

/-- The three groups' partial results combined with the weights their row maxima give. -/
def comb (o1 o2 o3 m1 m2 m3 l1 l2 l3 : Vec F S1x128x128 .f32) : FVec F S1x128x128 .bf16 :=
  let mx : FVec F S128x128 .f32 := maximumf (maximumf (mat m1) (mat m2)) (mat m3)
  let w1 : FVec F S128x128 .f32 := exp (subf (mat m1) mx)
  let w2 : FVec F S128x128 .f32 := exp (subf (mat m2) mx)
  let w3 : FVec F S128x128 .f32 := exp (subf (mat m3) mx)
  let num : FVec F S128x128 .f32 :=
    addf (addf (addf (broadcast S128x128 (Scalar.ofBits .f32 0x00000000#32)) (mulf w1 (mat o1))) (mulf w2 (mat o2))) (mulf w3 (mat o3))
  let den : FVec F S128x128 .f32 :=
    addf (addf (addf (broadcast S128x128 (Scalar.ofBits .f32 0x00000000#32)) (mulf w1 (mat l1))) (mulf w2 (mat l2))) (mulf w3 (mat l3))
  shapeCast S1x128x128 (truncf .bf16 (divf num den) bitsLt_bf16_f32) shapeCasts_S128x128_S1x128x128

/-- The piece trip `k` of the loop stores. -/
def combPiece (Y15 Y16 Y17 : Vec F S3x2048x128 .f32) (k : Fin k0_t1_loop.trips) : View.Piece (Elt F) S1x2048x128 .bf16 :=
  ⟨Rect.unit (s := S1x2048x128) (k0_off12 k) S1x128x128.size (k0_off12_inb k),
    comb (grp0 Y15 k) (grp1 Y15 k) (grp2 Y15 k) (grp0 Y16 k) (grp1 Y16 k) (grp2 Y16 k) (grp0 Y17 k) (grp1 Y17 k) (grp2 Y17 k)⟩

/-- The pieces of the trips before `n`, the last first. -/
def combPieces (Y15 Y16 Y17 : Vec F S3x2048x128 .f32) : ℕ → List (View.Piece (Elt F) S1x2048x128 .bf16)
  | 0 => []
  | n + 1 => if h : n < k0_t1_loop.trips then combPiece Y15 Y16 Y17 ⟨n, h⟩ :: combPieces Y15 Y16 Y17 n else combPieces Y15 Y16 Y17 n

set_option maxHeartbeats 0 in
/-- What the run found for one trip, over scratch buffers that read `Y15`, `Y16`, `Y17`. -/
theorem trip_eq (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole) (Y15 Y16 Y17 : Vec F S3x2048x128 .f32) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg15.unread Y15) (harg16.unread Y16) (harg17.unread Y17) k
      = [combPiece Y15 Y16 Y17 k] := by
  unfold tripL_k0_t1 trip_k0_t1
  dsimp only
  sl_unfold_words
  simp only [View.readAt_eq_ld, harg15.read_unread, harg16.read_unread, harg17.read_unread]
  rfl

/-- So of all of them. -/
theorem pb_eq (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole) (Y15 Y16 Y17 : Vec F S3x2048x128 .f32) :
    ∀ n, n ≤ k0_t1_loop.trips → pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg15.unread Y15) (harg16.unread Y16) (harg17.unread Y17) n
      = combPieces Y15 Y16 Y17 n
  | 0, _ => rfl
  | n + 1, h => by
    have hn : n < k0_t1_loop.trips := h
    rw [show n + 1 = (⟨n, hn⟩ : Fin k0_t1_loop.trips).val + 1 from rfl, pb_k0_t1_succ, trip_eq,
      show (⟨n, hn⟩ : Fin k0_t1_loop.trips).val = n from rfl,
      pb_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y15 Y16 Y17 n (Nat.le_of_lt hn)]
    unfold combPieces
    rw [dif_pos hn]
    cases n <;> rfl

/-! ## The caches -/

/-- The last 128 rows of the keys and of the values. -/
def cachePieces1 (k v : Vec F S1x2048x128 .f32) : List (View.Piece (Elt F) S1x1x2x1x128x128 .f32) :=
  [⟨Rect.unit ![0, 0, 1, 0, 0, 0] S1x1x1x1x128x128.size (by decide), shapeCast S1x1x1x1x128x128 (shapeCast S128x128 (rowsAt v (Rect.unit (s := S1x2048x128) ![0, 1920, 0] S1x128x128.size (by decide)).toLoadRect) shapeCasts_S1x128x128_S128x128) shapeCasts_S128x128_S1x1x1x1x128x128⟩,
   ⟨Rect.unit ![0, 0, 0, 0, 0, 0] S1x1x1x1x128x128.size (by decide), shapeCast S1x1x1x1x128x128 (shapeCast S128x128 (rowsAt k (Rect.unit (s := S1x2048x128) ![0, 1920, 0] S1x128x128.size (by decide)).toLoadRect) shapeCasts_S1x128x128_S128x128) shapeCasts_S128x128_S1x1x1x1x128x128⟩]

/-- The last 512 rows. -/
def cachePieces2 (k v : Vec F S1x2048x128 .f32) : List (View.Piece (Elt F) S1x1x2x1x512x128 .f32) :=
  [⟨Rect.unit ![0, 0, 1, 0, 0, 0] S1x1x1x1x512x128.size (by decide), shapeCast S1x1x1x1x512x128 (shapeCast S512x128 (rowsAt v (Rect.unit (s := S1x2048x128) ![0, 1536, 0] S1x512x128.size (by decide)).toLoadRect) shapeCasts_S1x512x128_S512x128) shapeCasts_S512x128_S1x1x1x1x512x128⟩,
   ⟨Rect.unit ![0, 0, 0, 0, 0, 0] S1x1x1x1x512x128.size (by decide), shapeCast S1x1x1x1x512x128 (shapeCast S512x128 (rowsAt k (Rect.unit (s := S1x2048x128) ![0, 1536, 0] S1x512x128.size (by decide)).toLoadRect) shapeCasts_S1x512x128_S512x128) shapeCasts_S512x128_S1x1x1x1x512x128⟩]

/-- All 2048 rows. -/
def cachePieces3 (k v : Vec F S1x2048x128 .f32) : List (View.Piece (Elt F) S1x1x2x1x2048x128 .f32) :=
  [⟨Rect.unit ![0, 0, 1, 0, 0, 0] S1x1x1x1x2048x128.size (by decide), shapeCast S1x1x1x1x2048x128 (shapeCast S2048x128 (rowsAt v (Rect.unit (s := S1x2048x128) ![0, 0, 0] S1x2048x128.size (by decide)).toLoadRect) shapeCasts_S1x2048x128_S2048x128) shapeCasts_S2048x128_S1x1x1x1x2048x128⟩,
   ⟨Rect.unit ![0, 0, 0, 0, 0, 0] S1x1x1x1x2048x128.size (by decide), shapeCast S1x1x1x1x2048x128 (shapeCast S2048x128 (rowsAt k (Rect.unit (s := S1x2048x128) ![0, 0, 0] S1x2048x128.size (by decide)).toLoadRect) shapeCasts_S1x2048x128_S2048x128) shapeCasts_S2048x128_S1x1x1x1x2048x128⟩]

set_option maxHeartbeats 0 in
/-- The pieces the run found in the first cache. -/
theorem cachePieces1_eq (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) :
    (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).1 = cachePieces1 x3 x6 := by
  unfold bodyRun
  dsimp only
  sl_unfold_words
  simp only [readAt_unread]
  rfl

set_option maxHeartbeats 0 in
/-- The pieces the run found in the second cache. -/
theorem cachePieces2_eq (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) :
    (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).2.1 = cachePieces2 x4 x7 := by
  unfold bodyRun
  dsimp only
  sl_unfold_words
  simp only [readAt_unread]
  rfl

set_option maxHeartbeats 0 in
/-- The pieces the run found in the third cache. -/
theorem cachePieces3_eq (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) :
    (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).2.2.1 = cachePieces3 x5 x8 := by
  unfold bodyRun
  dsimp only
  sl_unfold_words
  simp only [readAt_unread]
  rfl

end Cert.KernelIdeal.Attn
-- ==== Proof.AttnLaunch.lean ====
module

public import proofs.«01_k».proof.Proof.AttnCombine
public import Idealize.ShloMosaic.Lib.Claim

@[expose] public section

set_option maxRecDepth 16384

noncomputable section

/-!
# The body at one grid point, and the launch

The pieces cover every buffer they are stored in, so what the body leaves in its four outputs is a function of the
nine blocks it reads.  With that function as the pipeline's proof data the run of the whole kernel follows, for any
values: its arguments end unchanged and each output ends at the blocks written back.
-/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The pieces cover -/

theorem off6_eq : ∀ r : Fin 16, k0_off6 (BitVec.ofNat 32 r.val) = ![1, r.val / 4 + 512 * (r.val % 4), 0] := by decide +kernel

theorem off8_eq : ∀ r : Fin 16, k0_off8 (BitVec.ofNat 32 r.val) = ![2, r.val, 0] := by decide +kernel

theorem mem_down (r : Fin 16) : r ∈ down := by revert r; decide

/-- Row `i` of the first group lies in block `i / 128`. -/
theorem mem_st1 (y : S3x2048x128.Idx) (h : (y 0 : ℕ) = 0) (r : Fin 16) (hr : r.val = (y 1 : ℕ) / 128) : y ∈ (st1 r).set := by
  refine LoadRect.mem_set _ |>.mpr fun a => ?_
  have h1 : (y 1 : ℕ) < 2048 := (y 1).isLt
  have h2 : (y 2 : ℕ) < 128 := (y 2).isLt
  match a with
  | ⟨0, _⟩ => exact ⟨0, by show 0 < 1; omega, by show (y 0 : ℕ) = 0 + 1 * 0; omega⟩
  | ⟨1, _⟩ => exact ⟨(y 1 : ℕ) % 128, by show _ < 128; omega, by show (y 1 : ℕ) = 128 * r.val + 1 * ((y 1 : ℕ) % 128); omega⟩
  | ⟨2, _⟩ => exact ⟨(y 2 : ℕ), h2, by show (y 2 : ℕ) = 0 + 1 * (y 2 : ℕ); omega⟩

/-- Row `i` of the second group lies in block `(i / 4) / 128` of residue class `i % 4`. -/
theorem mem_st2 (y : S3x2048x128.Idx) (h : (y 0 : ℕ) = 1) (r : Fin 16) (hr : r.val = 4 * ((y 1 : ℕ) % 4) + (y 1 : ℕ) / 512) : y ∈ (st2 r).set := by
  refine LoadRect.mem_set _ |>.mpr fun a => ?_
  have h1 : (y 1 : ℕ) < 2048 := (y 1).isLt
  have h2 : (y 2 : ℕ) < 128 := (y 2).isLt
  have e := congrFun (off6_eq r)
  match a with
  | ⟨0, _⟩ => exact ⟨0, by show 0 < 1; omega, by show (y 0 : ℕ) = k0_off6 (BitVec.ofNat 32 r.val) 0 + 1 * 0; rw [e 0]; show (y 0 : ℕ) = 1 + 1 * 0; omega⟩
  | ⟨1, _⟩ => exact ⟨(y 1 : ℕ) / 4 % 128, by show _ < 128; omega, by
      show (y 1 : ℕ) = k0_off6 (BitVec.ofNat 32 r.val) 1 + 4 * ((y 1 : ℕ) / 4 % 128)
      rw [e 1]; show (y 1 : ℕ) = r.val / 4 + 512 * (r.val % 4) + 4 * ((y 1 : ℕ) / 4 % 128)
      have ha : r.val / 4 = (y 1 : ℕ) % 4 := by omega
      have hb : r.val % 4 = (y 1 : ℕ) / 512 := by omega
      rw [ha, hb]; omega⟩
  | ⟨2, _⟩ => exact ⟨(y 2 : ℕ), h2, by show (y 2 : ℕ) = k0_off6 (BitVec.ofNat 32 r.val) 2 + 1 * (y 2 : ℕ); rw [e 2]; show (y 2 : ℕ) = 0 + 1 * (y 2 : ℕ); omega⟩

/-- Row `i` of the third group lies in residue class `i % 16`. -/
theorem mem_st3 (y : S3x2048x128.Idx) (h : (y 0 : ℕ) = 2) (r : Fin 16) (hr : r.val = (y 1 : ℕ) % 16) : y ∈ (st3 r).set := by
  refine LoadRect.mem_set _ |>.mpr fun a => ?_
  have h1 : (y 1 : ℕ) < 2048 := (y 1).isLt
  have h2 : (y 2 : ℕ) < 128 := (y 2).isLt
  have e := congrFun (off8_eq r)
  match a with
  | ⟨0, _⟩ => exact ⟨0, by show 0 < 1; omega, by show (y 0 : ℕ) = k0_off8 (BitVec.ofNat 32 r.val) 0 + 1 * 0; rw [e 0]; show (y 0 : ℕ) = 2 + 1 * 0; omega⟩
  | ⟨1, _⟩ => exact ⟨(y 1 : ℕ) / 16, by show _ < 128; omega, by
      show (y 1 : ℕ) = k0_off8 (BitVec.ofNat 32 r.val) 1 + 16 * ((y 1 : ℕ) / 16)
      rw [e 1]; show (y 1 : ℕ) = r.val + 16 * ((y 1 : ℕ) / 16); omega⟩
  | ⟨2, _⟩ => exact ⟨(y 2 : ℕ), h2, by show (y 2 : ℕ) = k0_off8 (BitVec.ofNat 32 r.val) 2 + 1 * (y 2 : ℕ); rw [e 2]; show (y 2 : ℕ) = 0 + 1 * (y 2 : ℕ); omega⟩

/-- Any payloads stored block by block cover a scratch buffer. -/
theorem cover_scratch (p1 : (r : Fin 16) → (st1 r).shape.Idx → Elt F .f32) (p2 : (r : Fin 16) → (st2 r).shape.Idx → Elt F .f32)
    (p3 : (r : Fin 16) → (st3 r).shape.Idx → Elt F .f32) (y : S3x2048x128.Idx) :
    ∃ p ∈ down.map (fun r => (⟨st3 r, p3 r⟩ : View.Piece (Elt F) S3x2048x128 .f32)) ++
      (down.map (fun r => (⟨st2 r, p2 r⟩ : View.Piece (Elt F) S3x2048x128 .f32)) ++
       down.map (fun r => (⟨st1 r, p1 r⟩ : View.Piece (Elt F) S3x2048x128 .f32))), y ∈ p.1.set := by
  have h0 : (y 0 : ℕ) < 3 := (y 0).isLt
  have h1 : (y 1 : ℕ) < 2048 := (y 1).isLt
  have h : (y 0 : ℕ) = 0 ∨ (y 0 : ℕ) = 1 ∨ (y 0 : ℕ) = 2 := by omega
  rcases h with h | h | h
  · refine ⟨⟨st1 ⟨(y 1 : ℕ) / 128, by omega⟩, p1 _⟩, ?_, mem_st1 y h _ rfl⟩
    exact List.mem_append_right _ (List.mem_append_right _ (List.mem_map_of_mem (mem_down _)))
  · refine ⟨⟨st2 ⟨4 * ((y 1 : ℕ) % 4) + (y 1 : ℕ) / 512, by omega⟩, p2 _⟩, ?_, mem_st2 y h _ rfl⟩
    exact List.mem_append_right _ (List.mem_append_left _ (List.mem_map_of_mem (mem_down _)))
  · refine ⟨⟨st3 ⟨(y 1 : ℕ) % 16, by omega⟩, p3 _⟩, ?_, mem_st3 y h _ rfl⟩
    exact List.mem_append_left _ (List.mem_map_of_mem (mem_down _))

theorem trips_eq : k0_t1_loop.trips = 16 := by decide

theorem combPiece_mem (Y15 Y16 Y17 : Vec F S3x2048x128 .f32) (k : Fin k0_t1_loop.trips) :
    ∀ n, k.val < n → combPiece Y15 Y16 Y17 k ∈ combPieces Y15 Y16 Y17 n
  | 0, h => absurd h (Nat.not_lt_zero _)
  | n + 1, h => by
    unfold combPieces
    by_cases hn : n < k0_t1_loop.trips
    · rw [dif_pos hn]
      rcases Nat.lt_succ_iff_lt_or_eq.mp h with hk | hk
      · exact List.mem_cons_of_mem _ (combPiece_mem Y15 Y16 Y17 k n hk)
      · subst hk; exact List.mem_cons_self
    · rw [dif_neg hn]
      exact combPiece_mem Y15 Y16 Y17 k n (by have := k.isLt; omega)

theorem mem_combRect (y : S1x2048x128.Idx) (k : Fin k0_t1_loop.trips) (hk : k.val = (y 1 : ℕ) / 128) :
    y ∈ (Rect.unit (s := S1x2048x128) (k0_off12 k) S1x128x128.size (k0_off12_inb k)).set := by
  refine LoadRect.mem_set _ |>.mpr fun a => ?_
  have h0 : (y 0 : ℕ) < 1 := (y 0).isLt
  have h1 : (y 1 : ℕ) < 2048 := (y 1).isLt
  have h2 : (y 2 : ℕ) < 128 := (y 2).isLt
  have e := congrFun (k0_off12_eq k)
  match a with
  | ⟨0, _⟩ => exact ⟨0, by show 0 < 1; omega, by show (y 0 : ℕ) = k0_off12 k 0 + 1 * 0; rw [e 0]; show (y 0 : ℕ) = 0 + 1 * 0; omega⟩
  | ⟨1, _⟩ => exact ⟨(y 1 : ℕ) % 128, by show _ < 128; omega, by
      show (y 1 : ℕ) = k0_off12 k 1 + 1 * ((y 1 : ℕ) % 128)
      rw [e 1]; show (y 1 : ℕ) = 128 * k.val + 1 * ((y 1 : ℕ) % 128); omega⟩
  | ⟨2, _⟩ => exact ⟨(y 2 : ℕ), h2, by show (y 2 : ℕ) = k0_off12 k 2 + 1 * (y 2 : ℕ); rw [e 2]; show (y 2 : ℕ) = 0 + 1 * (y 2 : ℕ); omega⟩

theorem cover_comb (Y15 Y16 Y17 : Vec F S3x2048x128 .f32) (y : S1x2048x128.Idx) :
    ∃ p ∈ combPieces Y15 Y16 Y17 k0_t1_loop.trips, y ∈ p.1.set := by
  have h1 : (y 1 : ℕ) < 2048 := (y 1).isLt
  have hk : (y 1 : ℕ) / 128 < k0_t1_loop.trips := by rw [trips_eq]; omega
  exact ⟨combPiece Y15 Y16 Y17 ⟨_, hk⟩, combPiece_mem Y15 Y16 Y17 ⟨_, hk⟩ _ hk, mem_combRect y ⟨_, hk⟩ rfl⟩

theorem cover_cache1 (k v : Vec F S1x2048x128 .f32) (y : S1x1x2x1x128x128.Idx) : ∃ p ∈ cachePieces1 k v, y ∈ p.1.set := by
  have h0 : (y 0 : ℕ) < 1 := (y 0).isLt
  have h1 : (y 1 : ℕ) < 1 := (y 1).isLt
  have h2 : (y 2 : ℕ) < 2 := (y 2).isLt
  have h3 : (y 3 : ℕ) < 1 := (y 3).isLt
  have h4 : (y 4 : ℕ) < 128 := (y 4).isLt
  have h5 : (y 5 : ℕ) < 128 := (y 5).isLt
  have h : (y 2 : ℕ) = 0 ∨ (y 2 : ℕ) = 1 := by omega
  rcases h with h | h
  · refine ⟨_, List.mem_cons_of_mem _ List.mem_cons_self, ?_⟩
    show y ∈ (Rect.unit (s := S1x1x2x1x128x128) ![0, 0, 0, 0, 0, 0] S1x1x1x1x128x128.size (by decide)).set
    refine Rect.mem_set_unit.mpr fun a => ?_
    match a with
    | ⟨0, _⟩ => show 0 ≤ (y 0 : ℕ) ∧ (y 0 : ℕ) < 0 + 1; omega
    | ⟨1, _⟩ => show 0 ≤ (y 1 : ℕ) ∧ (y 1 : ℕ) < 0 + 1; omega
    | ⟨2, _⟩ => show 0 ≤ (y 2 : ℕ) ∧ (y 2 : ℕ) < 0 + 1; omega
    | ⟨3, _⟩ => show 0 ≤ (y 3 : ℕ) ∧ (y 3 : ℕ) < 0 + 1; omega
    | ⟨4, _⟩ => show 0 ≤ (y 4 : ℕ) ∧ (y 4 : ℕ) < 0 + 128; omega
    | ⟨5, _⟩ => show 0 ≤ (y 5 : ℕ) ∧ (y 5 : ℕ) < 0 + 128; omega
  · refine ⟨_, List.mem_cons_self, ?_⟩
    show y ∈ (Rect.unit (s := S1x1x2x1x128x128) ![0, 0, 1, 0, 0, 0] S1x1x1x1x128x128.size (by decide)).set
    refine Rect.mem_set_unit.mpr fun a => ?_
    match a with
    | ⟨0, _⟩ => show 0 ≤ (y 0 : ℕ) ∧ (y 0 : ℕ) < 0 + 1; omega
    | ⟨1, _⟩ => show 0 ≤ (y 1 : ℕ) ∧ (y 1 : ℕ) < 0 + 1; omega
    | ⟨2, _⟩ => show 1 ≤ (y 2 : ℕ) ∧ (y 2 : ℕ) < 1 + 1; omega
    | ⟨3, _⟩ => show 0 ≤ (y 3 : ℕ) ∧ (y 3 : ℕ) < 0 + 1; omega
    | ⟨4, _⟩ => show 0 ≤ (y 4 : ℕ) ∧ (y 4 : ℕ) < 0 + 128; omega
    | ⟨5, _⟩ => show 0 ≤ (y 5 : ℕ) ∧ (y 5 : ℕ) < 0 + 128; omega

theorem cover_cache2 (k v : Vec F S1x2048x128 .f32) (y : S1x1x2x1x512x128.Idx) : ∃ p ∈ cachePieces2 k v, y ∈ p.1.set := by
  have h0 : (y 0 : ℕ) < 1 := (y 0).isLt
  have h1 : (y 1 : ℕ) < 1 := (y 1).isLt
  have h2 : (y 2 : ℕ) < 2 := (y 2).isLt
  have h3 : (y 3 : ℕ) < 1 := (y 3).isLt
  have h4 : (y 4 : ℕ) < 512 := (y 4).isLt
  have h5 : (y 5 : ℕ) < 128 := (y 5).isLt
  have h : (y 2 : ℕ) = 0 ∨ (y 2 : ℕ) = 1 := by omega
  rcases h with h | h
  · refine ⟨_, List.mem_cons_of_mem _ List.mem_cons_self, ?_⟩
    show y ∈ (Rect.unit (s := S1x1x2x1x512x128) ![0, 0, 0, 0, 0, 0] S1x1x1x1x512x128.size (by decide)).set
    refine Rect.mem_set_unit.mpr fun a => ?_
    match a with
    | ⟨0, _⟩ => show 0 ≤ (y 0 : ℕ) ∧ (y 0 : ℕ) < 0 + 1; omega
    | ⟨1, _⟩ => show 0 ≤ (y 1 : ℕ) ∧ (y 1 : ℕ) < 0 + 1; omega
    | ⟨2, _⟩ => show 0 ≤ (y 2 : ℕ) ∧ (y 2 : ℕ) < 0 + 1; omega
    | ⟨3, _⟩ => show 0 ≤ (y 3 : ℕ) ∧ (y 3 : ℕ) < 0 + 1; omega
    | ⟨4, _⟩ => show 0 ≤ (y 4 : ℕ) ∧ (y 4 : ℕ) < 0 + 512; omega
    | ⟨5, _⟩ => show 0 ≤ (y 5 : ℕ) ∧ (y 5 : ℕ) < 0 + 128; omega
  · refine ⟨_, List.mem_cons_self, ?_⟩
    show y ∈ (Rect.unit (s := S1x1x2x1x512x128) ![0, 0, 1, 0, 0, 0] S1x1x1x1x512x128.size (by decide)).set
    refine Rect.mem_set_unit.mpr fun a => ?_
    match a with
    | ⟨0, _⟩ => show 0 ≤ (y 0 : ℕ) ∧ (y 0 : ℕ) < 0 + 1; omega
    | ⟨1, _⟩ => show 0 ≤ (y 1 : ℕ) ∧ (y 1 : ℕ) < 0 + 1; omega
    | ⟨2, _⟩ => show 1 ≤ (y 2 : ℕ) ∧ (y 2 : ℕ) < 1 + 1; omega
    | ⟨3, _⟩ => show 0 ≤ (y 3 : ℕ) ∧ (y 3 : ℕ) < 0 + 1; omega
    | ⟨4, _⟩ => show 0 ≤ (y 4 : ℕ) ∧ (y 4 : ℕ) < 0 + 512; omega
    | ⟨5, _⟩ => show 0 ≤ (y 5 : ℕ) ∧ (y 5 : ℕ) < 0 + 128; omega

theorem cover_cache3 (k v : Vec F S1x2048x128 .f32) (y : S1x1x2x1x2048x128.Idx) : ∃ p ∈ cachePieces3 k v, y ∈ p.1.set := by
  have h0 : (y 0 : ℕ) < 1 := (y 0).isLt
  have h1 : (y 1 : ℕ) < 1 := (y 1).isLt
  have h2 : (y 2 : ℕ) < 2 := (y 2).isLt
  have h3 : (y 3 : ℕ) < 1 := (y 3).isLt
  have h4 : (y 4 : ℕ) < 2048 := (y 4).isLt
  have h5 : (y 5 : ℕ) < 128 := (y 5).isLt
  have h : (y 2 : ℕ) = 0 ∨ (y 2 : ℕ) = 1 := by omega
  rcases h with h | h
  · refine ⟨_, List.mem_cons_of_mem _ List.mem_cons_self, ?_⟩
    show y ∈ (Rect.unit (s := S1x1x2x1x2048x128) ![0, 0, 0, 0, 0, 0] S1x1x1x1x2048x128.size (by decide)).set
    refine Rect.mem_set_unit.mpr fun a => ?_
    match a with
    | ⟨0, _⟩ => show 0 ≤ (y 0 : ℕ) ∧ (y 0 : ℕ) < 0 + 1; omega
    | ⟨1, _⟩ => show 0 ≤ (y 1 : ℕ) ∧ (y 1 : ℕ) < 0 + 1; omega
    | ⟨2, _⟩ => show 0 ≤ (y 2 : ℕ) ∧ (y 2 : ℕ) < 0 + 1; omega
    | ⟨3, _⟩ => show 0 ≤ (y 3 : ℕ) ∧ (y 3 : ℕ) < 0 + 1; omega
    | ⟨4, _⟩ => show 0 ≤ (y 4 : ℕ) ∧ (y 4 : ℕ) < 0 + 2048; omega
    | ⟨5, _⟩ => show 0 ≤ (y 5 : ℕ) ∧ (y 5 : ℕ) < 0 + 128; omega
  · refine ⟨_, List.mem_cons_self, ?_⟩
    show y ∈ (Rect.unit (s := S1x1x2x1x2048x128) ![0, 0, 1, 0, 0, 0] S1x1x1x1x2048x128.size (by decide)).set
    refine Rect.mem_set_unit.mpr fun a => ?_
    match a with
    | ⟨0, _⟩ => show 0 ≤ (y 0 : ℕ) ∧ (y 0 : ℕ) < 0 + 1; omega
    | ⟨1, _⟩ => show 0 ≤ (y 1 : ℕ) ∧ (y 1 : ℕ) < 0 + 1; omega
    | ⟨2, _⟩ => show 1 ≤ (y 2 : ℕ) ∧ (y 2 : ℕ) < 1 + 1; omega
    | ⟨3, _⟩ => show 0 ≤ (y 3 : ℕ) ∧ (y 3 : ℕ) < 0 + 1; omega
    | ⟨4, _⟩ => show 0 ≤ (y 4 : ℕ) ∧ (y 4 : ℕ) < 0 + 2048; omega
    | ⟨5, _⟩ => show 0 ≤ (y 5 : ℕ) ∧ (y 5 : ℕ) < 0 + 128; omega

/-! ## What the body leaves -/

/-- The first scratch buffer: for each group, row and lane the weighted values. -/
def accAll (q1 q2 q3 k1 k2 k3 v1 v2 v3 : Vec F S1x2048x128 .f32) : Vec F S3x2048x128 .f32 := View.canon (accPieces q1 q2 q3 k1 k2 k3 v1 v2 v3)

/-- The second: the row maxima. -/
def maxAll (q1 q2 q3 k1 k2 k3 : Vec F S1x2048x128 .f32) : Vec F S3x2048x128 .f32 := View.canon (maxPieces q1 q2 q3 k1 k2 k3)

/-- The third: the sums of the exponentials. -/
def sumAll (q1 q2 q3 k1 k2 k3 v1 v2 v3 : Vec F S1x2048x128 .f32) : Vec F S3x2048x128 .f32 := View.canon (sumPieces q1 q2 q3 k1 k2 k3 v1 v2 v3)

/-- The attention output of one head. -/
def attnOut (q1 q2 q3 k1 k2 k3 v1 v2 v3 : Vec F S1x2048x128 .f32) : Vec F S1x2048x128 .bf16 :=
  View.canon (combPieces (accAll q1 q2 q3 k1 k2 k3 v1 v2 v3) (maxAll q1 q2 q3 k1 k2 k3) (sumAll q1 q2 q3 k1 k2 k3 v1 v2 v3) k0_t1_loop.trips)

theorem cover_acc (q1 q2 q3 k1 k2 k3 v1 v2 v3 : Vec F S1x2048x128 .f32) (y : S3x2048x128.Idx) : ∃ p ∈ accPieces q1 q2 q3 k1 k2 k3 v1 v2 v3, y ∈ p.1.set :=
  cover_scratch (fun r => accPart (bo1 q1 k1 v1 r)) (fun r => accPart (bo2 q2 k2 v2 r)) (fun r => accPart (bo3 q3 k3 v3 r)) y

theorem cover_max (q1 q2 q3 k1 k2 k3 : Vec F S1x2048x128 .f32) (y : S3x2048x128.Idx) : ∃ p ∈ maxPieces q1 q2 q3 k1 k2 k3, y ∈ p.1.set :=
  cover_scratch (fun r => maxPart (max2 (sc1 q1 k1 r))) (fun r => maxPart (max2 (sc2 q2 k2 r))) (fun r => maxPart (max1 (sc3 q3 k3 r))) y

theorem cover_sum (q1 q2 q3 k1 k2 k3 v1 v2 v3 : Vec F S1x2048x128 .f32) (y : S3x2048x128.Idx) : ∃ p ∈ sumPieces q1 q2 q3 k1 k2 k3 v1 v2 v3, y ∈ p.1.set :=
  cover_scratch (fun r => sumPart (bo1 q1 k1 v1 r)) (fun r => sumPart (bo2 q2 k2 v2 r)) (fun r => sumPart (bo3 q3 k3 v3 r)) y

/-- Writes that cover a whole buffer leave the contents that read their canon. -/
theorem writes_eq_unread {m : Memref sig .tc .vmem S3x2048x128 .f32} (h : m.IsWhole) (f : BufTy.Contents (Elt F) m.view.ty)
    (L : List (View.Piece (Elt F) S3x2048x128 .f32)) (hL : ∀ y, ∃ p ∈ L, y ∈ p.1.set) :
    m.view.writes (Elt F) f L = h.unread (View.canon L) :=
  h.eq_unread (View.read_writes_eq_canon _ _ _ hL)

/-- The body's triple with the lists of pieces it leaves as parameters. -/
def Runs (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32)
    (L12 : List (View.Piece (Elt F) S1x1x2x1x128x128 .f32)) (L13 : List (View.Piece (Elt F) S1x1x2x1x512x128 .f32)) (L14 : List (View.Piece (Elt F) S1x1x2x1x2048x128 .f32))
    (L15 L16 L17 : List (View.Piece (Elt F) S3x2048x128 .f32)) : Prop :=
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, (arg12.view.loc (c : Thread nD τ) ↦[arg12.view.set]{fullShare} arg12.view.writes (Elt F) f L12)) ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (∃ f15 f16 f17 f11, (arg15.view.loc (c : Thread nD τ) ↦[arg15.view.set]{fullShare} arg15.view.writes (Elt F) f15 L15) ∗ (arg16.view.loc (c : Thread nD τ) ↦[arg16.view.set]{fullShare} arg16.view.writes (Elt F) f16 L16) ∗ (arg17.view.loc (c : Thread nD τ) ↦[arg17.view.set]{fullShare} arg17.view.writes (Elt F) f17 L17) ∗ (arg11.view.loc (c : Thread nD τ) ↦[arg11.view.set]{fullShare} arg11.view.writes (Elt F) f11 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg15.view.writes (Elt F) f15 L15) (arg16.view.writes (Elt F) f16 L16) (arg17.view.writes (Elt F) f17 L17) k0_t1_loop.trips)))) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

theorem Runs.cast (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) {L12 L12' L13 L13' L14 L14' L15 L15' L16 L16' L17 L17'}
    (h : Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 L12 L13 L14 L15 L16 L17) (h12 : L12 = L12') (h13 : L13 = L13') (h14 : L14 = L14') (h15 : L15 = L15') (h16 : L16 = L16') (h17 : L17 = L17') :
    Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 L12' L13' L14' L15' L16' L17' := by
  subst h12 h13 h14 h15 h16 h17; exact h

set_option maxHeartbeats 1000000 in
theorem runs (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) :
    Runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 (cachePieces1 x3 x6) (cachePieces2 x4 x7) (cachePieces3 x5 x8) (accPieces x0 x1 x2 x3 x4 x5 x6 x7 x8) (maxPieces x0 x1 x2 x3 x4 x5) (sumPieces x0 x1 x2 x3 x4 x5 x6 x7 x8) :=
  Runs.cast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).2.2.2.2.2.2 (cachePieces1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) (cachePieces2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) (cachePieces3_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)
    (accPieces_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) (maxPieces_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) (sumPieces_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)

set_option maxHeartbeats 1000000 in
theorem sound_kernel (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .bf16) (harg11 : arg11.IsWhole) (arg12 : Memref sig .tc .vmem S1x1x2x1x128x128 .f32) (harg12 : arg12.IsWhole) (arg13 : Memref sig .tc .vmem S1x1x2x1x512x128 .f32) (harg13 : arg13.IsWhole) (arg14 : Memref sig .tc .vmem S1x1x2x1x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S1x2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (attnOut x0 x1 x2 x3 x4 x5 x6 x7 x8) ∗ owns (c : Thread nD τ) arg12 fullShare (View.canon (cachePieces1 x3 x6)) ∗ owns (c : Thread nD τ) arg13 fullShare (View.canon (cachePieces2 x4 x7)) ∗ owns (c : Thread nD τ) arg14 fullShare (View.canon (cachePieces3 x5 x8)) ∗ (∃ d, owns (c : Thread nD τ) arg15 fullShare d) ∗ (∃ d, owns (c : Thread nD τ) arg16 fullShare d) ∗ (∃ d, owns (c : Thread nD τ) arg17 fullShare d)) -∗ K ⟨⟩))
    ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hR := runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold Runs at hR
  iintro ⟨H2, H3, H4, H5, H6, H7, H8, H9, H10, H11, H12, H13, H14, H15, H16, H17, Hk⟩
  iapply (hR E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, ⟨%f12, H12⟩, ⟨%f13, H13⟩, ⟨%f14, H14⟩, ⟨%f15, %f16, %f17, %f11, H15, H16, H17, H11⟩⟩
  iapply Hk
  unfold owns
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr
    swap; · iexact H11
    ipureintro
    rw [writes_eq_unread harg15 f15 _ (cover_acc x0 x1 x2 x3 x4 x5 x6 x7 x8)]
    rw [writes_eq_unread harg16 f16 _ (cover_max x0 x1 x2 x3 x4 x5)]
    rw [writes_eq_unread harg17 f17 _ (cover_sum x0 x1 x2 x3 x4 x5 x6 x7 x8)]
    rw [pb_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ (Nat.le_refl _)]
    exact View.read_writes_eq_canon _ _ _ (cover_comb _ _ _)
  isplitl [H12]
  · iexists _; isplitr
    swap; · iexact H12
    ipureintro
    exact View.read_writes_eq_canon _ _ _ (cover_cache1 _ _)
  isplitl [H13]
  · iexists _; isplitr
    swap; · iexact H13
    ipureintro
    exact View.read_writes_eq_canon _ _ _ (cover_cache2 _ _)
  isplitl [H14]
  · iexists _; isplitr
    swap; · iexact H14
    ipureintro
    exact View.read_writes_eq_canon _ _ _ (cover_cache3 _ _)
  isplitl [H15]
  · iexists _; iexists _; isplitr
    swap; · iexact H15
    ipureintro; rfl
  isplitl [H16]
  · iexists _; iexists _; isplitr
    swap; · iexact H16
    ipureintro; rfl
  iexists _; iexists _; isplitr
  swap; · iexact H17
  ipureintro; rfl

/-! ## The pipeline's proof data -/

variable (m : (ℓ : Loc nD τ sig) → Buf (Elt F) ℓ) (ρ : Dev nD → PrngReg)

/-- The nine input blocks at a point. -/
def outAttn (c : Dev nD) (t : Fin cfg0.N) : Vec F S1x2048x128 .bf16 :=
  attnOut (iblk m c 0 t) (iblk m c 1 t) (iblk m c 2 t) (iblk m c 3 t) (iblk m c 4 t) (iblk m c 5 t) (iblk m c 6 t) (iblk m c 7 t) (iblk m c 8 t)

/-- The arrays as the region finds them; after the body each input's buffer at its block and each output's at the
    function above of the input blocks; the scratch buffers at anything; the shared argument's shares dealt. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAttn m c t
    | ⟨10, _⟩ => View.canon (cachePieces1 (iblk m c 3 t) (iblk m c 6 t))
    | ⟨11, _⟩ => View.canon (cachePieces2 (iblk m c 4 t) (iblk m c 7 t))
    | ⟨12, _⟩ => View.canon (cachePieces3 (iblk m c 5 t) (iblk m c 8 t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAttn m c t := by dsimp only [dats]
theorem after0_10 (c : Dev nD) (t : Fin cfg0.N) : (dats m 0 c).after 10 t = View.canon (cachePieces1 (iblk m c 3 t) (iblk m c 6 t)) := by dsimp only [dats]
theorem after0_11 (c : Dev nD) (t : Fin cfg0.N) : (dats m 0 c).after 11 t = View.canon (cachePieces2 (iblk m c 4 t) (iblk m c 7 t)) := by dsimp only [dats]
theorem after0_12 (c : Dev nD) (t : Fin cfg0.N) : (dats m 0 c).after 12 t = View.canon (cachePieces3 (iblk m c 5 t) (iblk m c 8 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The scratch buffers as memrefs. -/
abbrev sc0 : Memref sig .tc .vmem S3x2048x128 .f32 := Memref.whole cc0_scratch0
abbrev sc1M : Memref sig .tc .vmem S3x2048x128 .f32 := Memref.whole cc0_scratch1
abbrev sc2M : Memref sig .tc .vmem S3x2048x128 .f32 := Memref.whole cc0_scratch2

theorem inv_eq (c : Dev nD) :
    (Pipeline.ΦA spec0 c : sProp 𝕄)
      = iprop(iprop((∃ d, owns (c : Thread nD τ) sc0 fullShare d) ∗ (∃ d, owns (c : Thread nD τ) sc1M fullShare d) ∗ (∃ d, owns (c : Thread nD τ) sc2M fullShare d)) ∗ (∃ r, prngReg c r)) := by
  unfold Pipeline.ΦA; rw [scopedRest0_eq]; simp only [sc0, sc1M, sc2M, owns_whole]; try rfl

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, inv_eq,
    after0_0, after0_1, after0_2, after0_3, after0_4, after0_5, after0_6, after0_7, after0_8, after0_9, after0_10, after0_11, after0_12]
  iintro ⟨⟨⟨Hs0, Hs1, Hs2⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [Hs0]; · iexact Hs0
  isplitl [Hs1]; · iexact Hs1
  isplitl [Hs2]; · iexact Hs2
  iintro ⟨H0, H1, H2, H3, H4, H5, H6, H7, H8, H9, H10, H11, H12, Hs0, Hs1, Hs2⟩
  isplitl [Hs0 Hs1 Hs2 Hp]
  · isplitl [Hs0 Hs1 Hs2]
    · isplitl [Hs0]; · iexact Hs0
      isplitl [Hs1]; · iexact Hs1
      iexact Hs2
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every fair execution ends, with each array of the pipeline at what the proof data gives and no semaphore raised. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The argument ends unchanged and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Attn
-- ==== Proof.AttnFrames.lean ====
module

public import proofs.«01_k».proof.Defs
public import proofs.«01_k».proof.Proof.AttnLaunch
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

set_option maxRecDepth 65536
set_option maxHeartbeats 0

noncomputable section

/-!
# The frames of the prompt attention

One run, for any values, serves both the kernel over machine words and the kernel over the extended reals.
-/

namespace Cert.Proof.Attn

open Idealize.ShloMosaic Idealize.SL.Sem

variable {F : FTy → Type} [FloatOps F]

theorem labels_eq : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => rfl

theorem defs_eq : Cert.Kernel.defs (F := F) = Cert.KernelIdeal.defs (F := F) := by
  unfold Cert.Kernel.defs Cert.KernelIdeal.defs
  rw [labels_eq]
  rfl

theorem main_eq : Cert.Kernel.main (F := F) = Cert.KernelIdeal.main (F := F) := rfl

theorem frame_kernel : Cert.quiescent_Kernel := fun m ρ _ => by
  show (θ_run (Cert.Kernel.defs (F := Bits)) _ _) _
  rw [defs_eq, main_eq]
  exact Cert.KernelIdeal.Attn.frame (F := Bits) m ρ

theorem frame_ideal : Cert.quiescent_KernelIdeal := fun m ρ _ => Cert.KernelIdeal.Attn.frame (F := Ideal) m ρ

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Proof.Attn

end
-- ==== Proof.AttnSpec.lean ====
module

public import Idealize.ShloMosaic.Lib.Tactic.ValueTie
public import Idealize.ShloMosaic.Lib.Routing.Words
public import Idealize.ShloMosaic.Lib.WordCmp

@[expose] public section

noncomputable section

/-!
# Dilated banded attention over the extended reals

The attention of one head: which positions see which, the scores, their row maxima, the exponentials, their sums and
the weighted values; how a row's sums are taken over the few keys it sees; and why weighting three groups by their
row maxima is weighting them by the logarithms of their sums.
-/

namespace Cert.Attn

open Idealize.ShloMosaic

/-! ## The specification -/

/-- Position `i` sees position `j`: not ahead of it, at most `w` back, in the same residue class modulo `d`. -/
def Sees (w d i j : ℕ) : Prop := j ≤ i ∧ i - j ≤ w ∧ (i - j) % d = 0

instance (w d i j : ℕ) : Decidable (Sees w d i j) := inferInstanceAs (Decidable (_ ∧ _ ∧ _))

/-- The factor of the scores. -/
abbrev scale : EReal := Ideal.ofBits .f32 0x3DB504F3#32

/-- The score of key `j` for query `i`. -/
def score (w d : ℕ) (q k : Fin 2048 → Fin 128 → EReal) (i j : Fin 2048) : EReal :=
  if Sees w d i.val j.val then (∑ x, q i x * k j x) * scale else ⊥

/-- The largest score of a row. -/
def top (w d : ℕ) (q k : Fin 2048 → Fin 128 → EReal) (i : Fin 2048) : EReal :=
  Finset.univ.fold max ⊥ (score w d q k i)

/-- The weight of a key before normalising. -/
def wt (w d : ℕ) (q k : Fin 2048 → Fin 128 → EReal) (i j : Fin 2048) : EReal :=
  Ideal.exp (score w d q k i j - top w d q k i)

/-- The sum of a row's weights. -/
def tot (w d : ℕ) (q k : Fin 2048 → Fin 128 → EReal) (i : Fin 2048) : EReal := ∑ j, wt w d q k i j

/-- The weighted values. -/
def acc (w d : ℕ) (q k v : Fin 2048 → Fin 128 → EReal) (i : Fin 2048) (e : Fin 128) : EReal :=
  ∑ j, wt w d q k i j * v j e

theorem bot_bits : Ideal.ofBits .f32 0xFF800000#32 = ⊥ := by simp [Ideal.ofBits, Ideal.ieee]

theorem scale_real : ∃ r : ℝ, scale = (r : EReal) := by
  simp only [scale, Ideal.ofBits, Ideal.ieee]
  split_ifs <;> first | exact ⟨_, rfl⟩ | simp_all

/-! ## Sums and maxima over the keys a row sees -/

section Reindex

variable {N K : ℕ} (g : Fin K → Fin N) (p : Fin K → Prop) [DecidablePred p] (f : Fin N → EReal)

theorem sum_reindex (inj : ∀ x y, p x → p y → g x = g y → x = y) (hz : ∀ j, (∀ x, p x → g x ≠ j) → f j = 0) :
    ∑ j, f j = ∑ x, if p x then f (g x) else 0 := by
  rw [← Finset.sum_filter]
  rw [← Finset.sum_image (f := f) (g := g) (s := Finset.univ.filter p)
    (fun x hx y hy h => inj x y (Finset.mem_filter.mp hx).2 (Finset.mem_filter.mp hy).2 h)]
  refine (Finset.sum_subset (Finset.subset_univ _) fun j _ hj => hz j fun x hx h => hj ?_).symm
  exact Finset.mem_image.mpr ⟨x, Finset.mem_filter.mpr ⟨Finset.mem_univ _, hx⟩, h⟩

theorem fold_reindex (hz : ∀ j, (∀ x, p x → g x ≠ j) → f j = ⊥) :
    Finset.univ.fold max ⊥ f = Finset.univ.fold max ⊥ (fun x => if p x then f (g x) else ⊥) := by
  refine le_antisymm ((Finset.fold_max_le _).mpr ⟨bot_le, fun j _ => ?_⟩) ((Finset.fold_max_le _).mpr ⟨bot_le, fun x _ => ?_⟩)
  · by_cases h : ∀ x, p x → g x ≠ j
    · rw [hz j h]; exact bot_le
    · push Not at h
      obtain ⟨x, hx, rfl⟩ := h
      exact (Finset.le_fold_max _).mpr (.inr ⟨x, Finset.mem_univ _, by rw [if_pos hx]⟩)
  · by_cases hx : p x
    · rw [if_pos hx]; exact (Finset.le_fold_max _).mpr (.inr ⟨g x, Finset.mem_univ _, le_rfl⟩)
    · rw [if_neg hx]; exact bot_le

end Reindex

section Row

variable {K : ℕ} (g : Fin K → Fin 2048) (p : Fin K → Prop) [DecidablePred p]
variable (w d : ℕ) (q k v : Fin 2048 → Fin 128 → EReal) (i : Fin 2048)
variable (s : Fin K → EReal)

theorem bot_sub_any (x : EReal) : (⊥ : EReal) - x = ⊥ := by rw [sub_eq_add_neg, EReal.bot_add]

variable (inj : ∀ x y, p x → p y → g x = g y → x = y)
  (all : ∀ j : Fin 2048, Sees w d i.val j.val ↔ ∃ x, p x ∧ g x = j)
  (hs : ∀ x, s x = if p x then (∑ e, q i e * k (g x) e) * scale else ⊥)

include all in
theorem unseen (j : Fin 2048) (h : ∀ x, p x → g x ≠ j) : score w d q k i j = ⊥ := by
  unfold score
  rw [if_neg]
  rw [all]
  rintro ⟨x, hx, e⟩
  exact h x hx e

include all hs in
theorem score_eq (x : Fin K) : s x = if p x then score w d q k i (g x) else ⊥ := by
  rw [hs]
  by_cases hx : p x
  · rw [if_pos hx, if_pos hx]; unfold score; rw [if_pos ((all _).mpr ⟨x, hx, rfl⟩)]
  · rw [if_neg hx, if_neg hx]

include all hs in
theorem top_eq : Finset.univ.fold max ⊥ s = top w d q k i := by
  unfold top
  rw [fold_reindex g p _ (unseen g p w d q k i all)]
  exact congrArg (fun f => Finset.fold max ⊥ f Finset.univ) (funext (score_eq g p w d q k i s all hs))

include all hs in
theorem wt_eq (x : Fin K) : Ideal.exp (s x - Finset.univ.fold max ⊥ s) = if p x then wt w d q k i (g x) else 0 := by
  rw [top_eq g p w d q k i s all hs, score_eq g p w d q k i s all hs]
  by_cases hx : p x
  · rw [if_pos hx, if_pos hx]; rfl
  · rw [if_neg hx, if_neg hx, bot_sub_any, Ideal.exp_bot]

include all in
theorem wt_unseen (j : Fin 2048) (h : ∀ x, p x → g x ≠ j) : wt w d q k i j = 0 := by
  unfold wt
  rw [unseen g p w d q k i all j h, bot_sub_any, Ideal.exp_bot]

include inj all hs in
theorem tot_eq : ∑ x, Ideal.exp (s x - Finset.univ.fold max ⊥ s) = tot w d q k i := by
  unfold tot
  rw [sum_reindex g p _ inj (wt_unseen g p w d q k i all)]
  exact Finset.sum_congr rfl fun x _ => wt_eq g p w d q k i s all hs x

include inj all hs in
theorem acc_eq (e : Fin 128) (y : Fin K → EReal) (hy : ∀ x, p x → y x = v (g x) e) :
    ∑ x, Ideal.exp (s x - Finset.univ.fold max ⊥ s) * y x = acc w d q k v i e := by
  unfold acc
  rw [sum_reindex g p (fun j => wt w d q k i j * v j e) inj (fun j h => by rw [wt_unseen g p w d q k i all j h, zero_mul])]
  refine Finset.sum_congr rfl fun x _ => ?_
  rw [wt_eq g p w d q k i s all hs]
  by_cases hx : p x
  · rw [if_pos hx, if_pos hx, hy x hx]
  · rw [if_neg hx, if_neg hx, zero_mul]

end Row

/-! ## Finite queries and keys -/

section Finite

variable (w d : ℕ) (q k : Fin 2048 → Fin 128 → EReal)
variable (hq : ∀ i e, ∃ r : ℝ, q i e = r) (hk : ∀ i e, ∃ r : ℝ, k i e = r) (i : Fin 2048)

theorem sum_real {ι : Type} (t : Finset ι) (f : ι → EReal) (h : ∀ x, ∃ r : ℝ, f x = r) : ∃ r : ℝ, ∑ x ∈ t, f x = r := by
  choose r hr using h
  refine ⟨∑ x ∈ t, r x, ?_⟩
  rw [Finset.sum_congr rfl fun x _ => hr x]
  exact (map_sum (⟨⟨fun x : ℝ => (x : EReal), EReal.coe_zero⟩, EReal.coe_add⟩ : ℝ →+ EReal) r t).symm

include hq hk in
theorem score_real (j : Fin 2048) (h : Sees w d i.val j.val) : ∃ r : ℝ, score w d q k i j = r := by
  unfold score
  rw [if_pos h]
  obtain ⟨r, hr⟩ := sum_real Finset.univ (fun x => q i x * k j x) (fun x => by
    obtain ⟨a, ha⟩ := hq i x; obtain ⟨b, hb⟩ := hk j x
    exact ⟨a * b, by rw [ha, hb, EReal.coe_mul]⟩)
  obtain ⟨c, hc⟩ := scale_real
  exact ⟨r * c, by rw [hr, hc, EReal.coe_mul]⟩

theorem sees_self (n : ℕ) : Sees w d n n := ⟨le_rfl, by omega, by simp⟩

include hq hk in
theorem top_real : ∃ r : ℝ, top w d q k i = r := by
  have hb : top w d q k i ≠ ⊥ := by
    obtain ⟨r, hr⟩ := score_real w d q k hq hk i i (sees_self w d _)
    intro h
    have : score w d q k i i ≤ top w d q k i := (Finset.le_fold_max _).mpr (.inr ⟨i, Finset.mem_univ _, le_rfl⟩)
    rw [h, hr] at this
    exact EReal.coe_ne_bot r (le_bot_iff.mp this)
  have ht : top w d q k i ≠ ⊤ := by
    refine ne_of_lt ((Finset.fold_max_lt _).mpr ⟨bot_lt_top, fun j _ => ?_⟩)
    by_cases h : Sees w d i.val j.val
    · obtain ⟨r, hr⟩ := score_real w d q k hq hk i j h
      rw [hr]; exact EReal.coe_lt_top r
    · unfold score; rw [if_neg h]; exact bot_lt_top
  exact ⟨_, (EReal.coe_toReal ht hb).symm⟩

include hq hk in
theorem wt_real (j : Fin 2048) : ∃ r : ℝ, 0 ≤ r ∧ wt w d q k i j = r ∧ (Sees w d i.val j.val → 0 < r) := by
  obtain ⟨m, hm⟩ := top_real w d q k hq hk i
  unfold wt
  by_cases h : Sees w d i.val j.val
  · obtain ⟨r, hr⟩ := score_real w d q k hq hk i j h
    refine ⟨Real.exp (r - m), (Real.exp_pos _).le, ?_, fun _ => Real.exp_pos _⟩
    rw [hr, hm, ← EReal.coe_sub, Ideal.exp_coe]
  · refine ⟨0, le_rfl, ?_, fun h' => absurd h' h⟩
    unfold score
    rw [if_neg h, bot_sub_any, Ideal.exp_bot, EReal.coe_zero]

include hq hk in
theorem tot_real : ∃ r : ℝ, 0 < r ∧ tot w d q k i = r := by
  choose r h0 hr hp using wt_real w d q k hq hk i
  refine ⟨∑ j, r j, Finset.sum_pos' (fun j _ => h0 j) ⟨i, Finset.mem_univ _, hp i (sees_self w d _)⟩, ?_⟩
  unfold tot
  rw [Finset.sum_congr rfl fun j _ => hr j]
  exact (map_sum (⟨⟨fun x : ℝ => (x : EReal), EReal.coe_zero⟩, EReal.coe_add⟩ : ℝ →+ EReal) r Finset.univ).symm

end Finite

/-! ## The three groups combined -/

theorem add_mul_real (x y : EReal) {r : ℝ} (h : 0 ≤ r) : (x + y) * (r : EReal) = x * r + y * r :=
  EReal.right_distrib_of_nonneg_of_ne_top (by exact_mod_cast h) (EReal.coe_ne_top r) x y

/-- The three groups combined by their row maxima. -/
def combine (m l a : Fin 3 → EReal) : EReal :=
  Ideal.div (Ideal.exp (m 0 - max (max (m 0) (m 1)) (m 2)) * a 0 + Ideal.exp (m 1 - max (max (m 0) (m 1)) (m 2)) * a 1
      + Ideal.exp (m 2 - max (max (m 0) (m 1)) (m 2)) * a 2)
    (Ideal.exp (m 0 - max (max (m 0) (m 1)) (m 2)) * l 0 + Ideal.exp (m 1 - max (max (m 0) (m 1)) (m 2)) * l 1
      + Ideal.exp (m 2 - max (max (m 0) (m 1)) (m 2)) * l 2)

/-- A group's weight before normalising. -/
def share (m l : Fin 3 → EReal) (x : Fin 3) : EReal :=
  Ideal.exp ((m x + Ideal.log (l x)) - max ⊥ (Finset.univ.fold max ⊥ fun y : Fin 3 => m y + Ideal.log (l y)))

/-- Combining three groups by their row maxima is weighting each group's normalised attention by the softmax of the
    logarithms of the groups' sums. -/
theorem combine_eq (m l a : Fin 3 → EReal) (hm : ∀ x, ∃ r : ℝ, m x = r) (hl : ∀ x, ∃ r : ℝ, 0 < r ∧ l x = r) :
    combine m l a = ∑ x, Ideal.div (share m l x) (∑ y, share m l y) * Ideal.div (a x) (l x) := by
  choose μ hμ using hm
  choose lam hpos hlam using hl
  have hlse : ∀ x, m x + Ideal.log (l x) = ((μ x + Real.log (lam x) : ℝ) : EReal) := fun x => by
    rw [hμ, hlam, Ideal.log_coe, if_neg (not_le.mpr (hpos x)), EReal.coe_add]
  obtain ⟨T, hT⟩ : ∃ T : ℝ, max ⊥ (Finset.univ.fold max ⊥ fun y : Fin 3 => m y + Ideal.log (l y)) = (T : EReal) := by
    have hb : max ⊥ (Finset.univ.fold max ⊥ fun y : Fin 3 => m y + Ideal.log (l y)) ≠ ⊥ := by
      intro h
      have h1 : m 0 + Ideal.log (l 0) ≤ Finset.univ.fold max ⊥ fun y : Fin 3 => m y + Ideal.log (l y) :=
        (Finset.le_fold_max _).mpr (.inr ⟨0, Finset.mem_univ _, le_rfl⟩)
      rw [max_eq_right bot_le] at h
      rw [h, hlse] at h1
      exact EReal.coe_ne_bot _ (le_bot_iff.mp h1)
    have ht : max ⊥ (Finset.univ.fold max ⊥ fun y : Fin 3 => m y + Ideal.log (l y)) ≠ ⊤ := by
      rw [max_eq_right bot_le]
      refine ne_of_lt ((Finset.fold_max_lt _).mpr ⟨bot_lt_top, fun j _ => ?_⟩)
      rw [hlse]; exact EReal.coe_lt_top _
    exact ⟨_, (EReal.coe_toReal ht hb).symm⟩
  have hshare : ∀ x, share m l x = ((Real.exp (μ x) * lam x * Real.exp (-T) : ℝ) : EReal) := fun x => by
    unfold share
    rw [hT, hlse, ← EReal.coe_sub, Ideal.exp_coe]
    congr 1
    rw [sub_eq_add_neg, Real.exp_add, Real.exp_add, Real.exp_log (hpos x)]
  obtain ⟨M, hM⟩ : ∃ M : ℝ, max (max (m 0) (m 1)) (m 2) = (M : EReal) := by
    refine ⟨max (max (μ 0) (μ 1)) (μ 2), ?_⟩
    rw [hμ, hμ, hμ, EReal.coe_strictMono.monotone.map_max, EReal.coe_strictMono.monotone.map_max]
  have hker : ∀ x, Ideal.exp (m x - (M : EReal)) = ((Real.exp (μ x) * Real.exp (-M) : ℝ) : EReal) := fun x => by
    rw [hμ, ← EReal.coe_sub, Ideal.exp_coe, sub_eq_add_neg, Real.exp_add]
  have h0 := hpos 0
  have h1 := hpos 1
  have h2 := hpos 2
  have hden : (0 : ℝ) < Real.exp (μ 0) * Real.exp (-M) * lam 0 + Real.exp (μ 1) * Real.exp (-M) * lam 1 + Real.exp (μ 2) * Real.exp (-M) * lam 2 := by positivity
  have hsum : (0 : ℝ) < Real.exp (μ 0) * lam 0 * Real.exp (-T) + Real.exp (μ 1) * lam 1 * Real.exp (-T) + Real.exp (μ 2) * lam 2 * Real.exp (-T) := by positivity
  have hS : ∑ y, share m l y = ((Real.exp (μ 0) * lam 0 * Real.exp (-T) + Real.exp (μ 1) * lam 1 * Real.exp (-T) + Real.exp (μ 2) * lam 2 * Real.exp (-T) : ℝ) : EReal) := by
    rw [Fin.sum_univ_three, hshare, hshare, hshare, EReal.coe_add, EReal.coe_add]
  have hD : Ideal.exp (m 0 - (M : EReal)) * l 0 + Ideal.exp (m 1 - (M : EReal)) * l 1 + Ideal.exp (m 2 - (M : EReal)) * l 2
      = ((Real.exp (μ 0) * Real.exp (-M) * lam 0 + Real.exp (μ 1) * Real.exp (-M) * lam 1 + Real.exp (μ 2) * Real.exp (-M) * lam 2 : ℝ) : EReal) := by
    rw [hker, hker, hker, hlam, hlam, hlam, ← EReal.coe_mul, ← EReal.coe_mul, ← EReal.coe_mul, ← EReal.coe_add, ← EReal.coe_add]
  have term : ∀ x, Ideal.div (share m l x) (∑ y, share m l y) * Ideal.div (a x) (l x)
      = Ideal.exp (m x - (M : EReal)) * a x
        * ((1 / (Real.exp (μ 0) * Real.exp (-M) * lam 0 + Real.exp (μ 1) * Real.exp (-M) * lam 1 + Real.exp (μ 2) * Real.exp (-M) * lam 2) : ℝ) : EReal) := fun x => by
    rw [hS, Ideal.div_coe hsum.ne', hlam, Ideal.div_coe (hpos x).ne', hshare, hker]
    rw [mul_comm (a x) _, ← mul_assoc, ← EReal.coe_mul, ← EReal.coe_mul,
      mul_right_comm ((Real.exp (μ x) * Real.exp (-M) : ℝ) : EReal) (a x), ← EReal.coe_mul]
    congr 2
    have hx := hpos x
    have e1 : Real.exp (-T) ≠ 0 := (Real.exp_pos _).ne'
    have e2 : Real.exp (-M) ≠ 0 := (Real.exp_pos _).ne'
    have hc : (0 : ℝ) < Real.exp (μ 0) * lam 0 + Real.exp (μ 1) * lam 1 + Real.exp (μ 2) * lam 2 := by positivity
    rw [show Real.exp (μ 0) * lam 0 * Real.exp (-T) + Real.exp (μ 1) * lam 1 * Real.exp (-T) + Real.exp (μ 2) * lam 2 * Real.exp (-T)
        = (Real.exp (μ 0) * lam 0 + Real.exp (μ 1) * lam 1 + Real.exp (μ 2) * lam 2) * Real.exp (-T) by ring,
      show Real.exp (μ 0) * Real.exp (-M) * lam 0 + Real.exp (μ 1) * Real.exp (-M) * lam 1 + Real.exp (μ 2) * Real.exp (-M) * lam 2
        = (Real.exp (μ 0) * lam 0 + Real.exp (μ 1) * lam 1 + Real.exp (μ 2) * lam 2) * Real.exp (-M) by ring]
    field_simp
  rw [Fin.sum_univ_three, term, term, term]
  unfold combine
  rw [hM, hD, Ideal.div_coe hden.ne', add_mul_real _ _ (by positivity), add_mul_real _ _ (by positivity)]

/-! ## The masks -/

theorem ofNat_sub_of_le {i j : ℕ} (hi : i < 2048) (h : j ≤ i) :
    IntOp.subi (BitVec.ofNat 32 i) (BitVec.ofNat 32 j) = BitVec.ofNat 32 (i - j) := by
  unfold IntOp.subi
  apply BitVec.eq_of_toNat_eq
  rw [BitVec.toNat_sub, BitVec.toNat_ofNat, BitVec.toNat_ofNat, BitVec.toNat_ofNat]
  omega

theorem sub_neg {i j : ℕ} (hj : j < 2048) (h : i < j) :
    (IntOp.subi (BitVec.ofNat 32 i) (BitVec.ofNat 32 j)).toInt < 0 := by
  unfold IntOp.subi
  rw [BitVec.toInt_sub, WordCmp.toInt_ofNat_of_lt (by omega), WordCmp.toInt_ofNat_of_lt (by omega), Int.bmod_def]
  omega

/-- The reference's mask is the relation. -/
theorem mask_eq {i j w d : ℕ} (hi : i < 2048) (hj : j < 2048) (hw : w < 4096) (hd : 0 < d) (hd' : d < 4096) (x y : EReal) :
    Scalar.select
      (IntOp.andi
        (IntOp.andi (IntOp.cmpi .sge (IntOp.subi (BitVec.ofNat 32 i) (BitVec.ofNat 32 j)) 0#32)
          (IntOp.cmpi .sle (IntOp.subi (BitVec.ofNat 32 i) (BitVec.ofNat 32 j)) (BitVec.ofNat 32 w)))
        (IntOp.cmpi .eq (IntOp.remsi ArithUnit.host (IntOp.subi (BitVec.ofNat 32 i) (BitVec.ofNat 32 j)) (BitVec.ofNat 32 d)) 0#32)) x y
      = if Sees w d i j then x else y := by
  by_cases h : j ≤ i
  · rw [ofNat_sub_of_le hi h, Routing.remsi_word _ (by omega) hd (by omega), WordCmp.cmpi_sge_eq, WordCmp.cmpi_sle_eq, WordCmp.cmpi_eq_eq_toNat,
      WordCmp.andi_ofBool, WordCmp.andi_ofBool, WordCmp.toInt_ofNat_of_lt (a := i - j) (by omega), WordCmp.toInt_ofNat_of_lt (a := w) (by omega),
      WordCmp.toNat_ofNat_of_lt (lt_of_le_of_lt (Nat.mod_le _ _) (by omega))]
    unfold Scalar.select
    have e : (BitVec.ofBool (decide ((0#32 : BitVec 32).toInt ≤ ((i - j : ℕ) : Int)) && decide (((i - j : ℕ) : Int) ≤ ((w : ℕ) : Int))
        && decide ((i - j) % d = (0#32 : BitVec 32).toNat)) = 1#1) ↔ Sees w d i j := by
      rw [WordCmp.ofBool_eq_one_iff, Bool.and_eq_true, Bool.and_eq_true, decide_eq_true_iff, decide_eq_true_iff, decide_eq_true_iff]
      unfold Sees
      rw [show (0#32 : BitVec 32).toInt = 0 by decide, show (0#32 : BitVec 32).toNat = 0 by decide]
      constructor
      · rintro ⟨⟨_, h1⟩, h2⟩; exact ⟨h, by omega, h2⟩
      · rintro ⟨_, h1, h2⟩; exact ⟨⟨by omega, by omega⟩, h2⟩
    exact if_congr e rfl rfl
  · have hn := sub_neg (i := i) hj (by omega)
    rw [WordCmp.cmpi_sge_eq]
    rw [show decide ((0#32 : BitVec 32).toInt ≤ (IntOp.subi (BitVec.ofNat 32 i) (BitVec.ofNat 32 j)).toInt) = false from
      decide_eq_false (by rw [show (0#32 : BitVec 32).toInt = 0 by decide]; omega)]
    rw [if_neg (fun hs : Sees w d i j => h hs.1)]
    unfold Scalar.select
    rw [if_neg]
    intro e
    have : ∀ a b : BitVec 1, IntOp.andi (IntOp.andi (BitVec.ofBool false) a) b ≠ 1 := by decide
    exact this _ _ e

theorem le_bit {a b : ℕ} (ha : a < 2048) (hb : b < 2048) (x y : EReal) :
    Scalar.select (IntOp.cmpi .sle (BitVec.ofNat 32 a) (BitVec.ofNat 32 b)) x y = if a ≤ b then x else y := by
  rw [WordCmp.cmpi_sle_eq, WordCmp.toInt_ofNat_of_lt (by omega), WordCmp.toInt_ofNat_of_lt (by omega)]
  unfold Scalar.select
  refine if_congr ?_ rfl rfl
  refine (WordCmp.ofBool_decide_eq_one_iff _).trans ?_
  exact Int.ofNat_le

theorem ge_bit {a b n : ℕ} (ha : a < 2048) (hb : b < 2048) (hn : n < 2048) (x y : EReal) :
    Scalar.select (IntOp.andi (IntOp.cmpi .sge (BitVec.ofNat 32 a) (BitVec.ofNat 32 b)) (Scalar.cmpi .sgt (BitVec.ofNat 32 n) 0#32)) x y
      = if b ≤ a ∧ 0 < n then x else y := by
  show Scalar.select (IntOp.andi (IntOp.cmpi .sge (BitVec.ofNat 32 a) (BitVec.ofNat 32 b)) (IntOp.cmpi .sgt (BitVec.ofNat 32 n) 0#32)) x y = _
  rw [WordCmp.cmpi_sge_eq, WordCmp.cmpi_sgt_eq, WordCmp.andi_ofBool, WordCmp.toInt_ofNat_of_lt (a := a) (by omega), WordCmp.toInt_ofNat_of_lt (a := b) (by omega),
    WordCmp.toInt_ofNat_of_lt (a := n) (by omega), show (0#32 : BitVec 32).toInt = 0 by decide]
  unfold Scalar.select
  refine if_congr ?_ rfl rfl
  refine (WordCmp.ofBool_eq_one_iff _).trans ?_
  rw [Bool.and_eq_true, decide_eq_true_iff, decide_eq_true_iff]
  omega

end Cert.Attn
end
-- ==== Proof.AttnVal.lean ====
module

public import proofs.«01_k».proof.Proof.AttnLaunch
public import proofs.«01_k».proof.Proof.AttnSpec

@[expose] public section

set_option maxRecDepth 16384

noncomputable section

/-!
# What a block stores, over the extended reals

The scores of a block of 128 queries are those of the specification over the keys the block loads, so its maxima, sums
and weighted values are the specification's.
-/

namespace Cert.KernelIdeal.Attn

open Cert.KernelIdeal Cert.KernelIdeal.Gen Cert.Attn
open Idealize.ShloMosaic Idealize.ShloMosaic.TcCoe Idealize.ShloMosaic.Tactic

/-! ## The stages at an index -/

theorem scores2_apply (n : ℕ) (hn : n < 2048) (q kp kc : FVec Ideal S1x128x128 .f32) (a : Fin 128) (x : Fin 256) :
    scores2 (F := Ideal) (Scalar.cmpi .sgt (BitVec.ofNat 32 n) 0#32) q kp kc (ix2 a x)
      = if (if x.val < 128 then a.val ≤ x.val ∧ 0 < n else x.val - 128 ≤ a.val)
        then (∑ y : Fin 128, q (ix3 0 a y) * (if h : x.val < 128 then kp (ix3 0 ⟨x.val, h⟩ y) else kc (ix3 0 ⟨x.val - 128, by omega⟩ y))) * scale
        else ⊥ := by
  have ha := a.isLt
  have hx := x.isLt
  unfold scores2 operand ownMask prvMask
  pointwise
  by_cases h : x.val < 128
  · simp only [dif_pos h, if_pos h]
    rw [ge_bit (by omega) (by omega) hn]
    exact if_congr Iff.rfl rfl bot_bits
  · simp only [dif_neg h, if_neg h]
    rw [le_bit (by omega) (by omega)]
    exact if_congr Iff.rfl rfl bot_bits

theorem scores1_apply (q kc : FVec Ideal S1x128x128 .f32) (a x : Fin 128) :
    scores1 (F := Ideal) q kc (ix2 a x)
      = if x.val ≤ a.val then (∑ y : Fin 128, q (ix3 0 a y) * kc (ix3 0 x y)) * scale else ⊥ := by
  have ha := a.isLt
  have hx := x.isLt
  unfold scores1 operand ownMask
  pointwise
  rw [le_bit (by omega) (by omega)]
  exact if_congr Iff.rfl rfl bot_bits

theorem maxPart_max2 (s : FVec Ideal S128x256 .f32) (a e : Fin 128) :
    maxPart (F := Ideal) (max2 s) (ix3 0 a e) = Finset.univ.fold max ⊥ (fun x : Fin 256 => s (ix2 a x)) := by
  unfold maxPart max2
  pointwise
  rw [bot_bits]

theorem sumPart_both2 (s : FVec Ideal S128x256 .f32) (vp vc : FVec Ideal S1x128x128 .f32) (a e : Fin 128) :
    sumPart (F := Ideal) (both2 (exp2 s) vp vc) (ix3 0 a e)
      = ∑ x : Fin 256, Ideal.exp (s (ix2 a x) - Finset.univ.fold max ⊥ (fun x : Fin 256 => s (ix2 a x))) := by
  unfold sumPart both2 exp2 max2 operand
  pointwise
  rw [bot_bits]

theorem accPart_both2 (s : FVec Ideal S128x256 .f32) (vp vc : FVec Ideal S1x128x128 .f32) (a e : Fin 128) :
    accPart (F := Ideal) (both2 (exp2 s) vp vc) (ix3 0 a e)
      = ∑ x : Fin 256, Ideal.exp (s (ix2 a x) - Finset.univ.fold max ⊥ (fun x : Fin 256 => s (ix2 a x)))
          * (if h : x.val < 128 then vp (ix3 0 ⟨x.val, h⟩ e) else vc (ix3 0 ⟨x.val - 128, by omega⟩ e)) := by
  unfold accPart both2 exp2 max2 operand
  pointwise
  rw [bot_bits]

theorem maxPart_max1 (s : FVec Ideal S128x128 .f32) (a e : Fin 128) :
    maxPart (F := Ideal) (max1 s) (ix3 0 a e) = Finset.univ.fold max ⊥ (fun x : Fin 128 => s (ix2 a x)) := by
  unfold maxPart max1
  pointwise
  rw [bot_bits]

theorem sumPart_both1 (s : FVec Ideal S128x128 .f32) (vc : FVec Ideal S1x128x128 .f32) (a e : Fin 128) :
    sumPart (F := Ideal) (both1 (exp1 s) vc) (ix3 0 a e)
      = ∑ x : Fin 128, Ideal.exp (s (ix2 a x) - Finset.univ.fold max ⊥ (fun x : Fin 128 => s (ix2 a x))) := by
  unfold sumPart both1 exp1 max1 operand
  pointwise
  rw [bot_bits]

theorem accPart_both1 (s : FVec Ideal S128x128 .f32) (vc : FVec Ideal S1x128x128 .f32) (a e : Fin 128) :
    accPart (F := Ideal) (both1 (exp1 s) vc) (ix3 0 a e)
      = ∑ x : Fin 128, Ideal.exp (s (ix2 a x) - Finset.univ.fold max ⊥ (fun x : Fin 128 => s (ix2 a x))) * vc (ix3 0 x e) := by
  unfold accPart both1 exp1 max1 operand
  pointwise
  rw [bot_bits]

theorem comb_apply (o1 o2 o3 m1 m2 m3 l1 l2 l3 : FVec Ideal S1x128x128 .f32) (a e : Fin 128) :
    comb (F := Ideal) o1 o2 o3 m1 m2 m3 l1 l2 l3 (ix3 0 a e)
      = combine ![m1 (ix3 0 a e), m2 (ix3 0 a e), m3 (ix3 0 a e)] ![l1 (ix3 0 a e), l2 (ix3 0 a e), l3 (ix3 0 a e)]
          ![o1 (ix3 0 a e), o2 (ix3 0 a e), o3 (ix3 0 a e)] := by
  unfold comb mat
  pointwise
  rfl

/-! ## The rows loaded and stored -/

theorem off4_eq : ∀ r : Fin 16, k0_off4 (BitVec.ofNat 32 r.val) = ![0, r.val / 4 + 512 * (r.val % 4), 0] := by decide +kernel

theorem off5_eq : ∀ r : Fin 16, k0_off5 (BitVec.ofNat 32 r.val) = ![0, r.val / 4 + 512 * (r.val % 4 - 1), 0] := by decide +kernel

theorem off7_eq : ∀ r : Fin 16, k0_off7 (BitVec.ofNat 32 r.val) = ![0, r.val, 0] := by decide +kernel

/-- An index of a load is its offset plus its stride times the index loaded. -/
theorem rowsAt_apply (X : FVec Ideal S1x2048x128 .f32) (off : Fin 3 → ℕ) (d : ℕ) (h) (o : ℕ) (ho : off = ![0, o, 0]) (a e : Fin 128) (i : Fin 2048)
    (hi : i.val = o + d * a.val) :
    rowsAt (F := Ideal) X ⟨off, S1x128x128.size, ![1, d, 1], h⟩ (ix3 0 a e) = X (ix3 0 i e) := by
  subst ho
  unfold rowsAt
  refine congrArg X (funext fun b => Fin.ext ?_)
  match b with
  | ⟨0, _⟩ => rfl
  | ⟨1, _⟩ => exact hi.symm
  | ⟨2, _⟩ => show 0 + 1 * e.val = e.val; omega

/-! ## The three quantities of one block -/

/-- The rows of the two blocks of keys, one after the other. -/
def both (gp gc : Fin 128 → Fin 2048) (x : Fin 256) : Fin 2048 := if h : x.val < 128 then gp ⟨x.val, h⟩ else gc ⟨x.val - 128, by omega⟩

/-- The keys of the two blocks that query `a` sees. -/
def sel (a : Fin 128) (n : ℕ) (x : Fin 256) : Prop := if x.val < 128 then a.val ≤ x.val ∧ 0 < n else x.val - 128 ≤ a.val

instance (a : Fin 128) (n : ℕ) : DecidablePred (sel a n) := fun x => by unfold sel; infer_instance

section Two

variable (w d n : ℕ) (hn : n < 2048) (Q K V : Fin 2048 → Fin 128 → EReal) (i : Fin 2048) (a : Fin 128)
  (q kp kc vp vc : FVec Ideal S1x128x128 .f32) (gp gc : Fin 128 → Fin 2048)

variable (inj : ∀ x y, sel a n x → sel a n y → both gp gc x = both gp gc y → x = y)
  (all : ∀ j : Fin 2048, Sees w d i.val j.val ↔ ∃ x, sel a n x ∧ both gp gc x = j)
  (hq : ∀ e, q (ix3 0 a e) = Q i e) (hkp : ∀ x e, kp (ix3 0 x e) = K (gp x) e) (hkc : ∀ x e, kc (ix3 0 x e) = K (gc x) e)
  (hvp : ∀ x e, vp (ix3 0 x e) = V (gp x) e) (hvc : ∀ x e, vc (ix3 0 x e) = V (gc x) e)

include hn hq hkp hkc in
theorem scores2_row (x : Fin 256) :
    scores2 (F := Ideal) (Scalar.cmpi .sgt (BitVec.ofNat 32 n) 0#32) q kp kc (ix2 a x)
      = if sel a n x then (∑ e, Q i e * K (both gp gc x) e) * scale else ⊥ := by
  rw [scores2_apply n hn]
  refine if_congr Iff.rfl (congrArg (· * scale) (Finset.sum_congr rfl fun e _ => ?_)) rfl
  rw [hq]
  unfold both
  by_cases h : x.val < 128
  · rw [dif_pos h, dif_pos h, hkp]
  · rw [dif_neg h, dif_neg h, hkc]

include hn hq hkp hkc all in
theorem max_block2 (e : Fin 128) :
    maxPart (F := Ideal) (max2 (scores2 (Scalar.cmpi .sgt (BitVec.ofNat 32 n) 0#32) q kp kc)) (ix3 0 a e) = top w d Q K i := by
  rw [maxPart_max2]
  exact top_eq (both gp gc) (sel a n) w d Q K i _ all (scores2_row n hn Q K i a q kp kc gp gc hq hkp hkc)

include hn hq hkp hkc all inj in
theorem sum_block2 (e : Fin 128) :
    sumPart (F := Ideal) (both2 (exp2 (scores2 (Scalar.cmpi .sgt (BitVec.ofNat 32 n) 0#32) q kp kc)) vp vc) (ix3 0 a e) = tot w d Q K i := by
  rw [sumPart_both2]
  exact tot_eq (both gp gc) (sel a n) w d Q K i _ inj all (scores2_row n hn Q K i a q kp kc gp gc hq hkp hkc)

include hn hq hkp hkc all inj hvp hvc in
theorem acc_block2 (e : Fin 128) :
    accPart (F := Ideal) (both2 (exp2 (scores2 (Scalar.cmpi .sgt (BitVec.ofNat 32 n) 0#32) q kp kc)) vp vc) (ix3 0 a e) = acc w d Q K V i e := by
  rw [accPart_both2]
  refine acc_eq (both gp gc) (sel a n) w d Q K V i _ inj all (scores2_row n hn Q K i a q kp kc gp gc hq hkp hkc) e _ fun x _ => ?_
  unfold both
  by_cases h : x.val < 128
  · rw [dif_pos h, dif_pos h, hvp]
  · rw [dif_neg h, dif_neg h, hvc]

end Two

section One

variable (w d : ℕ) (Q K V : Fin 2048 → Fin 128 → EReal) (i : Fin 2048) (a : Fin 128)
  (q kc vc : FVec Ideal S1x128x128 .f32) (gc : Fin 128 → Fin 2048)
  (inj : ∀ x y : Fin 128, x.val ≤ a.val → y.val ≤ a.val → gc x = gc y → x = y)
  (all : ∀ j : Fin 2048, Sees w d i.val j.val ↔ ∃ x : Fin 128, x.val ≤ a.val ∧ gc x = j)
  (hq : ∀ e, q (ix3 0 a e) = Q i e) (hkc : ∀ x e, kc (ix3 0 x e) = K (gc x) e) (hvc : ∀ x e, vc (ix3 0 x e) = V (gc x) e)

include hq hkc in
theorem scores1_row (x : Fin 128) :
    scores1 (F := Ideal) q kc (ix2 a x) = if x.val ≤ a.val then (∑ e, Q i e * K (gc x) e) * scale else ⊥ := by
  rw [scores1_apply]
  refine if_congr Iff.rfl (congrArg (· * scale) (Finset.sum_congr rfl fun e _ => ?_)) rfl
  rw [hq, hkc]

include hq hkc all in
theorem max_block1 (e : Fin 128) : maxPart (F := Ideal) (max1 (scores1 q kc)) (ix3 0 a e) = top w d Q K i := by
  rw [maxPart_max1]
  exact top_eq gc (fun x => x.val ≤ a.val) w d Q K i _ all (scores1_row Q K i a q kc gc hq hkc)

include hq hkc all inj in
theorem sum_block1 (e : Fin 128) : sumPart (F := Ideal) (both1 (exp1 (scores1 q kc)) vc) (ix3 0 a e) = tot w d Q K i := by
  rw [sumPart_both1]
  exact tot_eq gc (fun x => x.val ≤ a.val) w d Q K i _ inj all (scores1_row Q K i a q kc gc hq hkc)

include hq hkc all inj hvc in
theorem acc_block1 (e : Fin 128) : accPart (F := Ideal) (both1 (exp1 (scores1 q kc)) vc) (ix3 0 a e) = acc w d Q K V i e := by
  rw [accPart_both1]
  exact acc_eq gc (fun x => x.val ≤ a.val) w d Q K V i _ inj all (scores1_row Q K i a q kc gc hq hkc) e _ fun x _ => hvc x e

end One

/-! ## The keys each block loads are the keys its queries see -/

/-- Row `x` of block `b` of residue class `c` modulo `d`. -/
def row (d c b : ℕ) (h : 0 < d ∧ c < d ∧ d * 128 * (b + 1) ≤ 2048) (x : Fin 128) : Fin 2048 :=
  ⟨c + d * (128 * b + x.val), by
    obtain ⟨_, h2, h3⟩ := h
    have h4 : d * (128 * b + x.val) + d ≤ d * 128 * (b + 1) := by
      have : d * (128 * b + x.val) + d = d * (128 * b + x.val + 1) := by ring
      rw [this, mul_assoc]
      exact Nat.mul_le_mul_left d (by have := x.isLt; omega)
    omega⟩

theorem row_inj {d c b : ℕ} (h) (x y : Fin 128) (e : row d c b h x = row d c b h y) : x = y := by
  have e1 : c + d * (128 * b + x.val) = c + d * (128 * b + y.val) := congrArg Fin.val e
  have e2 := Nat.eq_of_mul_eq_mul_left h.1 (Nat.add_left_cancel e1)
  exact Fin.ext (by omega)

theorem inj1 (c b : ℕ) (a : Fin 128) (h1 h2) (x y : Fin 256)
    (hx : sel a b x) (hy : sel a b y) (e : both (row 1 c (b - 1) h1) (row 1 c b h2) x = both (row 1 c (b - 1) h1) (row 1 c b h2) y) : x = y := by
  have e' := congrArg Fin.val e
  have hx' := x.isLt
  have hy' := y.isLt
  unfold sel at hx hy
  unfold both row at e'
  refine Fin.ext ?_
  by_cases hx1 : x.val < 128 <;> by_cases hy1 : y.val < 128
  all_goals
    simp only [hx1, hy1, dif_pos, dif_neg, if_pos, if_neg, not_false_eq_true, ↓reduceIte, ↓reduceDIte] at hx hy e'
    omega

theorem inj4 (c b : ℕ) (a : Fin 128) (h1 h2) (x y : Fin 256)
    (hx : sel a b x) (hy : sel a b y) (e : both (row 4 c (b - 1) h1) (row 4 c b h2) x = both (row 4 c (b - 1) h1) (row 4 c b h2) y) : x = y := by
  have e' := congrArg Fin.val e
  have hx' := x.isLt
  have hy' := y.isLt
  unfold sel at hx hy
  unfold both row at e'
  refine Fin.ext ?_
  by_cases hx1 : x.val < 128 <;> by_cases hy1 : y.val < 128
  all_goals
    simp only [hx1, hy1, dif_pos, dif_neg, if_pos, if_neg, not_false_eq_true, ↓reduceIte, ↓reduceDIte] at hx hy e'
    omega

theorem all1 (c b : ℕ) (a : Fin 128) (h1 h2) (j : Fin 2048) :
    Sees 128 1 (row 1 c b h2 a).val j.val ↔ ∃ x, sel a b x ∧ both (row 1 c (b - 1) h1) (row 1 c b h2) x = j := by
  have ha := a.isLt
  have hj := j.isLt
  have hc : c = 0 := by omega
  subst hc
  unfold Sees sel both row
  constructor
  · rintro ⟨s1, s2, _⟩
    dsimp only at s1 s2
    by_cases hb : 128 * b ≤ j.val
    · refine ⟨⟨j.val - 128 * b + 128, by omega⟩, ?_, ?_⟩
      · rw [if_neg (by dsimp only; omega)]; dsimp only; omega
      · rw [dif_neg (by dsimp only; omega)]; refine Fin.ext ?_; dsimp only; omega
    · refine ⟨⟨j.val - 128 * (b - 1), by omega⟩, ?_, ?_⟩
      · rw [if_pos (by dsimp only; omega)]; dsimp only; omega
      · rw [dif_pos (by dsimp only; omega)]; refine Fin.ext ?_; dsimp only; omega
  · rintro ⟨x, hx, rfl⟩
    have hx' := x.isLt
    by_cases h : x.val < 128
    · rw [if_pos h] at hx; rw [dif_pos h]; dsimp only; exact ⟨by omega, by omega, by omega⟩
    · rw [if_neg h] at hx; rw [dif_neg h]; dsimp only; exact ⟨by omega, by omega, by omega⟩

theorem all4 (c b : ℕ) (a : Fin 128) (h1 h2) (j : Fin 2048) :
    Sees 512 4 (row 4 c b h2 a).val j.val ↔ ∃ x, sel a b x ∧ both (row 4 c (b - 1) h1) (row 4 c b h2) x = j := by
  have ha := a.isLt
  have hj := j.isLt
  have hc : c < 4 := by omega
  unfold Sees sel both row
  constructor
  · rintro ⟨s1, s2, s3⟩
    dsimp only at s1 s2 s3
    by_cases hb : 128 * b ≤ j.val / 4
    · refine ⟨⟨j.val / 4 - 128 * b + 128, by omega⟩, ?_, ?_⟩
      · rw [if_neg (by dsimp only; omega)]; dsimp only; omega
      · rw [dif_neg (by dsimp only; omega)]; refine Fin.ext ?_; dsimp only; omega
    · refine ⟨⟨j.val / 4 - 128 * (b - 1), by omega⟩, ?_, ?_⟩
      · rw [if_pos (by dsimp only; omega)]; dsimp only; omega
      · rw [dif_pos (by dsimp only; omega)]; refine Fin.ext ?_; dsimp only; omega
  · rintro ⟨x, hx, rfl⟩
    have hx' := x.isLt
    by_cases h : x.val < 128
    · rw [if_pos h] at hx; rw [dif_pos h]; dsimp only; exact ⟨by omega, by omega, by omega⟩
    · rw [if_neg h] at hx; rw [dif_neg h]; dsimp only; exact ⟨by omega, by omega, by omega⟩

theorem all16 (c : ℕ) (a : Fin 128) (h) (j : Fin 2048) :
    Sees 2048 16 (row 16 c 0 h a).val j.val ↔ ∃ x : Fin 128, x.val ≤ a.val ∧ row 16 c 0 h x = j := by
  have ha := a.isLt
  have hj := j.isLt
  have hc : c < 16 := by omega
  unfold Sees row
  constructor
  · rintro ⟨s1, s2, s3⟩
    dsimp only at s1 s2 s3
    exact ⟨⟨j.val / 16, by omega⟩, by dsimp only; omega, Fin.ext (by dsimp only; omega)⟩
  · rintro ⟨x, hx, rfl⟩
    have hx' := x.isLt
    dsimp only; exact ⟨by omega, by omega, by omega⟩

/-! ## The scratch buffers -/

/-- A head's rows. -/
def rowsOf (X : FVec Ideal S1x2048x128 .f32) (i : Fin 2048) (e : Fin 128) : EReal := X (ix3 0 i e)

theorem h1 (r : Fin 16) : 0 < 1 ∧ 0 < 1 ∧ 1 * 128 * (r.val + 1) ≤ 2048 := ⟨by omega, by omega, by omega⟩
theorem h1' (r : Fin 16) : 0 < 1 ∧ 0 < 1 ∧ 1 * 128 * (r.val - 1 + 1) ≤ 2048 := ⟨by omega, by omega, by omega⟩
theorem h2 (r : Fin 16) : 0 < 4 ∧ r.val / 4 < 4 ∧ 4 * 128 * (r.val % 4 + 1) ≤ 2048 := ⟨by omega, by omega, by omega⟩
theorem h2' (r : Fin 16) : 0 < 4 ∧ r.val / 4 < 4 ∧ 4 * 128 * (r.val % 4 - 1 + 1) ≤ 2048 := ⟨by omega, by omega, by omega⟩
theorem h3 (r : Fin 16) : 0 < 16 ∧ r.val < 16 ∧ 16 * 128 * (0 + 1) ≤ 2048 := ⟨by omega, by omega, by omega⟩

theorem load_cur1 (X : FVec Ideal S1x2048x128 .f32) (r : Fin 16) (x e : Fin 128) :
    rowsAt (F := Ideal) X (cur1 r).toLoadRect (ix3 0 x e) = rowsOf X (row 1 0 r.val (h1 r) x) e := by
  refine congrArg X (funext fun b => Fin.ext ?_)
  match b with
  | ⟨0, _⟩ => rfl
  | ⟨1, _⟩ => show 128 * r.val + 1 * x.val = 0 + 1 * (128 * r.val + x.val); omega
  | ⟨2, _⟩ => show 0 + 1 * e.val = e.val; omega

theorem load_prv1 (X : FVec Ideal S1x2048x128 .f32) (r : Fin 16) (x e : Fin 128) :
    rowsAt (F := Ideal) X (prv1 r).toLoadRect (ix3 0 x e) = rowsOf X (row 1 0 (r.val - 1) (h1' r) x) e := by
  refine congrArg X (funext fun b => Fin.ext ?_)
  match b with
  | ⟨0, _⟩ => rfl
  | ⟨1, _⟩ => show 128 * (r.val - 1) + 1 * x.val = 0 + 1 * (128 * (r.val - 1) + x.val); omega
  | ⟨2, _⟩ => show 0 + 1 * e.val = e.val; omega

theorem load_cur2 (X : FVec Ideal S1x2048x128 .f32) (r : Fin 16) (x e : Fin 128) :
    rowsAt (F := Ideal) X (cur2 r) (ix3 0 x e) = rowsOf X (row 4 (r.val / 4) (r.val % 4) (h2 r) x) e :=
  rowsAt_apply X _ 4 _ _ (off4_eq r) x e _ (by unfold row; dsimp only; omega)

theorem load_prv2 (X : FVec Ideal S1x2048x128 .f32) (r : Fin 16) (x e : Fin 128) :
    rowsAt (F := Ideal) X (prv2 r) (ix3 0 x e) = rowsOf X (row 4 (r.val / 4) (r.val % 4 - 1) (h2' r) x) e :=
  rowsAt_apply X _ 4 _ _ (off5_eq r) x e _ (by unfold row; dsimp only; omega)

theorem load_cur3 (X : FVec Ideal S1x2048x128 .f32) (r : Fin 16) (x e : Fin 128) :
    rowsAt (F := Ideal) X (cur3 r) (ix3 0 x e) = rowsOf X (row 16 r.val 0 (h3 r) x) e :=
  rowsAt_apply X _ 16 _ _ (off7_eq r) x e _ (by unfold row; dsimp only; omega)

theorem emb_st1 (r : Fin 16) (a e : Fin 128) : (st1 r).emb (ix3 0 a e) = (ix3 0 (row 1 0 r.val (h1 r) a) e : S3x2048x128.Idx) := by
  refine funext fun b => Fin.ext ?_
  match b with
  | ⟨0, _⟩ => rfl
  | ⟨1, _⟩ => show 128 * r.val + 1 * a.val = 0 + 1 * (128 * r.val + a.val); omega
  | ⟨2, _⟩ => show 0 + 1 * e.val = e.val; omega

theorem emb_st2 (r : Fin 16) (a e : Fin 128) : (st2 r).emb (ix3 0 a e) = (ix3 1 (row 4 (r.val / 4) (r.val % 4) (h2 r) a) e : S3x2048x128.Idx) := by
  have o := congrFun (off6_eq r)
  refine funext fun b => Fin.ext ?_
  match b with
  | ⟨0, _⟩ => show k0_off6 (BitVec.ofNat 32 r.val) 0 + 1 * 0 = 1; rw [o 0]; rfl
  | ⟨1, _⟩ =>
    show k0_off6 (BitVec.ofNat 32 r.val) 1 + 4 * a.val = r.val / 4 + 4 * (128 * (r.val % 4) + a.val); rw [o 1]
    show r.val / 4 + 512 * (r.val % 4) + 4 * a.val = r.val / 4 + 4 * (128 * (r.val % 4) + a.val); omega
  | ⟨2, _⟩ => show k0_off6 (BitVec.ofNat 32 r.val) 2 + 1 * e.val = e.val; rw [o 2]; show 0 + 1 * e.val = e.val; omega

theorem emb_st3 (r : Fin 16) (a e : Fin 128) : (st3 r).emb (ix3 0 a e) = (ix3 2 (row 16 r.val 0 (h3 r) a) e : S3x2048x128.Idx) := by
  have o := congrFun (off8_eq r)
  refine funext fun b => Fin.ext ?_
  match b with
  | ⟨0, _⟩ => show k0_off8 (BitVec.ofNat 32 r.val) 0 + 1 * 0 = 2; rw [o 0]; rfl
  | ⟨1, _⟩ =>
    show k0_off8 (BitVec.ofNat 32 r.val) 1 + 16 * a.val = r.val + 16 * (128 * 0 + a.val); rw [o 1]
    show r.val + 16 * a.val = r.val + 16 * (128 * 0 + a.val); omega
  | ⟨2, _⟩ => show k0_off8 (BitVec.ofNat 32 r.val) 2 + 1 * e.val = e.val; rw [o 2]; show 0 + 1 * e.val = e.val; omega

/-- Blocks that store rows of three functions, one for each group, leave those functions in the buffer. -/
theorem canon_blocks (p1 p2 p3 : Fin 16 → FVec Ideal S1x128x128 .f32) (G : Fin 3 → Fin 2048 → Fin 128 → EReal)
    (e1 : ∀ r a e, p1 r (ix3 0 a e) = G 0 (row 1 0 r.val (h1 r) a) e)
    (e2 : ∀ r a e, p2 r (ix3 0 a e) = G 1 (row 4 (r.val / 4) (r.val % 4) (h2 r) a) e)
    (e3 : ∀ r a e, p3 r (ix3 0 a e) = G 2 (row 16 r.val 0 (h3 r) a) e) (g : Fin 3) (i : Fin 2048) (e : Fin 128) :
    View.canon (Val := Elt Ideal)
      (down.map (fun r => (⟨st3 r, p3 r⟩ : View.Piece (Elt Ideal) S3x2048x128 .f32)) ++
        (down.map (fun r => (⟨st2 r, p2 r⟩ : View.Piece (Elt Ideal) S3x2048x128 .f32)) ++
          down.map (fun r => (⟨st1 r, p1 r⟩ : View.Piece (Elt Ideal) S3x2048x128 .f32)))) (ix3 g i e) = G g i e := by
  refine View.canon_apply_of_pieces (Val := Elt Ideal) (fun y : S3x2048x128.Idx => G (y 0) (y 1) (y 2)) _ (fun p hp x => ?_) (ix3 g i e) (cover_scratch (F := Ideal) p1 p2 p3 _)
  rcases List.mem_append.mp hp with hp | hp
  · obtain ⟨r, _, rfl⟩ := List.mem_map.mp hp
    revert x
    intro (x : S1x128x128.Idx)
    idx_vars x
    obtain rfl : x0 = 0 := Subsingleton.elim _ _
    exact (e3 r x1 x2).trans (congrArg (fun y : S3x2048x128.Idx => G (y 0) (y 1) (y 2)) (emb_st3 r x1 x2)).symm
  rcases List.mem_append.mp hp with hp | hp
  · obtain ⟨r, _, rfl⟩ := List.mem_map.mp hp
    revert x
    intro (x : S1x128x128.Idx)
    idx_vars x
    obtain rfl : x0 = 0 := Subsingleton.elim _ _
    exact (e2 r x1 x2).trans (congrArg (fun y : S3x2048x128.Idx => G (y 0) (y 1) (y 2)) (emb_st2 r x1 x2)).symm
  · obtain ⟨r, _, rfl⟩ := List.mem_map.mp hp
    revert x
    intro (x : S1x128x128.Idx)
    idx_vars x
    obtain rfl : x0 = 0 := Subsingleton.elim _ _
    exact (e1 r x1 x2).trans (congrArg (fun y : S3x2048x128.Idx => G (y 0) (y 1) (y 2)) (emb_st1 r x1 x2)).symm

section Scratch

variable (q1 q2 q3 k1 k2 k3 v1 v2 v3 : FVec Ideal S1x2048x128 .f32)

/-- The weighted values of the three groups. -/
def accs (g : Fin 3) : Fin 2048 → Fin 128 → EReal :=
  ![acc 128 1 (rowsOf q1) (rowsOf k1) (rowsOf v1), acc 512 4 (rowsOf q2) (rowsOf k2) (rowsOf v2), acc 2048 16 (rowsOf q3) (rowsOf k3) (rowsOf v3)] g

/-- Their row maxima. -/
def tops (g : Fin 3) : Fin 2048 → EReal :=
  ![top 128 1 (rowsOf q1) (rowsOf k1), top 512 4 (rowsOf q2) (rowsOf k2), top 2048 16 (rowsOf q3) (rowsOf k3)] g

/-- Their sums. -/
def tots (g : Fin 3) : Fin 2048 → EReal :=
  ![tot 128 1 (rowsOf q1) (rowsOf k1), tot 512 4 (rowsOf q2) (rowsOf k2), tot 2048 16 (rowsOf q3) (rowsOf k3)] g

theorem accAll_apply (g : Fin 3) (i : Fin 2048) (e : Fin 128) :
    accAll (F := Ideal) q1 q2 q3 k1 k2 k3 v1 v2 v3 (ix3 g i e) = accs q1 q2 q3 k1 k2 k3 v1 v2 v3 g i e := by
  refine canon_blocks (fun r => accPart (bo1 q1 k1 v1 r)) (fun r => accPart (bo2 q2 k2 v2 r)) (fun r => accPart (bo3 q3 k3 v3 r)) _
    (fun r a e => ?_) (fun r a e => ?_) (fun r a e => ?_) g i e
  · exact acc_block2 128 1 r.val (by omega) _ _ _ _ _ _ _ _ _ _ (row 1 0 (r.val - 1) (h1' r)) (row 1 0 r.val (h1 r))
      (inj1 _ _ _ _ _) (all1 _ _ _ _ _) (load_cur1 q1 r _) (load_prv1 k1 r) (load_cur1 k1 r) (load_prv1 v1 r) (load_cur1 v1 r) _
  · exact acc_block2 512 4 (r.val % 4) (by omega) _ _ _ _ _ _ _ _ _ _ (row 4 (r.val / 4) (r.val % 4 - 1) (h2' r)) (row 4 (r.val / 4) (r.val % 4) (h2 r))
      (inj4 _ _ _ _ _) (all4 _ _ _ _ _) (load_cur2 q2 r _) (load_prv2 k2 r) (load_cur2 k2 r) (load_prv2 v2 r) (load_cur2 v2 r) _
  · exact acc_block1 2048 16 _ _ _ _ _ _ _ _ (row 16 r.val 0 (h3 r)) (fun x y _ _ e => row_inj _ x y e) (all16 _ _ _) (load_cur3 q3 r _) (load_cur3 k3 r) (load_cur3 v3 r) _

theorem maxAll_apply (g : Fin 3) (i : Fin 2048) (e : Fin 128) :
    maxAll (F := Ideal) q1 q2 q3 k1 k2 k3 (ix3 g i e) = tops q1 q2 q3 k1 k2 k3 g i := by
  refine canon_blocks (fun r => maxPart (max2 (sc1 q1 k1 r))) (fun r => maxPart (max2 (sc2 q2 k2 r))) (fun r => maxPart (max1 (sc3 q3 k3 r)))
    (fun g i _ => tops q1 q2 q3 k1 k2 k3 g i) (fun r a e => ?_) (fun r a e => ?_) (fun r a e => ?_) g i e
  · exact max_block2 128 1 r.val (by omega) _ _ _ _ _ _ _ (row 1 0 (r.val - 1) (h1' r)) (row 1 0 r.val (h1 r))
      (all1 _ _ _ _ _) (load_cur1 q1 r _) (load_prv1 k1 r) (load_cur1 k1 r) _
  · exact max_block2 512 4 (r.val % 4) (by omega) _ _ _ _ _ _ _ (row 4 (r.val / 4) (r.val % 4 - 1) (h2' r)) (row 4 (r.val / 4) (r.val % 4) (h2 r))
      (all4 _ _ _ _ _) (load_cur2 q2 r _) (load_prv2 k2 r) (load_cur2 k2 r) _
  · exact max_block1 2048 16 _ _ _ _ _ _ (row 16 r.val 0 (h3 r)) (all16 _ _ _) (load_cur3 q3 r _) (load_cur3 k3 r) _

theorem sumAll_apply (g : Fin 3) (i : Fin 2048) (e : Fin 128) :
    sumAll (F := Ideal) q1 q2 q3 k1 k2 k3 v1 v2 v3 (ix3 g i e) = tots q1 q2 q3 k1 k2 k3 g i := by
  refine canon_blocks (fun r => sumPart (bo1 q1 k1 v1 r)) (fun r => sumPart (bo2 q2 k2 v2 r)) (fun r => sumPart (bo3 q3 k3 v3 r))
    (fun g i _ => tots q1 q2 q3 k1 k2 k3 g i) (fun r a e => ?_) (fun r a e => ?_) (fun r a e => ?_) g i e
  · exact sum_block2 128 1 r.val (by omega) _ _ _ _ _ _ _ _ _ (row 1 0 (r.val - 1) (h1' r)) (row 1 0 r.val (h1 r))
      (inj1 _ _ _ _ _) (all1 _ _ _ _ _) (load_cur1 q1 r _) (load_prv1 k1 r) (load_cur1 k1 r) _
  · exact sum_block2 512 4 (r.val % 4) (by omega) _ _ _ _ _ _ _ _ _ (row 4 (r.val / 4) (r.val % 4 - 1) (h2' r)) (row 4 (r.val / 4) (r.val % 4) (h2 r))
      (inj4 _ _ _ _ _) (all4 _ _ _ _ _) (load_cur2 q2 r _) (load_prv2 k2 r) (load_cur2 k2 r) _
  · exact sum_block1 2048 16 _ _ _ _ _ _ _ (row 16 r.val 0 (h3 r)) (fun x y _ _ e => row_inj _ x y e) (all16 _ _ _) (load_cur3 q3 r _) (load_cur3 k3 r) _

/-! ## The output of a head -/

theorem crow_lt (k : Fin k0_t1_loop.trips) (a : Fin 128) : 128 * k.val + a.val < 2048 := by
  have := lt_of_lt_of_eq k.isLt trips_eq
  omega

theorem grp0_apply (Y : FVec Ideal S3x2048x128 .f32) (k : Fin k0_t1_loop.trips) (a e : Fin 128) :
    grp0 (F := Ideal) Y k (ix3 0 a e) = Y (ix3 0 ⟨128 * k.val + a.val, crow_lt k a⟩ e) := by
  have o := congrFun (k0_off9_eq k)
  refine congrArg Y (funext fun b => Fin.ext ?_)
  match b with
  | ⟨0, _⟩ => show k0_off9 k 0 + 1 * 0 = 0; rw [o 0]; rfl
  | ⟨1, _⟩ => show k0_off9 k 1 + 1 * a.val = 128 * k.val + a.val; rw [o 1]; show 128 * k.val + 1 * a.val = _; omega
  | ⟨2, _⟩ => show k0_off9 k 2 + 1 * e.val = e.val; rw [o 2]; show 0 + 1 * e.val = e.val; omega

theorem grp1_apply (Y : FVec Ideal S3x2048x128 .f32) (k : Fin k0_t1_loop.trips) (a e : Fin 128) :
    grp1 (F := Ideal) Y k (ix3 0 a e) = Y (ix3 1 ⟨128 * k.val + a.val, crow_lt k a⟩ e) := by
  have o := congrFun (k0_off10_eq k)
  refine congrArg Y (funext fun b => Fin.ext ?_)
  match b with
  | ⟨0, _⟩ => show k0_off10 k 0 + 1 * 0 = 1; rw [o 0]; rfl
  | ⟨1, _⟩ => show k0_off10 k 1 + 1 * a.val = 128 * k.val + a.val; rw [o 1]; show 128 * k.val + 1 * a.val = _; omega
  | ⟨2, _⟩ => show k0_off10 k 2 + 1 * e.val = e.val; rw [o 2]; show 0 + 1 * e.val = e.val; omega

theorem grp2_apply (Y : FVec Ideal S3x2048x128 .f32) (k : Fin k0_t1_loop.trips) (a e : Fin 128) :
    grp2 (F := Ideal) Y k (ix3 0 a e) = Y (ix3 2 ⟨128 * k.val + a.val, crow_lt k a⟩ e) := by
  have o := congrFun (k0_off11_eq k)
  refine congrArg Y (funext fun b => Fin.ext ?_)
  match b with
  | ⟨0, _⟩ => show k0_off11 k 0 + 1 * 0 = 2; rw [o 0]; rfl
  | ⟨1, _⟩ => show k0_off11 k 1 + 1 * a.val = 128 * k.val + a.val; rw [o 1]; show 128 * k.val + 1 * a.val = _; omega
  | ⟨2, _⟩ => show k0_off11 k 2 + 1 * e.val = e.val; rw [o 2]; show 0 + 1 * e.val = e.val; omega

theorem emb_comb (k : Fin k0_t1_loop.trips) (a e : Fin 128) :
    (Rect.unit (s := S1x2048x128) (k0_off12 k) S1x128x128.size (k0_off12_inb k)).emb (ix3 0 a e)
      = (ix3 0 ⟨128 * k.val + a.val, crow_lt k a⟩ e : S1x2048x128.Idx) := by
  have o := congrFun (k0_off12_eq k)
  refine funext fun b => Fin.ext ?_
  match b with
  | ⟨0, _⟩ => show k0_off12 k 0 + 1 * 0 = 0; rw [o 0]; rfl
  | ⟨1, _⟩ => show k0_off12 k 1 + 1 * a.val = 128 * k.val + a.val; rw [o 1]; show 128 * k.val + 1 * a.val = _; omega
  | ⟨2, _⟩ => show k0_off12 k 2 + 1 * e.val = e.val; rw [o 2]; show 0 + 1 * e.val = e.val; omega

/-- Every stored piece is some trip's. -/
theorem mem_combPieces (Y15 Y16 Y17 : FVec Ideal S3x2048x128 .f32) (p) :
    ∀ n, p ∈ combPieces (F := Ideal) Y15 Y16 Y17 n → ∃ k, p = combPiece Y15 Y16 Y17 k
  | 0, h => by unfold combPieces at h; exact absurd h List.not_mem_nil
  | n + 1, h => by
    unfold combPieces at h
    by_cases hn : n < k0_t1_loop.trips
    · rw [dif_pos hn] at h
      rcases List.mem_cons.mp h with h | h
      · exact ⟨_, h⟩
      · exact mem_combPieces Y15 Y16 Y17 p n h
    · rw [dif_neg hn] at h
      exact mem_combPieces Y15 Y16 Y17 p n h

theorem attnOut_apply (i : Fin 2048) (e : Fin 128) :
    attnOut (F := Ideal) q1 q2 q3 k1 k2 k3 v1 v2 v3 (ix3 0 i e)
      = combine (fun g => tops q1 q2 q3 k1 k2 k3 g i) (fun g => tots q1 q2 q3 k1 k2 k3 g i) (fun g => accs q1 q2 q3 k1 k2 k3 v1 v2 v3 g i e) := by
  refine View.canon_apply_of_pieces (Val := Elt Ideal) (fun y : S1x2048x128.Idx => combine (fun g => tops q1 q2 q3 k1 k2 k3 g (y 1)) (fun g => tots q1 q2 q3 k1 k2 k3 g (y 1)) (fun g => accs q1 q2 q3 k1 k2 k3 v1 v2 v3 g (y 1) (y 2)))
    _ (fun p hp x => ?_) (ix3 0 i e) (cover_comb _ _ _ _)
  obtain ⟨k, rfl⟩ := mem_combPieces _ _ _ p _ hp
  revert x
  intro (x : S1x128x128.Idx)
  idx_vars x
  obtain rfl : x0 = 0 := Subsingleton.elim _ _
  refine Eq.trans ?_ (congrArg (fun y : S1x2048x128.Idx => combine (fun g => tops q1 q2 q3 k1 k2 k3 g (y 1)) (fun g => tots q1 q2 q3 k1 k2 k3 g (y 1)) (fun g => accs q1 q2 q3 k1 k2 k3 v1 v2 v3 g (y 1) (y 2))) (emb_comb k x1 x2)).symm
  refine (comb_apply _ _ _ _ _ _ _ _ _ x1 x2).trans ?_
  rw [grp0_apply, grp1_apply, grp2_apply, grp0_apply, grp1_apply, grp2_apply, grp0_apply, grp1_apply, grp2_apply,
    accAll_apply, accAll_apply, accAll_apply, maxAll_apply, maxAll_apply, maxAll_apply, sumAll_apply, sumAll_apply, sumAll_apply]
  rfl

end Scratch

end Cert.KernelIdeal.Attn

end
-- ==== Proof.AttnHeads.lean ====
module

public import proofs.«01_k».proof.Proof.AttnSpec

@[expose] public section

noncomputable section

/-!
# The heads of the rotated projection

The first nine blocks of 1024 columns hold the queries, keys and values of three groups of eight heads.
-/

namespace Cert.Attn

open Idealize.ShloMosaic

/-- Head `h` of the `n`-th block of columns, in batch `b`. -/
def head (x : Fin 8 → Fin 2048 → Fin 17408 → EReal) (n : Fin 9) (b h : Fin 8) (i : Fin 2048) (e : Fin 128) : EReal :=
  x b i ⟨1024 * n.val + 128 * h.val + e.val, by omega⟩

variable (x : Fin 8 → Fin 2048 → Fin 17408 → EReal) (b h : Fin 8)

/-- The row maxima of the three groups. -/
def topH (g : Fin 3) : Fin 2048 → EReal :=
  ![top 128 1 (head x 0 b h) (head x 3 b h), top 512 4 (head x 1 b h) (head x 4 b h), top 2048 16 (head x 2 b h) (head x 5 b h)] g

/-- The sums of their weights. -/
def totH (g : Fin 3) : Fin 2048 → EReal :=
  ![tot 128 1 (head x 0 b h) (head x 3 b h), tot 512 4 (head x 1 b h) (head x 4 b h), tot 2048 16 (head x 2 b h) (head x 5 b h)] g

/-- Their weighted values. -/
def accH (g : Fin 3) : Fin 2048 → Fin 128 → EReal :=
  ![acc 128 1 (head x 0 b h) (head x 3 b h) (head x 6 b h), acc 512 4 (head x 1 b h) (head x 4 b h) (head x 7 b h),
    acc 2048 16 (head x 2 b h) (head x 5 b h) (head x 8 b h)] g

/-- The attention of a head at one position and lane. -/
def attnH (i : Fin 2048) (e : Fin 128) : EReal :=
  combine (fun g => topH x b h g i) (fun g => totH x b h g i) (fun g => accH x b h g i e)

/-- The last rows of a group's keys and values. -/
def cacheH (k v : Fin 9) (s : Fin 2) (i : Fin 2048) (e : Fin 128) : EReal := if s.val < 1 then head x k b h i e else head x v b h i e

/-- With finite queries and keys, the attention of a head is the softmax of the groups' log-sums times their
    normalised attention. -/
theorem attnH_eq (hf : ∀ b i (j : Fin 17408), j.val < 6144 → ∃ r : ℝ, x b i j = r) (i : Fin 2048) (e : Fin 128) :
    attnH x b h i e = ∑ g, Ideal.div (share (fun g => topH x b h g i) (fun g => totH x b h g i) g)
        (∑ y, share (fun g => topH x b h g i) (fun g => totH x b h g i) y) * Ideal.div (accH x b h g i e) (totH x b h g i) := by
  have hh : ∀ n : Fin 9, n.val < 6 → ∀ i e, ∃ r : ℝ, head x n b h i e = r := fun n hn i e => hf _ _ _ (by dsimp only; omega)
  refine combine_eq _ _ _ (fun g => ?_) (fun g => ?_)
  · match g with
    | 0 => exact top_real 128 1 _ _ (hh 0 (by decide)) (hh 3 (by decide)) i
    | 1 => exact top_real 512 4 _ _ (hh 1 (by decide)) (hh 4 (by decide)) i
    | 2 => exact top_real 2048 16 _ _ (hh 2 (by decide)) (hh 5 (by decide)) i
  · match g with
    | 0 => exact tot_real 128 1 _ _ (hh 0 (by decide)) (hh 3 (by decide)) i
    | 1 => exact tot_real 512 4 _ _ (hh 1 (by decide)) (hh 4 (by decide)) i
    | 2 => exact tot_real 2048 16 _ _ (hh 2 (by decide)) (hh 5 (by decide)) i

end Cert.Attn

end
-- ==== Proof.AttnFinal.lean ====
module

public import proofs.«01_k».proof.Proof.AttnVal
public import proofs.«01_k».proof.Proof.AttnHeads
public import Idealize.ShloMosaic.Lib.Pipeline.ValueKit.Geometry

@[expose] public section

set_option maxRecDepth 16384

noncomputable section

/-!
# The four results of the kernel

Each grid point is one batch and one head; its blocks are that head's columns, and what it writes back is that head's
part of the four results.
-/

namespace Cert.KernelIdeal.Attn

open Cert.KernelIdeal Cert.KernelIdeal.Gen Cert.Attn
open Idealize.ShloMosaic Idealize.ShloMosaic.TcCoe Idealize.ShloMosaic.Tactic

variable (m : (ℓ : Loc nD τ sig) → Buf (Elt Ideal) ℓ)

/-- The argument by batch, position and column. -/
def arg (c : Dev nD) (b : Fin 8) (i : Fin 2048) (j : Fin 17408) : EReal := (m ((c.tc : Thread nD τ).loc main_arg0) : FVec Ideal S8x2048x17408 .f32) (ix3 b i j)

/-- The batch and the head of a grid point. -/
def pb (t : Fin cfg0.N) : Fin 8 := ⟨(grid0.coords t 0).val, (grid0.coords t 0).isLt⟩
def ph (t : Fin cfg0.N) : Fin 8 := ⟨(grid0.coords t 1).val, (grid0.coords t 1).isLt⟩

theorem ix0 : ∀ t : Fin cfg0.N, win0_0.index t = ![(grid0.coords t 0).val, 0, (grid0.coords t 1).val] := (by decide +kernel : ∀ t : Fin grid0.N, _)
theorem ix1 : ∀ t : Fin cfg0.N, win0_1.index t = ![(grid0.coords t 0).val, 0, 8 + (grid0.coords t 1).val] := (by decide +kernel : ∀ t : Fin grid0.N, _)
theorem ix2' : ∀ t : Fin cfg0.N, win0_2.index t = ![(grid0.coords t 0).val, 0, 16 + (grid0.coords t 1).val] := (by decide +kernel : ∀ t : Fin grid0.N, _)
theorem ix3' : ∀ t : Fin cfg0.N, win0_3.index t = ![(grid0.coords t 0).val, 0, 24 + (grid0.coords t 1).val] := (by decide +kernel : ∀ t : Fin grid0.N, _)
theorem ix4' : ∀ t : Fin cfg0.N, win0_4.index t = ![(grid0.coords t 0).val, 0, 32 + (grid0.coords t 1).val] := (by decide +kernel : ∀ t : Fin grid0.N, _)
theorem ix5' : ∀ t : Fin cfg0.N, win0_5.index t = ![(grid0.coords t 0).val, 0, 40 + (grid0.coords t 1).val] := (by decide +kernel : ∀ t : Fin grid0.N, _)
theorem ix6' : ∀ t : Fin cfg0.N, win0_6.index t = ![(grid0.coords t 0).val, 0, 48 + (grid0.coords t 1).val] := (by decide +kernel : ∀ t : Fin grid0.N, _)
theorem ix7 : ∀ t : Fin cfg0.N, win0_7.index t = ![(grid0.coords t 0).val, 0, 56 + (grid0.coords t 1).val] := (by decide +kernel : ∀ t : Fin grid0.N, _)
theorem ix8 : ∀ t : Fin cfg0.N, win0_8.index t = ![(grid0.coords t 0).val, 0, 64 + (grid0.coords t 1).val] := (by decide +kernel : ∀ t : Fin grid0.N, _)
theorem ix9 : ∀ t : Fin cfg0.N, win0_9.index t = ![(grid0.coords t 0).val, 0, (grid0.coords t 1).val] := (by decide +kernel : ∀ t : Fin grid0.N, _)
theorem ix10 : ∀ t : Fin cfg0.N, win0_10.index t = ![0, (grid0.coords t 0).val, 0, (grid0.coords t 1).val, 0, 0] := (by decide +kernel : ∀ t : Fin grid0.N, _)
theorem ix11 : ∀ t : Fin cfg0.N, win0_11.index t = ![0, (grid0.coords t 0).val, 0, (grid0.coords t 1).val, 0, 0] := (by decide +kernel : ∀ t : Fin grid0.N, _)
theorem ix12 : ∀ t : Fin cfg0.N, win0_12.index t = ![0, (grid0.coords t 0).val, 0, (grid0.coords t 1).val, 0, 0] := (by decide +kernel : ∀ t : Fin grid0.N, _)

theorem in0 (c : Dev nD) (t : Fin cfg0.N) : rowsOf (iblk m c 0 t) = head (arg m c) 0 (pb t) (ph t) := by
  funext i e
  unfold rowsOf head arg pb ph
  blk_simp [iblk, ix0]
  refine congrArg (m (c.tc.loc main_arg0)) ?_
  refine Eq.trans ?_ (show ix3 (⟨(grid0.coords t 0).val, (grid0.coords t 0).isLt⟩ : Fin 8) i (⟨0 + 128 * (grid0.coords t 1).val + e.val, by have : (grid0.coords t 1).val < 8 := (grid0.coords t 1).isLt; omega⟩ : Fin 17408) = _ from rfl)
  blk_ext [ix0]

theorem in1 (c : Dev nD) (t : Fin cfg0.N) : rowsOf (iblk m c 1 t) = head (arg m c) 1 (pb t) (ph t) := by
  funext i e
  unfold rowsOf head arg pb ph
  blk_simp [iblk, ix1]
  refine congrArg (m (c.tc.loc main_arg0)) ?_
  refine Eq.trans ?_ (show ix3 (⟨(grid0.coords t 0).val, (grid0.coords t 0).isLt⟩ : Fin 8) i (⟨1024 + 128 * (grid0.coords t 1).val + e.val, by have : (grid0.coords t 1).val < 8 := (grid0.coords t 1).isLt; omega⟩ : Fin 17408) = _ from rfl)
  blk_ext [ix1]

theorem in2 (c : Dev nD) (t : Fin cfg0.N) : rowsOf (iblk m c 2 t) = head (arg m c) 2 (pb t) (ph t) := by
  funext i e
  unfold rowsOf head arg pb ph
  blk_simp [iblk, ix2']
  refine congrArg (m (c.tc.loc main_arg0)) ?_
  refine Eq.trans ?_ (show ix3 (⟨(grid0.coords t 0).val, (grid0.coords t 0).isLt⟩ : Fin 8) i (⟨2048 + 128 * (grid0.coords t 1).val + e.val, by have : (grid0.coords t 1).val < 8 := (grid0.coords t 1).isLt; omega⟩ : Fin 17408) = _ from rfl)
  blk_ext [ix2']

theorem in3 (c : Dev nD) (t : Fin cfg0.N) : rowsOf (iblk m c 3 t) = head (arg m c) 3 (pb t) (ph t) := by
  funext i e
  unfold rowsOf head arg pb ph
  blk_simp [iblk, ix3']
  refine congrArg (m (c.tc.loc main_arg0)) ?_
  refine Eq.trans ?_ (show ix3 (⟨(grid0.coords t 0).val, (grid0.coords t 0).isLt⟩ : Fin 8) i (⟨3072 + 128 * (grid0.coords t 1).val + e.val, by have : (grid0.coords t 1).val < 8 := (grid0.coords t 1).isLt; omega⟩ : Fin 17408) = _ from rfl)
  blk_ext [ix3']

theorem in4 (c : Dev nD) (t : Fin cfg0.N) : rowsOf (iblk m c 4 t) = head (arg m c) 4 (pb t) (ph t) := by
  funext i e
  unfold rowsOf head arg pb ph
  blk_simp [iblk, ix4']
  refine congrArg (m (c.tc.loc main_arg0)) ?_
  refine Eq.trans ?_ (show ix3 (⟨(grid0.coords t 0).val, (grid0.coords t 0).isLt⟩ : Fin 8) i (⟨4096 + 128 * (grid0.coords t 1).val + e.val, by have : (grid0.coords t 1).val < 8 := (grid0.coords t 1).isLt; omega⟩ : Fin 17408) = _ from rfl)
  blk_ext [ix4']

theorem in5 (c : Dev nD) (t : Fin cfg0.N) : rowsOf (iblk m c 5 t) = head (arg m c) 5 (pb t) (ph t) := by
  funext i e
  unfold rowsOf head arg pb ph
  blk_simp [iblk, ix5']
  refine congrArg (m (c.tc.loc main_arg0)) ?_
  refine Eq.trans ?_ (show ix3 (⟨(grid0.coords t 0).val, (grid0.coords t 0).isLt⟩ : Fin 8) i (⟨5120 + 128 * (grid0.coords t 1).val + e.val, by have : (grid0.coords t 1).val < 8 := (grid0.coords t 1).isLt; omega⟩ : Fin 17408) = _ from rfl)
  blk_ext [ix5']

theorem in6 (c : Dev nD) (t : Fin cfg0.N) : rowsOf (iblk m c 6 t) = head (arg m c) 6 (pb t) (ph t) := by
  funext i e
  unfold rowsOf head arg pb ph
  blk_simp [iblk, ix6']
  refine congrArg (m (c.tc.loc main_arg0)) ?_
  refine Eq.trans ?_ (show ix3 (⟨(grid0.coords t 0).val, (grid0.coords t 0).isLt⟩ : Fin 8) i (⟨6144 + 128 * (grid0.coords t 1).val + e.val, by have : (grid0.coords t 1).val < 8 := (grid0.coords t 1).isLt; omega⟩ : Fin 17408) = _ from rfl)
  blk_ext [ix6']

theorem in7 (c : Dev nD) (t : Fin cfg0.N) : rowsOf (iblk m c 7 t) = head (arg m c) 7 (pb t) (ph t) := by
  funext i e
  unfold rowsOf head arg pb ph
  blk_simp [iblk, ix7]
  refine congrArg (m (c.tc.loc main_arg0)) ?_
  refine Eq.trans ?_ (show ix3 (⟨(grid0.coords t 0).val, (grid0.coords t 0).isLt⟩ : Fin 8) i (⟨7168 + 128 * (grid0.coords t 1).val + e.val, by have : (grid0.coords t 1).val < 8 := (grid0.coords t 1).isLt; omega⟩ : Fin 17408) = _ from rfl)
  blk_ext [ix7]

theorem in8 (c : Dev nD) (t : Fin cfg0.N) : rowsOf (iblk m c 8 t) = head (arg m c) 8 (pb t) (ph t) := by
  funext i e
  unfold rowsOf head arg pb ph
  blk_simp [iblk, ix8]
  refine congrArg (m (c.tc.loc main_arg0)) ?_
  refine Eq.trans ?_ (show ix3 (⟨(grid0.coords t 0).val, (grid0.coords t 0).isLt⟩ : Fin 8) i (⟨8192 + 128 * (grid0.coords t 1).val + e.val, by have : (grid0.coords t 1).val < 8 := (grid0.coords t 1).isLt; omega⟩ : Fin 17408) = _ from rfl)
  blk_ext [ix8]

/-- The attention, by batch, position and column. -/
def G9 (c : Dev nD) : FVec Ideal S8x2048x1024 .bf16 := fun y =>
  attnH (arg m c) (y 0) ⟨(y 2 : ℕ) / 128, by have : (y 2 : ℕ) < 1024 := (y 2).isLt; omega⟩ (y 1) ⟨(y 2 : ℕ) % 128, Nat.mod_lt _ (by decide)⟩

theorem emb9 (t : Fin cfg0.N) (i : Fin 2048) (e : Fin 128) :
    (win0_9.blk t).view.emb (ix3 0 i e) = (ix3 (pb t) i ⟨128 * (ph t).val + e.val, by have := (ph t).isLt; omega⟩ : S8x2048x1024.Idx) := by
  unfold pb ph
  blk_ext [ix9]

theorem out_apply (c : Dev nD) (t : Fin cfg0.N) (i : Fin 2048) (e : Fin 128) :
    outAttn m c t (ix3 0 i e) = attnH (arg m c) (pb t) (ph t) i e := by
  refine (attnOut_apply (iblk m c 0 t) (iblk m c 1 t) (iblk m c 2 t) (iblk m c 3 t) (iblk m c 4 t) (iblk m c 5 t) (iblk m c 6 t) (iblk m c 7 t) (iblk m c 8 t) i e).trans ?_
  unfold tops tots accs attnH topH totH accH
  rw [in0, in1, in2, in3, in4, in5, in6, in7, in8]

theorem final9 (c : Dev nD) : (dats m 0 c).arrAt 9 cfg0.N = G9 m c := by
  refine (dats m 0 c).arrAt_eq_of_covers 9 _ (by decide +kernel) fun t hf y => ?_
  blk_simp
  rw [after0_9]
  revert y
  intro (y : S1x2048x128.Idx)
  idx_vars y
  obtain rfl : y0 = 0 := Subsingleton.elim _ _
  refine (out_apply m c t y1 y2).trans (Eq.trans ?_ (congrArg (G9 m c) (emb9 t y1 y2)).symm)
  have h1 : (⟨(128 * (ph t).val + y2.val) / 128, by have := (ph t).isLt; omega⟩ : Fin 8) = ph t := Fin.ext (by dsimp only; omega)
  have h2 : (⟨(128 * (ph t).val + y2.val) % 128, Nat.mod_lt _ (by decide)⟩ : Fin 128) = y2 := Fin.ext (by dsimp only; omega)
  show _ = attnH (arg m c) (pb t) (⟨(128 * (ph t).val + y2.val) / 128, by have := (ph t).isLt; omega⟩ : Fin 8) y1 (⟨(128 * (ph t).val + y2.val) % 128, Nat.mod_lt _ (by decide)⟩ : Fin 128)
  rw [h1, h2]

/-! ## The last 128 rows of the keys and values of group 1 -/

def G10 (c : Dev nD) : FVec Ideal S1x8x2x8x128x128 .f32 := fun y => cacheH (arg m c) (y 1) (y 3) 3 6 (y 2) ⟨1920 + (y 4 : ℕ), by have : (y 4 : ℕ) < 128 := (y 4).isLt; omega⟩ (y 5)

theorem load_cache1 (X : FVec Ideal S1x2048x128 .f32) (h) (i : Fin 128) (e : Fin 128) :
    rowsAt (F := Ideal) X (Rect.unit (s := S1x2048x128) ![0, 1920, 0] S1x128x128.size h).toLoadRect (ix3 0 i e) = rowsOf X ⟨1920 + i.val, by omega⟩ e := by
  refine congrArg X (funext fun b => Fin.ext ?_)
  match b with
  | ⟨0, _⟩ => rfl
  | ⟨1, _⟩ => show 1920 + 1 * i.val = 1920 + i.val; omega
  | ⟨2, _⟩ => show 0 + 1 * e.val = e.val; omega

theorem pay_cache1 (X : FVec Ideal S1x128x128 .f32) (i : Fin 128) (e : Fin 128) :
    shapeCast S1x1x1x1x128x128 (shapeCast S128x128 X shapeCasts_S1x128x128_S128x128) shapeCasts_S128x128_S1x1x1x1x128x128 (ix6 0 0 0 0 i e) = X (ix3 0 i e) := by
  pointwise

theorem cache1_apply (k v : FVec Ideal S1x2048x128 .f32) (s : Fin 2) (i : Fin 128) (e : Fin 128) :
    View.canon (cachePieces1 (F := Ideal) k v) (ix6 0 0 s 0 i e)
      = if s.val < 1 then rowsOf k ⟨1920 + i.val, by omega⟩ e else rowsOf v ⟨1920 + i.val, by omega⟩ e := by
  refine View.canon_apply_of_pieces (Val := Elt Ideal) (fun y : S1x1x2x1x128x128.Idx => if (y 2 : ℕ) < 1 then rowsOf k ⟨1920 + (y 4 : ℕ), by have : (y 4 : ℕ) < 128 := (y 4).isLt; omega⟩ (y 5) else rowsOf v ⟨1920 + (y 4 : ℕ), by have : (y 4 : ℕ) < 128 := (y 4).isLt; omega⟩ (y 5))
    _ (fun p hp x => ?_) (ix6 0 0 s 0 i e) (cover_cache1 (F := Ideal) k v _)
  unfold cachePieces1 at hp
  rcases List.mem_cons.mp hp with rfl | hp
  · revert x
    intro (x : S1x1x1x1x128x128.Idx)
    idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (pay_cache1 _ x4 x5).trans ((load_cache1 v _ x4 x5).trans ?_)
    refine Eq.trans ?_ (if_neg (show ¬ 1 + 1 * 0 < 1 by decide)).symm
    refine congrArg₂ (rowsOf v) (Fin.ext ?_) (Fin.ext ?_)
    · show 1920 + x4.val = 1920 + (0 + 1 * x4.val); omega
    · show x5.val = 0 + 1 * x5.val; omega
  · obtain rfl := List.mem_singleton.mp hp
    revert x
    intro (x : S1x1x1x1x128x128.Idx)
    idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (pay_cache1 _ x4 x5).trans ((load_cache1 k _ x4 x5).trans ?_)
    refine Eq.trans ?_ (if_pos (show 0 + 1 * 0 < 1 by decide)).symm
    refine congrArg₂ (rowsOf k) (Fin.ext ?_) (Fin.ext ?_)
    · show 1920 + x4.val = 1920 + (0 + 1 * x4.val); omega
    · show x5.val = 0 + 1 * x5.val; omega

theorem emb10 (t : Fin cfg0.N) (s : Fin 2) (i : Fin 128) (e : Fin 128) :
    (win0_10.blk t).view.emb (ix6 0 0 s 0 i e) = (ix6 0 (pb t) s (ph t) i e : S1x8x2x8x128x128.Idx) := by
  unfold pb ph
  blk_ext [ix10]

theorem final10 (c : Dev nD) : (dats m 0 c).arrAt 10 cfg0.N = G10 m c := by
  refine (dats m 0 c).arrAt_eq_of_covers 10 _ (by decide +kernel) fun t hf y => ?_
  blk_simp
  rw [after0_10]
  revert y
  intro (y : S1x1x2x1x128x128.Idx)
  idx_vars y
  obtain rfl : y0 = 0 := Subsingleton.elim _ _
  obtain rfl : y1 = 0 := Subsingleton.elim _ _
  obtain rfl : y3 = 0 := Subsingleton.elim _ _
  refine (cache1_apply (iblk m c 3 t) (iblk m c 6 t) y2 y4 y5).trans (Eq.trans ?_ (congrArg (G10 m c) (emb10 t y2 y4 y5)).symm)
  rw [in3, in6]
  rfl

/-! ## The last 512 rows of the keys and values of group 2 -/

def G11 (c : Dev nD) : FVec Ideal S1x8x2x8x512x128 .f32 := fun y => cacheH (arg m c) (y 1) (y 3) 4 7 (y 2) ⟨1536 + (y 4 : ℕ), by have : (y 4 : ℕ) < 512 := (y 4).isLt; omega⟩ (y 5)

theorem load_cache2 (X : FVec Ideal S1x2048x128 .f32) (h) (i : Fin 512) (e : Fin 128) :
    rowsAt (F := Ideal) X (Rect.unit (s := S1x2048x128) ![0, 1536, 0] S1x512x128.size h).toLoadRect (ix3 0 i e) = rowsOf X ⟨1536 + i.val, by omega⟩ e := by
  refine congrArg X (funext fun b => Fin.ext ?_)
  match b with
  | ⟨0, _⟩ => rfl
  | ⟨1, _⟩ => show 1536 + 1 * i.val = 1536 + i.val; omega
  | ⟨2, _⟩ => show 0 + 1 * e.val = e.val; omega

theorem pay_cache2 (X : FVec Ideal S1x512x128 .f32) (i : Fin 512) (e : Fin 128) :
    shapeCast S1x1x1x1x512x128 (shapeCast S512x128 X shapeCasts_S1x512x128_S512x128) shapeCasts_S512x128_S1x1x1x1x512x128 (ix6 0 0 0 0 i e) = X (ix3 0 i e) := by
  pointwise

theorem cache2_apply (k v : FVec Ideal S1x2048x128 .f32) (s : Fin 2) (i : Fin 512) (e : Fin 128) :
    View.canon (cachePieces2 (F := Ideal) k v) (ix6 0 0 s 0 i e)
      = if s.val < 1 then rowsOf k ⟨1536 + i.val, by omega⟩ e else rowsOf v ⟨1536 + i.val, by omega⟩ e := by
  refine View.canon_apply_of_pieces (Val := Elt Ideal) (fun y : S1x1x2x1x512x128.Idx => if (y 2 : ℕ) < 1 then rowsOf k ⟨1536 + (y 4 : ℕ), by have : (y 4 : ℕ) < 512 := (y 4).isLt; omega⟩ (y 5) else rowsOf v ⟨1536 + (y 4 : ℕ), by have : (y 4 : ℕ) < 512 := (y 4).isLt; omega⟩ (y 5))
    _ (fun p hp x => ?_) (ix6 0 0 s 0 i e) (cover_cache2 (F := Ideal) k v _)
  unfold cachePieces2 at hp
  rcases List.mem_cons.mp hp with rfl | hp
  · revert x
    intro (x : S1x1x1x1x512x128.Idx)
    idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (pay_cache2 _ x4 x5).trans ((load_cache2 v _ x4 x5).trans ?_)
    refine Eq.trans ?_ (if_neg (show ¬ 1 + 1 * 0 < 1 by decide)).symm
    refine congrArg₂ (rowsOf v) (Fin.ext ?_) (Fin.ext ?_)
    · show 1536 + x4.val = 1536 + (0 + 1 * x4.val); omega
    · show x5.val = 0 + 1 * x5.val; omega
  · obtain rfl := List.mem_singleton.mp hp
    revert x
    intro (x : S1x1x1x1x512x128.Idx)
    idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (pay_cache2 _ x4 x5).trans ((load_cache2 k _ x4 x5).trans ?_)
    refine Eq.trans ?_ (if_pos (show 0 + 1 * 0 < 1 by decide)).symm
    refine congrArg₂ (rowsOf k) (Fin.ext ?_) (Fin.ext ?_)
    · show 1536 + x4.val = 1536 + (0 + 1 * x4.val); omega
    · show x5.val = 0 + 1 * x5.val; omega

theorem emb11 (t : Fin cfg0.N) (s : Fin 2) (i : Fin 512) (e : Fin 128) :
    (win0_11.blk t).view.emb (ix6 0 0 s 0 i e) = (ix6 0 (pb t) s (ph t) i e : S1x8x2x8x512x128.Idx) := by
  unfold pb ph
  blk_ext [ix11]

theorem final11 (c : Dev nD) : (dats m 0 c).arrAt 11 cfg0.N = G11 m c := by
  refine (dats m 0 c).arrAt_eq_of_covers 11 _ (by decide +kernel) fun t hf y => ?_
  blk_simp
  rw [after0_11]
  revert y
  intro (y : S1x1x2x1x512x128.Idx)
  idx_vars y
  obtain rfl : y0 = 0 := Subsingleton.elim _ _
  obtain rfl : y1 = 0 := Subsingleton.elim _ _
  obtain rfl : y3 = 0 := Subsingleton.elim _ _
  refine (cache2_apply (iblk m c 4 t) (iblk m c 7 t) y2 y4 y5).trans (Eq.trans ?_ (congrArg (G11 m c) (emb11 t y2 y4 y5)).symm)
  rw [in4, in7]
  rfl

/-! ## The last 2048 rows of the keys and values of group 3 -/

def G12 (c : Dev nD) : FVec Ideal S1x8x2x8x2048x128 .f32 := fun y => cacheH (arg m c) (y 1) (y 3) 5 8 (y 2) ⟨0 + (y 4 : ℕ), by have : (y 4 : ℕ) < 2048 := (y 4).isLt; omega⟩ (y 5)

theorem load_cache3 (X : FVec Ideal S1x2048x128 .f32) (h) (i : Fin 2048) (e : Fin 128) :
    rowsAt (F := Ideal) X (Rect.unit (s := S1x2048x128) ![0, 0, 0] S1x2048x128.size h).toLoadRect (ix3 0 i e) = rowsOf X ⟨0 + i.val, by omega⟩ e := by
  refine congrArg X (funext fun b => Fin.ext ?_)
  match b with
  | ⟨0, _⟩ => rfl
  | ⟨1, _⟩ => show 0 + 1 * i.val = 0 + i.val; omega
  | ⟨2, _⟩ => show 0 + 1 * e.val = e.val; omega

theorem pay_cache3 (X : FVec Ideal S1x2048x128 .f32) (i : Fin 2048) (e : Fin 128) :
    shapeCast S1x1x1x1x2048x128 (shapeCast S2048x128 X shapeCasts_S1x2048x128_S2048x128) shapeCasts_S2048x128_S1x1x1x1x2048x128 (ix6 0 0 0 0 i e) = X (ix3 0 i e) := by
  pointwise

theorem cache3_apply (k v : FVec Ideal S1x2048x128 .f32) (s : Fin 2) (i : Fin 2048) (e : Fin 128) :
    View.canon (cachePieces3 (F := Ideal) k v) (ix6 0 0 s 0 i e)
      = if s.val < 1 then rowsOf k ⟨0 + i.val, by omega⟩ e else rowsOf v ⟨0 + i.val, by omega⟩ e := by
  refine View.canon_apply_of_pieces (Val := Elt Ideal) (fun y : S1x1x2x1x2048x128.Idx => if (y 2 : ℕ) < 1 then rowsOf k ⟨0 + (y 4 : ℕ), by have : (y 4 : ℕ) < 2048 := (y 4).isLt; omega⟩ (y 5) else rowsOf v ⟨0 + (y 4 : ℕ), by have : (y 4 : ℕ) < 2048 := (y 4).isLt; omega⟩ (y 5))
    _ (fun p hp x => ?_) (ix6 0 0 s 0 i e) (cover_cache3 (F := Ideal) k v _)
  unfold cachePieces3 at hp
  rcases List.mem_cons.mp hp with rfl | hp
  · revert x
    intro (x : S1x1x1x1x2048x128.Idx)
    idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (pay_cache3 _ x4 x5).trans ((load_cache3 v _ x4 x5).trans ?_)
    refine Eq.trans ?_ (if_neg (show ¬ 1 + 1 * 0 < 1 by decide)).symm
    refine congrArg₂ (rowsOf v) (Fin.ext ?_) (Fin.ext ?_)
    · show 0 + x4.val = 0 + (0 + 1 * x4.val); omega
    · show x5.val = 0 + 1 * x5.val; omega
  · obtain rfl := List.mem_singleton.mp hp
    revert x
    intro (x : S1x1x1x1x2048x128.Idx)
    idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (pay_cache3 _ x4 x5).trans ((load_cache3 k _ x4 x5).trans ?_)
    refine Eq.trans ?_ (if_pos (show 0 + 1 * 0 < 1 by decide)).symm
    refine congrArg₂ (rowsOf k) (Fin.ext ?_) (Fin.ext ?_)
    · show 0 + x4.val = 0 + (0 + 1 * x4.val); omega
    · show x5.val = 0 + 1 * x5.val; omega

theorem emb12 (t : Fin cfg0.N) (s : Fin 2) (i : Fin 2048) (e : Fin 128) :
    (win0_12.blk t).view.emb (ix6 0 0 s 0 i e) = (ix6 0 (pb t) s (ph t) i e : S1x8x2x8x2048x128.Idx) := by
  unfold pb ph
  blk_ext [ix12]

theorem final12 (c : Dev nD) : (dats m 0 c).arrAt 12 cfg0.N = G12 m c := by
  refine (dats m 0 c).arrAt_eq_of_covers 12 _ (by decide +kernel) fun t hf y => ?_
  blk_simp
  rw [after0_12]
  revert y
  intro (y : S1x1x2x1x2048x128.Idx)
  idx_vars y
  obtain rfl : y0 = 0 := Subsingleton.elim _ _
  obtain rfl : y1 = 0 := Subsingleton.elim _ _
  obtain rfl : y3 = 0 := Subsingleton.elim _ _
  refine (cache3_apply (iblk m c 5 t) (iblk m c 8 t) y2 y4 y5).trans (Eq.trans ?_ (congrArg (G12 m c) (emb12 t y2 y4 y5)).symm)
  rw [in5, in8]
  rfl

/-- The run with its four results. -/
theorem run_values (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = G9 m c
      ∧ r.2.mem ((c.tc : Thread nD τ).loc main_v0_1) = G10 m c
      ∧ r.2.mem ((c.tc : Thread nD τ).loc main_v0_2) = G11 m c
      ∧ r.2.mem ((c.tc : Thread nD τ).loc main_v0_3) = G12 m c
      ∧ r.2.mem ((c.tc : Thread nD τ).loc main_arg0) = m ((c.tc : Thread nD τ).loc main_arg0) :=
  (θ_run defs _ _).mono (fun r h c =>
    ⟨((h.1 c).1 9).trans (final9 m c), ((h.1 c).1 10).trans (final10 m c), ((h.1 c).1 11).trans (final11 m c), ((h.1 c).1 12).trans (final12 m c),
      ((h.1 c).1 8).trans (((dats m 0 c).arrAt_in 8 rfl _).trans ((A_eq m c 8).trans (V_main_arg0 m c)))⟩) (run_all m ρ)

end Cert.KernelIdeal.Attn

end
-- ==== Proof.AttnRef.lean ====
module

public import proofs.«01_k».proof.Proof.Gen.ReferenceIdeal
public import proofs.«01_k».proof.Proof.AttnSpec

@[expose] public section

set_option maxRecDepth 16384

noncomputable section

/-!
# The reference's attention

Each stage of the reference read at an index: the scores, the row maxima, the sums, the attention of each group and
the combination of the three.
-/

namespace Cert.ReferenceIdeal.Attn

open Cert.ReferenceIdeal Cert.ReferenceIdeal.Gen Cert.Attn
open Idealize.ShloMosaic Idealize.ShloMosaic.TcCoe Idealize.ShloMosaic.Tactic

/-- The heads of group 0 of a slice of 3072 columns. -/
def heads0 (z : FVec Ideal S8x2048x3072 .f32) : FVec Ideal S8x8x2048x128 .f32 :=
  transpose S8x8x2048x128 [0, 2, 1, 3] (shapeCast S8x2048x8x128 (extractStridedSlice S8x2048x1x8x128 ![0, 0, 0, 0, 0] (shapeCast S8x2048x3x8x128 z shapeCasts_S8x2048x3072_S8x2048x3x8x128) slices_S8x2048x3x8x128_S8x2048x1x8x128_0_0_0_0_0) shapeCasts_S8x2048x1x8x128_S8x2048x8x128) transposes_S8x2048x8x128_S8x8x2048x128_0_2_1_3

theorem heads0_apply (z : FVec Ideal S8x2048x3072 .f32) (b h : Fin 8) (i : Fin 2048) (e : Fin 128) :
    heads0 z (ix4 b h i e) = z (ix3 b i ⟨0 + h.val * 128 + e.val, by omega⟩) := by
  unfold heads0
  pointwise

/-- The heads of group 1 of a slice of 3072 columns. -/
def heads1 (z : FVec Ideal S8x2048x3072 .f32) : FVec Ideal S8x8x2048x128 .f32 :=
  transpose S8x8x2048x128 [0, 2, 1, 3] (shapeCast S8x2048x8x128 (extractStridedSlice S8x2048x1x8x128 ![0, 0, 1, 0, 0] (shapeCast S8x2048x3x8x128 z shapeCasts_S8x2048x3072_S8x2048x3x8x128) slices_S8x2048x3x8x128_S8x2048x1x8x128_0_0_1_0_0) shapeCasts_S8x2048x1x8x128_S8x2048x8x128) transposes_S8x2048x8x128_S8x8x2048x128_0_2_1_3

theorem heads1_apply (z : FVec Ideal S8x2048x3072 .f32) (b h : Fin 8) (i : Fin 2048) (e : Fin 128) :
    heads1 z (ix4 b h i e) = z (ix3 b i ⟨1024 + h.val * 128 + e.val, by omega⟩) := by
  unfold heads1
  pointwise

/-- The heads of group 2 of a slice of 3072 columns. -/
def heads2 (z : FVec Ideal S8x2048x3072 .f32) : FVec Ideal S8x8x2048x128 .f32 :=
  transpose S8x8x2048x128 [0, 2, 1, 3] (shapeCast S8x2048x8x128 (extractStridedSlice S8x2048x1x8x128 ![0, 0, 2, 0, 0] (shapeCast S8x2048x3x8x128 z shapeCasts_S8x2048x3072_S8x2048x3x8x128) slices_S8x2048x3x8x128_S8x2048x1x8x128_0_0_2_0_0) shapeCasts_S8x2048x1x8x128_S8x2048x8x128) transposes_S8x2048x8x128_S8x8x2048x128_0_2_1_3

theorem heads2_apply (z : FVec Ideal S8x2048x3072 .f32) (b h : Fin 8) (i : Fin 2048) (e : Fin 128) :
    heads2 z (ix4 b h i e) = z (ix3 b i ⟨2048 + h.val * 128 + e.val, by omega⟩) := by
  unfold heads2
  pointwise

/-- The distance of a key from a query. -/
def dist : IVec S2048x2048 32 :=
  subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))

/-- The masked scores. -/
def scores (q k : FVec Ideal S8x8x2048x128 .f32) (w d : BitVec 32) : FVec Ideal S8x8x2048x2048 .f32 :=
  select (broadcastInDim S8x8x2048x2048 ![2, 3] bcast_S2048x2048_S8x8x2048x2048_2_3 (andi (andi (cmpi .sge dist (broadcastInDim S2048x2048 ![] bcast_S_S2048x2048 (constantI S_ 32 0#32))) (cmpi .sle dist (broadcastInDim S2048x2048 ![] bcast_S_S2048x2048 (constantI S_ 32 w)))) (cmpi .eq (Host.remsi dist (broadcastInDim S2048x2048 ![] bcast_S_S2048x2048 (constantI S_ 32 d))) (broadcastInDim S2048x2048 ![] bcast_S_S2048x2048 (constantI S_ 32 0#32))))) (mulf (Host.dotGeneral dot_S8x8x2048x128_S8x8x2048x128_S8x8x2048x2048_3_3_2_2_01_01 none q k) (broadcastInDim S8x8x2048x2048 ![] bcast_S_S8x8x2048x2048 (constant S_ .f32 0x3DB504F3#32))) (broadcastInDim S8x8x2048x2048 ![] bcast_S_S8x8x2048x2048 (id (constant S_ .f32 0xFF800000#32)))

theorem scores_apply (q k : FVec Ideal S8x8x2048x128 .f32) (w d : ℕ) (hw : w < 4096) (hd : 0 < d) (hd' : d < 4096) (b h : Fin 8) (i j : Fin 2048) :
    scores q k (BitVec.ofNat 32 w) (BitVec.ofNat 32 d) (ix4 b h i j)
      = score w d (fun i e => q (ix4 b h i e)) (fun i e => k (ix4 b h i e)) i j := by
  unfold scores dist
  pointwise
  rw [mask_eq i.isLt j.isLt hw hd hd']
  unfold score
  refine if_congr Iff.rfl rfl ?_
  exact bot_bits

/-- The row maxima. -/
def rowMax (s : FVec Ideal S8x8x2048x2048 .f32) : FVec Ideal S8x8x2048x1 .f32 :=
  broadcastInDim S8x8x2048x1 ![0, 1, 2] bcast_S8x8x2048_S8x8x2048x1_0_1_2 (Host.reduce FloatOps.maximumf s (constant S_ .f32 0xFF800000#32) reducesTo_S8x8x2048x2048_S8x8x2048_d3 h_S_)

theorem rowMax_apply (q k : FVec Ideal S8x8x2048x128 .f32) (w d : ℕ) (hw : w < 4096) (hd : 0 < d) (hd' : d < 4096) (b h : Fin 8) (i : Fin 2048) :
    rowMax (scores q k (BitVec.ofNat 32 w) (BitVec.ofNat 32 d)) (ix4 b h i 0)
      = top w d (fun i e => q (ix4 b h i e)) (fun i e => k (ix4 b h i e)) i := by
  generalize hs : scores q k (BitVec.ofNat 32 w) (BitVec.ofNat 32 d) = s
  unfold rowMax
  pointwise
  subst hs
  unfold top
  rw [bot_bits]
  exact congrArg (fun f => Finset.fold max ⊥ f Finset.univ) (funext fun x => scores_apply q k w d hw hd hd' b h i x)

/-- The exponentials of the scores less their row's largest. -/
def exps (s : FVec Ideal S8x8x2048x2048 .f32) (m : FVec Ideal S8x8x2048x1 .f32) : FVec Ideal S8x8x2048x2048 .f32 :=
  Host.exp (subf s (broadcastInDim S8x8x2048x2048 ![0, 1, 2, 3] bcast_S8x8x2048x1_S8x8x2048x2048_0_1_2_3 m))

theorem exps_apply (q k : FVec Ideal S8x8x2048x128 .f32) (w d : ℕ) (hw : w < 4096) (hd : 0 < d) (hd' : d < 4096) (b h : Fin 8) (i j : Fin 2048) :
    exps (scores q k (BitVec.ofNat 32 w) (BitVec.ofNat 32 d)) (rowMax (scores q k (BitVec.ofNat 32 w) (BitVec.ofNat 32 d))) (ix4 b h i j)
      = wt w d (fun i e => q (ix4 b h i e)) (fun i e => k (ix4 b h i e)) i j := by
  have h1 := scores_apply q k w d hw hd hd' b h i j
  have h2 := rowMax_apply q k w d hw hd hd' b h i
  unfold wt
  rw [← h1, ← h2]
  generalize scores q k (BitVec.ofNat 32 w) (BitVec.ofNat 32 d) = s
  generalize rowMax s = m
  unfold exps
  pointwise

/-- Their sums. -/
def rowSum (e : FVec Ideal S8x8x2048x2048 .f32) : FVec Ideal S8x8x2048x1 .f32 :=
  broadcastInDim S8x8x2048x1 ![0, 1, 2] bcast_S8x8x2048_S8x8x2048x1_0_1_2 (Host.reduceAdd e (constant S_ .f32 0x00000000#32) reducesTo_S8x8x2048x2048_S8x8x2048_d3 h_S_)

theorem rowSum_apply (q k : FVec Ideal S8x8x2048x128 .f32) (w d : ℕ) (hw : w < 4096) (hd : 0 < d) (hd' : d < 4096) (b h : Fin 8) (i : Fin 2048) :
    rowSum (exps (scores q k (BitVec.ofNat 32 w) (BitVec.ofNat 32 d)) (rowMax (scores q k (BitVec.ofNat 32 w) (BitVec.ofNat 32 d)))) (ix4 b h i 0)
      = tot w d (fun i e => q (ix4 b h i e)) (fun i e => k (ix4 b h i e)) i := by
  have h1 := exps_apply q k w d hw hd hd' b h i
  unfold tot
  rw [← Finset.sum_congr rfl fun j _ => h1 j]
  generalize exps (scores q k (BitVec.ofNat 32 w) (BitVec.ofNat 32 d)) (rowMax (scores q k (BitVec.ofNat 32 w) (BitVec.ofNat 32 d))) = s
  unfold rowSum
  pointwise

/-- The normalised attention of a group. -/
def outs (e : FVec Ideal S8x8x2048x2048 .f32) (v : FVec Ideal S8x8x2048x128 .f32) (l : FVec Ideal S8x8x2048x1 .f32) : FVec Ideal S8x8x2048x128 .f32 :=
  Host.divf (Host.dotGeneral dot_S8x8x2048x2048_S8x8x2048x128_S8x8x2048x128_3_2_2_3_01_01 none e v) (broadcastInDim S8x8x2048x128 ![0, 1, 2, 3] bcast_S8x8x2048x1_S8x8x2048x128_0_1_2_3 l)

theorem outs_apply (q k v : FVec Ideal S8x8x2048x128 .f32) (w d : ℕ) (hw : w < 4096) (hd : 0 < d) (hd' : d < 4096) (b h : Fin 8) (i : Fin 2048) (e : Fin 128) :
    outs (exps (scores q k (BitVec.ofNat 32 w) (BitVec.ofNat 32 d)) (rowMax (scores q k (BitVec.ofNat 32 w) (BitVec.ofNat 32 d)))) v
        (rowSum (exps (scores q k (BitVec.ofNat 32 w) (BitVec.ofNat 32 d)) (rowMax (scores q k (BitVec.ofNat 32 w) (BitVec.ofNat 32 d))))) (ix4 b h i e)
      = Ideal.div (acc w d (fun i e => q (ix4 b h i e)) (fun i e => k (ix4 b h i e)) (fun i e => v (ix4 b h i e)) i e)
          (tot w d (fun i e => q (ix4 b h i e)) (fun i e => k (ix4 b h i e)) i) := by
  have h1 := exps_apply q k w d hw hd hd' b h i
  have h2 := rowSum_apply q k w d hw hd hd' b h i
  unfold acc
  rw [← h2, ← Finset.sum_congr rfl fun j _ => congrArg (· * v (ix4 b h j e)) (h1 j)]
  generalize exps (scores q k (BitVec.ofNat 32 w) (BitVec.ofNat 32 d)) (rowMax (scores q k (BitVec.ofNat 32 w) (BitVec.ofNat 32 d))) = s
  generalize rowSum s = l
  unfold outs
  pointwise

/-- The logarithms of the groups' sums, stacked. -/
def lses (m1 m2 m3 l1 l2 l3 : FVec Ideal S8x8x2048x1 .f32) : FVec Ideal S3x8x8x2048 .f32 :=
  concatenate S3x8x8x2048 0 [⟨S1x8x8x2048, broadcastInDim S1x8x8x2048 ![1, 2, 3] bcast_S8x8x2048_S1x8x8x2048_1_2_3 (shapeCast S8x8x2048 (addf m1 (Host.log l1)) shapeCasts_S8x8x2048x1_S8x8x2048)⟩,
    ⟨S1x8x8x2048, broadcastInDim S1x8x8x2048 ![1, 2, 3] bcast_S8x8x2048_S1x8x8x2048_1_2_3 (shapeCast S8x8x2048 (addf m2 (Host.log l2)) shapeCasts_S8x8x2048x1_S8x8x2048)⟩,
    ⟨S1x8x8x2048, broadcastInDim S1x8x8x2048 ![1, 2, 3] bcast_S8x8x2048_S1x8x8x2048_1_2_3 (shapeCast S8x8x2048 (addf m3 (Host.log l3)) shapeCasts_S8x8x2048x1_S8x8x2048)⟩] concatenates_S1x8x8x2048_S1x8x8x2048_S1x8x8x2048_S3x8x8x2048_d0

theorem lses_apply (m1 m2 m3 l1 l2 l3 : FVec Ideal S8x8x2048x1 .f32) (x : Fin 3) (b h : Fin 8) (i : Fin 2048) :
    lses m1 m2 m3 l1 l2 l3 (ix4 x b h i)
      = ![m1 (ix4 b h i 0), m2 (ix4 b h i 0), m3 (ix4 b h i 0)] x + Ideal.log (![l1 (ix4 b h i 0), l2 (ix4 b h i 0), l3 (ix4 b h i 0)] x) := by
  unfold lses
  pointwise
  match x with
  | 0 => rfl
  | 1 => rfl
  | 2 => rfl

/-- Their exponentials less the largest. -/
def expLse (s : FVec Ideal S3x8x8x2048 .f32) : FVec Ideal S3x8x8x2048 .f32 :=
  Host.exp (subf s (broadcastInDim S3x8x8x2048 ![0, 1, 2, 3] bcast_S1x8x8x2048_S3x8x8x2048_0_1_2_3 (broadcastInDim S1x8x8x2048 ![1, 2, 3] bcast_S8x8x2048_S1x8x8x2048_1_2_3 (maximumf (broadcastInDim S8x8x2048 ![] bcast_S_S8x8x2048 (constant S_ .f32 0xFF800000#32)) (Host.reduce FloatOps.maximumf s (constant S_ .f32 0xFF800000#32) reducesTo_S3x8x8x2048_S8x8x2048_d0 h_S_)))))

theorem expLse_apply (m1 m2 m3 l1 l2 l3 : FVec Ideal S8x8x2048x1 .f32) (x : Fin 3) (b h : Fin 8) (i : Fin 2048) :
    expLse (lses m1 m2 m3 l1 l2 l3) (ix4 x b h i)
      = share ![m1 (ix4 b h i 0), m2 (ix4 b h i 0), m3 (ix4 b h i 0)] ![l1 (ix4 b h i 0), l2 (ix4 b h i 0), l3 (ix4 b h i 0)] x := by
  have h1 := fun x => lses_apply m1 m2 m3 l1 l2 l3 x b h i
  unfold share
  simp only [← h1]
  generalize lses m1 m2 m3 l1 l2 l3 = s
  unfold expLse
  pointwise
  rw [bot_bits]

/-- The groups weighted and summed. -/
def mix (p : FVec Ideal S3x8x8x2048 .f32) (o1 o2 o3 : FVec Ideal S8x8x2048x128 .f32) : FVec Ideal S8x2048x1024 .bf16 :=
  truncf .bf16 (shapeCast S8x2048x1024 (transpose S8x2048x8x128 [0, 2, 1, 3] (Host.reduceAdd (mulf (broadcastInDim S3x8x8x2048x128 ![0, 1, 2, 3, 4] bcast_S3x8x8x2048x1_S3x8x8x2048x128_0_1_2_3_4 (broadcastInDim S3x8x8x2048x1 ![0, 1, 2, 3] bcast_S3x8x8x2048_S3x8x8x2048x1_0_1_2_3 (Host.divf p (broadcastInDim S3x8x8x2048 ![0, 1, 2, 3] bcast_S1x8x8x2048_S3x8x8x2048_0_1_2_3 (broadcastInDim S1x8x8x2048 ![1, 2, 3] bcast_S8x8x2048_S1x8x8x2048_1_2_3 (Host.reduceAdd p (constant S_ .f32 0x00000000#32) reducesTo_S3x8x8x2048_S8x8x2048_d0 h_S_))))))
    (concatenate S3x8x8x2048x128 0 [⟨S1x8x8x2048x128, broadcastInDim S1x8x8x2048x128 ![1, 2, 3, 4] bcast_S8x8x2048x128_S1x8x8x2048x128_1_2_3_4 o1⟩, ⟨S1x8x8x2048x128, broadcastInDim S1x8x8x2048x128 ![1, 2, 3, 4] bcast_S8x8x2048x128_S1x8x8x2048x128_1_2_3_4 o2⟩, ⟨S1x8x8x2048x128, broadcastInDim S1x8x8x2048x128 ![1, 2, 3, 4] bcast_S8x8x2048x128_S1x8x8x2048x128_1_2_3_4 o3⟩] concatenates_S1x8x8x2048x128_S1x8x8x2048x128_S1x8x8x2048x128_S3x8x8x2048x128_d0)) (constant S_ .f32 0x00000000#32) reducesTo_S3x8x8x2048x128_S8x8x2048x128_d0 h_S_) transposes_S8x8x2048x128_S8x2048x8x128_0_2_1_3) shapeCasts_S8x2048x8x128_S8x2048x1024) bitsLt_bf16_f32

theorem mix_apply (m1 m2 m3 l1 l2 l3 : FVec Ideal S8x8x2048x1 .f32) (o1 o2 o3 : FVec Ideal S8x8x2048x128 .f32) (b : Fin 8) (i : Fin 2048) (h : Fin 8) (e : Fin 128) :
    mix (expLse (lses m1 m2 m3 l1 l2 l3)) o1 o2 o3 (ix3 b i ⟨h.val * 128 + e.val, by omega⟩)
      = ∑ x, Ideal.div (share ![m1 (ix4 b h i 0), m2 (ix4 b h i 0), m3 (ix4 b h i 0)] ![l1 (ix4 b h i 0), l2 (ix4 b h i 0), l3 (ix4 b h i 0)] x)
            (∑ y, share ![m1 (ix4 b h i 0), m2 (ix4 b h i 0), m3 (ix4 b h i 0)] ![l1 (ix4 b h i 0), l2 (ix4 b h i 0), l3 (ix4 b h i 0)] y)
          * ![o1 (ix4 b h i e), o2 (ix4 b h i e), o3 (ix4 b h i e)] x := by
  have h1 := fun x => expLse_apply m1 m2 m3 l1 l2 l3 x b h i
  simp only [← h1]
  generalize expLse (lses m1 m2 m3 l1 l2 l3) = p
  unfold mix
  pointwise
  refine Finset.sum_congr rfl fun x _ => ?_
  match x with
  | 0 => rfl
  | 1 => rfl
  | 2 => rfl

end Cert.ReferenceIdeal.Attn

end
-- ==== Proof.AttnTie.lean ====
module

public import proofs.«01_k».proof.Proof.Gen.ReferenceIdeal.Run
public import proofs.«01_k».proof.Proof.AttnRef
public import proofs.«01_k».proof.Proof.AttnHeads

@[expose] public section

set_option maxRecDepth 16384

noncomputable section

/-!
# The reference's results read at an index
-/

namespace Cert.ReferenceIdeal.Attn

open Cert.ReferenceIdeal Cert.ReferenceIdeal.Gen Cert.ReferenceIdeal.Value Cert.Attn
open Idealize.ShloMosaic Idealize.ShloMosaic.TcCoe Idealize.ShloMosaic.Tactic

variable (V0 : Valuation τ sig (Elt Ideal))

/-- The argument. -/
def zarg (b : Fin 8) (i : Fin 2048) (j : Fin 17408) : EReal := (V0 (Proc.devRef .tc main_arg0) : FVec Ideal S8x2048x17408 .f32) (ix3 b i j)

def slice_q : FVec Ideal S8x2048x3072 .f32 := extractStridedSlice S8x2048x3072 ![0, 0, 0] (V0 (Proc.devRef .tc main_arg0) : FVec Ideal S8x2048x17408 .f32) slices_S8x2048x17408_S8x2048x3072_0_0_0

theorem slice_q_apply (b : Fin 8) (i : Fin 2048) (j : Fin 3072) : slice_q V0 (ix3 b i j) = zarg V0 b i ⟨0 + j.val, by omega⟩ := by
  unfold slice_q zarg
  pointwise

theorem q0 (b h : Fin 8) : (fun (i : Fin 2048) (e : Fin 128) => heads0 (slice_q V0) (ix4 b h i e)) = head (zarg V0) 0 b h := by
  funext i e
  refine (heads0_apply _ b h i e).trans ((slice_q_apply V0 b i _).trans ?_)
  refine congrArg (zarg V0 b i) (Fin.ext ?_)
  show 0 + (0 + h.val * 128 + e.val) = 1024 * 0 + 128 * h.val + e.val
  omega

theorem q1 (b h : Fin 8) : (fun (i : Fin 2048) (e : Fin 128) => heads1 (slice_q V0) (ix4 b h i e)) = head (zarg V0) 1 b h := by
  funext i e
  refine (heads1_apply _ b h i e).trans ((slice_q_apply V0 b i _).trans ?_)
  refine congrArg (zarg V0 b i) (Fin.ext ?_)
  show 0 + (1024 + h.val * 128 + e.val) = 1024 * 1 + 128 * h.val + e.val
  omega

theorem q2 (b h : Fin 8) : (fun (i : Fin 2048) (e : Fin 128) => heads2 (slice_q V0) (ix4 b h i e)) = head (zarg V0) 2 b h := by
  funext i e
  refine (heads2_apply _ b h i e).trans ((slice_q_apply V0 b i _).trans ?_)
  refine congrArg (zarg V0 b i) (Fin.ext ?_)
  show 0 + (2048 + h.val * 128 + e.val) = 1024 * 2 + 128 * h.val + e.val
  omega

def slice_k : FVec Ideal S8x2048x3072 .f32 := extractStridedSlice S8x2048x3072 ![0, 0, 3072] (V0 (Proc.devRef .tc main_arg0) : FVec Ideal S8x2048x17408 .f32) slices_S8x2048x17408_S8x2048x3072_0_0_3072

theorem slice_k_apply (b : Fin 8) (i : Fin 2048) (j : Fin 3072) : slice_k V0 (ix3 b i j) = zarg V0 b i ⟨3072 + j.val, by omega⟩ := by
  unfold slice_k zarg
  pointwise

theorem k0 (b h : Fin 8) : (fun (i : Fin 2048) (e : Fin 128) => heads0 (slice_k V0) (ix4 b h i e)) = head (zarg V0) 3 b h := by
  funext i e
  refine (heads0_apply _ b h i e).trans ((slice_k_apply V0 b i _).trans ?_)
  refine congrArg (zarg V0 b i) (Fin.ext ?_)
  show 3072 + (0 + h.val * 128 + e.val) = 1024 * 3 + 128 * h.val + e.val
  omega

theorem k1 (b h : Fin 8) : (fun (i : Fin 2048) (e : Fin 128) => heads1 (slice_k V0) (ix4 b h i e)) = head (zarg V0) 4 b h := by
  funext i e
  refine (heads1_apply _ b h i e).trans ((slice_k_apply V0 b i _).trans ?_)
  refine congrArg (zarg V0 b i) (Fin.ext ?_)
  show 3072 + (1024 + h.val * 128 + e.val) = 1024 * 4 + 128 * h.val + e.val
  omega

theorem k2 (b h : Fin 8) : (fun (i : Fin 2048) (e : Fin 128) => heads2 (slice_k V0) (ix4 b h i e)) = head (zarg V0) 5 b h := by
  funext i e
  refine (heads2_apply _ b h i e).trans ((slice_k_apply V0 b i _).trans ?_)
  refine congrArg (zarg V0 b i) (Fin.ext ?_)
  show 3072 + (2048 + h.val * 128 + e.val) = 1024 * 5 + 128 * h.val + e.val
  omega

def slice_v : FVec Ideal S8x2048x3072 .f32 := extractStridedSlice S8x2048x3072 ![0, 0, 6144] (V0 (Proc.devRef .tc main_arg0) : FVec Ideal S8x2048x17408 .f32) slices_S8x2048x17408_S8x2048x3072_0_0_6144

theorem slice_v_apply (b : Fin 8) (i : Fin 2048) (j : Fin 3072) : slice_v V0 (ix3 b i j) = zarg V0 b i ⟨6144 + j.val, by omega⟩ := by
  unfold slice_v zarg
  pointwise

theorem v0 (b h : Fin 8) : (fun (i : Fin 2048) (e : Fin 128) => heads0 (slice_v V0) (ix4 b h i e)) = head (zarg V0) 6 b h := by
  funext i e
  refine (heads0_apply _ b h i e).trans ((slice_v_apply V0 b i _).trans ?_)
  refine congrArg (zarg V0 b i) (Fin.ext ?_)
  show 6144 + (0 + h.val * 128 + e.val) = 1024 * 6 + 128 * h.val + e.val
  omega

theorem v1 (b h : Fin 8) : (fun (i : Fin 2048) (e : Fin 128) => heads1 (slice_v V0) (ix4 b h i e)) = head (zarg V0) 7 b h := by
  funext i e
  refine (heads1_apply _ b h i e).trans ((slice_v_apply V0 b i _).trans ?_)
  refine congrArg (zarg V0 b i) (Fin.ext ?_)
  show 6144 + (1024 + h.val * 128 + e.val) = 1024 * 7 + 128 * h.val + e.val
  omega

theorem v2 (b h : Fin 8) : (fun (i : Fin 2048) (e : Fin 128) => heads2 (slice_v V0) (ix4 b h i e)) = head (zarg V0) 8 b h := by
  funext i e
  refine (heads2_apply _ b h i e).trans ((slice_v_apply V0 b i _).trans ?_)
  refine congrArg (zarg V0 b i) (Fin.ext ?_)
  show 6144 + (2048 + h.val * 128 + e.val) = 1024 * 8 + 128 * h.val + e.val
  omega

/-! ## Group 0 -/

def S0 : FVec Ideal S8x8x2048x2048 .f32 := scores (heads0 (slice_q V0)) (heads0 (slice_k V0)) (BitVec.ofNat 32 128) (BitVec.ofNat 32 1)
def M0 : FVec Ideal S8x8x2048x1 .f32 := rowMax (S0 V0)
def E0 : FVec Ideal S8x8x2048x2048 .f32 := exps (S0 V0) (M0 V0)
def L0 : FVec Ideal S8x8x2048x1 .f32 := rowSum (E0 V0)
def O0 : FVec Ideal S8x8x2048x128 .f32 := outs (E0 V0) (heads0 (slice_v V0)) (L0 V0)

theorem k0_eq : res_main_v10 V0 = heads0 (slice_k V0) := rfl
theorem v0_eq : res_main_v14 V0 = heads0 (slice_v V0) := rfl
theorem s0_eq : res_main_v34 V0 = S0 V0 := rfl
theorem m0_eq : res_main_v36 V0 = M0 V0 := congrArg rowMax (s0_eq V0)
theorem e0_eq : res_main_v39 V0 = E0 V0 := congrArg₂ exps (s0_eq V0) (m0_eq V0)
theorem l0_eq : res_main_v41 V0 = L0 V0 := congrArg rowSum (e0_eq V0)

theorem M0_apply (b h : Fin 8) (i : Fin 2048) : M0 V0 (ix4 b h i 0) = topH (zarg V0) b h 0 i := by
  refine (rowMax_apply (heads0 (slice_q V0)) (heads0 (slice_k V0)) 128 1 (by decide) (by decide) (by decide) b h i).trans ?_
  rw [q0, k0]
  rfl

theorem L0_apply (b h : Fin 8) (i : Fin 2048) : L0 V0 (ix4 b h i 0) = totH (zarg V0) b h 0 i := by
  refine (rowSum_apply (heads0 (slice_q V0)) (heads0 (slice_k V0)) 128 1 (by decide) (by decide) (by decide) b h i).trans ?_
  rw [q0, k0]
  rfl

theorem O0_apply (b h : Fin 8) (i : Fin 2048) (e : Fin 128) : O0 V0 (ix4 b h i e) = Ideal.div (accH (zarg V0) b h 0 i e) (totH (zarg V0) b h 0 i) := by
  refine (outs_apply (heads0 (slice_q V0)) (heads0 (slice_k V0)) (heads0 (slice_v V0)) 128 1 (by decide) (by decide) (by decide) b h i e).trans ?_
  rw [q0, k0, v0]
  rfl

/-! ## Group 1 -/

def S1 : FVec Ideal S8x8x2048x2048 .f32 := scores (heads1 (slice_q V0)) (heads1 (slice_k V0)) (BitVec.ofNat 32 512) (BitVec.ofNat 32 4)
def M1 : FVec Ideal S8x8x2048x1 .f32 := rowMax (S1 V0)
def E1 : FVec Ideal S8x8x2048x2048 .f32 := exps (S1 V0) (M1 V0)
def L1 : FVec Ideal S8x8x2048x1 .f32 := rowSum (E1 V0)
def O1 : FVec Ideal S8x8x2048x128 .f32 := outs (E1 V0) (heads1 (slice_v V0)) (L1 V0)

theorem k1_eq : res_main_v61 V0 = heads1 (slice_k V0) := rfl
theorem v1_eq : res_main_v65 V0 = heads1 (slice_v V0) := rfl
theorem s1_eq : res_main_v85 V0 = S1 V0 := rfl
theorem m1_eq : res_main_v87 V0 = M1 V0 := congrArg rowMax (s1_eq V0)
theorem e1_eq : res_main_v90 V0 = E1 V0 := congrArg₂ exps (s1_eq V0) (m1_eq V0)
theorem l1_eq : res_main_v92 V0 = L1 V0 := congrArg rowSum (e1_eq V0)

theorem M1_apply (b h : Fin 8) (i : Fin 2048) : M1 V0 (ix4 b h i 0) = topH (zarg V0) b h 1 i := by
  refine (rowMax_apply (heads1 (slice_q V0)) (heads1 (slice_k V0)) 512 4 (by decide) (by decide) (by decide) b h i).trans ?_
  rw [q1, k1]
  rfl

theorem L1_apply (b h : Fin 8) (i : Fin 2048) : L1 V0 (ix4 b h i 0) = totH (zarg V0) b h 1 i := by
  refine (rowSum_apply (heads1 (slice_q V0)) (heads1 (slice_k V0)) 512 4 (by decide) (by decide) (by decide) b h i).trans ?_
  rw [q1, k1]
  rfl

theorem O1_apply (b h : Fin 8) (i : Fin 2048) (e : Fin 128) : O1 V0 (ix4 b h i e) = Ideal.div (accH (zarg V0) b h 1 i e) (totH (zarg V0) b h 1 i) := by
  refine (outs_apply (heads1 (slice_q V0)) (heads1 (slice_k V0)) (heads1 (slice_v V0)) 512 4 (by decide) (by decide) (by decide) b h i e).trans ?_
  rw [q1, k1, v1]
  rfl

/-! ## Group 2 -/

def S2 : FVec Ideal S8x8x2048x2048 .f32 := scores (heads2 (slice_q V0)) (heads2 (slice_k V0)) (BitVec.ofNat 32 2048) (BitVec.ofNat 32 16)
def M2 : FVec Ideal S8x8x2048x1 .f32 := rowMax (S2 V0)
def E2 : FVec Ideal S8x8x2048x2048 .f32 := exps (S2 V0) (M2 V0)
def L2 : FVec Ideal S8x8x2048x1 .f32 := rowSum (E2 V0)
def O2 : FVec Ideal S8x8x2048x128 .f32 := outs (E2 V0) (heads2 (slice_v V0)) (L2 V0)

theorem k2_eq : res_main_v112 V0 = heads2 (slice_k V0) := rfl
theorem v2_eq : res_main_v116 V0 = heads2 (slice_v V0) := rfl
theorem s2_eq : res_main_v136 V0 = S2 V0 := rfl
theorem m2_eq : res_main_v138 V0 = M2 V0 := congrArg rowMax (s2_eq V0)
theorem e2_eq : res_main_v141 V0 = E2 V0 := congrArg₂ exps (s2_eq V0) (m2_eq V0)
theorem l2_eq : res_main_v143 V0 = L2 V0 := congrArg rowSum (e2_eq V0)

theorem M2_apply (b h : Fin 8) (i : Fin 2048) : M2 V0 (ix4 b h i 0) = topH (zarg V0) b h 2 i := by
  refine (rowMax_apply (heads2 (slice_q V0)) (heads2 (slice_k V0)) 2048 16 (by decide) (by decide) (by decide) b h i).trans ?_
  rw [q2, k2]
  rfl

theorem L2_apply (b h : Fin 8) (i : Fin 2048) : L2 V0 (ix4 b h i 0) = totH (zarg V0) b h 2 i := by
  refine (rowSum_apply (heads2 (slice_q V0)) (heads2 (slice_k V0)) 2048 16 (by decide) (by decide) (by decide) b h i).trans ?_
  rw [q2, k2]
  rfl

theorem O2_apply (b h : Fin 8) (i : Fin 2048) (e : Fin 128) : O2 V0 (ix4 b h i e) = Ideal.div (accH (zarg V0) b h 2 i e) (totH (zarg V0) b h 2 i) := by
  refine (outs_apply (heads2 (slice_q V0)) (heads2 (slice_k V0)) (heads2 (slice_v V0)) 2048 16 (by decide) (by decide) (by decide) b h i e).trans ?_
  rw [q2, k2, v2]
  rfl

/-! ## The attention -/

theorem lses_eq : res_main_v157 V0 = lses (M0 V0) (M1 V0) (M2 V0) (L0 V0) (L1 V0) (L2 V0) := by
  rw [← m0_eq, ← m1_eq, ← m2_eq, ← l0_eq, ← l1_eq, ← l2_eq]
  rfl

theorem expLse_eq : res_main_v164 V0 = expLse (lses (M0 V0) (M1 V0) (M2 V0) (L0 V0) (L1 V0) (L2 V0)) :=
  congrArg expLse (lses_eq V0)

/-- The attention as the reference states it. -/
def attnR : FVec Ideal S8x2048x1024 .bf16 := mix (expLse (lses (M0 V0) (M1 V0) (M2 V0) (L0 V0) (L1 V0) (L2 V0))) (O0 V0) (O1 V0) (O2 V0)

theorem attnR_eq : mix (res_main_v164 V0) (outs (res_main_v39 V0) (res_main_v14 V0) (res_main_v41 V0))
    (outs (res_main_v90 V0) (res_main_v65 V0) (res_main_v92 V0)) (outs (res_main_v141 V0) (res_main_v116 V0) (res_main_v143 V0)) = attnR V0 := by
  rw [expLse_eq, e0_eq, v0_eq, l0_eq, e1_eq, v1_eq, l1_eq, e2_eq, v2_eq, l2_eq]
  rfl

theorem attnR_apply (hf : ∀ b i (j : Fin 17408), j.val < 6144 → ∃ r : ℝ, zarg V0 b i j = r) (b : Fin 8) (i : Fin 2048) (h : Fin 8) (e : Fin 128) :
    attnR V0 (ix3 b i ⟨h.val * 128 + e.val, by omega⟩) = attnH (zarg V0) b h i e := by
  refine (mix_apply (M0 V0) (M1 V0) (M2 V0) (L0 V0) (L1 V0) (L2 V0) (O0 V0) (O1 V0) (O2 V0) b i h e).trans ?_
  rw [M0_apply, M1_apply, M2_apply, L0_apply, L1_apply, L2_apply, O0_apply, O1_apply, O2_apply, attnH_eq (zarg V0) b h hf i e]
  have hm : (![topH (zarg V0) b h 0 i, topH (zarg V0) b h 1 i, topH (zarg V0) b h 2 i] : Fin 3 → EReal) = fun g => topH (zarg V0) b h g i :=
    funext fun g => match g with | 0 => rfl | 1 => rfl | 2 => rfl
  have hl : (![totH (zarg V0) b h 0 i, totH (zarg V0) b h 1 i, totH (zarg V0) b h 2 i] : Fin 3 → EReal) = fun g => totH (zarg V0) b h g i :=
    funext fun g => match g with | 0 => rfl | 1 => rfl | 2 => rfl
  rw [hm, hl]
  exact Finset.sum_congr rfl fun g _ => congrArg _ (match g with | 0 => rfl | 1 => rfl | 2 => rfl)

/-! ## The caches -/

def cacheR0 (k v : FVec Ideal S8x8x2048x128 .f32) : FVec Ideal S1x8x2x8x128x128 .f32 :=
  broadcastInDim S1x8x2x8x128x128 ![1, 2, 3, 4, 5] bcast_S8x2x8x128x128_S1x8x2x8x128x128_1_2_3_4_5 (concatenate S8x2x8x128x128 1 [⟨S8x1x8x128x128, (broadcastInDim S8x1x8x128x128 ![0, 2, 3, 4] bcast_S8x8x128x128_S8x1x8x128x128_0_2_3_4 (extractStridedSlice S8x8x128x128 ![0, 0, 1920, 0] k slices_S8x8x2048x128_S8x8x128x128_0_0_1920_0))⟩, ⟨S8x1x8x128x128, (broadcastInDim S8x1x8x128x128 ![0, 2, 3, 4] bcast_S8x8x128x128_S8x1x8x128x128_0_2_3_4 (extractStridedSlice S8x8x128x128 ![0, 0, 1920, 0] v slices_S8x8x2048x128_S8x8x128x128_0_0_1920_0))⟩] concatenates_S8x1x8x128x128_S8x1x8x128x128_S8x2x8x128x128_d1)

theorem cacheR0_pt (k v : FVec Ideal S8x8x2048x128 .f32) (b : Fin 8) (s : Fin 2) (h : Fin 8) (i : Fin 128) (e : Fin 128) :
    cacheR0 k v (ix6 0 b s h i e) = if s.val < 1 then k (ix4 b h ⟨1920 + i.val, by omega⟩ e) else v (ix4 b h ⟨1920 + i.val, by omega⟩ e) := by
  unfold cacheR0
  match s with
  | 0 => pointwise
  | 1 => pointwise

theorem cacheR0_apply (b : Fin 8) (s : Fin 2) (h : Fin 8) (i : Fin 128) (e : Fin 128) :
    cacheR0 (res_main_v10 V0) (res_main_v14 V0) (ix6 0 b s h i e) = cacheH (zarg V0) b h 3 6 s ⟨1920 + i.val, by omega⟩ e := by
  rw [cacheR0_pt, k0_eq, v0_eq]
  unfold cacheH
  rw [← k0 V0 b h, ← v0 V0 b h]

def cacheR1 (k v : FVec Ideal S8x8x2048x128 .f32) : FVec Ideal S1x8x2x8x512x128 .f32 :=
  broadcastInDim S1x8x2x8x512x128 ![1, 2, 3, 4, 5] bcast_S8x2x8x512x128_S1x8x2x8x512x128_1_2_3_4_5 (concatenate S8x2x8x512x128 1 [⟨S8x1x8x512x128, (broadcastInDim S8x1x8x512x128 ![0, 2, 3, 4] bcast_S8x8x512x128_S8x1x8x512x128_0_2_3_4 (extractStridedSlice S8x8x512x128 ![0, 0, 1536, 0] k slices_S8x8x2048x128_S8x8x512x128_0_0_1536_0))⟩, ⟨S8x1x8x512x128, (broadcastInDim S8x1x8x512x128 ![0, 2, 3, 4] bcast_S8x8x512x128_S8x1x8x512x128_0_2_3_4 (extractStridedSlice S8x8x512x128 ![0, 0, 1536, 0] v slices_S8x8x2048x128_S8x8x512x128_0_0_1536_0))⟩] concatenates_S8x1x8x512x128_S8x1x8x512x128_S8x2x8x512x128_d1)

theorem cacheR1_pt (k v : FVec Ideal S8x8x2048x128 .f32) (b : Fin 8) (s : Fin 2) (h : Fin 8) (i : Fin 512) (e : Fin 128) :
    cacheR1 k v (ix6 0 b s h i e) = if s.val < 1 then k (ix4 b h ⟨1536 + i.val, by omega⟩ e) else v (ix4 b h ⟨1536 + i.val, by omega⟩ e) := by
  unfold cacheR1
  match s with
  | 0 => pointwise
  | 1 => pointwise

theorem cacheR1_apply (b : Fin 8) (s : Fin 2) (h : Fin 8) (i : Fin 512) (e : Fin 128) :
    cacheR1 (res_main_v61 V0) (res_main_v65 V0) (ix6 0 b s h i e) = cacheH (zarg V0) b h 4 7 s ⟨1536 + i.val, by omega⟩ e := by
  rw [cacheR1_pt, k1_eq, v1_eq]
  unfold cacheH
  rw [← k1 V0 b h, ← v1 V0 b h]

def cacheR2 (k v : FVec Ideal S8x8x2048x128 .f32) : FVec Ideal S1x8x2x8x2048x128 .f32 :=
  broadcastInDim S1x8x2x8x2048x128 ![1, 2, 3, 4, 5] bcast_S8x2x8x2048x128_S1x8x2x8x2048x128_1_2_3_4_5 (concatenate S8x2x8x2048x128 1 [⟨S8x1x8x2048x128, (broadcastInDim S8x1x8x2048x128 ![0, 2, 3, 4] bcast_S8x8x2048x128_S8x1x8x2048x128_0_2_3_4 (k))⟩, ⟨S8x1x8x2048x128, (broadcastInDim S8x1x8x2048x128 ![0, 2, 3, 4] bcast_S8x8x2048x128_S8x1x8x2048x128_0_2_3_4 (v))⟩] concatenates_S8x1x8x2048x128_S8x1x8x2048x128_S8x2x8x2048x128_d1)

theorem cacheR2_pt (k v : FVec Ideal S8x8x2048x128 .f32) (b : Fin 8) (s : Fin 2) (h : Fin 8) (i : Fin 2048) (e : Fin 128) :
    cacheR2 k v (ix6 0 b s h i e) = if s.val < 1 then k (ix4 b h ⟨0 + i.val, by omega⟩ e) else v (ix4 b h ⟨0 + i.val, by omega⟩ e) := by
  unfold cacheR2
  match s with
  | 0 => pointwise
  | 1 => pointwise

theorem cacheR2_apply (b : Fin 8) (s : Fin 2) (h : Fin 8) (i : Fin 2048) (e : Fin 128) :
    cacheR2 (res_main_v112 V0) (res_main_v116 V0) (ix6 0 b s h i e) = cacheH (zarg V0) b h 5 8 s ⟨0 + i.val, by omega⟩ e := by
  rw [cacheR2_pt, k2_eq, v2_eq]
  unfold cacheH
  rw [← k2 V0 b h, ← v2 V0 b h]

end Cert.ReferenceIdeal.Attn

end
-- ==== Proof.AttnPre.lean ====
module

public import proofs.«01_k».proof.Pre_finite_qk
public import Idealize.ShloMosaic.Lib.ReduceAll
public import Idealize.ShloMosaic.Lib.Tactic.ValueTie

@[expose] public section

set_option maxRecDepth 16384

noncomputable section

/-!
# The queries and keys are finite
-/

namespace Cert.Pre_finite_qk

open Idealize.ShloMosaic Idealize.ShloMosaic.Tactic

variable [Facts]

theorem inf_bits : Ideal.ofBits .f32 0x7F800000#32 = ⊤ := by simp [Ideal.ofBits, Ideal.ieee]

theorem real_of_lt (x : EReal) (h : max x (-x) < ⊤) : ∃ r : ℝ, x = r := by
  induction x with
  | bot => simp at h
  | coe r => exact ⟨r, rfl⟩
  | top => simp at h

theorem real_of (X : FVec Ideal S8x2048x17408 .f32) (h : fn (F := Ideal) X = fun _ => 1#1) (b : Fin 8) (i : Fin 2048) (j : Fin 17408) (hj : j.val < 6144) :
    ∃ r : ℝ, X (ix3 b i j) = r := by
  have h1 := Host.reduce_andi_all _ _ _ _ _ (congrFun h default) (ix3 b i ⟨j.val, hj⟩ : S8x2048x6144.Idx)
  have h2 : Ideal.cmp .olt (max (X (ix3 b i j)) (-X (ix3 b i j))) (Ideal.ofBits .f32 0x7F800000#32) = 1#1 := by
    refine Eq.trans ?_ h1
    pointwise
    rfl
  rw [inf_bits] at h2
  have h3 : max (X (ix3 b i j)) (-X (ix3 b i j)) < ⊤ := by
    by_contra hn
    simp [Ideal.cmp, hn] at h2
  exact real_of_lt _ h3

end Cert.Pre_finite_qk

end
-- ==== Proof.AttnAlg.lean ====
module

public import proofs.«01_k».proof.Proof.AttnFinal
public import proofs.«01_k».proof.Proof.AttnTie
public import proofs.«01_k».proof.Proof.AttnPre
public import proofs.«01_k».proof.Defs
public import proofs.«01_k».proof.Proof.Gen.Pre_finite_qk

@[expose] public section

set_option maxRecDepth 65536

noncomputable section

/-!
# The kernel's results are the reference's
-/

namespace Cert.Attn

open Idealize.ShloMosaic Idealize.ShloMosaic.TcCoe Idealize.SL Idealize.ShloMosaic.Tactic
open Cert.KernelIdeal.Attn (G9 G10 G11 G12 arg)
open Cert.ReferenceIdeal.Attn (zarg attnR cacheR0 cacheR1 cacheR2)
open Cert.ReferenceIdeal.Value Idealize.ShloMosaic.StableHlo Idealize.SL.Sem

variable (m : (ℓ : Loc Cert.KernelIdeal.nD Cert.KernelIdeal.τ Cert.KernelIdeal.sig) → Buf (Elt Ideal) ℓ)

theorem G9_eq (c : Dev Cert.KernelIdeal.nD) (V0 : Valuation Cert.ReferenceIdeal.τ Cert.ReferenceIdeal.sig (Elt Ideal)) (hz : zarg V0 = arg m c)
    (hf : ∀ b i (j : Fin 17408), j.val < 6144 → ∃ r : ℝ, arg m c b i j = r) : attnR V0 = G9 m c := by
  funext y
  revert y
  intro (y : Cert.ReferenceIdeal.S8x2048x1024.Idx)
  idx_vars y
  have hi : y2 = ⟨(⟨y2.val / 128, by omega⟩ : Fin 8).val * 128 + (⟨y2.val % 128, Nat.mod_lt _ (by decide)⟩ : Fin 128).val, by dsimp only; omega⟩ := Fin.ext (by dsimp only; omega)
  refine (congrArg (fun n => attnR V0 (ix3 y0 y1 n)) hi).trans ?_
  refine (Cert.ReferenceIdeal.Attn.attnR_apply V0 (hz ▸ hf) y0 y1 ⟨y2.val / 128, by omega⟩ ⟨y2.val % 128, Nat.mod_lt _ (by decide)⟩).trans ?_
  rw [hz]
  rfl

theorem G10_eq (c : Dev Cert.KernelIdeal.nD) (V0 : Valuation Cert.ReferenceIdeal.τ Cert.ReferenceIdeal.sig (Elt Ideal)) (hz : zarg V0 = arg m c) :
    cacheR0 (res_main_v10 V0) (res_main_v14 V0) = G10 m c := by
  funext y
  revert y
  intro (y : Cert.ReferenceIdeal.S1x8x2x8x128x128.Idx)
  idx_vars y
  obtain rfl : y0 = 0 := Subsingleton.elim _ _
  refine (Cert.ReferenceIdeal.Attn.cacheR0_apply V0 y1 y2 y3 y4 y5).trans ?_
  rw [hz]
  rfl

theorem G11_eq (c : Dev Cert.KernelIdeal.nD) (V0 : Valuation Cert.ReferenceIdeal.τ Cert.ReferenceIdeal.sig (Elt Ideal)) (hz : zarg V0 = arg m c) :
    cacheR1 (res_main_v61 V0) (res_main_v65 V0) = G11 m c := by
  funext y
  revert y
  intro (y : Cert.ReferenceIdeal.S1x8x2x8x512x128.Idx)
  idx_vars y
  obtain rfl : y0 = 0 := Subsingleton.elim _ _
  refine (Cert.ReferenceIdeal.Attn.cacheR1_apply V0 y1 y2 y3 y4 y5).trans ?_
  rw [hz]
  rfl

theorem G12_eq (c : Dev Cert.KernelIdeal.nD) (V0 : Valuation Cert.ReferenceIdeal.τ Cert.ReferenceIdeal.sig (Elt Ideal)) (hz : zarg V0 = arg m c) :
    cacheR2 (res_main_v112 V0) (res_main_v116 V0) = G12 m c := by
  funext y
  revert y
  intro (y : Cert.ReferenceIdeal.S1x8x2x8x2048x128.Idx)
  idx_vars y
  obtain rfl : y0 = 0 := Subsingleton.elim _ _
  refine (Cert.ReferenceIdeal.Attn.cacheR2_apply V0 y1 y2 y3 y4 y5).trans ?_
  rw [hz]
  rfl

theorem algebraic : Cert.algebraic_KernelIdeal_ReferenceIdeal_pre_finite_qk := by
  intro m ρ m' ρ' hpre hagree
  have hz : ∀ c : Dev Cert.KernelIdeal.nD, zarg (launchContents m' c) = arg m c := fun c => by
    funext b i j
    exact congrFun (hagree c) (ix3 b i j)
  refine ⟨fun c => G9 m c, fun c => G10 m c, fun c => G11 m c, fun c => G12 m c, Cert.KernelIdeal.Attn.run_values m ρ, ?_⟩
  refine (θ_run Cert.ReferenceIdeal.defs _ _).mono (fun r h c => ⟨?_, ?_, ?_, ?_, (h c).2.2.2.2⟩) (Cert.ReferenceIdeal.Value.run (F := Ideal) m' ρ')
  · exact (h c).1.trans ((Cert.ReferenceIdeal.Attn.attnR_eq (launchContents m' c)).trans
      (G9_eq m c (launchContents m' c) (hz c) (Cert.Pre_finite_qk.real_of _ (hpre c))))
  · exact (h c).2.1.trans (G10_eq m c (launchContents m' c) (hz c))
  · exact (h c).2.2.1.trans (G11_eq m c (launchContents m' c) (hz c))
  · exact (h c).2.2.2.1.trans (G12_eq m c (launchContents m' c) (hz c))

end Cert.Attn

end
-- ==== Proof.FfnPay.lean ====
module

public import proofs.«01_k».proof.Proof.Gen.Kernel2Ideal.Value
public import Idealize.ShloMosaic.Lib.Pipeline.ValueKit.Geometry
public import Idealize.ShloMosaic.Lib.Tactic.ValueTie

@[expose] public section

/-! The feed-forward call: what one grid point leaves, element by element. -/

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

/-- One entry of a normalised row: the entry over the root mean square of the row, times the weight. -/
def hid (x ln : Fin 2048 → EReal) (n : Fin 2048) : EReal :=
  x n * Ideal.rsqrt (Ideal.div (∑ k, x k * x k) (Ideal.ofBits .f32 0x45000000#32) + Ideal.ofBits .f32 0x358637BD#32) * ln n

/-- One half, as the kernel writes it. -/
abbrev half : EReal := Ideal.ofBits .f32 0x3F000000#32

/-- One gated entry as the kernel computes it, with the half inside. -/
def gated (h wg wu : Fin 2048 → EReal) : EReal :=
  (half * ∑ k, h k * wg k) * Ideal.logistic (∑ k, h k * wg k) * ∑ k, h k * wu k

theorem band0 (x : FVec Ideal S256x2048 .f32) (ln : FVec Ideal S1x2048 .f32) (wg wu : FVec Ideal S1x2048x256 .f32)
    (wd : FVec Ideal S1x256x2048 .f32) (r : Fin 256) (n : Fin 2048) :
    k0_pay8 (F := Ideal) (k0_pay3 x) (k0_pay6 x ln wg wu) (k0_pay7 wd) (constant S256x2048 .f32 0x00000000#32) (ix2 r n)
      = x (ix2 r n) + ∑ j : Fin 256, gated (hid (fun k => x (ix2 r k)) fun k => ln (ix2 0 k)) (fun k => wg (ix3 0 k j))
          (fun k => wu (ix3 0 k j)) * wd (ix3 0 j n) := by
  unfold k0_pay8 k0_pay6 k0_pay7 k0_pay4 k0_pay3 gated hid
  pointwise

theorem band1 (x : FVec Ideal S256x2048 .f32) (ln : FVec Ideal S1x2048 .f32) (wg wu : FVec Ideal S1x2048x256 .f32)
    (wd : FVec Ideal S1x256x2048 .f32) (r : Fin 256) (n : Fin 2048) :
    k0_pay13 (F := Ideal) (k0_pay9 x) (k0_pay12 x ln wg wu) wd (ix2 r n)
      = x (ix2 r n) + ∑ j : Fin 256, gated (hid (fun k => x (ix2 r k)) fun k => ln (ix2 0 k)) (fun k => wg (ix3 0 k j))
          (fun k => wu (ix3 0 k j)) * wd (ix3 0 j n) := by
  unfold k0_pay13 k0_pay12 k0_pay10 k0_pay9 gated hid
  pointwise

theorem band2 (x : FVec Ideal S256x2048 .f32) (ln : FVec Ideal S1x2048 .f32) (wg wu : FVec Ideal S1x2048x256 .f32)
    (wd : FVec Ideal S1x256x2048 .f32) (r : Fin 256) (n : Fin 2048) :
    k0_pay20 (F := Ideal) (k0_pay14 x) (k0_pay17 x ln wg) (k0_pay18 x ln wu) k0_pay19 wd (ix2 r n)
      = x (ix2 r n) + ∑ j : Fin 256, gated (hid (fun k => x (ix2 r k)) fun k => ln (ix2 0 k)) (fun k => wg (ix3 0 k j))
          (fun k => wu (ix3 0 k j)) * wd (ix3 0 j n) := by
  unfold k0_pay20 k0_pay19 k0_pay18 k0_pay17 k0_pay15 k0_pay14 gated hid
  pointwise

theorem band3 (x : FVec Ideal S256x2048 .f32) (ln : FVec Ideal S1x2048 .f32) (wg wu : FVec Ideal S1x2048x256 .f32)
    (wd : FVec Ideal S1x256x2048 .f32) (r : Fin 256) (n : Fin 2048) :
    k0_pay1 (F := Ideal) (k0_pay21 x) (k0_pay22 x ln) (k0_pay24 x ln wg) wu wd (ix2 r n)
      = x (ix2 r n) + ∑ j : Fin 256, gated (hid (fun k => x (ix2 r k)) fun k => ln (ix2 0 k)) (fun k => wg (ix3 0 k j))
          (fun k => wu (ix3 0 k j)) * wd (ix3 0 j n) := by
  unfold k0_pay1 k0_pay24 k0_pay22 k0_pay21 gated hid
  pointwise

theorem keep0 (x : FVec Ideal S256x2048 .f32) (ln : FVec Ideal S1x2048 .f32) (r : Fin 256) (n : Fin 2048) :
    k0_pay5 (F := Ideal) x ln (ix2 r n) = hid (fun k => x (ix2 r k)) (fun k => ln (ix2 0 k)) n := by
  unfold k0_pay5 k0_pay4 k0_pay3 hid
  pointwise

theorem keep1 (x : FVec Ideal S256x2048 .f32) (ln : FVec Ideal S1x2048 .f32) (r : Fin 256) (n : Fin 2048) :
    k0_pay11 (F := Ideal) x ln (ix2 r n) = hid (fun k => x (ix2 r k)) (fun k => ln (ix2 0 k)) n := by
  unfold k0_pay11 k0_pay10 k0_pay9 hid
  pointwise

theorem keep2 (x : FVec Ideal S256x2048 .f32) (ln : FVec Ideal S1x2048 .f32) (r : Fin 256) (n : Fin 2048) :
    k0_pay16 (F := Ideal) x ln (ix2 r n) = hid (fun k => x (ix2 r k)) (fun k => ln (ix2 0 k)) n := by
  unfold k0_pay16 k0_pay15 k0_pay14 hid
  pointwise

theorem keep3 (x : FVec Ideal S256x2048 .f32) (ln : FVec Ideal S1x2048 .f32) (r : Fin 256) (n : Fin 2048) :
    k0_pay23 (F := Ideal) x ln (ix2 r n) = hid (fun k => x (ix2 r k)) (fun k => ln (ix2 0 k)) n := by
  unfold k0_pay23 k0_pay22 k0_pay21 hid
  pointwise

/-- A later point adds its own hidden columns to the running sum. -/
theorem later (x : FVec Ideal S1024x2048 .f32) (h : FVec Ideal S1024x2048 .bf16) (wg wu : FVec Ideal S1x2048x256 .f32)
    (wd : FVec Ideal S1x256x2048 .f32) (r : Fin 1024) (n : Fin 2048) :
    k0_pay2 (F := Ideal) x h wg wu wd (ix2 r n)
      = x (ix2 r n) + ∑ j : Fin 256, gated (fun k => h (ix2 r k)) (fun k => wg (ix3 0 k j)) (fun k => wu (ix3 0 k j)) * wd (ix3 0 j n) := by
  unfold k0_pay2 gated
  pointwise

/-- The rows a first point leaves in the output block, from its block of rows and weights. -/
def firstOut (x : FVec Ideal S1024x2048 .f32) (ln : FVec Ideal S1x2048 .f32) (wg wu : FVec Ideal S1x2048x256 .f32)
    (wd : FVec Ideal S1x256x2048 .f32) (r : Fin 1024) (n : Fin 2048) : EReal :=
  x (ix2 r n) + ∑ j : Fin 256, gated (hid (fun k => x (ix2 r k)) fun k => ln (ix2 0 k)) (fun k => wg (ix3 0 k j))
    (fun k => wu (ix3 0 k j)) * wd (ix3 0 j n)

/-- The normalised rows a first point keeps for the later ones. -/
def firstKeep (x : FVec Ideal S1024x2048 .f32) (ln : FVec Ideal S1x2048 .f32) (r : Fin 1024) (n : Fin 2048) : EReal :=
  hid (fun k => x (ix2 r k)) (fun k => ln (ix2 0 k)) n

theorem emb_row (o : ℕ) (inb : ∀ a, (![o, 0] : Fin 2 → ℕ) a + (![256, 2048] : Fin 2 → ℕ) a ≤ S1024x2048.size a) (a : Fin 256) (k : Fin 2048) (ho : o + 256 ≤ 1024) :
    (Rect.unit (s := S1024x2048) ![o, 0] ![256, 2048] inb).idx (ix2 a k) = (ix2 ⟨o + a.val, by omega⟩ k : S1024x2048.Idx) := by
  refine funext fun b => Fin.ext ?_
  match b with
  | ⟨0, _⟩ => show o + 1 * a.val = o + a.val; omega
  | ⟨1, _⟩ => show 0 + 1 * k.val = k.val; omega

theorem ld_row (x : FVec Ideal S1024x2048 .f32) (o : ℕ) (inb : ∀ a, (![o, 0] : Fin 2 → ℕ) a + (![256, 2048] : Fin 2 → ℕ) a ≤ S1024x2048.size a) (a : Fin 256) (k : Fin 2048) (ho : o + 256 ≤ 1024) :
    View.ld (Val := Elt Ideal) (e' := .f32) x (Rect.unit (s := S1024x2048) ![o, 0] ![256, 2048] inb) (ix2 a k) = x (ix2 ⟨o + a.val, by omega⟩ k) :=
  congrArg x (emb_row o inb a k ho)

theorem ld_ln (x : FVec Ideal S1x2048 .f32) (inb : ∀ a, (![0, 0] : Fin 2 → ℕ) a + (![1, 2048] : Fin 2 → ℕ) a ≤ S1x2048.size a) :
    View.ld (Val := Elt Ideal) (e' := .f32) x (Rect.unit (s := S1x2048) ![0, 0] ![1, 2048] inb) = x :=
  View.ld_unit_lit (Val := Elt Ideal) (S := S1x2048) (e := .f32) inb x (by decide)

theorem ld_up (x : FVec Ideal S1x2048x256 .f32) (inb : ∀ a, (![0, 0, 0] : Fin 3 → ℕ) a + (![1, 2048, 256] : Fin 3 → ℕ) a ≤ S1x2048x256.size a) :
    View.ld (Val := Elt Ideal) (e' := .f32) x (Rect.unit (s := S1x2048x256) ![0, 0, 0] ![1, 2048, 256] inb) = x :=
  View.ld_unit_lit (Val := Elt Ideal) (S := S1x2048x256) (e := .f32) inb x (by decide)

theorem ld_down (x : FVec Ideal S1x256x2048 .f32) (inb : ∀ a, (![0, 0, 0] : Fin 3 → ℕ) a + (![1, 256, 2048] : Fin 3 → ℕ) a ≤ S1x256x2048.size a) :
    View.ld (Val := Elt Ideal) (e' := .f32) x (Rect.unit (s := S1x256x2048) ![0, 0, 0] ![1, 256, 2048] inb) = x :=
  View.ld_unit_lit (Val := Elt Ideal) (S := S1x256x2048) (e := .f32) inb x (by decide)

theorem ld_out (x : FVec Ideal S1024x2048 .f32) (inb : ∀ a, (![0, 0] : Fin 2 → ℕ) a + (![1024, 2048] : Fin 2 → ℕ) a ≤ S1024x2048.size a) :
    View.ld (Val := Elt Ideal) (e' := .f32) x (Rect.unit (s := S1024x2048) ![0, 0] ![1024, 2048] inb) = x :=
  View.ld_unit_lit (Val := Elt Ideal) (S := S1024x2048) (e := .f32) inb x (by decide)

theorem ld_keep (x : FVec Ideal S1024x2048 .bf16) (inb : ∀ a, (![0, 0] : Fin 2 → ℕ) a + (![1024, 2048] : Fin 2 → ℕ) a ≤ S1024x2048.size a) :
    View.ld (Val := Elt Ideal) (e' := .bf16) x (Rect.unit (s := S1024x2048) ![0, 0] ![1024, 2048] inb) = x :=
  View.ld_unit_lit (Val := Elt Ideal) (S := S1024x2048) (e := .bf16) inb x (by decide)

/-- A band of rows holding what `firstOut` says of it. -/
theorem tie_out (o : ℕ) (inb : ∀ a, (![o, 0] : Fin 2 → ℕ) a + (![256, 2048] : Fin 2 → ℕ) a ≤ S1024x2048.size a) (ho : o + 256 ≤ 1024)
    (x : FVec Ideal S1024x2048 .f32) (ln : FVec Ideal S1x2048 .f32) (wg wu : FVec Ideal S1x2048x256 .f32) (wd : FVec Ideal S1x256x2048 .f32)
    (v : FVec Ideal S256x2048 .f32) (xb : FVec Ideal S256x2048 .f32)
    (hx : ∀ r k, xb (ix2 r k) = x (ix2 ⟨o + r.val, by omega⟩ k))
    (hv : ∀ r n, v (ix2 r n) = xb (ix2 r n) + ∑ j : Fin 256, gated (hid (fun k => xb (ix2 r k)) fun k => ln (ix2 0 k)) (fun k => wg (ix3 0 k j))
        (fun k => wu (ix3 0 k j)) * wd (ix3 0 j n))
    (y : S256x2048.Idx) :
    v y = firstOut x ln wg wu wd ((Rect.unit (s := S1024x2048) ![o, 0] ![256, 2048] inb).emb y 0) ((Rect.unit (s := S1024x2048) ![o, 0] ![256, 2048] inb).emb y 1) := by
  idx_vars y
  refine (hv y0 y1).trans (Eq.trans ?_ (congrArg (fun z : S1024x2048.Idx => firstOut x ln wg wu wd (z 0) (z 1)) (emb_row o inb y0 y1 ho)).symm)
  simp only [hx]
  rfl

/-- A band of rows holding what `firstKeep` says of it. -/
theorem tie_keep (o : ℕ) (inb : ∀ a, (![o, 0] : Fin 2 → ℕ) a + (![256, 2048] : Fin 2 → ℕ) a ≤ S1024x2048.size a) (ho : o + 256 ≤ 1024)
    (x : FVec Ideal S1024x2048 .f32) (ln : FVec Ideal S1x2048 .f32)
    (v : FVec Ideal S256x2048 .bf16) (xb : FVec Ideal S256x2048 .f32)
    (hx : ∀ r k, xb (ix2 r k) = x (ix2 ⟨o + r.val, by omega⟩ k))
    (hv : ∀ r n, v (ix2 r n) = hid (fun k => xb (ix2 r k)) (fun k => ln (ix2 0 k)) n)
    (y : S256x2048.Idx) :
    v y = firstKeep x ln ((Rect.unit (s := S1024x2048) ![o, 0] ![256, 2048] inb).emb y 0) ((Rect.unit (s := S1024x2048) ![o, 0] ![256, 2048] inb).emb y 1) := by
  idx_vars y
  refine (hv y0 y1).trans (Eq.trans ?_ (congrArg (fun z : S1024x2048.Idx => firstKeep x ln (z 0) (z 1)) (emb_row o inb y0 y1 ho)).symm)
  simp only [hx]
  rfl

end Cert.Kernel2Ideal.Ffn

end
-- ==== Proof.FfnPt.lean ====
module

public import proofs.«01_k».proof.Proof.FfnPay

@[expose] public section

/-! The feed-forward call: the contents after one grid point. -/

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

variable (m : (ℓ : Loc nD τ sig) → Buf (Elt Ideal) ℓ)

theorem outsA_fst (c : Dev nD) (t : Fin cfg0.N) (h0 : t.val % 22 = 0) (h1 : ¬1 ≤ t.val % 22) (r : Fin 1024) (n : Fin 2048) :
    (outsAt0 m c t.val t.isLt).1 (ix2 r n) = firstOut (iblk m c 0 t) (iblk m c 1 t) (iblk m c 2 t) (iblk m c 3 t) (iblk m c 4 t) r n := by
  rw [outsAt0_A m c t h0 h1]
  have hc := cover0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t) (ix2 r n)
  unfold out0_A_5
  dsimp only
  rw [View.read_writes_apply_eq_canon _ _ _ _ hc]
  refine View.canon_apply_of_pieces (Val := Elt Ideal) (fun y : S1024x2048.Idx => firstOut (iblk m c 0 t) (iblk m c 1 t) (iblk m c 2 t) (iblk m c 3 t) (iblk m c 4 t) (y 0) (y 1)) _ ?_ (ix2 r n) hc
  clear hc
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.cst_22, View.readAt_eq_ld, Memref.IsWhole.read_unread, List.forall_mem_cons, List.forall_mem_nil]
  refine ⟨tie_out 768 _ (by decide) (iblk m c 0 t) (iblk m c 1 t) (iblk m c 2 t) (iblk m c 3 t) (iblk m c 4 t) _ (View.ld (Val := Elt Ideal) (e' := .f32) (S := S1024x2048) (iblk m c 0 t) (Rect.unit ![768, 0] ![256, 2048] inb_S1024x2048_S256x2048_768_0)) (fun r k => ld_row _ _ _ r k (by decide)) (fun r n => ?_),
    tie_out 512 _ (by decide) (iblk m c 0 t) (iblk m c 1 t) (iblk m c 2 t) (iblk m c 3 t) (iblk m c 4 t) _ (View.ld (Val := Elt Ideal) (e' := .f32) (S := S1024x2048) (iblk m c 0 t) (Rect.unit ![512, 0] ![256, 2048] inb_S1024x2048_S256x2048_512_0)) (fun r k => ld_row _ _ _ r k (by decide)) (fun r n => ?_),
    tie_out 256 _ (by decide) (iblk m c 0 t) (iblk m c 1 t) (iblk m c 2 t) (iblk m c 3 t) (iblk m c 4 t) _ (View.ld (Val := Elt Ideal) (e' := .f32) (S := S1024x2048) (iblk m c 0 t) (Rect.unit ![256, 0] ![256, 2048] inb_S1024x2048_S256x2048_256_0)) (fun r k => ld_row _ _ _ r k (by decide)) (fun r n => ?_),
    tie_out 0 _ (by decide) (iblk m c 0 t) (iblk m c 1 t) (iblk m c 2 t) (iblk m c 3 t) (iblk m c 4 t) _ (View.ld (Val := Elt Ideal) (e' := .f32) (S := S1024x2048) (iblk m c 0 t) (Rect.unit ![0, 0] ![256, 2048] inb_S1024x2048_S256x2048_0_0)) (fun r k => ld_row _ _ _ r k (by decide)) (fun r n => ?_), fun p hp => absurd hp List.not_mem_nil⟩
  · rw [ld_ln, ld_up, ld_up, ld_down]; exact band3 _ _ _ _ _ r n
  · rw [ld_ln, ld_up, ld_up, ld_down]; exact band2 _ _ _ _ _ r n
  · rw [ld_ln, ld_up, ld_up, ld_down]; exact band1 _ _ _ _ _ r n
  · rw [ld_ln, ld_up, ld_up, ld_down]; exact band0 _ _ _ _ _ r n

theorem outsA_snd (c : Dev nD) (t : Fin cfg0.N) (h0 : t.val % 22 = 0) (h1 : ¬1 ≤ t.val % 22) (r : Fin 1024) (n : Fin 2048) :
    (outsAt0 m c t.val t.isLt).2 (ix2 r n) = firstKeep (iblk m c 0 t) (iblk m c 1 t) r n := by
  rw [outsAt0_A m c t h0 h1]
  have hc := scover0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t) (ix2 r n)
  unfold sout0_A_0
  dsimp only
  rw [View.read_writes_apply_eq_canon _ _ _ _ hc]
  refine View.canon_apply_of_pieces (Val := Elt Ideal) (fun y : S1024x2048.Idx => firstKeep (iblk m c 0 t) (iblk m c 1 t) (y 0) (y 1)) _ ?_ (ix2 r n) hc
  clear hc
  unfold kernelRun0_A
  dsimp only
  simp only [View.readAt_eq_ld, Memref.IsWhole.read_unread, List.forall_mem_cons]
  refine ⟨tie_keep 768 _ (by decide) (iblk m c 0 t) (iblk m c 1 t) _ (View.ld (Val := Elt Ideal) (e' := .f32) (S := S1024x2048) (iblk m c 0 t) (Rect.unit ![768, 0] ![256, 2048] inb_S1024x2048_S256x2048_768_0)) (fun r k => ld_row _ _ _ r k (by decide)) (fun r n => ?_),
    tie_keep 512 _ (by decide) (iblk m c 0 t) (iblk m c 1 t) _ (View.ld (Val := Elt Ideal) (e' := .f32) (S := S1024x2048) (iblk m c 0 t) (Rect.unit ![512, 0] ![256, 2048] inb_S1024x2048_S256x2048_512_0)) (fun r k => ld_row _ _ _ r k (by decide)) (fun r n => ?_),
    tie_keep 256 _ (by decide) (iblk m c 0 t) (iblk m c 1 t) _ (View.ld (Val := Elt Ideal) (e' := .f32) (S := S1024x2048) (iblk m c 0 t) (Rect.unit ![256, 0] ![256, 2048] inb_S1024x2048_S256x2048_256_0)) (fun r k => ld_row _ _ _ r k (by decide)) (fun r n => ?_),
    tie_keep 0 _ (by decide) (iblk m c 0 t) (iblk m c 1 t) _ (View.ld (Val := Elt Ideal) (e' := .f32) (S := S1024x2048) (iblk m c 0 t) (Rect.unit ![0, 0] ![256, 2048] inb_S1024x2048_S256x2048_0_0)) (fun r k => ld_row _ _ _ r k (by decide)) (fun r n => ?_), fun p hp => absurd hp List.not_mem_nil⟩
  · rw [ld_ln]; exact keep3 _ _ r n
  · rw [ld_ln]; exact keep2 _ _ r n
  · rw [ld_ln]; exact keep1 _ _ r n
  · rw [ld_ln]; exact keep0 _ _ r n

theorem outsB_snd (c : Dev nD) (t : Fin cfg0.N) (h0 : ¬t.val % 22 = 0) (h1 : 1 ≤ t.val % 22) :
    (outsAt0 m c t.val t.isLt).2 = (outsAt0 m c (t.val - 1) (Nat.lt_of_le_of_lt (Nat.sub_le _ _) t.isLt)).2 := by
  rw [outsAt0_B m c t h0 h1]
  unfold sout0_B_0
  rfl

theorem outsB_fst (c : Dev nD) (t : Fin cfg0.N) (h0 : ¬t.val % 22 = 0) (h1 : 1 ≤ t.val % 22) (r : Fin 1024) (n : Fin 2048) :
    (outsAt0 m c t.val t.isLt).1 (ix2 r n)
      = k0_pay2 (F := Ideal) (outsAt0 m c (t.val - 1) (Nat.lt_of_le_of_lt (Nat.sub_le _ _) t.isLt)).1 (outsAt0 m c (t.val - 1) (Nat.lt_of_le_of_lt (Nat.sub_le _ _) t.isLt)).2 (iblk m c 2 t) (iblk m c 3 t) (iblk m c 4 t) (ix2 r n) := by
  rw [outsAt0_B m c t h0 h1]
  generalize outsAt0 m c (t.val - 1) (Nat.lt_of_le_of_lt (Nat.sub_le _ _) t.isLt) = o
  have hc := cover0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) o.1 o.2 (ix2 r n)
  unfold out0_B_5
  dsimp only
  rw [View.read_writes_apply_eq_canon _ _ _ _ hc]
  clear hc
  unfold kernelRun0_B
  dsimp only
  simp only [View.readAt_eq_ld, Memref.IsWhole.read_unread]
  rw [ld_out, ld_up, ld_up, ld_down]
  refine (congrFun (View.canon_cons_unit_lit (Val := Elt Ideal) (S := S1024x2048) (e := .f32) _ _ [] (by decide)) (ix2 r n)).trans ?_
  refine congrArg (fun h => k0_pay2 (F := Ideal) o.1 h (iblk m c 2 t) (iblk m c 3 t) (iblk m c 4 t) (ix2 r n)) ?_
  exact (congrArg (fun z => View.ld z _) ((Memref.isWhole_whole cc0_scratch0).read_unread o.2)).trans (ld_keep o.2 _)

end Cert.Kernel2Ideal.Ffn

end
-- ==== Proof.FfnVal.lean ====
module

public import proofs.«01_k».proof.Proof.FfnPt

@[expose] public section

/-! The feed-forward call: the running sum over the hidden columns, and the array the call leaves. -/

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

/-- The normalised row `R`. -/
def hidRow (X : FVec Ideal S16384x2048 .f32) (LN : FVec Ideal S1x2048 .f32) (R : Fin 16384) : Fin 2048 → EReal :=
  hid (fun k => X (ix2 R k)) (fun k => LN (ix2 0 k))

/-- What hidden column `k` adds to entry `(R, n)`. -/
def term (X : FVec Ideal S16384x2048 .f32) (LN : FVec Ideal S1x2048 .f32) (WG WU : FVec Ideal S1x2048x5632 .f32)
    (WD : FVec Ideal S1x5632x2048 .f32) (R : Fin 16384) (n : Fin 2048) (k : ℕ) : EReal :=
  if h : k < 5632 then gated (hidRow X LN R) (fun a => WG (ix3 0 a ⟨k, h⟩)) (fun a => WU (ix3 0 a ⟨k, h⟩)) * WD (ix3 0 ⟨k, h⟩ n) else 0

variable (m : (ℓ : Loc nD τ sig) → Buf (Elt Ideal) ℓ)

abbrev aX (c : Dev nD) : FVec Ideal S16384x2048 .f32 := V m c main_v0
abbrev aLN (c : Dev nD) : FVec Ideal S1x2048 .f32 := V m c main_v2
abbrev aWG (c : Dev nD) : FVec Ideal S1x2048x5632 .f32 := V m c main_arg2
abbrev aWU (c : Dev nD) : FVec Ideal S1x2048x5632 .f32 := V m c main_arg3
abbrev aWD (c : Dev nD) : FVec Ideal S1x5632x2048 .f32 := V m c main_arg4

theorem lt_N (t : Fin cfg0.N) : t.val < 352 := lt_of_lt_of_eq t.isLt N_0

/-- The row of the whole array that row `r` of the block at point `t` is. -/
abbrev rowAt (t : ℕ) (ht : t < 352) (r : Fin 1024) : Fin 16384 := ⟨1024 * (t / 22) + r.val, by omega⟩

theorem ix_0 : ∀ t : Fin cfg0.N, win0_0.index t = ![t.val / 22, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0, t.val % 22] := (by decide +kernel : ∀ t : Fin grid0.N, _)
theorem ix_3 : ∀ t : Fin cfg0.N, win0_3.index t = ![0, 0, t.val % 22] := (by decide +kernel : ∀ t : Fin grid0.N, _)
theorem ix_4 : ∀ t : Fin cfg0.N, win0_4.index t = ![0, t.val % 22, 0] := (by decide +kernel : ∀ t : Fin grid0.N, _)
theorem ix_5 : ∀ t : Fin cfg0.N, win0_5.index t = ![t.val / 22, 0] := (by decide +kernel : ∀ t : Fin grid0.N, _)

theorem in0 (c : Dev nD) (t : Fin cfg0.N) (r : Fin 1024) (k : Fin 2048) :
    iblk m c 0 t (ix2 r k : S1024x2048.Idx) = aX m c (ix2 (rowAt t.val (lt_N t) r) k) := by
  unfold iblk
  refine congrArg (V m c main_v0) (?_ : ((win0_0.blk t).view.emb (ix2 r k : S1024x2048.Idx) : S16384x2048.Idx) = _)
  blk_ext [ix_0]

theorem in1 (c : Dev nD) (t : Fin cfg0.N) (k : Fin 2048) :
    iblk m c 1 t (ix2 0 k : S1x2048.Idx) = aLN m c (ix2 0 k) := by
  unfold iblk
  refine congrArg (V m c main_v2) (?_ : ((win0_1.blk t).view.emb (ix2 0 k : S1x2048.Idx) : S1x2048.Idx) = _)
  blk_ext [ix_1]

theorem in2 (c : Dev nD) (t : Fin cfg0.N) (k : Fin 2048) (j : Fin 256) (h : 256 * (t.val % 22) + j.val < 5632) :
    iblk m c 2 t (ix3 0 k j : S1x2048x256.Idx) = aWG m c (ix3 0 k ⟨256 * (t.val % 22) + j.val, h⟩) := by
  unfold iblk
  refine congrArg (V m c main_arg2) (?_ : ((win0_2.blk t).view.emb (ix3 0 k j : S1x2048x256.Idx) : S1x2048x5632.Idx) = _)
  blk_ext [ix_2]

theorem in3 (c : Dev nD) (t : Fin cfg0.N) (k : Fin 2048) (j : Fin 256) (h : 256 * (t.val % 22) + j.val < 5632) :
    iblk m c 3 t (ix3 0 k j : S1x2048x256.Idx) = aWU m c (ix3 0 k ⟨256 * (t.val % 22) + j.val, h⟩) := by
  unfold iblk
  refine congrArg (V m c main_arg3) (?_ : ((win0_3.blk t).view.emb (ix3 0 k j : S1x2048x256.Idx) : S1x2048x5632.Idx) = _)
  blk_ext [ix_3]

theorem in4 (c : Dev nD) (t : Fin cfg0.N) (j : Fin 256) (n : Fin 2048) (h : 256 * (t.val % 22) + j.val < 5632) :
    iblk m c 4 t (ix3 0 j n : S1x256x2048.Idx) = aWD m c (ix3 0 ⟨256 * (t.val % 22) + j.val, h⟩ n) := by
  unfold iblk
  refine congrArg (V m c main_arg4) (?_ : ((win0_4.blk t).view.emb (ix3 0 j n : S1x256x2048.Idx) : S1x5632x2048.Idx) = _)
  blk_ext [ix_4]

/-- The sum a point adds, over its own 256 hidden columns. -/
theorem point_sum (c : Dev nD) (t : Fin cfg0.N) (R : Fin 16384) (n : Fin 2048) (h : Fin 2048 → EReal) (hh : h = hidRow (aX m c) (aLN m c) R) :
    (∑ j : Fin 256, gated h (fun k => iblk m c 2 t (ix3 0 k j : S1x2048x256.Idx)) (fun k => iblk m c 3 t (ix3 0 k j : S1x2048x256.Idx)) * iblk m c 4 t (ix3 0 j n : S1x256x2048.Idx) : EReal)
      = ∑ j ∈ Finset.range 256, term (aX m c) (aLN m c) (aWG m c) (aWU m c) (aWD m c) R n (256 * (t.val % 22) + j) := by
  subst hh
  rw [Finset.sum_range]
  refine Finset.sum_congr rfl fun j _ => ?_
  have hj : 256 * (t.val % 22) + j.val < 5632 := by omega
  unfold term
  rw [dif_pos hj, in4 m c t j n hj]
  refine congrArg (· * _) ?_
  refine congrArg₂ (gated _) (funext fun k => in2 m c t k j hj) (funext fun k => in3 m c t k j hj)

/-- The contents after point `t`: the output block holds the input plus the terms of the hidden columns met so far,
    the kept block the normalised rows. -/
def Inv (c : Dev nD) (t : ℕ) (ht : t < cfg0.N) : Prop :=
  ∀ (r : Fin 1024) (n : Fin 2048),
    (outsAt0 m c t ht).1 (ix2 r n) = aX m c (ix2 (rowAt t (lt_N ⟨t, ht⟩) r) n)
      + ∑ k ∈ Finset.range (256 * (t % 22 + 1)), term (aX m c) (aLN m c) (aWG m c) (aWU m c) (aWD m c) (rowAt t (lt_N ⟨t, ht⟩) r) n k
    ∧ (outsAt0 m c t ht).2 (ix2 r n) = hidRow (aX m c) (aLN m c) (rowAt t (lt_N ⟨t, ht⟩) r) n

theorem inv_first (c : Dev nD) (t : Fin cfg0.N) (h0 : t.val % 22 = 0) : Inv m c t.val t.isLt := by
  intro r n
  have h1 : ¬1 ≤ t.val % 22 := by omega
  have hr : ∀ k : Fin 2048, iblk m c 0 t (ix2 r k : S1024x2048.Idx) = aX m c (ix2 (rowAt t.val (lt_N t) r) k) := fun k => in0 m c t r k
  have hrow : hid (fun k => iblk m c 0 t (ix2 r k : S1024x2048.Idx)) (fun k => iblk m c 1 t (ix2 0 k : S1x2048.Idx)) = hidRow (aX m c) (aLN m c) (rowAt t.val (lt_N t) r) :=
    congrArg₂ hid (funext fun k => in0 m c t r k) (funext fun k => in1 m c t k)
  refine ⟨(outsA_fst m c t h0 h1 r n).trans ?_, (outsA_snd m c t h0 h1 r n).trans (congrFun hrow n)⟩
  unfold firstOut
  refine congrArg₂ (fun a b : EReal => a + b) (hr n) ?_
  rw [point_sum m c t _ n _ hrow]
  simp only [h0, Nat.mul_zero, Nat.zero_add, Nat.mul_one]

theorem inv_later (c : Dev nD) (t : Fin cfg0.N) (h0 : ¬t.val % 22 = 0)
    (ih : Inv m c (t.val - 1) (Nat.lt_of_le_of_lt (Nat.sub_le _ _) t.isLt)) : Inv m c t.val t.isLt := by
  intro r n
  have h1 : 1 ≤ t.val % 22 := by omega
  have hR : rowAt (t.val - 1) (lt_N ⟨t.val - 1, Nat.lt_of_le_of_lt (Nat.sub_le _ _) t.isLt⟩) r = rowAt t.val (lt_N t) r := Fin.ext (by show 1024 * ((t.val - 1) / 22) + r.val = 1024 * (t.val / 22) + r.val; omega)
  have hq : 256 * ((t.val - 1) % 22 + 1) = 256 * (t.val % 22) := by omega
  unfold Inv at ih
  rw [outsB_snd m c t h0 h1]
  refine ⟨?_, (ih r n).2.trans (congrFun (congrArg (hidRow (aX m c) (aLN m c)) hR) n)⟩
  refine (outsB_fst m c t h0 h1 r n).trans ((later _ _ _ _ _ r n).trans ?_)
  rw [point_sum m c t (rowAt t.val (lt_N t) r) n _ (funext fun k => (ih r k).2.trans (congrFun (congrArg (hidRow (aX m c) (aLN m c)) hR) k)), (ih r n).1, hR, hq,
    show 256 * (t.val % 22 + 1) = 256 * (t.val % 22) + 256 from by omega, Finset.sum_range_add, add_assoc]

theorem inv (c : Dev nD) : ∀ (t : ℕ) (ht : t < cfg0.N), Inv m c t ht
  | 0, ht => inv_first m c ⟨0, ht⟩ rfl
  | t + 1, ht => by
    by_cases h : (t + 1) % 22 = 0
    · exact inv_first m c ⟨t + 1, ht⟩ h
    · exact inv_later m c ⟨t + 1, ht⟩ h (inv c t _)

/-- The array the call leaves. -/
def G (c : Dev nD) : FVec Ideal S16384x2048 .f32 := fun y =>
  aX m c (ix2 (y 0) (y 1)) + ∑ k ∈ Finset.range 5632, term (aX m c) (aLN m c) (aWG m c) (aWU m c) (aWD m c) (y 0) (y 1) k

theorem emb5 (t : Fin cfg0.N) (r : Fin 1024) (n : Fin 2048) :
    (win0_5.blk t).view.emb (ix2 r n : S1024x2048.Idx) = (ix2 (rowAt t.val (lt_N t) r) n : S16384x2048.Idx) := by
  blk_ext [ix_5]

theorem flush_last : ∀ t : Fin cfg0.N, (cfg0.win 5).flush t = true → t.val % 22 = 21 := (by decide +kernel : ∀ t : Fin grid0.N, (cfg0.win 5).flush t = true → t.val % 22 = 21)

theorem arr_eq (c : Dev nD) : (dats m 0 c).arrAt 5 cfg0.N = G m c := by
  refine (dats m 0 c).arrAt_eq_of_covers 5 (G m c) (by decide +kernel) fun t hf y => ?_
  blk_simp
  rw [after0_5]
  revert y
  intro (y : S1024x2048.Idx)
  idx_vars y
  refine ((inv m c t.val t.isLt y0 y1).1).trans (Eq.trans ?_ (congrArg (G m c) (emb5 t y0 y1)).symm)
  rw [flush_last t hf]
  rfl

end Cert.Kernel2Ideal.Ffn

end
-- ==== Proof.FfnRef.lean ====
module

public import proofs.«01_k».proof.Proof.Gen.Reference2Ideal.Run
public import Idealize.ShloMosaic.Lib.Tactic.ValueTie

@[expose] public section

/-! The feed-forward reference, read element by element. -/

set_option maxRecDepth 16384

noncomputable section

namespace Cert.Reference2Ideal.Ffn

open Cert.Reference2Ideal Cert.Reference2Ideal.Gen
open Idealize.ShloMosaic Idealize.ShloMosaic.TcCoe Idealize.ShloMosaic.Tactic

/-- The normalised rows. -/
def norm (x : FVec Ideal S8x2048x2048 .f32) (ln : FVec Ideal S1x2048 .f32) : FVec Ideal S8x2048x2048 .f32 :=
  mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ ln shapeCasts_S1x2048_S2048)))

/-- One of the two products with an upward weight. -/
def up (h : FVec Ideal S8x2048x2048 .f32) (w : FVec Ideal S1x2048x5632 .f32) : FVec Ideal S8x2048x5632 .f32 :=
  Host.dotGeneral dot_S8x2048x2048_S2048x5632_S8x2048x5632_2_0_01_1_n_n none h (shapeCast _ w shapeCasts_S1x2048x5632_S2048x5632)

/-- The gated hidden columns. -/
def gate (g u : FVec Ideal S8x2048x5632 .f32) : FVec Ideal S8x2048x5632 .f32 :=
  mulf (mulf g (Host.divf (broadcastInDim S8x2048x5632 ![] bcast_S_S8x2048x5632 (constant S_ .f32 0x3F800000#32)) (addf (broadcastInDim S8x2048x5632 ![] bcast_S_S8x2048x5632 (constant S_ .f32 0x3F800000#32)) (Host.exp (Host.negf g))))) u

/-- The input plus half the downward product. -/
def down (x : FVec Ideal S8x2048x2048 .f32) (a : FVec Ideal S8x2048x5632 .f32) (wd : FVec Ideal S1x5632x2048 .f32) : FVec Ideal S16384x2048 .f32 :=
  shapeCast _ (addf x (mulf (broadcastInDim S8x2048x2048 ![] bcast_S_S8x2048x2048 (constant S_ .f32 0x3F000000#32)) (Host.dotGeneral dot_S8x2048x5632_S5632x2048_S8x2048x2048_2_0_01_1_n_n none a (shapeCast _ wd shapeCasts_S1x5632x2048_S5632x2048)))) shapeCasts_S8x2048x2048_S16384x2048

theorem norm_apply (x : FVec Ideal S8x2048x2048 .f32) (ln : FVec Ideal S1x2048 .f32) (b : Fin 8) (i n : Fin 2048) :
    norm x ln (ix3 b i n) = x (ix3 b i n) * Ideal.rsqrt (Ideal.div (∑ k, x (ix3 b i k) * x (ix3 b i k)) (Ideal.ofBits .f32 0x45000000#32) + Ideal.ofBits .f32 0x358637BD#32) * ln (ix2 0 n) := by
  unfold norm
  pointwise

theorem up_apply (h : FVec Ideal S8x2048x2048 .f32) (w : FVec Ideal S1x2048x5632 .f32) (b : Fin 8) (i : Fin 2048) (n : Fin 5632) :
    up h w (ix3 b i n) = ∑ k, h (ix3 b i k) * w (ix3 0 k n) := by
  unfold up
  pointwise

theorem gate_apply (g u : FVec Ideal S8x2048x5632 .f32) (b : Fin 8) (i : Fin 2048) (n : Fin 5632) :
    gate g u (ix3 b i n) = g (ix3 b i n) * Ideal.logistic (g (ix3 b i n)) * u (ix3 b i n) := by
  unfold gate Ideal.logistic
  pointwise

theorem down_apply (x : FVec Ideal S8x2048x2048 .f32) (a : FVec Ideal S8x2048x5632 .f32) (wd : FVec Ideal S1x5632x2048 .f32) (R : Fin 16384) (n : Fin 2048) :
    down x a wd (ix2 R n) = x (ix3 ⟨R.val / 2048, by omega⟩ ⟨R.val % 2048, by omega⟩ n)
      + Ideal.ofBits .f32 0x3F000000#32 * ∑ k, a (ix3 ⟨R.val / 2048, by omega⟩ ⟨R.val % 2048, by omega⟩ k) * wd (ix3 0 k n) := by
  unfold down
  pointwise

end Cert.Reference2Ideal.Ffn

end
-- ==== Proof.FfnAlg.lean ====
module

public import proofs.«01_k».proof.Proof.FfnVal
public import proofs.«01_k».proof.Proof.FfnRef
public import proofs.«01_k».proof.Defs

@[expose] public section

/-! The feed-forward call's result is the reference's. -/

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

variable (m : (ℓ : Loc nD τ sig) → Buf (Elt Ideal) ℓ)

theorem V_v0 (c : Dev nD) : V m c main_v0 = shapeCast S16384x2048 (m ((c : Thread nD τ).loc main_arg0)) shapeCasts_S8x2048x2048_S16384x2048 := by
  simp only [V, hostOps0]
  after_results_simp <;> rfl

theorem V_v2 (c : Dev nD) : V m c main_v2 = shapeCast S1x2048 (shapeCast S2048 (m ((c : Thread nD τ).loc main_arg1)) shapeCasts_S1x2048_S2048) shapeCasts_S2048_S1x2048 := by
  simp only [V, hostOps0]
  after_results_simp <;> rfl

theorem flat_rows (x : FVec Ideal S8x2048x2048 .f32) (R : Fin 16384) (n : Fin 2048) :
    shapeCast S16384x2048 x shapeCasts_S8x2048x2048_S16384x2048 (ix2 R n) = x (ix3 ⟨R.val / 2048, by omega⟩ ⟨R.val % 2048, by omega⟩ n) := by
  pointwise

theorem flat_weight (x : FVec Ideal S1x2048 .f32) (n : Fin 2048) :
    shapeCast S1x2048 (shapeCast S2048 x shapeCasts_S1x2048_S2048) shapeCasts_S2048_S1x2048 (ix2 0 n) = x (ix2 0 n) := by
  pointwise

theorem aX_apply (c : Dev nD) (x : FVec Ideal S8x2048x2048 .f32) (hx : x = m ((c : Thread nD τ).loc main_arg0)) (R : Fin 16384) (n : Fin 2048) :
    aX m c (ix2 R n) = x (ix3 ⟨R.val / 2048, by omega⟩ ⟨R.val % 2048, by omega⟩ n) := by
  refine (congrFun (V_v0 m c) (ix2 R n)).trans ?_
  rw [← hx]
  exact flat_rows x R n

theorem aLN_apply (c : Dev nD) (x : FVec Ideal S1x2048 .f32) (hx : x = m ((c : Thread nD τ).loc main_arg1)) (n : Fin 2048) :
    aLN m c (ix2 0 n) = x (ix2 0 n) := by
  refine (congrFun (V_v2 m c) (ix2 0 n)).trans ?_
  rw [← hx]
  exact flat_weight x n

theorem half_real : ∃ r : ℝ, 0 ≤ r ∧ half = (r : EReal) := by
  simp only [half, Ideal.ofBits, Ideal.ieee]
  rw [if_neg (by decide), if_neg (by decide), if_neg (by decide)]
  exact ⟨_, by positivity, rfl⟩

/-- One half times a finite sum is the sum of the halves. -/
theorem half_mul_sum {ι : Type} (s : Finset ι) (f : ι → EReal) : half * ∑ k ∈ s, f k = ∑ k ∈ s, half * f k := by
  classical
  obtain ⟨r, hr, e⟩ := half_real
  rw [e]
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

end Cert.Kernel2Ideal.Ffn

namespace Cert.FfnTie

open Idealize.ShloMosaic Idealize.ShloMosaic.TcCoe Idealize.ShloMosaic.Tactic Idealize.SL Idealize.SL.Sem
open Cert.Kernel2Ideal.Ffn (G aX aLN aWG aWU aWD half half_mul_sum hid hidRow gated term aX_apply aLN_apply)
open Cert.Reference2Ideal.Ffn (norm up gate down norm_apply up_apply gate_apply down_apply)

variable (m : (ℓ : Loc Cert.Kernel2Ideal.nD Cert.Kernel2Ideal.τ Cert.Kernel2Ideal.sig) → Buf (Elt Ideal) ℓ)

theorem result_eq (c : Dev Cert.Kernel2Ideal.nD)
    (x : FVec Ideal Cert.Reference2Ideal.S8x2048x2048 .f32) (hx : x = m ((c.tc : Thread Cert.Kernel2Ideal.nD Cert.Kernel2Ideal.τ).loc Cert.Kernel2Ideal.main_arg0))
    (ln : FVec Ideal Cert.Reference2Ideal.S1x2048 .f32) (hln : ln = m ((c.tc : Thread Cert.Kernel2Ideal.nD Cert.Kernel2Ideal.τ).loc Cert.Kernel2Ideal.main_arg1))
    (wg wu : FVec Ideal Cert.Reference2Ideal.S1x2048x5632 .f32) (hwg : wg = m ((c.tc : Thread Cert.Kernel2Ideal.nD Cert.Kernel2Ideal.τ).loc Cert.Kernel2Ideal.main_arg2))
    (hwu : wu = m ((c.tc : Thread Cert.Kernel2Ideal.nD Cert.Kernel2Ideal.τ).loc Cert.Kernel2Ideal.main_arg3))
    (wd : FVec Ideal Cert.Reference2Ideal.S1x5632x2048 .f32) (hwd : wd = m ((c.tc : Thread Cert.Kernel2Ideal.nD Cert.Kernel2Ideal.τ).loc Cert.Kernel2Ideal.main_arg4)) :
    down x (gate (up (norm x ln) wg) (up (norm x ln) wu)) wd = G m c := by
  funext y
  revert y
  intro (y : Cert.Reference2Ideal.S16384x2048.Idx)
  idx_vars y
  generalize y0 = R
  generalize y1 = n
  have eg : aWG m c = wg := (Cert.Kernel2Ideal.Gen.V_main_arg2 m c).trans hwg.symm
  have eu : aWU m c = wu := (Cert.Kernel2Ideal.Gen.V_main_arg3 m c).trans hwu.symm
  have ed : aWD m c = wd := (Cert.Kernel2Ideal.Gen.V_main_arg4 m c).trans hwd.symm
  refine (down_apply x _ wd R n).trans ?_
  show _ = aX m c (ix2 R n) + ∑ k ∈ Finset.range 5632, term (aX m c) (aLN m c) (aWG m c) (aWU m c) (aWD m c) R n k
  rw [aX_apply m c x hx R n, Finset.sum_range, half_mul_sum]
  refine congrArg (_ + ·) (Finset.sum_congr rfl fun k _ => ?_)
  have hrow : hidRow (aX m c) (aLN m c) R = fun i => norm x ln (ix3 ⟨R.val / 2048, by omega⟩ ⟨R.val % 2048, by omega⟩ i) := by
    funext i
    rw [norm_apply]
    unfold hidRow hid
    simp only [aX_apply m c x hx, aLN_apply m c ln hln]
  unfold term
  rw [dif_pos k.isLt, hrow, eg, eu, ed, gate_apply, up_apply, up_apply]
  unfold gated
  simp only [mul_assoc]

theorem algebraic : Cert.algebraic_Kernel2Ideal_Reference2Ideal := by
  intro m ρ m' ρ' _ hagree
  refine ⟨fun c => G m c, (θ_run Cert.Kernel2Ideal.defs _ _).mono (fun _ h c => ⟨(h c).1.trans (Cert.Kernel2Ideal.Ffn.arr_eq m c), (h c).2⟩) (Cert.Kernel2Ideal.Value.run_blocks (F := Ideal) m ρ), ?_⟩
  refine (θ_run Cert.Reference2Ideal.defs _ _).mono (fun _ h c => ⟨(h c).1.trans ?_, (h c).2⟩) (Cert.Reference2Ideal.Value.run (F := Ideal) m' ρ')
  exact result_eq m c _ (hagree c).1 _ (hagree c).2.1 _ _ (hagree c).2.2.1 (hagree c).2.2.2.1 _ (hagree c).2.2.2.2

end Cert.FfnTie

end
-- ==== Proof.MergeVal.lean ====
module

public import proofs.«01_k».proof.Proof.Gen.Kernel3Ideal.Value
public import Idealize.ShloMosaic.Lib.Pipeline.ValueKit.Geometry
public import Idealize.ShloMosaic.Lib.Tactic.ValueTie

@[expose] public section

/-! The gated merge of the attention and recurrent branches: what the call leaves, element by element. -/

set_option maxRecDepth 16384

noncomputable section

namespace Cert.Kernel3Ideal.Merge

open Cert.Kernel3Ideal Cert.Kernel3Ideal.Gen
open Idealize.ShloMosaic Idealize.ShloMosaic.TcCoe Idealize.ShloMosaic.Tactic

/-- One column of the gated sum of the two branches' products. -/
def gated (a : Fin 1024 → EReal) (u ga gr : Fin 2048 → EReal) (wa : Fin 1024 → Fin 2048 → EReal) (wr : Fin 2048 → Fin 2048 → EReal) (k : Fin 2048) : EReal :=
  Ideal.logistic (ga k) * (∑ i, a i * wa i k) + Ideal.logistic (gr k) * ∑ i, u i * wr i k

/-- One entry of the result's row. -/
def mrow (x : Fin 2048 → EReal) (a : Fin 1024 → EReal) (u ga gr : Fin 2048 → EReal) (wa : Fin 1024 → Fin 2048 → EReal) (wr wo : Fin 2048 → Fin 2048 → EReal) (n : Fin 2048) : EReal :=
  x n + ∑ k, gated a u ga gr wa wr k * wo k n

/-- Two half rows side by side. -/
def joined (a b : Fin 1024 → EReal) (k : Fin 2048) : EReal := if h : k.val < 1024 then a ⟨k.val, h⟩ else b ⟨k.val - 1024, by omega⟩

/-- Two blocks side by side. -/
abbrev cat (a b : FVec Ideal S256x1024 .f32) : FVec Ideal S256x2048 .f32 := concatenate S256x2048 1 [⟨S256x1024, a⟩, ⟨S256x1024, b⟩] concatenates_S256x1024_S256x1024_S256x2048_d1

theorem cat_apply (a b : FVec Ideal S256x1024 .f32) (r : Fin 256) (k : Fin 2048) : cat a b (ix2 r k) = joined (fun k => a (ix2 r k)) (fun k => b (ix2 r k)) k := by
  unfold joined
  pointwise

/-- The body's store with its joined blocks named. -/
def pay (a : FVec Ideal S256x1024 .bf16) (wa : FVec Ideal S1024x2048 .bf16) (u : FVec Ideal S256x2048 .bf16) (wr : FVec Ideal S2048x2048 .bf16) (ga gr x : FVec Ideal S256x2048 .f32)
    (wo : FVec Ideal S2048x2048 .bf16) : FVec Ideal S256x2048 .f32 :=
  addf x (matmul dot_S256x2048_S2048x2048_S256x2048_1_0_0_1_n_n none
    (truncf .bf16 (addf (mulf (logistic ga) (matmul dot_S256x1024_S1024x2048_S256x2048_1_0_0_1_n_n none a (shapeCast S1024x2048 wa shapeCasts_S1024x2048_S1024x2048) (constant S256x2048 .f32 0x00000000#32)))
      (mulf (logistic gr) (matmul dot_S256x2048_S2048x2048_S256x2048_1_0_0_1_n_n none u (shapeCast S2048x2048 wr shapeCasts_S2048x2048_S2048x2048) (constant S256x2048 .f32 0x00000000#32)))) bitsLt_bf16_f32)
    (shapeCast S2048x2048 wo shapeCasts_S2048x2048_S2048x2048) (constant S256x2048 .f32 0x00000000#32))

theorem pay_apply (a : FVec Ideal S256x1024 .bf16) (wa : FVec Ideal S1024x2048 .bf16) (u : FVec Ideal S256x2048 .bf16) (wr : FVec Ideal S2048x2048 .bf16) (ga gr x : FVec Ideal S256x2048 .f32)
    (wo : FVec Ideal S2048x2048 .bf16) (r : Fin 256) (n : Fin 2048) :
    pay a wa u wr ga gr x wo (ix2 r n) = mrow (fun k => x (ix2 r k)) (fun k => a (ix2 r k)) (fun k => u (ix2 r k)) (fun k => ga (ix2 r k)) (fun k => gr (ix2 r k))
      (fun k n => wa (ix2 k n)) (fun k n => wr (ix2 k n)) (fun k n => wo (ix2 k n)) n := by
  unfold pay mrow gated
  pointwise

theorem ld_0 {e : EltTy} (x : Vec Ideal S256x1024 e) : View.ld (Val := Elt Ideal) (e' := e) x r0_0 = x :=
  View.ld_unit_lit (Val := Elt Ideal) (S := S256x1024) (e := e) inb_S256x1024_S256x1024_0_0 x (by decide)

theorem ld_1 (x : FVec Ideal S1024x2048 .bf16) : View.ld (Val := Elt Ideal) (e' := .bf16) x r0_1 = x :=
  View.ld_unit_lit (Val := Elt Ideal) (S := S1024x2048) (e := .bf16) inb_S1024x2048_S1024x2048_0_0 x (by decide)

theorem ld_2 {e : EltTy} (x : Vec Ideal S256x2048 e) : View.ld (Val := Elt Ideal) (e' := e) x r0_2 = x :=
  View.ld_unit_lit (Val := Elt Ideal) (S := S256x2048) (e := e) inb_S256x2048_S256x2048_0_0 x (by decide)

theorem ld_3 (x : FVec Ideal S2048x2048 .bf16) : View.ld (Val := Elt Ideal) (e' := .bf16) x r0_3 = x :=
  View.ld_unit_lit (Val := Elt Ideal) (S := S2048x2048) (e := .bf16) inb_S2048x2048_S2048x2048_0_0 x (by decide)

theorem whole_idx (y : S256x2048.Idx) : r0_2.idx y = y := by
  refine funext fun b => Fin.ext ?_
  match b with
  | ⟨0, _⟩ => show 0 + 1 * (y 0).val = (y 0).val; omega
  | ⟨1, _⟩ => show 0 + 1 * (y 1).val = (y 1).val; omega

theorem out_apply (x0 : FVec Ideal S256x2048 .f32) (x1 : FVec Ideal S256x1024 .bf16) (x2 : FVec Ideal S256x2048 .bf16) (x3 x4 x5 x6 : FVec Ideal S256x1024 .f32)
    (x7 : FVec Ideal S1024x2048 .bf16) (x8 x9 : FVec Ideal S2048x2048 .bf16) (r : Fin 256) (n : Fin 2048) :
    out0_10 (F := Ideal) x0 x1 x2 x3 x4 x5 x6 x7 x8 x9 (ix2 r n) = mrow (fun k => x0 (ix2 r k)) (fun k => x1 (ix2 r k)) (fun k => x2 (ix2 r k))
      (joined (fun k => x3 (ix2 r k)) fun k => x4 (ix2 r k)) (joined (fun k => x5 (ix2 r k)) fun k => x6 (ix2 r k))
      (fun k n => x7 (ix2 k n)) (fun k n => x8 (ix2 k n)) (fun k n => x9 (ix2 k n)) n := by
  have h : out0_10 (F := Ideal) x0 x1 x2 x3 x4 x5 x6 x7 x8 x9 (ix2 r n) = pay x1 x7 x2 x8 (cat x3 x4) (cat x5 x6) x0 x9 (ix2 r n) := by
    unfold out0_10
    refine View.canon_apply_of_pieces (Val := Elt Ideal) (pay x1 x7 x2 x8 (cat x3 x4) (cat x5 x6) x0 x9) _ ?_ (ix2 r n) (cover0_10 (F := Ideal) _ _)
    simp only [List.forall_mem_cons]
    rw [ld_0, ld_0, ld_0, ld_0, ld_0, ld_1, ld_2, ld_2, ld_3, ld_3]
    refine ⟨fun y => ?_, fun p hp => absurd hp List.not_mem_nil⟩
    exact congrArg (pay x1 x7 x2 x8 (cat x3 x4) (cat x5 x6) x0 x9) (whole_idx y).symm
  rw [h, pay_apply]
  simp only [cat_apply]

variable (m : (ℓ : Loc nD τ sig) → Buf (Elt Ideal) ℓ)

abbrev aX (c : Dev nD) : FVec Ideal S16384x2048 .f32 := V m c main_arg0
abbrev aA (c : Dev nD) : FVec Ideal S16384x1024 .bf16 := V m c main_arg1
abbrev aU (c : Dev nD) : FVec Ideal S16384x2048 .bf16 := V m c main_arg2
abbrev aZ (c : Dev nD) : FVec Ideal S16384x17408 .f32 := V m c main_arg3
abbrev aWA (c : Dev nD) : FVec Ideal S1024x2048 .bf16 := V m c main_v1
abbrev aWR (c : Dev nD) : FVec Ideal S2048x2048 .bf16 := V m c main_v3
abbrev aWO (c : Dev nD) : FVec Ideal S2048x2048 .bf16 := V m c main_v5

theorem lt_N (t : Fin cfg0.N) : t.val < 64 := lt_of_lt_of_eq t.isLt N_0

/-- The row of the whole array that row `r` of the block at point `t` is. -/
abbrev rowAt (t : ℕ) (ht : t < 64) (r : Fin 256) : Fin 16384 := ⟨256 * t + r.val, by omega⟩

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 13] := (by decide +kernel : ∀ t : Fin grid0.N, _)
theorem ix_4 : ∀ t : Fin cfg0.N, win0_4.index t = ![t.val, 14] := (by decide +kernel : ∀ t : Fin grid0.N, _)
theorem ix_5 : ∀ t : Fin cfg0.N, win0_5.index t = ![t.val, 15] := (by decide +kernel : ∀ t : Fin grid0.N, _)
theorem ix_6 : ∀ t : Fin cfg0.N, win0_6.index t = ![t.val, 16] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![t.val, 0] := (by decide +kernel : ∀ t : Fin grid0.N, _)

theorem in0 (c : Dev nD) (t : Fin cfg0.N) (r : Fin 256) (k : Fin 2048) :
    iblk m c 0 t (ix2 r k : S256x2048.Idx) = aX m c (ix2 (rowAt t.val (lt_N t) r) k) := by
  unfold iblk
  refine congrArg (V m c main_arg0) (?_ : ((win0_0.blk t).view.emb (ix2 r k : S256x2048.Idx) : S16384x2048.Idx) = _)
  blk_ext [ix_0]

theorem in1 (c : Dev nD) (t : Fin cfg0.N) (r : Fin 256) (k : Fin 1024) :
    iblk m c 1 t (ix2 r k : S256x1024.Idx) = aA m c (ix2 (rowAt t.val (lt_N t) r) k) := by
  unfold iblk
  refine congrArg (V m c main_arg1) (?_ : ((win0_1.blk t).view.emb (ix2 r k : S256x1024.Idx) : S16384x1024.Idx) = _)
  blk_ext [ix_1]

theorem in2 (c : Dev nD) (t : Fin cfg0.N) (r : Fin 256) (k : Fin 2048) :
    iblk m c 2 t (ix2 r k : S256x2048.Idx) = aU m c (ix2 (rowAt t.val (lt_N t) r) k) := by
  unfold iblk
  refine congrArg (V m c main_arg2) (?_ : ((win0_2.blk t).view.emb (ix2 r k : S256x2048.Idx) : S16384x2048.Idx) = _)
  blk_ext [ix_2]

theorem in3 (c : Dev nD) (t : Fin cfg0.N) (r : Fin 256) (k : Fin 1024) :
    iblk m c 3 t (ix2 r k : S256x1024.Idx) = aZ m c (ix2 (rowAt t.val (lt_N t) r) ⟨13312 + k.val, by omega⟩) := by
  unfold iblk
  refine congrArg (V m c main_arg3) (?_ : ((win0_3.blk t).view.emb (ix2 r k : S256x1024.Idx) : S16384x17408.Idx) = _)
  blk_ext [ix_3]

theorem in4 (c : Dev nD) (t : Fin cfg0.N) (r : Fin 256) (k : Fin 1024) :
    iblk m c 4 t (ix2 r k : S256x1024.Idx) = aZ m c (ix2 (rowAt t.val (lt_N t) r) ⟨14336 + k.val, by omega⟩) := by
  unfold iblk
  refine congrArg (V m c main_arg3) (?_ : ((win0_4.blk t).view.emb (ix2 r k : S256x1024.Idx) : S16384x17408.Idx) = _)
  blk_ext [ix_4]

theorem in5 (c : Dev nD) (t : Fin cfg0.N) (r : Fin 256) (k : Fin 1024) :
    iblk m c 5 t (ix2 r k : S256x1024.Idx) = aZ m c (ix2 (rowAt t.val (lt_N t) r) ⟨15360 + k.val, by omega⟩) := by
  unfold iblk
  refine congrArg (V m c main_arg3) (?_ : ((win0_5.blk t).view.emb (ix2 r k : S256x1024.Idx) : S16384x17408.Idx) = _)
  blk_ext [ix_5]

theorem in6 (c : Dev nD) (t : Fin cfg0.N) (r : Fin 256) (k : Fin 1024) :
    iblk m c 6 t (ix2 r k : S256x1024.Idx) = aZ m c (ix2 (rowAt t.val (lt_N t) r) ⟨16384 + k.val, by omega⟩) := by
  unfold iblk
  refine congrArg (V m c main_arg3) (?_ : ((win0_6.blk t).view.emb (ix2 r k : S256x1024.Idx) : S16384x17408.Idx) = _)
  blk_ext [ix_6]

theorem in7 (c : Dev nD) (t : Fin cfg0.N) (k : Fin 1024) (n : Fin 2048) : iblk m c 7 t (ix2 k n : S1024x2048.Idx) = aWA m c (ix2 k n) := by
  unfold iblk
  refine congrArg (V m c main_v1) (?_ : ((win0_7.blk t).view.emb (ix2 k n : S1024x2048.Idx) : S1024x2048.Idx) = _)
  blk_ext [ix_7]

theorem in8 (c : Dev nD) (t : Fin cfg0.N) (k : Fin 2048) (n : Fin 2048) : iblk m c 8 t (ix2 k n : S2048x2048.Idx) = aWR m c (ix2 k n) := by
  unfold iblk
  refine congrArg (V m c main_v3) (?_ : ((win0_8.blk t).view.emb (ix2 k n : S2048x2048.Idx) : S2048x2048.Idx) = _)
  blk_ext [ix_8]

theorem in9 (c : Dev nD) (t : Fin cfg0.N) (k : Fin 2048) (n : Fin 2048) : iblk m c 9 t (ix2 k n : S2048x2048.Idx) = aWO m c (ix2 k n) := by
  unfold iblk
  refine congrArg (V m c main_v5) (?_ : ((win0_9.blk t).view.emb (ix2 k n : S2048x2048.Idx) : S2048x2048.Idx) = _)
  blk_ext [ix_9]

/-- Two neighbouring half rows are one row. -/
theorem joined_row (z : Fin 17408 → EReal) (o p : ℕ) (ho : o + 2048 ≤ 17408) (hp : p = o + 1024) :
    joined (fun k => z ⟨o + k.val, by omega⟩) (fun k => z ⟨p + k.val, by omega⟩) = fun k => z ⟨o + k.val, by omega⟩ := by
  subst hp
  funext k
  unfold joined
  split
  · rfl
  · exact congrArg z (Fin.ext (show o + 1024 + (k.val - 1024) = o + k.val by omega))

/-- The array the call leaves. -/
def G (c : Dev nD) : FVec Ideal S16384x2048 .f32 := fun y =>
  mrow (fun k => aX m c (ix2 (y 0) k)) (fun k => aA m c (ix2 (y 0) k)) (fun k => aU m c (ix2 (y 0) k))
    (fun k => aZ m c (ix2 (y 0) ⟨13312 + k.val, by omega⟩)) (fun k => aZ m c (ix2 (y 0) ⟨15360 + k.val, by omega⟩))
    (fun k n => aWA m c (ix2 k n)) (fun k n => aWR m c (ix2 k n)) (fun k n => aWO m c (ix2 k n)) (y 1)

theorem emb10 (t : Fin cfg0.N) (r : Fin 256) (n : Fin 2048) :
    (win0_10.blk t).view.emb (ix2 r n : S256x2048.Idx) = (ix2 (rowAt t.val (lt_N t) r) n : S16384x2048.Idx) := by
  blk_ext [ix_10]

theorem arr_eq (c : Dev nD) : (dats m 0 c).arrAt 10 cfg0.N = G m c := by
  refine (dats m 0 c).arrAt_eq_of_covers 10 (G m c) (by decide +kernel) fun t hf y => ?_
  blk_simp
  rw [after0_10]
  revert y
  intro (y : S256x2048.Idx)
  idx_vars y
  refine (out_apply _ _ _ _ _ _ _ _ _ _ y0 y1).trans (Eq.trans ?_ (congrArg (G m c) (emb10 t y0 y1)).symm)
  have e0 : (fun k => iblk m c 0 t (ix2 y0 k : S256x2048.Idx)) = fun k => aX m c (ix2 (rowAt t.val (lt_N t) y0) k) := funext fun k => in0 m c t y0 k
  have e1 : (fun k => iblk m c 1 t (ix2 y0 k : S256x1024.Idx)) = fun k => aA m c (ix2 (rowAt t.val (lt_N t) y0) k) := funext fun k => in1 m c t y0 k
  have e2 : (fun k => iblk m c 2 t (ix2 y0 k : S256x2048.Idx)) = fun k => aU m c (ix2 (rowAt t.val (lt_N t) y0) k) := funext fun k => in2 m c t y0 k
  have e3 : (fun k => iblk m c 3 t (ix2 y0 k : S256x1024.Idx)) = fun k => aZ m c (ix2 (rowAt t.val (lt_N t) y0) ⟨13312 + k.val, by omega⟩) := funext fun k => in3 m c t y0 k
  have e4 : (fun k => iblk m c 4 t (ix2 y0 k : S256x1024.Idx)) = fun k => aZ m c (ix2 (rowAt t.val (lt_N t) y0) ⟨14336 + k.val, by omega⟩) := funext fun k => in4 m c t y0 k
  have e5 : (fun k => iblk m c 5 t (ix2 y0 k : S256x1024.Idx)) = fun k => aZ m c (ix2 (rowAt t.val (lt_N t) y0) ⟨15360 + k.val, by omega⟩) := funext fun k => in5 m c t y0 k
  have e6 : (fun k => iblk m c 6 t (ix2 y0 k : S256x1024.Idx)) = fun k => aZ m c (ix2 (rowAt t.val (lt_N t) y0) ⟨16384 + k.val, by omega⟩) := funext fun k => in6 m c t y0 k
  have e7 : (fun k n => iblk m c 7 t (ix2 k n : S1024x2048.Idx)) = fun k n => aWA m c (ix2 k n) := funext fun k => funext fun n => in7 m c t k n
  have e8 : (fun k n => iblk m c 8 t (ix2 k n : S2048x2048.Idx)) = fun k n => aWR m c (ix2 k n) := funext fun k => funext fun n => in8 m c t k n
  have e9 : (fun k n => iblk m c 9 t (ix2 k n : S2048x2048.Idx)) = fun k n => aWO m c (ix2 k n) := funext fun k => funext fun n => in9 m c t k n
  have g0 := (congrArg₂ joined e3 e4).trans (joined_row (fun k => aZ m c (ix2 (rowAt t.val (lt_N t) y0) k)) 13312 14336 (by decide) rfl)
  have g1 := (congrArg₂ joined e5 e6).trans (joined_row (fun k => aZ m c (ix2 (rowAt t.val (lt_N t) y0) k)) 15360 16384 (by decide) rfl)
  unfold G
  rw [e0, e1, e2, g0, g1, e7, e8, e9]
  rfl

end Cert.Kernel3Ideal.Merge

end
-- ==== Proof.MergeRef.lean ====
module

public import proofs.«01_k».proof.Proof.Gen.Reference3Ideal.Run
public import Idealize.ShloMosaic.Lib.Tactic.ValueTie

@[expose] public section

/-! The gated merge's reference, read element by element. -/

set_option maxRecDepth 16384

noncomputable section

namespace Cert.Reference3Ideal.Merge

open Cert.Reference3Ideal Cert.Reference3Ideal.Gen
open Idealize.ShloMosaic Idealize.ShloMosaic.TcCoe Idealize.ShloMosaic.Tactic

/-- The reference's result. -/
def merged (x : FVec Ideal S16384x2048 .f32) (a : FVec Ideal S16384x1024 .bf16) (u : FVec Ideal S16384x2048 .bf16) (z : FVec Ideal S16384x17408 .f32)
    (wa : FVec Ideal S1x1024x2048 .f32) (wr wo : FVec Ideal S1x2048x2048 .f32) : FVec Ideal S16384x2048 .f32 :=
  addf x (Host.dotGeneral dot_S16384x2048_S2048x2048_S16384x2048_1_0_0_1_n_n none (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 13312] z slices_S16384x17408_S16384x2048_0_13312))))) (Host.dotGeneral dot_S16384x1024_S1024x2048_S16384x2048_1_0_0_1_n_n none (extf .f32 a bitsLt_bf16_f32) (shapeCast _ wa shapeCasts_S1x1024x2048_S1024x2048))) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 15360] z slices_S16384x17408_S16384x2048_0_15360))))) (Host.dotGeneral dot_S16384x2048_S2048x2048_S16384x2048_1_0_0_1_n_n none (extf .f32 u bitsLt_bf16_f32) (shapeCast _ wr shapeCasts_S1x2048x2048_S2048x2048)))) (shapeCast _ wo shapeCasts_S1x2048x2048_S2048x2048))

theorem merged_apply (x : FVec Ideal S16384x2048 .f32) (a : FVec Ideal S16384x1024 .bf16) (u : FVec Ideal S16384x2048 .bf16) (z : FVec Ideal S16384x17408 .f32)
    (wa : FVec Ideal S1x1024x2048 .f32) (wr wo : FVec Ideal S1x2048x2048 .f32) (R : Fin 16384) (n : Fin 2048) :
    merged x a u z wa wr wo (ix2 R n) = x (ix2 R n) + ∑ k : Fin 2048,
      (Ideal.logistic (z (ix2 R ⟨13312 + k.val, by omega⟩)) * (∑ i, a (ix2 R i) * wa (ix3 0 i k))
        + Ideal.logistic (z (ix2 R ⟨15360 + k.val, by omega⟩)) * ∑ i, u (ix2 R i) * wr (ix3 0 i k)) * wo (ix3 0 k n) := by
  unfold merged Ideal.logistic
  pointwise

end Cert.Reference3Ideal.Merge

end
-- ==== Proof.MergeAlg.lean ====
module

public import proofs.«01_k».proof.Proof.MergeVal
public import proofs.«01_k».proof.Proof.MergeRef
public import proofs.«01_k».proof.Defs

@[expose] public section

/-! The gated merge's result is the reference's. -/

set_option maxRecDepth 16384

noncomputable section

namespace Cert.Kernel3Ideal.Merge

open Cert.Kernel3Ideal Cert.Kernel3Ideal.Gen
open Idealize.ShloMosaic Idealize.ShloMosaic.TcCoe Idealize.ShloMosaic.Tactic

variable (m : (ℓ : Loc nD τ sig) → Buf (Elt Ideal) ℓ)

theorem V_v1 (c : Dev nD) : V m c main_v1 = truncf .bf16 (shapeCast S1024x2048 (m ((c : Thread nD τ).loc main_arg4)) shapeCasts_S1x1024x2048_S1024x2048 : FVec Ideal S1024x2048 .f32) bitsLt_bf16_f32 := by
  simp only [V, hostOps0]
  after_results_simp <;> rfl

theorem V_v3 (c : Dev nD) : V m c main_v3 = truncf .bf16 (shapeCast S2048x2048 (m ((c : Thread nD τ).loc main_arg5)) shapeCasts_S1x2048x2048_S2048x2048 : FVec Ideal S2048x2048 .f32) bitsLt_bf16_f32 := by
  simp only [V, hostOps0]
  after_results_simp <;> rfl

theorem V_v5 (c : Dev nD) : V m c main_v5 = truncf .bf16 (shapeCast S2048x2048 (m ((c : Thread nD τ).loc main_arg6)) shapeCasts_S1x2048x2048_S2048x2048 : FVec Ideal S2048x2048 .f32) bitsLt_bf16_f32 := by
  simp only [V, hostOps0]
  after_results_simp <;> rfl

theorem flat_short (x : FVec Ideal S1x1024x2048 .f32) (k : Fin 1024) (n : Fin 2048) :
    truncf .bf16 (shapeCast S1024x2048 x shapeCasts_S1x1024x2048_S1024x2048 : FVec Ideal S1024x2048 .f32) bitsLt_bf16_f32 (ix2 k n) = x (ix3 0 k n) := by
  pointwise

theorem flat_long (x : FVec Ideal S1x2048x2048 .f32) (k : Fin 2048) (n : Fin 2048) :
    truncf .bf16 (shapeCast S2048x2048 x shapeCasts_S1x2048x2048_S2048x2048 : FVec Ideal S2048x2048 .f32) bitsLt_bf16_f32 (ix2 k n) = x (ix3 0 k n) := by
  pointwise

theorem aWA_apply (c : Dev nD) (x : FVec Ideal S1x1024x2048 .f32) (hx : x = m ((c : Thread nD τ).loc main_arg4)) (k : Fin 1024) (n : Fin 2048) :
    aWA m c (ix2 k n) = x (ix3 0 k n) := by
  refine (congrFun (V_v1 m c) (ix2 k n)).trans ?_
  rw [← hx]
  exact flat_short x k n

theorem aWR_apply (c : Dev nD) (x : FVec Ideal S1x2048x2048 .f32) (hx : x = m ((c : Thread nD τ).loc main_arg5)) (k : Fin 2048) (n : Fin 2048) :
    aWR m c (ix2 k n) = x (ix3 0 k n) := by
  refine (congrFun (V_v3 m c) (ix2 k n)).trans ?_
  rw [← hx]
  exact flat_long x k n

theorem aWO_apply (c : Dev nD) (x : FVec Ideal S1x2048x2048 .f32) (hx : x = m ((c : Thread nD τ).loc main_arg6)) (k : Fin 2048) (n : Fin 2048) :
    aWO m c (ix2 k n) = x (ix3 0 k n) := by
  refine (congrFun (V_v5 m c) (ix2 k n)).trans ?_
  rw [← hx]
  exact flat_long x k n

end Cert.Kernel3Ideal.Merge

namespace Cert.MergeTie

open Idealize.ShloMosaic Idealize.ShloMosaic.TcCoe Idealize.ShloMosaic.Tactic Idealize.SL Idealize.SL.Sem
open Cert.Kernel3Ideal.Merge (G aX aA aU aZ aWA aWR aWO mrow gated aWA_apply aWR_apply aWO_apply)
open Cert.Reference3Ideal.Merge (merged merged_apply)

variable (m : (ℓ : Loc Cert.Kernel3Ideal.nD Cert.Kernel3Ideal.τ Cert.Kernel3Ideal.sig) → Buf (Elt Ideal) ℓ)

theorem result_eq (c : Dev Cert.Kernel3Ideal.nD)
    (x : FVec Ideal Cert.Reference3Ideal.S16384x2048 .f32) (hx : x = m ((c.tc : Thread Cert.Kernel3Ideal.nD Cert.Kernel3Ideal.τ).loc Cert.Kernel3Ideal.main_arg0))
    (a : FVec Ideal Cert.Reference3Ideal.S16384x1024 .bf16) (ha : a = m ((c.tc : Thread Cert.Kernel3Ideal.nD Cert.Kernel3Ideal.τ).loc Cert.Kernel3Ideal.main_arg1))
    (u : FVec Ideal Cert.Reference3Ideal.S16384x2048 .bf16) (hu : u = m ((c.tc : Thread Cert.Kernel3Ideal.nD Cert.Kernel3Ideal.τ).loc Cert.Kernel3Ideal.main_arg2))
    (z : FVec Ideal Cert.Reference3Ideal.S16384x17408 .f32) (hz : z = m ((c.tc : Thread Cert.Kernel3Ideal.nD Cert.Kernel3Ideal.τ).loc Cert.Kernel3Ideal.main_arg3))
    (wa : FVec Ideal Cert.Reference3Ideal.S1x1024x2048 .f32) (hwa : wa = m ((c.tc : Thread Cert.Kernel3Ideal.nD Cert.Kernel3Ideal.τ).loc Cert.Kernel3Ideal.main_arg4))
    (wr : FVec Ideal Cert.Reference3Ideal.S1x2048x2048 .f32) (hwr : wr = m ((c.tc : Thread Cert.Kernel3Ideal.nD Cert.Kernel3Ideal.τ).loc Cert.Kernel3Ideal.main_arg5))
    (wo : FVec Ideal Cert.Reference3Ideal.S1x2048x2048 .f32) (hwo : wo = m ((c.tc : Thread Cert.Kernel3Ideal.nD Cert.Kernel3Ideal.τ).loc Cert.Kernel3Ideal.main_arg6)) :
    merged x a u z wa wr wo = G m c := by
  funext y
  revert y
  intro (y : Cert.Reference3Ideal.S16384x2048.Idx)
  idx_vars y
  generalize y0 = R
  generalize y1 = n
  refine (merged_apply x a u z wa wr wo R n).trans ?_
  have ex : aX m c = x := (Cert.Kernel3Ideal.Gen.V_main_arg0 m c).trans hx.symm
  have ea : aA m c = a := (Cert.Kernel3Ideal.Gen.V_main_arg1 m c).trans ha.symm
  have eu : aU m c = u := (Cert.Kernel3Ideal.Gen.V_main_arg2 m c).trans hu.symm
  have ez : aZ m c = z := (Cert.Kernel3Ideal.Gen.V_main_arg3 m c).trans hz.symm
  show _ = mrow (fun k => aX m c (ix2 R k)) (fun k => aA m c (ix2 R k)) (fun k => aU m c (ix2 R k))
    (fun k => aZ m c (ix2 R ⟨13312 + k.val, by omega⟩)) (fun k => aZ m c (ix2 R ⟨15360 + k.val, by omega⟩))
    (fun k n => aWA m c (ix2 k n)) (fun k n => aWR m c (ix2 k n)) (fun k n => aWO m c (ix2 k n)) n
  unfold mrow gated
  simp only [aWA_apply m c wa hwa, aWR_apply m c wr hwr, aWO_apply m c wo hwo]
  rw [ex, ea, eu, ez]

theorem algebraic : Cert.algebraic_Kernel3Ideal_Reference3Ideal := by
  intro m ρ m' ρ' _ hagree
  refine ⟨fun c => G m c, (θ_run Cert.Kernel3Ideal.defs _ _).mono (fun _ h c => ⟨(h c).1.trans (Cert.Kernel3Ideal.Merge.arr_eq m c), (h c).2⟩) (Cert.Kernel3Ideal.Value.run_blocks (F := Ideal) m ρ), ?_⟩
  refine (θ_run Cert.Reference3Ideal.defs _ _).mono (fun _ h c => ⟨(h c).1.trans ?_, (h c).2⟩) (Cert.Reference3Ideal.Value.run (F := Ideal) m' ρ')
  exact result_eq m c _ (hagree c).1 _ (hagree c).2.1 _ (hagree c).2.2.1 _ (hagree c).2.2.2.1 _ (hagree c).2.2.2.2.1 _ (hagree c).2.2.2.2.2.1 _ (hagree c).2.2.2.2.2.2

end Cert.MergeTie

end
-- ==== Proof.PleVal.lean ====
module

public import proofs.«01_k».proof.Proof.Gen.Kernel4Ideal.Value
public import Idealize.ShloMosaic.Lib.Pipeline.ValueKit.Geometry
public import Idealize.ShloMosaic.Lib.Tactic.ValueTie

@[expose] public section

/-! The per-layer input call: what it leaves, element by element. -/

set_option maxRecDepth 16384

noncomputable section

namespace Cert.Kernel4Ideal.Ple

open Cert.Kernel4Ideal Cert.Kernel4Ideal.Gen
open Idealize.ShloMosaic Idealize.ShloMosaic.TcCoe Idealize.ShloMosaic.Tactic

/-- One entry of a normalised row: the entry over the root mean square of the row, times the weight. -/
def rms (x ln : Fin 2048 → EReal) (n : Fin 2048) : EReal :=
  x n * Ideal.rsqrt (Ideal.div (∑ k, x k * x k) (Ideal.ofBits .f32 0x45000000#32) + Ideal.ofBits .f32 0x358637BD#32) * ln n

/-- One entry of the row with the per-layer input gated in. -/
def mix (x ln : Fin 2048 → EReal) (wg : Fin 2048 → Fin 2048 → EReal) (p : Fin 256 → EReal) (wp : Fin 256 → Fin 2048 → EReal) (n : Fin 2048) : EReal :=
  x n + Ideal.logistic (∑ k, rms x ln k * wg k n) * ∑ k, p k * wp k n

theorem band0 (x : FVec Ideal S256x2048 .f32) (ln : FVec Ideal S1x2048 .f32) (wg : FVec Ideal S2048x2048 .bf16) (p : FVec Ideal S256x256 .f32)
    (wp : FVec Ideal S256x2048 .bf16) (lf : FVec Ideal S1x2048 .f32) (r : Fin 256) (n : Fin 2048) :
    k0_pay5 (F := Ideal) (k0_pay2 x ln wg p wp) (k0_pay3 lf) (k0_pay4 x ln wg p wp) (ix2 r n)
      = rms (mix (fun k => x (ix2 r k)) (fun k => ln (ix2 0 k)) (fun k n => wg (ix2 k n)) (fun k => p (ix2 r k)) fun k n => wp (ix2 k n)) (fun k => lf (ix2 0 k)) n := by
  unfold k0_pay5 k0_pay4 k0_pay2 k0_pay3 rms mix rms
  pointwise

theorem band1 (x : FVec Ideal S256x2048 .f32) (ln : FVec Ideal S1x2048 .f32) (wg : FVec Ideal S2048x2048 .bf16) (p : FVec Ideal S256x256 .f32)
    (wp : FVec Ideal S256x2048 .bf16) (lf : FVec Ideal S1x2048 .f32) (r : Fin 256) (n : Fin 2048) :
    k0_pay1 (F := Ideal) (k0_pay6 x ln wg p wp) (k0_pay7 lf) (k0_pay8 x ln wg p wp) k0_pay9 (ix2 r n)
      = rms (mix (fun k => x (ix2 r k)) (fun k => ln (ix2 0 k)) (fun k n => wg (ix2 k n)) (fun k => p (ix2 r k)) fun k n => wp (ix2 k n)) (fun k => lf (ix2 0 k)) n := by
  unfold k0_pay1 k0_pay8 k0_pay9 k0_pay7 k0_pay6 rms mix rms
  pointwise

/-- What the call leaves at row `r` of an array of rows. -/
def outRow {S P : Shape} (row : Fin 2048 → S.Idx) (prow : Fin 256 → P.Idx) (x : FVec Ideal S .f32) (p : FVec Ideal P .f32) (ln : FVec Ideal S1x2048 .f32)
    (wg : FVec Ideal S2048x2048 .bf16) (wp : FVec Ideal S256x2048 .bf16) (lf : FVec Ideal S1x2048 .f32) (n : Fin 2048) : EReal :=
  rms (mix (fun k => x (row k)) (fun k => ln (ix2 0 k)) (fun k n => wg (ix2 k n)) (fun k => p (prow k)) fun k n => wp (ix2 k n)) (fun k => lf (ix2 0 k)) n

theorem ld_rows (x : FVec Ideal S512x2048 .f32) (o : ℕ) (inb : ∀ a, (![o, 0] : Fin 2 → ℕ) a + S256x2048.size a ≤ S512x2048.size a) (a : Fin 256) (k : Fin 2048) (ho : o + 256 ≤ 512) :
    (Rect.unit (s := S512x2048) ![o, 0] S256x2048.size inb).idx (ix2 a k) = (ix2 ⟨o + a.val, by omega⟩ k : S512x2048.Idx) := by
  refine funext fun b => Fin.ext ?_
  match b with
  | ⟨0, _⟩ => show o + 1 * a.val = o + a.val; omega
  | ⟨1, _⟩ => show 0 + 1 * k.val = k.val; omega

theorem ld_prows (o : ℕ) (inb : ∀ a, (![o, 0] : Fin 2 → ℕ) a + S256x256.size a ≤ S512x256.size a) (a k : Fin 256) (ho : o + 256 ≤ 512) :
    (Rect.unit (s := S512x256) ![o, 0] S256x256.size inb).idx (ix2 a k) = (ix2 ⟨o + a.val, by omega⟩ k : S512x256.Idx) := by
  refine funext fun b => Fin.ext ?_
  match b with
  | ⟨0, _⟩ => show o + 1 * a.val = o + a.val; omega
  | ⟨1, _⟩ => show 0 + 1 * k.val = k.val; omega

theorem ld_1 (x : FVec Ideal S1x2048 .f32) : View.ld (Val := Elt Ideal) (e' := .f32) x r0_1 = x :=
  View.ld_unit_lit (Val := Elt Ideal) (S := S1x2048) (e := .f32) inb_S1x2048_S1x2048_0_0 x (by decide)

theorem ld_2 (x : FVec Ideal S2048x2048 .bf16) : View.ld (Val := Elt Ideal) (e' := .bf16) x r0_2 = x :=
  View.ld_unit_lit (Val := Elt Ideal) (S := S2048x2048) (e := .bf16) inb_S2048x2048_S2048x2048_0_0 x (by decide)

theorem ld_4 (x : FVec Ideal S256x2048 .bf16) : View.ld (Val := Elt Ideal) (e' := .bf16) x r0_4 = x :=
  View.ld_unit_lit (Val := Elt Ideal) (S := S256x2048) (e := .bf16) inb_S256x2048_S256x2048_0_0 x (by decide)

theorem out_apply (x0 : FVec Ideal S512x2048 .f32) (x1 : FVec Ideal S512x256 .f32) (x2 : FVec Ideal S1x2048 .f32) (x3 : FVec Ideal S2048x2048 .bf16)
    (x4 : FVec Ideal S256x2048 .bf16) (x5 : FVec Ideal S1x2048 .f32) (r : Fin 512) (n : Fin 2048) :
    out0_6 (F := Ideal) x0 x1 x2 x3 x4 x5 (ix2 r n) = outRow (fun k => (ix2 r k : S512x2048.Idx)) (fun k => (ix2 r k : S512x256.Idx)) x0 x1 x2 x3 x4 x5 n := by
  unfold out0_6
  refine View.canon_apply_of_pieces (Val := Elt Ideal) (fun y : S512x2048.Idx => outRow (fun k => (ix2 (y 0) k : S512x2048.Idx)) (fun k => (ix2 (y 0) k : S512x256.Idx)) x0 x1 x2 x3 x4 x5 (y 1)) _ ?_ (ix2 r n) (cover0_6 (F := Ideal) _ _ _)
  simp only [List.forall_mem_cons]
  rw [ld_1, ld_1, ld_2, ld_4]
  refine ⟨fun y => ?_, fun y => ?_, fun p hp => absurd hp List.not_mem_nil⟩
  · revert y
    intro (y : S256x2048.Idx)
    idx_vars y
    refine (band1 _ _ _ _ _ _ y0 y1).trans (Eq.trans ?_ (congrArg (fun y : S512x2048.Idx => outRow (fun k => (ix2 (y 0) k : S512x2048.Idx)) (fun k => (ix2 (y 0) k : S512x256.Idx)) x0 x1 x2 x3 x4 x5 (y 1))
      (ld_rows x0 256 inb_S512x2048_S256x2048_256_0 y0 y1 (by decide))).symm)
    have e0 : (fun k => View.ld (Val := Elt Ideal) (e' := .f32) x0 r0_5 (ix2 y0 k)) = fun k => x0 (ix2 ⟨256 + y0.val, by omega⟩ k) := funext fun k => congrArg x0 (ld_rows x0 256 inb_S512x2048_S256x2048_256_0 y0 k (by decide))
    have e1 : (fun k => View.ld (Val := Elt Ideal) (e' := .f32) x1 r0_6 (ix2 y0 k)) = fun k => x1 (ix2 ⟨256 + y0.val, by omega⟩ k) := funext fun k => congrArg x1 (ld_prows 256 inb_S512x256_S256x256_256_0 y0 k (by decide))
    rw [e0, e1]
    rfl
  · revert y
    intro (y : S256x2048.Idx)
    idx_vars y
    refine (band0 _ _ _ _ _ _ y0 y1).trans (Eq.trans ?_ (congrArg (fun y : S512x2048.Idx => outRow (fun k => (ix2 (y 0) k : S512x2048.Idx)) (fun k => (ix2 (y 0) k : S512x256.Idx)) x0 x1 x2 x3 x4 x5 (y 1))
      (ld_rows x0 0 inb_S512x2048_S256x2048_0_0 y0 y1 (by decide))).symm)
    have e0 : (fun k => View.ld (Val := Elt Ideal) (e' := .f32) x0 r0_0 (ix2 y0 k)) = fun k => x0 (ix2 ⟨0 + y0.val, by omega⟩ k) := funext fun k => congrArg x0 (ld_rows x0 0 inb_S512x2048_S256x2048_0_0 y0 k (by decide))
    have e1 : (fun k => View.ld (Val := Elt Ideal) (e' := .f32) x1 r0_3 (ix2 y0 k)) = fun k => x1 (ix2 ⟨0 + y0.val, by omega⟩ k) := funext fun k => congrArg x1 (ld_prows 0 inb_S512x256_S256x256_0_0 y0 k (by decide))
    rw [e0, e1]
    rfl

variable (m : (ℓ : Loc nD τ sig) → Buf (Elt Ideal) ℓ)

abbrev aX (c : Dev nD) : FVec Ideal S16384x2048 .f32 := V m c main_arg0
abbrev aP (c : Dev nD) : FVec Ideal S16384x256 .f32 := V m c main_v1
abbrev aLN (c : Dev nD) : FVec Ideal S1x2048 .f32 := V m c main_v3
abbrev aWG (c : Dev nD) : FVec Ideal S2048x2048 .bf16 := V m c main_v5
abbrev aWP (c : Dev nD) : FVec Ideal S256x2048 .bf16 := V m c main_v7
abbrev aLF (c : Dev nD) : FVec Ideal S1x2048 .f32 := V m c main_v8

theorem lt_N (t : Fin cfg0.N) : t.val < 32 := lt_of_lt_of_eq t.isLt N_0

/-- The row of the whole array that row `r` of the block at point `t` is. -/
abbrev rowAt (t : ℕ) (ht : t < 32) (r : Fin 512) : Fin 16384 := ⟨512 * t + r.val, by omega⟩

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val, 0] := (by decide +kernel : ∀ t : Fin grid0.N, _)

theorem in0 (c : Dev nD) (t : Fin cfg0.N) (r : Fin 512) (k : Fin 2048) :
    iblk m c 0 t (ix2 r k : S512x2048.Idx) = aX m c (ix2 (rowAt t.val (lt_N t) r) k) := by
  unfold iblk
  refine congrArg (V m c main_arg0) (?_ : ((win0_0.blk t).view.emb (ix2 r k : S512x2048.Idx) : S16384x2048.Idx) = _)
  blk_ext [ix_0]

theorem in1 (c : Dev nD) (t : Fin cfg0.N) (r : Fin 512) (k : Fin 256) :
    iblk m c 1 t (ix2 r k : S512x256.Idx) = aP m c (ix2 (rowAt t.val (lt_N t) r) k) := by
  unfold iblk
  refine congrArg (V m c main_v1) (?_ : ((win0_1.blk t).view.emb (ix2 r k : S512x256.Idx) : S16384x256.Idx) = _)
  blk_ext [ix_1]

theorem in2 (c : Dev nD) (t : Fin cfg0.N) (k : Fin 2048) : iblk m c 2 t (ix2 0 k : S1x2048.Idx) = aLN m c (ix2 0 k) := by
  unfold iblk
  refine congrArg (V m c main_v3) (?_ : ((win0_2.blk t).view.emb (ix2 0 k : S1x2048.Idx) : S1x2048.Idx) = _)
  blk_ext [ix_2]

theorem in3 (c : Dev nD) (t : Fin cfg0.N) (k n : Fin 2048) : iblk m c 3 t (ix2 k n : S2048x2048.Idx) = aWG m c (ix2 k n) := by
  unfold iblk
  refine congrArg (V m c main_v5) (?_ : ((win0_3.blk t).view.emb (ix2 k n : S2048x2048.Idx) : S2048x2048.Idx) = _)
  blk_ext [ix_3]

theorem in4 (c : Dev nD) (t : Fin cfg0.N) (k : Fin 256) (n : Fin 2048) : iblk m c 4 t (ix2 k n : S256x2048.Idx) = aWP m c (ix2 k n) := by
  unfold iblk
  refine congrArg (V m c main_v7) (?_ : ((win0_4.blk t).view.emb (ix2 k n : S256x2048.Idx) : S256x2048.Idx) = _)
  blk_ext [ix_4]

theorem in5 (c : Dev nD) (t : Fin cfg0.N) (k : Fin 2048) : iblk m c 5 t (ix2 0 k : S1x2048.Idx) = aLF m c (ix2 0 k) := by
  unfold iblk
  refine congrArg (V m c main_v8) (?_ : ((win0_5.blk t).view.emb (ix2 0 k : S1x2048.Idx) : S1x2048.Idx) = _)
  blk_ext [ix_5]

/-- The array the call leaves. -/
def G (c : Dev nD) : FVec Ideal S16384x2048 .f32 := fun y =>
  outRow (fun k => (ix2 (y 0) k : S16384x2048.Idx)) (fun k => (ix2 (y 0) k : S16384x256.Idx)) (aX m c) (aP m c) (aLN m c) (aWG m c) (aWP m c) (aLF m c) (y 1)

theorem emb6 (t : Fin cfg0.N) (r : Fin 512) (n : Fin 2048) :
    (win0_6.blk t).view.emb (ix2 r n : S512x2048.Idx) = (ix2 (rowAt t.val (lt_N t) r) n : S16384x2048.Idx) := by
  blk_ext [ix_6]

theorem arr_eq (c : Dev nD) : (dats m 0 c).arrAt 6 cfg0.N = G m c := by
  refine (dats m 0 c).arrAt_eq_of_covers 6 (G m c) (by decide +kernel) fun t hf y => ?_
  blk_simp
  rw [after0_6]
  revert y
  intro (y : S512x2048.Idx)
  idx_vars y
  refine (out_apply _ _ _ _ _ _ y0 y1).trans (Eq.trans ?_ (congrArg (G m c) (emb6 t y0 y1)).symm)
  unfold outRow
  have e0 : (fun k => iblk m c 0 t (ix2 y0 k : S512x2048.Idx)) = fun k => aX m c (ix2 (rowAt t.val (lt_N t) y0) k) := funext fun k => in0 m c t y0 k
  have e1 : (fun k => iblk m c 1 t (ix2 y0 k : S512x256.Idx)) = fun k => aP m c (ix2 (rowAt t.val (lt_N t) y0) k) := funext fun k => in1 m c t y0 k
  have e2 : (fun k => iblk m c 2 t (ix2 0 k : S1x2048.Idx)) = fun k => aLN m c (ix2 0 k) := funext fun k => in2 m c t k
  have e3 : (fun k n => iblk m c 3 t (ix2 k n : S2048x2048.Idx)) = fun k n => aWG m c (ix2 k n) := funext fun k => funext fun n => in3 m c t k n
  have e4 : (fun k n => iblk m c 4 t (ix2 k n : S256x2048.Idx)) = fun k n => aWP m c (ix2 k n) := funext fun k => funext fun n => in4 m c t k n
  have e5 : (fun k => iblk m c 5 t (ix2 0 k : S1x2048.Idx)) = fun k => aLF m c (ix2 0 k) := funext fun k => in5 m c t k
  exact congrFun (congrArg₂ rms (by rw [e0, e1, e2, e3, e4]; rfl) e5) y1

end Cert.Kernel4Ideal.Ple

end
-- ==== Proof.PleRef.lean ====
module

public import proofs.«01_k».proof.Proof.Gen.Reference4Ideal.Run
public import Idealize.ShloMosaic.Lib.Tactic.ValueTie

@[expose] public section

/-! The per-layer input's reference, read element by element. -/

set_option maxRecDepth 16384

noncomputable section

namespace Cert.Reference4Ideal.Ple

open Cert.Reference4Ideal Cert.Reference4Ideal.Gen
open Idealize.ShloMosaic Idealize.ShloMosaic.TcCoe Idealize.ShloMosaic.Tactic

/-- The normalised rows. -/
def norm (x : FVec Ideal S16384x2048 .f32) (ln : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 ln))

/-- The rows with the per-layer input gated in; `h` is the gate's input. -/
def mixed (x h : FVec Ideal S16384x2048 .f32) (pe : FVec Ideal S1x8x2048x256 .f32) (wg : FVec Ideal S1x2048x2048 .f32) (wp : FVec Ideal S1x256x2048 .f32) : FVec Ideal S16384x2048 .f32 :=
  addf x (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral dot_S16384x2048_S2048x2048_S16384x2048_1_0_0_1_n_n none h (shapeCast _ wg shapeCasts_S1x2048x2048_S2048x2048)))))) (Host.dotGeneral dot_S16384x256_S256x2048_S16384x2048_1_0_0_1_n_n none (shapeCast _ (shapeCast _ pe shapeCasts_S1x8x2048x256_S8x2048x256) shapeCasts_S8x2048x256_S16384x256) (shapeCast _ wp shapeCasts_S1x256x2048_S256x2048)))

theorem norm_apply (x : FVec Ideal S16384x2048 .f32) (ln : FVec Ideal S2048 .f32) (R : Fin 16384) (n : Fin 2048) :
    norm x ln (ix2 R n) = x (ix2 R n) * Ideal.rsqrt (Ideal.div (∑ k, x (ix2 R k) * x (ix2 R k)) (Ideal.ofBits .f32 0x45000000#32) + Ideal.ofBits .f32 0x358637BD#32) * ln (ix1 n) := by
  unfold norm
  pointwise

theorem weight_apply (ln : FVec Ideal S1x2048 .f32) (n : Fin 2048) : shapeCast S2048 ln shapeCasts_S1x2048_S2048 (ix1 n) = ln (ix2 0 n) := by
  pointwise

theorem mixed_apply (x h : FVec Ideal S16384x2048 .f32) (pe : FVec Ideal S1x8x2048x256 .f32) (wg : FVec Ideal S1x2048x2048 .f32) (wp : FVec Ideal S1x256x2048 .f32) (R : Fin 16384) (n : Fin 2048) :
    mixed x h pe wg wp (ix2 R n) = x (ix2 R n) + Ideal.logistic (∑ k, h (ix2 R k) * wg (ix3 0 k n))
      * ∑ k, pe (ix4 0 ⟨R.val / 2048, by omega⟩ ⟨R.val % 2048, by omega⟩ k) * wp (ix3 0 k n) := by
  unfold mixed Ideal.logistic
  pointwise

end Cert.Reference4Ideal.Ple

end
-- ==== Proof.PleAlg.lean ====
module

public import proofs.«01_k».proof.Proof.PleVal
public import proofs.«01_k».proof.Proof.PleRef
public import proofs.«01_k».proof.Defs

@[expose] public section

/-! The per-layer input call's result is the reference's. -/

set_option maxRecDepth 16384

noncomputable section

namespace Cert.Kernel4Ideal.Ple

open Cert.Kernel4Ideal Cert.Kernel4Ideal.Gen
open Idealize.ShloMosaic Idealize.ShloMosaic.TcCoe Idealize.ShloMosaic.Tactic

variable (m : (ℓ : Loc nD τ sig) → Buf (Elt Ideal) ℓ)

theorem V_v1 (c : Dev nD) : V m c main_v1 = shapeCast S16384x256 (shapeCast S8x2048x256 (m ((c : Thread nD τ).loc main_arg1)) shapeCasts_S1x8x2048x256_S8x2048x256) shapeCasts_S8x2048x256_S16384x256 := by
  simp only [V, hostOps0]
  after_results_simp <;> rfl

theorem V_v3 (c : Dev nD) : V m c main_v3 = shapeCast S1x2048 (shapeCast S2048 (m ((c : Thread nD τ).loc main_arg2)) shapeCasts_S1x2048_S2048) shapeCasts_S2048_S1x2048 := by
  simp only [V, hostOps0]
  after_results_simp <;> rfl

theorem V_v5 (c : Dev nD) : V m c main_v5 = truncf .bf16 (shapeCast S2048x2048 (m ((c : Thread nD τ).loc main_arg3)) shapeCasts_S1x2048x2048_S2048x2048 : FVec Ideal S2048x2048 .f32) bitsLt_bf16_f32 := by
  simp only [V, hostOps0]
  after_results_simp <;> rfl

theorem V_v7 (c : Dev nD) : V m c main_v7 = truncf .bf16 (shapeCast S256x2048 (m ((c : Thread nD τ).loc main_arg4)) shapeCasts_S1x256x2048_S256x2048 : FVec Ideal S256x2048 .f32) bitsLt_bf16_f32 := by
  simp only [V, hostOps0]
  after_results_simp <;> rfl

theorem V_v8 (c : Dev nD) : V m c main_v8 = shapeCast S1x2048 (m ((c : Thread nD τ).loc main_arg5)) shapeCasts_S2048_S1x2048 := by
  simp only [V, hostOps0]
  after_results_simp <;> rfl

theorem flat_p (x : FVec Ideal S1x8x2048x256 .f32) (R : Fin 16384) (k : Fin 256) :
    shapeCast S16384x256 (shapeCast S8x2048x256 x shapeCasts_S1x8x2048x256_S8x2048x256) shapeCasts_S8x2048x256_S16384x256 (ix2 R k) = x (ix4 0 ⟨R.val / 2048, by omega⟩ ⟨R.val % 2048, by omega⟩ k) := by
  pointwise

theorem flat_ln (x : FVec Ideal S1x2048 .f32) (n : Fin 2048) :
    shapeCast S1x2048 (shapeCast S2048 x shapeCasts_S1x2048_S2048) shapeCasts_S2048_S1x2048 (ix2 0 n) = x (ix2 0 n) := by
  pointwise

theorem flat_wg (x : FVec Ideal S1x2048x2048 .f32) (k n : Fin 2048) :
    truncf .bf16 (shapeCast S2048x2048 x shapeCasts_S1x2048x2048_S2048x2048 : FVec Ideal S2048x2048 .f32) bitsLt_bf16_f32 (ix2 k n) = x (ix3 0 k n) := by
  pointwise

theorem flat_wp (x : FVec Ideal S1x256x2048 .f32) (k : Fin 256) (n : Fin 2048) :
    truncf .bf16 (shapeCast S256x2048 x shapeCasts_S1x256x2048_S256x2048 : FVec Ideal S256x2048 .f32) bitsLt_bf16_f32 (ix2 k n) = x (ix3 0 k n) := by
  pointwise

theorem flat_lf (x : FVec Ideal S2048 .f32) (n : Fin 2048) : shapeCast S1x2048 x shapeCasts_S2048_S1x2048 (ix2 0 n) = x (ix1 n) := by
  pointwise

theorem aP_apply (c : Dev nD) (x : FVec Ideal S1x8x2048x256 .f32) (hx : x = m ((c : Thread nD τ).loc main_arg1)) (R : Fin 16384) (k : Fin 256) :
    aP m c (ix2 R k) = x (ix4 0 ⟨R.val / 2048, by omega⟩ ⟨R.val % 2048, by omega⟩ k) := by
  refine (congrFun (V_v1 m c) (ix2 R k)).trans ?_
  rw [← hx]
  exact flat_p x R k

theorem aLN_apply (c : Dev nD) (x : FVec Ideal S1x2048 .f32) (hx : x = m ((c : Thread nD τ).loc main_arg2)) (n : Fin 2048) :
    aLN m c (ix2 0 n) = x (ix2 0 n) := by
  refine (congrFun (V_v3 m c) (ix2 0 n)).trans ?_
  rw [← hx]
  exact flat_ln x n

theorem aWG_apply (c : Dev nD) (x : FVec Ideal S1x2048x2048 .f32) (hx : x = m ((c : Thread nD τ).loc main_arg3)) (k n : Fin 2048) :
    aWG m c (ix2 k n) = x (ix3 0 k n) := by
  refine (congrFun (V_v5 m c) (ix2 k n)).trans ?_
  rw [← hx]
  exact flat_wg x k n

theorem aWP_apply (c : Dev nD) (x : FVec Ideal S1x256x2048 .f32) (hx : x = m ((c : Thread nD τ).loc main_arg4)) (k : Fin 256) (n : Fin 2048) :
    aWP m c (ix2 k n) = x (ix3 0 k n) := by
  refine (congrFun (V_v7 m c) (ix2 k n)).trans ?_
  rw [← hx]
  exact flat_wp x k n

theorem aLF_apply (c : Dev nD) (x : FVec Ideal S2048 .f32) (hx : x = m ((c : Thread nD τ).loc main_arg5)) (n : Fin 2048) :
    aLF m c (ix2 0 n) = x (ix1 n) := by
  refine (congrFun (V_v8 m c) (ix2 0 n)).trans ?_
  rw [← hx]
  exact flat_lf x n

end Cert.Kernel4Ideal.Ple

namespace Cert.PleTie

open Idealize.ShloMosaic Idealize.ShloMosaic.TcCoe Idealize.ShloMosaic.Tactic Idealize.SL Idealize.SL.Sem
open Cert.Kernel4Ideal.Ple (G aX aP aLN aWG aWP aLF outRow rms mix aP_apply aLN_apply aWG_apply aWP_apply aLF_apply)
open Cert.Reference4Ideal.Ple (norm mixed norm_apply weight_apply mixed_apply)

variable (m : (ℓ : Loc Cert.Kernel4Ideal.nD Cert.Kernel4Ideal.τ Cert.Kernel4Ideal.sig) → Buf (Elt Ideal) ℓ)

/-- The reference's value at one entry. -/
theorem ref_apply (x : FVec Ideal Cert.Reference4Ideal.S16384x2048 .f32) (pe : FVec Ideal Cert.Reference4Ideal.S1x8x2048x256 .f32)
    (ln : FVec Ideal Cert.Reference4Ideal.S1x2048 .f32) (wg : FVec Ideal Cert.Reference4Ideal.S1x2048x2048 .f32) (wp : FVec Ideal Cert.Reference4Ideal.S1x256x2048 .f32)
    (lf : FVec Ideal Cert.Reference4Ideal.S2048 .f32) (R : Fin 16384) (n : Fin 2048) :
    norm (mixed x (norm x (shapeCast _ ln Cert.Reference4Ideal.Gen.shapeCasts_S1x2048_S2048)) pe wg wp) lf (ix2 R n)
      = rms (mix (fun k => x (ix2 R k)) (fun k => ln (ix2 0 k)) (fun k n => wg (ix3 0 k n))
          (fun k => pe (ix4 0 ⟨R.val / 2048, by omega⟩ ⟨R.val % 2048, by omega⟩ k)) fun k n => wp (ix3 0 k n)) (fun k => lf (ix1 k)) n := by
  have e : ∀ k : Fin 2048, mixed x (norm x (shapeCast _ ln Cert.Reference4Ideal.Gen.shapeCasts_S1x2048_S2048)) pe wg wp (ix2 R k)
      = mix (fun k => x (ix2 R k)) (fun k => ln (ix2 0 k)) (fun k n => wg (ix3 0 k n))
          (fun k => pe (ix4 0 ⟨R.val / 2048, by omega⟩ ⟨R.val % 2048, by omega⟩ k)) (fun k n => wp (ix3 0 k n)) k := by
    intro k
    rw [mixed_apply]
    unfold mix rms
    simp only [norm_apply, weight_apply]
  rw [norm_apply]
  simp only [e]
  rfl

theorem result_eq (c : Dev Cert.Kernel4Ideal.nD)
    (x : FVec Ideal Cert.Reference4Ideal.S16384x2048 .f32) (hx : x = m ((c.tc : Thread Cert.Kernel4Ideal.nD Cert.Kernel4Ideal.τ).loc Cert.Kernel4Ideal.main_arg0))
    (pe : FVec Ideal Cert.Reference4Ideal.S1x8x2048x256 .f32) (hpe : pe = m ((c.tc : Thread Cert.Kernel4Ideal.nD Cert.Kernel4Ideal.τ).loc Cert.Kernel4Ideal.main_arg1))
    (ln : FVec Ideal Cert.Reference4Ideal.S1x2048 .f32) (hln : ln = m ((c.tc : Thread Cert.Kernel4Ideal.nD Cert.Kernel4Ideal.τ).loc Cert.Kernel4Ideal.main_arg2))
    (wg : FVec Ideal Cert.Reference4Ideal.S1x2048x2048 .f32) (hwg : wg = m ((c.tc : Thread Cert.Kernel4Ideal.nD Cert.Kernel4Ideal.τ).loc Cert.Kernel4Ideal.main_arg3))
    (wp : FVec Ideal Cert.Reference4Ideal.S1x256x2048 .f32) (hwp : wp = m ((c.tc : Thread Cert.Kernel4Ideal.nD Cert.Kernel4Ideal.τ).loc Cert.Kernel4Ideal.main_arg4))
    (lf : FVec Ideal Cert.Reference4Ideal.S2048 .f32) (hlf : lf = m ((c.tc : Thread Cert.Kernel4Ideal.nD Cert.Kernel4Ideal.τ).loc Cert.Kernel4Ideal.main_arg5)) :
    norm (mixed x (norm x (shapeCast _ ln Cert.Reference4Ideal.Gen.shapeCasts_S1x2048_S2048)) pe wg wp) lf = G m c := by
  funext y
  revert y
  intro (y : Cert.Reference4Ideal.S16384x2048.Idx)
  idx_vars y
  generalize y0 = R
  generalize y1 = n
  refine (ref_apply x pe ln wg wp lf R n).trans ?_
  have ex : aX m c = x := (Cert.Kernel4Ideal.Gen.V_main_arg0 m c).trans hx.symm
  show _ = outRow (fun k => (ix2 R k : Cert.Kernel4Ideal.S16384x2048.Idx)) (fun k => (ix2 R k : Cert.Kernel4Ideal.S16384x256.Idx)) (aX m c) (aP m c) (aLN m c) (aWG m c) (aWP m c) (aLF m c) n
  unfold outRow
  simp only [aP_apply m c pe hpe, aLN_apply m c ln hln, aWG_apply m c wg hwg, aWP_apply m c wp hwp, aLF_apply m c lf hlf]
  rw [ex]

theorem algebraic : Cert.algebraic_Kernel4Ideal_Reference4Ideal := by
  intro m ρ m' ρ' _ hagree
  refine ⟨fun c => G m c, (θ_run Cert.Kernel4Ideal.defs _ _).mono (fun _ h c => ⟨(h c).1.trans (Cert.Kernel4Ideal.Ple.arr_eq m c), (h c).2⟩) (Cert.Kernel4Ideal.Value.run_blocks (F := Ideal) m ρ), ?_⟩
  refine (θ_run Cert.Reference4Ideal.defs _ _).mono (fun _ h c => ⟨(h c).1.trans ?_, (h c).2⟩) (Cert.Reference4Ideal.Value.run (F := Ideal) m' ρ')
  exact result_eq m c _ (hagree c).1 _ (hagree c).2.1 _ (hagree c).2.2.1 _ (hagree c).2.2.2.1 _ (hagree c).2.2.2.2.1 _ (hagree c).2.2.2.2.2

end Cert.PleTie

end
-- ==== Proof.PleSampleVal.lean ====
module

public import proofs.«01_k».proof.Proof.Gen.Kernel6Ideal.Value
public import Idealize.ShloMosaic.Lib.Pipeline.ValueKit.Geometry
public import Idealize.ShloMosaic.Lib.Tactic.ValueTie

@[expose] public section

/-! The per-layer input call on the sample batch: what it leaves, element by element. -/

set_option maxRecDepth 512

noncomputable section

namespace Cert.Kernel6Ideal.PleSample

open Cert.Kernel6Ideal Cert.Kernel6Ideal.Gen
open Idealize.ShloMosaic Idealize.ShloMosaic.TcCoe Idealize.ShloMosaic.Tactic

/-- One entry of a normalised row: the entry over the root mean square of the row, times the weight. -/
def rms (x ln : Fin 2048 → EReal) (n : Fin 2048) : EReal :=
  x n * Ideal.rsqrt (Ideal.div (∑ k, x k * x k) (Ideal.ofBits .f32 0x45000000#32) + Ideal.ofBits .f32 0x358637BD#32) * ln n

/-- One entry of the row with the per-layer input gated in. -/
def mix (x ln : Fin 2048 → EReal) (wg : Fin 2048 → Fin 2048 → EReal) (p : Fin 256 → EReal) (wp : Fin 256 → Fin 2048 → EReal) (n : Fin 2048) : EReal :=
  x n + Ideal.logistic (∑ k, rms x ln k * wg k n) * ∑ k, p k * wp k n

theorem band0 (x : FVec Ideal S256x2048 .f32) (ln : FVec Ideal S1x2048 .f32) (wg : FVec Ideal S2048x2048 .bf16) (p : FVec Ideal S256x256 .f32)
    (wp : FVec Ideal S256x2048 .bf16) (lf : FVec Ideal S1x2048 .f32) (r : Fin 256) (n : Fin 2048) :
    k0_pay5 (F := Ideal) (k0_pay2 x ln wg p wp) (k0_pay3 lf) (k0_pay4 x ln wg p wp) (ix2 r n)
      = rms (mix (fun k => x (ix2 r k)) (fun k => ln (ix2 0 k)) (fun k n => wg (ix2 k n)) (fun k => p (ix2 r k)) fun k n => wp (ix2 k n)) (fun k => lf (ix2 0 k)) n := by
  unfold k0_pay5 k0_pay4 k0_pay2 k0_pay3 rms mix rms
  pointwise

theorem band1 (x : FVec Ideal S256x2048 .f32) (ln : FVec Ideal S1x2048 .f32) (wg : FVec Ideal S2048x2048 .bf16) (p : FVec Ideal S256x256 .f32)
    (wp : FVec Ideal S256x2048 .bf16) (lf : FVec Ideal S1x2048 .f32) (r : Fin 256) (n : Fin 2048) :
    k0_pay1 (F := Ideal) (k0_pay6 x ln wg p wp) (k0_pay7 lf) (k0_pay8 x ln wg p wp) k0_pay9 (ix2 r n)
      = rms (mix (fun k => x (ix2 r k)) (fun k => ln (ix2 0 k)) (fun k n => wg (ix2 k n)) (fun k => p (ix2 r k)) fun k n => wp (ix2 k n)) (fun k => lf (ix2 0 k)) n := by
  unfold k0_pay1 k0_pay8 k0_pay9 k0_pay7 k0_pay6 rms mix rms
  pointwise

/-- What the call leaves at row `r` of an array of rows. -/
def outRow {S P : Shape} (row : Fin 2048 → S.Idx) (prow : Fin 256 → P.Idx) (x : FVec Ideal S .f32) (p : FVec Ideal P .f32) (ln : FVec Ideal S1x2048 .f32)
    (wg : FVec Ideal S2048x2048 .bf16) (wp : FVec Ideal S256x2048 .bf16) (lf : FVec Ideal S1x2048 .f32) (n : Fin 2048) : EReal :=
  rms (mix (fun k => x (row k)) (fun k => ln (ix2 0 k)) (fun k n => wg (ix2 k n)) (fun k => p (prow k)) fun k n => wp (ix2 k n)) (fun k => lf (ix2 0 k)) n

theorem ld_rows (x : FVec Ideal S512x2048 .f32) (o : ℕ) (inb : ∀ a, (![o, 0] : Fin 2 → ℕ) a + S256x2048.size a ≤ S512x2048.size a) (a : Fin 256) (k : Fin 2048) (ho : o + 256 ≤ 512) :
    (Rect.unit (s := S512x2048) ![o, 0] S256x2048.size inb).idx (ix2 a k) = (ix2 ⟨o + a.val, by omega⟩ k : S512x2048.Idx) := by
  refine funext fun b => Fin.ext ?_
  match b with
  | ⟨0, _⟩ => show o + 1 * a.val = o + a.val; omega
  | ⟨1, _⟩ => show 0 + 1 * k.val = k.val; omega

theorem ld_prows (o : ℕ) (inb : ∀ a, (![o, 0] : Fin 2 → ℕ) a + S256x256.size a ≤ S512x256.size a) (a k : Fin 256) (ho : o + 256 ≤ 512) :
    (Rect.unit (s := S512x256) ![o, 0] S256x256.size inb).idx (ix2 a k) = (ix2 ⟨o + a.val, by omega⟩ k : S512x256.Idx) := by
  refine funext fun b => Fin.ext ?_
  match b with
  | ⟨0, _⟩ => show o + 1 * a.val = o + a.val; omega
  | ⟨1, _⟩ => show 0 + 1 * k.val = k.val; omega

theorem ld_1 (x : FVec Ideal S1x2048 .f32) : View.ld (Val := Elt Ideal) (e' := .f32) x r0_1 = x :=
  View.ld_unit_lit (Val := Elt Ideal) (S := S1x2048) (e := .f32) inb_S1x2048_S1x2048_0_0 x (by decide)

theorem ld_2 (x : FVec Ideal S2048x2048 .bf16) : View.ld (Val := Elt Ideal) (e' := .bf16) x r0_2 = x :=
  View.ld_unit_lit (Val := Elt Ideal) (S := S2048x2048) (e := .bf16) inb_S2048x2048_S2048x2048_0_0 x (by decide)

theorem ld_4 (x : FVec Ideal S256x2048 .bf16) : View.ld (Val := Elt Ideal) (e' := .bf16) x r0_4 = x :=
  View.ld_unit_lit (Val := Elt Ideal) (S := S256x2048) (e := .bf16) inb_S256x2048_S256x2048_0_0 x (by decide)

theorem out_apply (x0 : FVec Ideal S512x2048 .f32) (x1 : FVec Ideal S512x256 .f32) (x2 : FVec Ideal S1x2048 .f32) (x3 : FVec Ideal S2048x2048 .bf16)
    (x4 : FVec Ideal S256x2048 .bf16) (x5 : FVec Ideal S1x2048 .f32) (r : Fin 512) (n : Fin 2048) :
    out0_6 (F := Ideal) x0 x1 x2 x3 x4 x5 (ix2 r n) = outRow (fun k => (ix2 r k : S512x2048.Idx)) (fun k => (ix2 r k : S512x256.Idx)) x0 x1 x2 x3 x4 x5 n := by
  unfold out0_6
  refine View.canon_apply_of_pieces (Val := Elt Ideal) (fun y : S512x2048.Idx => outRow (fun k => (ix2 (y 0) k : S512x2048.Idx)) (fun k => (ix2 (y 0) k : S512x256.Idx)) x0 x1 x2 x3 x4 x5 (y 1)) _ ?_ (ix2 r n) (cover0_6 (F := Ideal) _ _ _)
  simp only [List.forall_mem_cons]
  rw [ld_1, ld_1, ld_2, ld_4]
  refine ⟨fun y => ?_, fun y => ?_, fun p hp => absurd hp List.not_mem_nil⟩
  · revert y
    intro (y : S256x2048.Idx)
    idx_vars y
    refine (band1 _ _ _ _ _ _ y0 y1).trans (Eq.trans ?_ (congrArg (fun y : S512x2048.Idx => outRow (fun k => (ix2 (y 0) k : S512x2048.Idx)) (fun k => (ix2 (y 0) k : S512x256.Idx)) x0 x1 x2 x3 x4 x5 (y 1))
      (ld_rows x0 256 inb_S512x2048_S256x2048_256_0 y0 y1 (by decide))).symm)
    have e0 : (fun k => View.ld (Val := Elt Ideal) (e' := .f32) x0 r0_5 (ix2 y0 k)) = fun k => x0 (ix2 ⟨256 + y0.val, by omega⟩ k) := funext fun k => congrArg x0 (ld_rows x0 256 inb_S512x2048_S256x2048_256_0 y0 k (by decide))
    have e1 : (fun k => View.ld (Val := Elt Ideal) (e' := .f32) x1 r0_6 (ix2 y0 k)) = fun k => x1 (ix2 ⟨256 + y0.val, by omega⟩ k) := funext fun k => congrArg x1 (ld_prows 256 inb_S512x256_S256x256_256_0 y0 k (by decide))
    rw [e0, e1]
    rfl
  · revert y
    intro (y : S256x2048.Idx)
    idx_vars y
    refine (band0 _ _ _ _ _ _ y0 y1).trans (Eq.trans ?_ (congrArg (fun y : S512x2048.Idx => outRow (fun k => (ix2 (y 0) k : S512x2048.Idx)) (fun k => (ix2 (y 0) k : S512x256.Idx)) x0 x1 x2 x3 x4 x5 (y 1))
      (ld_rows x0 0 inb_S512x2048_S256x2048_0_0 y0 y1 (by decide))).symm)
    have e0 : (fun k => View.ld (Val := Elt Ideal) (e' := .f32) x0 r0_0 (ix2 y0 k)) = fun k => x0 (ix2 ⟨0 + y0.val, by omega⟩ k) := funext fun k => congrArg x0 (ld_rows x0 0 inb_S512x2048_S256x2048_0_0 y0 k (by decide))
    have e1 : (fun k => View.ld (Val := Elt Ideal) (e' := .f32) x1 r0_3 (ix2 y0 k)) = fun k => x1 (ix2 ⟨0 + y0.val, by omega⟩ k) := funext fun k => congrArg x1 (ld_prows 0 inb_S512x256_S256x256_0_0 y0 k (by decide))
    rw [e0, e1]
    rfl

variable (m : (ℓ : Loc nD τ sig) → Buf (Elt Ideal) ℓ)

abbrev aX (c : Dev nD) : FVec Ideal S512x2048 .f32 := V m c main_arg0
abbrev aP (c : Dev nD) : FVec Ideal S512x256 .f32 := V m c main_v1
abbrev aLN (c : Dev nD) : FVec Ideal S1x2048 .f32 := V m c main_v3
abbrev aWG (c : Dev nD) : FVec Ideal S2048x2048 .bf16 := V m c main_v5
abbrev aWP (c : Dev nD) : FVec Ideal S256x2048 .bf16 := V m c main_v7
abbrev aLF (c : Dev nD) : FVec Ideal S1x2048 .f32 := V m c main_v8

theorem lt_N (t : Fin cfg0.N) : t.val < 1 := lt_of_lt_of_eq t.isLt N_0

/-- The row of the whole array that row `r` of the block at point `t` is. -/
abbrev rowAt (t : ℕ) (ht : t < 1) (r : Fin 512) : Fin 512 := ⟨512 * t + r.val, by omega⟩

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val, 0] := (by decide +kernel : ∀ t : Fin grid0.N, _)

theorem in0 (c : Dev nD) (t : Fin cfg0.N) (r : Fin 512) (k : Fin 2048) :
    iblk m c 0 t (ix2 r k : S512x2048.Idx) = aX m c (ix2 (rowAt t.val (lt_N t) r) k) := by
  unfold iblk
  refine congrArg (V m c main_arg0) (?_ : ((win0_0.blk t).view.emb (ix2 r k : S512x2048.Idx) : S512x2048.Idx) = _)
  blk_ext [ix_0]

theorem in1 (c : Dev nD) (t : Fin cfg0.N) (r : Fin 512) (k : Fin 256) :
    iblk m c 1 t (ix2 r k : S512x256.Idx) = aP m c (ix2 (rowAt t.val (lt_N t) r) k) := by
  unfold iblk
  refine congrArg (V m c main_v1) (?_ : ((win0_1.blk t).view.emb (ix2 r k : S512x256.Idx) : S512x256.Idx) = _)
  blk_ext [ix_1]

theorem in2 (c : Dev nD) (t : Fin cfg0.N) (k : Fin 2048) : iblk m c 2 t (ix2 0 k : S1x2048.Idx) = aLN m c (ix2 0 k) := by
  unfold iblk
  refine congrArg (V m c main_v3) (?_ : ((win0_2.blk t).view.emb (ix2 0 k : S1x2048.Idx) : S1x2048.Idx) = _)
  blk_ext [ix_2]

theorem in3 (c : Dev nD) (t : Fin cfg0.N) (k n : Fin 2048) : iblk m c 3 t (ix2 k n : S2048x2048.Idx) = aWG m c (ix2 k n) := by
  unfold iblk
  refine congrArg (V m c main_v5) (?_ : ((win0_3.blk t).view.emb (ix2 k n : S2048x2048.Idx) : S2048x2048.Idx) = _)
  blk_ext [ix_3]

theorem in4 (c : Dev nD) (t : Fin cfg0.N) (k : Fin 256) (n : Fin 2048) : iblk m c 4 t (ix2 k n : S256x2048.Idx) = aWP m c (ix2 k n) := by
  unfold iblk
  refine congrArg (V m c main_v7) (?_ : ((win0_4.blk t).view.emb (ix2 k n : S256x2048.Idx) : S256x2048.Idx) = _)
  blk_ext [ix_4]

theorem in5 (c : Dev nD) (t : Fin cfg0.N) (k : Fin 2048) : iblk m c 5 t (ix2 0 k : S1x2048.Idx) = aLF m c (ix2 0 k) := by
  unfold iblk
  refine congrArg (V m c main_v8) (?_ : ((win0_5.blk t).view.emb (ix2 0 k : S1x2048.Idx) : S1x2048.Idx) = _)
  blk_ext [ix_5]

/-- The array the call leaves. -/
def G (c : Dev nD) : FVec Ideal S512x2048 .f32 := fun y =>
  outRow (fun k => (ix2 (y 0) k : S512x2048.Idx)) (fun k => (ix2 (y 0) k : S512x256.Idx)) (aX m c) (aP m c) (aLN m c) (aWG m c) (aWP m c) (aLF m c) (y 1)

theorem emb6 (t : Fin cfg0.N) (r : Fin 512) (n : Fin 2048) :
    (win0_6.blk t).view.emb (ix2 r n : S512x2048.Idx) = (ix2 (rowAt t.val (lt_N t) r) n : S512x2048.Idx) := by
  blk_ext [ix_6]

theorem arr_eq (c : Dev nD) : (dats m 0 c).arrAt 6 cfg0.N = G m c := by
  refine (dats m 0 c).arrAt_eq_of_covers 6 (G m c) (by decide +kernel) fun t hf y => ?_
  blk_simp
  rw [after0_6]
  revert y
  intro (y : S512x2048.Idx)
  idx_vars y
  refine (out_apply _ _ _ _ _ _ y0 y1).trans (Eq.trans ?_ (congrArg (G m c) (emb6 t y0 y1)).symm)
  unfold outRow
  have e0 : (fun k => iblk m c 0 t (ix2 y0 k : S512x2048.Idx)) = fun k => aX m c (ix2 (rowAt t.val (lt_N t) y0) k) := funext fun k => in0 m c t y0 k
  have e1 : (fun k => iblk m c 1 t (ix2 y0 k : S512x256.Idx)) = fun k => aP m c (ix2 (rowAt t.val (lt_N t) y0) k) := funext fun k => in1 m c t y0 k
  have e2 : (fun k => iblk m c 2 t (ix2 0 k : S1x2048.Idx)) = fun k => aLN m c (ix2 0 k) := funext fun k => in2 m c t k
  have e3 : (fun k n => iblk m c 3 t (ix2 k n : S2048x2048.Idx)) = fun k n => aWG m c (ix2 k n) := funext fun k => funext fun n => in3 m c t k n
  have e4 : (fun k n => iblk m c 4 t (ix2 k n : S256x2048.Idx)) = fun k n => aWP m c (ix2 k n) := funext fun k => funext fun n => in4 m c t k n
  have e5 : (fun k => iblk m c 5 t (ix2 0 k : S1x2048.Idx)) = fun k => aLF m c (ix2 0 k) := funext fun k => in5 m c t k
  exact congrFun (congrArg₂ rms (by rw [e0, e1, e2, e3, e4]; rfl) e5) y1

end Cert.Kernel6Ideal.PleSample

end
-- ==== Proof.PleSampleRef.lean ====
module

public import proofs.«01_k».proof.Proof.Gen.Reference6Ideal.Run
public import Idealize.ShloMosaic.Lib.Tactic.ValueTie

@[expose] public section

/-! The per-layer input's reference on the sample batch, read element by element. -/

set_option maxRecDepth 512

noncomputable section

namespace Cert.Reference6Ideal.PleSample

open Cert.Reference6Ideal Cert.Reference6Ideal.Gen
open Idealize.ShloMosaic Idealize.ShloMosaic.TcCoe Idealize.ShloMosaic.Tactic

/-- The normalised rows. -/
def norm (x : FVec Ideal S512x2048 .f32) (ln : FVec Ideal S2048 .f32) : FVec Ideal S512x2048 .f32 :=
  mulf (mulf x (broadcastInDim S512x2048 ![0, 1] bcast_S512x1_S512x2048_0_1 (Host.rsqrt (addf (Host.divf (broadcastInDim S512x1 ![0] bcast_S512_S512x1_0 (Host.reduceAdd (mulf x x) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 ln))

/-- The rows with the per-layer input gated in; `h` is the gate's input. -/
def mixed (x h : FVec Ideal S512x2048 .f32) (pe : FVec Ideal S1x128x4x256 .f32) (wg : FVec Ideal S1x2048x2048 .f32) (wp : FVec Ideal S1x256x2048 .f32) : FVec Ideal S512x2048 .f32 :=
  addf x (mulf (Host.divf (broadcastInDim S512x2048 ![] bcast_S_S512x2048 (constant S_ .f32 0x3F800000#32)) (addf (broadcastInDim S512x2048 ![] bcast_S_S512x2048 (constant S_ .f32 0x3F800000#32)) (Host.exp (Host.negf (Host.dotGeneral dot_S512x2048_S2048x2048_S512x2048_1_0_0_1_n_n none h (shapeCast _ wg shapeCasts_S1x2048x2048_S2048x2048)))))) (Host.dotGeneral dot_S512x256_S256x2048_S512x2048_1_0_0_1_n_n none (shapeCast _ (shapeCast _ pe shapeCasts_S1x128x4x256_S128x4x256) shapeCasts_S128x4x256_S512x256) (shapeCast _ wp shapeCasts_S1x256x2048_S256x2048)))

theorem norm_apply (x : FVec Ideal S512x2048 .f32) (ln : FVec Ideal S2048 .f32) (R : Fin 512) (n : Fin 2048) :
    norm x ln (ix2 R n) = x (ix2 R n) * Ideal.rsqrt (Ideal.div (∑ k, x (ix2 R k) * x (ix2 R k)) (Ideal.ofBits .f32 0x45000000#32) + Ideal.ofBits .f32 0x358637BD#32) * ln (ix1 n) := by
  unfold norm
  pointwise

theorem weight_apply (ln : FVec Ideal S1x2048 .f32) (n : Fin 2048) : shapeCast S2048 ln shapeCasts_S1x2048_S2048 (ix1 n) = ln (ix2 0 n) := by
  pointwise

theorem mixed_apply (x h : FVec Ideal S512x2048 .f32) (pe : FVec Ideal S1x128x4x256 .f32) (wg : FVec Ideal S1x2048x2048 .f32) (wp : FVec Ideal S1x256x2048 .f32) (R : Fin 512) (n : Fin 2048) :
    mixed x h pe wg wp (ix2 R n) = x (ix2 R n) + Ideal.logistic (∑ k, h (ix2 R k) * wg (ix3 0 k n))
      * ∑ k, pe (ix4 0 ⟨R.val / 4, by omega⟩ ⟨R.val % 4, by omega⟩ k) * wp (ix3 0 k n) := by
  unfold mixed Ideal.logistic
  pointwise

end Cert.Reference6Ideal.PleSample

end
-- ==== Proof.PleSampleAlg.lean ====
module

public import proofs.«01_k».proof.Proof.PleSampleVal
public import proofs.«01_k».proof.Proof.PleSampleRef
public import proofs.«01_k».proof.Defs

@[expose] public section

/-! The per-layer input call on the sample batch's result is the reference's. -/

set_option maxRecDepth 512

noncomputable section

namespace Cert.Kernel6Ideal.PleSample

open Cert.Kernel6Ideal Cert.Kernel6Ideal.Gen
open Idealize.ShloMosaic Idealize.ShloMosaic.TcCoe Idealize.ShloMosaic.Tactic

variable (m : (ℓ : Loc nD τ sig) → Buf (Elt Ideal) ℓ)

theorem V_v1 (c : Dev nD) : V m c main_v1 = shapeCast S512x256 (shapeCast S128x4x256 (m ((c : Thread nD τ).loc main_arg1)) shapeCasts_S1x128x4x256_S128x4x256) shapeCasts_S128x4x256_S512x256 := by
  simp only [V, hostOps0]
  after_results_simp <;> rfl

theorem V_v3 (c : Dev nD) : V m c main_v3 = shapeCast S1x2048 (shapeCast S2048 (m ((c : Thread nD τ).loc main_arg2)) shapeCasts_S1x2048_S2048) shapeCasts_S2048_S1x2048 := by
  simp only [V, hostOps0]
  after_results_simp <;> rfl

theorem V_v5 (c : Dev nD) : V m c main_v5 = truncf .bf16 (shapeCast S2048x2048 (m ((c : Thread nD τ).loc main_arg3)) shapeCasts_S1x2048x2048_S2048x2048 : FVec Ideal S2048x2048 .f32) bitsLt_bf16_f32 := by
  simp only [V, hostOps0]
  after_results_simp <;> rfl

theorem V_v7 (c : Dev nD) : V m c main_v7 = truncf .bf16 (shapeCast S256x2048 (m ((c : Thread nD τ).loc main_arg4)) shapeCasts_S1x256x2048_S256x2048 : FVec Ideal S256x2048 .f32) bitsLt_bf16_f32 := by
  simp only [V, hostOps0]
  after_results_simp <;> rfl

theorem V_v8 (c : Dev nD) : V m c main_v8 = shapeCast S1x2048 (m ((c : Thread nD τ).loc main_arg5)) shapeCasts_S2048_S1x2048 := by
  simp only [V, hostOps0]
  after_results_simp <;> rfl

theorem flat_p (x : FVec Ideal S1x128x4x256 .f32) (R : Fin 512) (k : Fin 256) :
    shapeCast S512x256 (shapeCast S128x4x256 x shapeCasts_S1x128x4x256_S128x4x256) shapeCasts_S128x4x256_S512x256 (ix2 R k) = x (ix4 0 ⟨R.val / 4, by omega⟩ ⟨R.val % 4, by omega⟩ k) := by
  pointwise

theorem flat_ln (x : FVec Ideal S1x2048 .f32) (n : Fin 2048) :
    shapeCast S1x2048 (shapeCast S2048 x shapeCasts_S1x2048_S2048) shapeCasts_S2048_S1x2048 (ix2 0 n) = x (ix2 0 n) := by
  pointwise

theorem flat_wg (x : FVec Ideal S1x2048x2048 .f32) (k n : Fin 2048) :
    truncf .bf16 (shapeCast S2048x2048 x shapeCasts_S1x2048x2048_S2048x2048 : FVec Ideal S2048x2048 .f32) bitsLt_bf16_f32 (ix2 k n) = x (ix3 0 k n) := by
  pointwise

theorem flat_wp (x : FVec Ideal S1x256x2048 .f32) (k : Fin 256) (n : Fin 2048) :
    truncf .bf16 (shapeCast S256x2048 x shapeCasts_S1x256x2048_S256x2048 : FVec Ideal S256x2048 .f32) bitsLt_bf16_f32 (ix2 k n) = x (ix3 0 k n) := by
  pointwise

theorem flat_lf (x : FVec Ideal S2048 .f32) (n : Fin 2048) : shapeCast S1x2048 x shapeCasts_S2048_S1x2048 (ix2 0 n) = x (ix1 n) := by
  pointwise

theorem aP_apply (c : Dev nD) (x : FVec Ideal S1x128x4x256 .f32) (hx : x = m ((c : Thread nD τ).loc main_arg1)) (R : Fin 512) (k : Fin 256) :
    aP m c (ix2 R k) = x (ix4 0 ⟨R.val / 4, by omega⟩ ⟨R.val % 4, by omega⟩ k) := by
  refine (congrFun (V_v1 m c) (ix2 R k)).trans ?_
  rw [← hx]
  exact flat_p x R k

theorem aLN_apply (c : Dev nD) (x : FVec Ideal S1x2048 .f32) (hx : x = m ((c : Thread nD τ).loc main_arg2)) (n : Fin 2048) :
    aLN m c (ix2 0 n) = x (ix2 0 n) := by
  refine (congrFun (V_v3 m c) (ix2 0 n)).trans ?_
  rw [← hx]
  exact flat_ln x n

theorem aWG_apply (c : Dev nD) (x : FVec Ideal S1x2048x2048 .f32) (hx : x = m ((c : Thread nD τ).loc main_arg3)) (k n : Fin 2048) :
    aWG m c (ix2 k n) = x (ix3 0 k n) := by
  refine (congrFun (V_v5 m c) (ix2 k n)).trans ?_
  rw [← hx]
  exact flat_wg x k n

theorem aWP_apply (c : Dev nD) (x : FVec Ideal S1x256x2048 .f32) (hx : x = m ((c : Thread nD τ).loc main_arg4)) (k : Fin 256) (n : Fin 2048) :
    aWP m c (ix2 k n) = x (ix3 0 k n) := by
  refine (congrFun (V_v7 m c) (ix2 k n)).trans ?_
  rw [← hx]
  exact flat_wp x k n

theorem aLF_apply (c : Dev nD) (x : FVec Ideal S2048 .f32) (hx : x = m ((c : Thread nD τ).loc main_arg5)) (n : Fin 2048) :
    aLF m c (ix2 0 n) = x (ix1 n) := by
  refine (congrFun (V_v8 m c) (ix2 0 n)).trans ?_
  rw [← hx]
  exact flat_lf x n

end Cert.Kernel6Ideal.PleSample

namespace Cert.PleSampleTie

open Idealize.ShloMosaic Idealize.ShloMosaic.TcCoe Idealize.ShloMosaic.Tactic Idealize.SL Idealize.SL.Sem
open Cert.Kernel6Ideal.PleSample (G aX aP aLN aWG aWP aLF outRow rms mix aP_apply aLN_apply aWG_apply aWP_apply aLF_apply)
open Cert.Reference6Ideal.PleSample (norm mixed norm_apply weight_apply mixed_apply)

variable (m : (ℓ : Loc Cert.Kernel6Ideal.nD Cert.Kernel6Ideal.τ Cert.Kernel6Ideal.sig) → Buf (Elt Ideal) ℓ)

/-- The reference's value at one entry. -/
theorem ref_apply (x : FVec Ideal Cert.Reference6Ideal.S512x2048 .f32) (pe : FVec Ideal Cert.Reference6Ideal.S1x128x4x256 .f32)
    (ln : FVec Ideal Cert.Reference6Ideal.S1x2048 .f32) (wg : FVec Ideal Cert.Reference6Ideal.S1x2048x2048 .f32) (wp : FVec Ideal Cert.Reference6Ideal.S1x256x2048 .f32)
    (lf : FVec Ideal Cert.Reference6Ideal.S2048 .f32) (R : Fin 512) (n : Fin 2048) :
    norm (mixed x (norm x (shapeCast _ ln Cert.Reference6Ideal.Gen.shapeCasts_S1x2048_S2048)) pe wg wp) lf (ix2 R n)
      = rms (mix (fun k => x (ix2 R k)) (fun k => ln (ix2 0 k)) (fun k n => wg (ix3 0 k n))
          (fun k => pe (ix4 0 ⟨R.val / 4, by omega⟩ ⟨R.val % 4, by omega⟩ k)) fun k n => wp (ix3 0 k n)) (fun k => lf (ix1 k)) n := by
  have e : ∀ k : Fin 2048, mixed x (norm x (shapeCast _ ln Cert.Reference6Ideal.Gen.shapeCasts_S1x2048_S2048)) pe wg wp (ix2 R k)
      = mix (fun k => x (ix2 R k)) (fun k => ln (ix2 0 k)) (fun k n => wg (ix3 0 k n))
          (fun k => pe (ix4 0 ⟨R.val / 4, by omega⟩ ⟨R.val % 4, by omega⟩ k)) (fun k n => wp (ix3 0 k n)) k := by
    intro k
    rw [mixed_apply]
    unfold mix rms
    simp only [norm_apply, weight_apply]
  rw [norm_apply]
  simp only [e]
  rfl

theorem result_eq (c : Dev Cert.Kernel6Ideal.nD)
    (x : FVec Ideal Cert.Reference6Ideal.S512x2048 .f32) (hx : x = m ((c.tc : Thread Cert.Kernel6Ideal.nD Cert.Kernel6Ideal.τ).loc Cert.Kernel6Ideal.main_arg0))
    (pe : FVec Ideal Cert.Reference6Ideal.S1x128x4x256 .f32) (hpe : pe = m ((c.tc : Thread Cert.Kernel6Ideal.nD Cert.Kernel6Ideal.τ).loc Cert.Kernel6Ideal.main_arg1))
    (ln : FVec Ideal Cert.Reference6Ideal.S1x2048 .f32) (hln : ln = m ((c.tc : Thread Cert.Kernel6Ideal.nD Cert.Kernel6Ideal.τ).loc Cert.Kernel6Ideal.main_arg2))
    (wg : FVec Ideal Cert.Reference6Ideal.S1x2048x2048 .f32) (hwg : wg = m ((c.tc : Thread Cert.Kernel6Ideal.nD Cert.Kernel6Ideal.τ).loc Cert.Kernel6Ideal.main_arg3))
    (wp : FVec Ideal Cert.Reference6Ideal.S1x256x2048 .f32) (hwp : wp = m ((c.tc : Thread Cert.Kernel6Ideal.nD Cert.Kernel6Ideal.τ).loc Cert.Kernel6Ideal.main_arg4))
    (lf : FVec Ideal Cert.Reference6Ideal.S2048 .f32) (hlf : lf = m ((c.tc : Thread Cert.Kernel6Ideal.nD Cert.Kernel6Ideal.τ).loc Cert.Kernel6Ideal.main_arg5)) :
    norm (mixed x (norm x (shapeCast _ ln Cert.Reference6Ideal.Gen.shapeCasts_S1x2048_S2048)) pe wg wp) lf = G m c := by
  funext y
  revert y
  intro (y : Cert.Reference6Ideal.S512x2048.Idx)
  idx_vars y
  generalize y0 = R
  generalize y1 = n
  refine (ref_apply x pe ln wg wp lf R n).trans ?_
  have ex : aX m c = x := (Cert.Kernel6Ideal.Gen.V_main_arg0 m c).trans hx.symm
  show _ = outRow (fun k => (ix2 R k : Cert.Kernel6Ideal.S512x2048.Idx)) (fun k => (ix2 R k : Cert.Kernel6Ideal.S512x256.Idx)) (aX m c) (aP m c) (aLN m c) (aWG m c) (aWP m c) (aLF m c) n
  unfold outRow
  simp only [aP_apply m c pe hpe, aLN_apply m c ln hln, aWG_apply m c wg hwg, aWP_apply m c wp hwp, aLF_apply m c lf hlf]
  rw [ex]

theorem algebraic : Cert.algebraic_Kernel6Ideal_Reference6Ideal := by
  intro m ρ m' ρ' _ hagree
  refine ⟨fun c => G m c, (θ_run Cert.Kernel6Ideal.defs _ _).mono (fun _ h c => ⟨(h c).1.trans (Cert.Kernel6Ideal.PleSample.arr_eq m c), (h c).2⟩) (Cert.Kernel6Ideal.Value.run_blocks (F := Ideal) m ρ), ?_⟩
  refine (θ_run Cert.Reference6Ideal.defs _ _).mono (fun _ h c => ⟨(h c).1.trans ?_, (h c).2⟩) (Cert.Reference6Ideal.Value.run (F := Ideal) m' ρ')
  exact result_eq m c _ (hagree c).1 _ (hagree c).2.1 _ (hagree c).2.2.1 _ (hagree c).2.2.2.1 _ (hagree c).2.2.2.2.1 _ (hagree c).2.2.2.2.2

end Cert.PleSampleTie

end
-- ==== Proof.InProjRuns.lean ====
/- The input projection's body run once for each of its five kinds of grid point: the first one, which
   normalises the rows and takes the first product; the two kinds that take a product into one scratch
   while the product of the point before is rotated out of the other; the last rotation; and the points
   whose product is stored as it is. Each run finds the pieces its stores leave. -/
module

public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's first branch, at a grid point. -/
abbrev atStart (i : grid0.Coords) : Prop :=
  (Scalar.cmpi .ne (Scalar.extui (Scalar.cmpi .eq (BitVec.ofNat 32 (i 1).val) 0#32)) 0#32) = 1#1

set_option maxHeartbeats 4000000 in
/-- What the first point leaves, as pieces, with the proof that the body runs to them. -/
noncomputable def runFirst (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : (atStart i)) (hc1 : ¬(k0_cond2 i = 1#1)) (hc2 : ¬(k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x5 : Vec F S512x512 .f32) :
    { P : List (View.Piece (Elt F) S512x2048 .bf16) × List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f P.1) ∗ (∃ f, arg9.view.loc (c : Thread nD τ) ↦[arg9.view.set]{fullShare} arg9.view.writes (Elt F) f P.2) ∗ (∃ d, owns (c : Thread nD τ) arg10 fullShare d)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨⟨?_, ?_⟩, fun E K => ?run⟩
  case run =>
    simp only [cc0_inproj_eq_skeleton]; unfold cc0_inproj_skel
    simp only [k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    iexists _, _; isplitr; swap; · iexact H8
    ipureintro; rfl

set_option maxHeartbeats 4000000 in
/-- What an even point among those that rotate leaves, as pieces, with the proof that the body runs to them. -/
noncomputable def runEven (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : (k0_cond2 i = 1#1)) (hc2 : ¬(k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x8 : Vec F S512x512 .f32) :
    { P : List (View.Piece (Elt F) S512x512 .f32) × List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ owns (c : Thread nD τ) arg10 fullShare x8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f P.1) ∗ owns (c : Thread nD τ) arg8 fullShare x6 ∗ (∃ f, arg9.view.loc (c : Thread nD τ) ↦[arg9.view.set]{fullShare} arg9.view.writes (Elt F) f P.2) ∗ owns (c : Thread nD τ) arg10 fullShare x8) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨⟨?_, ?_⟩, fun E K => ?run⟩
  case run =>
    simp only [cc0_inproj_eq_skeleton]; unfold cc0_inproj_skel
    simp only [k0_part22_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hf8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; iexact H7
    iexists _; isplitr; · ipureintro; exact harg10.read_unread _
    iexact H8

set_option maxHeartbeats 4000000 in
/-- What an odd point among those that rotate leaves, as pieces, with the proof that the body runs to them. -/
noncomputable def runOdd (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : (k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x7 : Vec F S512x512 .f32) :
    { P : List (View.Piece (Elt F) S512x512 .f32) × List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f P.1) ∗ owns (c : Thread nD τ) arg8 fullShare x6 ∗ owns (c : Thread nD τ) arg9 fullShare x7 ∗ (∃ f, arg10.view.loc (c : Thread nD τ) ↦[arg10.view.set]{fullShare} arg10.view.writes (Elt F) f P.2)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨⟨?_, ?_⟩, fun E K => ?run⟩
  case run =>
    simp only [cc0_inproj_eq_skeleton]; unfold cc0_inproj_skel
    simp only [k0_part22_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; isplitr; · ipureintro; exact harg9.read_unread _
      iexact H7
    iexists _; iexact H8

set_option maxHeartbeats 4000000 in
/-- What the point of the last rotation leaves, as pieces, with the proof that the body runs to them. -/
noncomputable def runLast (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : ¬(k0_cond3 i = 1#1)) (hc3 : (k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x8 : Vec F S512x512 .f32) :
    { P : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ owns (c : Thread nD τ) arg10 fullShare x8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f P) ∗ owns (c : Thread nD τ) arg8 fullShare x6 ∗ (∃ d, owns (c : Thread nD τ) arg9 fullShare d) ∗ owns (c : Thread nD τ) arg10 fullShare x8) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨?_, fun E K => ?run⟩
  case run =>
    simp only [cc0_inproj_eq_skeleton]; unfold cc0_inproj_skel
    simp only [k0_part22_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hf8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _, _; isplitr; swap; · iexact H7
      ipureintro; rfl
    iexists _; isplitr; · ipureintro; exact harg10.read_unread _
    iexact H8

set_option maxHeartbeats 4000000 in
/-- What a point whose product is stored as it is leaves, as pieces, with the proof that the body runs to them. -/
noncomputable def runPlain (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : ¬(k0_cond3 i = 1#1)) (hc3 : ¬(k0_cond4 i = 1#1)) (hc4 : (k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) :
    { P : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f P) ∗ owns (c : Thread nD τ) arg8 fullShare x6 ∗ (∃ d, owns (c : Thread nD τ) arg9 fullShare d) ∗ (∃ d, owns (c : Thread nD τ) arg10 fullShare d)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨?_, fun E K => ?run⟩
  case run =>
    simp only [cc0_inproj_eq_skeleton]; unfold cc0_inproj_skel
    simp only [k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _, _; isplitr; swap; · iexact H7
      ipureintro; rfl
    iexists _, _; isplitr; swap; · iexact H8
    ipureintro; rfl

end Cert.Kernel5Ideal.InProj
-- ==== Proof.InProjBody.lean ====
/- What the runs of the input projection's body leave, read off their pieces. -/
module

public import proofs.«01_k».proof.Proof.InProjRuns
public import Idealize.ShloMosaic.Lib.Pipeline.ValueKit.Geometry
public import Idealize.ShloMosaic.Lib.Tactic.ValueTie

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A band of sixty-four rows of one head, rotated by its rows of the two tables. -/
def ropeBlk (z cs sn : Vec F S64x128 .f32) : FVec F S64x128 .f32 :=
  addf (mulf z (shapeCast S64x128 cs shapeCasts_S64x128_S64x128))
    (mulf (dynamicRotate 1 64#32 none z rotates_S64x128_d1) (shapeCast S64x128 sn shapeCasts_S64x128_S64x128))

/-- Where band `o` of head `q` lies in a block of products, -/
def bandAt (o : Fin 8) (q : Fin 4) : Rect S512x512 := Rect.unit ![64 * o.val, 128 * q.val] S64x128.size (by revert o q; decide +kernel)

/-- and band `o` in a table. -/
def rowsOf (o : Fin 8) : Rect S512x128 := Rect.unit ![64 * o.val, 0] S64x128.size (by revert o; decide +kernel)

/-- Band `o` of head `q`, rotated and put back. -/
def ropePiece (z : Vec F S512x512 .f32) (cs sn : Vec F S512x128 .f32) (o : Fin 8) (q : Fin 4) : View.Piece (Elt F) S512x512 .f32 :=
  ⟨bandAt o q, ropeBlk (fun j => z ((bandAt o q).toLoadRect.idx j)) (fun j => cs ((rowsOf o).toLoadRect.idx j)) (fun j => sn ((rowsOf o).toLoadRect.idx j))⟩

/-- All thirty-two, the last stored first. -/
def ropePieces (z : Vec F S512x512 .f32) (cs sn : Vec F S512x128 .f32) : List (View.Piece (Elt F) S512x512 .f32) :=
  ([7, 6, 5, 4, 3, 2, 1, 0] : List (Fin 8)).flatMap fun o => ([3, 2, 1, 0] : List (Fin 4)).map fun q => ropePiece z cs sn o q

/-- The rotated block. -/
def ropeOut (z : Vec F S512x512 .f32) (cs sn : Vec F S512x128 .f32) : Vec F S512x512 .f32 := View.canon (ropePieces z cs sn)

theorem mem_bandAt (y : S512x512.Idx) (o : Fin 8) (q : Fin 4) (ho : o.val = (y 0 : ℕ) / 64) (hq : q.val = (y 1 : ℕ) / 128) : y ∈ (bandAt o q).set := by
  refine LoadRect.mem_set _ |>.mpr fun a => ?_
  match a with
  | ⟨0, _⟩ => exact ⟨(y 0 : ℕ) % 64, by show _ < 64; omega, by show (y 0 : ℕ) = 64 * o.val + 1 * ((y 0 : ℕ) % 64); omega⟩
  | ⟨1, _⟩ => exact ⟨(y 1 : ℕ) % 128, by show _ < 128; omega, by show (y 1 : ℕ) = 128 * q.val + 1 * ((y 1 : ℕ) % 128); omega⟩

theorem mem_bands (o : Fin 8) : o ∈ ([7, 6, 5, 4, 3, 2, 1, 0] : List (Fin 8)) := by revert o; decide
theorem mem_cols (q : Fin 4) : q ∈ ([3, 2, 1, 0] : List (Fin 4)) := by revert q; decide

/-- The thirty-two bands cover the block. -/
theorem cover_rope (z : Vec F S512x512 .f32) (cs sn : Vec F S512x128 .f32) (y : S512x512.Idx) : ∃ p ∈ ropePieces z cs sn, y ∈ p.1.set := by
  have h0 : (y 0 : ℕ) < 512 := (y 0).isLt
  have h1 : (y 1 : ℕ) < 512 := (y 1).isLt
  refine ⟨ropePiece z cs sn ⟨(y 0 : ℕ) / 64, by omega⟩ ⟨(y 1 : ℕ) / 128, by omega⟩, ?_, mem_bandAt y _ _ rfl rfl⟩
  exact List.mem_flatMap.mpr ⟨_, mem_bands _, List.mem_map.mpr ⟨_, mem_cols _, rfl⟩⟩

theorem readAt_band (m : Memref sig .tc .vmem S512x512 .f32) (h : m.IsWhole) (X : Vec F S512x512 .f32) (R : LoadRect S512x512) :
    m.view.readAt (Elt F) R (h.unread X) = fun j => X (R.idx j) := by
  show (fun j => m.view.read (Elt F) (h.unread X) (R.idx j)) = _
  rw [h.read_unread]

theorem readAt_table (m : Memref sig .tc .vmem S512x128 .f32) (h : m.IsWhole) (X : Vec F S512x128 .f32) (R : LoadRect S512x128) :
    m.view.readAt (Elt F) R (h.unread X) = fun j => X (R.idx j) := by
  show (fun j => m.view.read (Elt F) (h.unread X) (R.idx j)) = _
  rw [h.read_unread]

theorem zero2 : (![0, 0] : Fin 2 → ℕ) = fun _ => 0 := by decide

theorem readAt_h (m : Memref sig .tc .vmem S512x2048 .bf16) (h : m.IsWhole) (X : Vec F S512x2048 .bf16) :
    m.view.readAt (Elt F) (Rect.unit (s := S512x2048) ![0, 0] ![512, 2048] inb_S512x2048_S512x2048_0_0).toLoadRect (h.unread X) = X := by
  rw [View.readAt_eq_ld, h.read_unread]; exact View.ld_unit_lit _ X (by decide)

theorem readAt_x (m : Memref sig .tc .vmem S512x2048 .f32) (h : m.IsWhole) (X : Vec F S512x2048 .f32) :
    m.view.readAt (Elt F) (Rect.unit (s := S512x2048) ![0, 0] ![512, 2048] inb_S512x2048_S512x2048_0_0).toLoadRect (h.unread X) = X := by
  rw [View.readAt_eq_ld, h.read_unread]; exact View.ld_unit_lit _ X (by decide)

theorem readAt_ln (m : Memref sig .tc .vmem S1x2048 .f32) (h : m.IsWhole) (X : Vec F S1x2048 .f32) :
    m.view.readAt (Elt F) (Rect.unit (s := S1x2048) ![0, 0] ![1, 2048] inb_S1x2048_S1x2048_0_0).toLoadRect (h.unread X) = X := by
  rw [View.readAt_eq_ld, h.read_unread]; exact View.ld_unit_lit _ X (by decide)

theorem readAt_w (m : Memref sig .tc .vmem S2048x512 .bf16) (h : m.IsWhole) (X : Vec F S2048x512 .bf16) :
    m.view.readAt (Elt F) (Rect.unit (s := S2048x512) ![0, 0] ![2048, 512] inb_S2048x512_S2048x512_0_0).toLoadRect (h.unread X) = X := by
  rw [View.readAt_eq_ld, h.read_unread]; exact View.ld_unit_lit _ X (by decide)

/-- A product stored straight out is the product kept. -/
theorem pay7_eq (h : Vec F S512x2048 .bf16) (w : Vec F S2048x512 .bf16) : k0_pay7 h w = k0_pay151 h w := by
  unfold k0_pay7 k0_pay151
  exact (shapeCast_self _ _).symm

/-- Rows just stored whole are read back. -/
theorem readCov_h (m : Memref sig .tc .vmem S512x2048 .bf16) (w : Vec F S512x2048 .bf16) :
    m.view.readCov [(⟨Rect.unit (s := S512x2048) ![0, 0] ![512, 2048] inb_S512x2048_S512x2048_0_0, w⟩ : View.Piece (Elt F) S512x2048 .bf16)]
      (Rect.unit (s := S512x2048) ![0, 0] ![512, 2048] inb_S512x2048_S512x2048_0_0).toLoadRect = w :=
  View.readCov_unit_zero m.view zero2 inb_S512x2048_S512x2048_0_0 w

/-- One block stored whole. -/
def wholeZ (w : Vec F S512x512 .f32) : List (View.Piece (Elt F) S512x512 .f32) :=
  [⟨Rect.unit (s := S512x512) ![0, 0] S512x512.size inb_S512x512_S512x512_0_0, w⟩]

def wholeH (w : Vec F S512x2048 .bf16) : List (View.Piece (Elt F) S512x2048 .bf16) :=
  [⟨Rect.unit (s := S512x2048) ![0, 0] S512x2048.size inb_S512x2048_S512x2048_0_0, w⟩]

theorem read_wholeZ (m : Memref sig .tc .vmem S512x512 .f32) (f : m.view.ty.Contents (Elt F)) (w : Vec F S512x512 .f32) :
    m.view.read (Elt F) (m.view.writes (Elt F) f (wholeZ w)) = w :=
  (View.read_writes_eq_canon _ _ _ fun y => ⟨_, List.mem_singleton.mpr rfl, View.mem_set_unit_zero zero2 inb_S512x512_S512x512_0_0 y⟩).trans
    (View.canon_unit_zero zero2 _ w)

theorem read_wholeH (m : Memref sig .tc .vmem S512x2048 .bf16) (f : m.view.ty.Contents (Elt F)) (w : Vec F S512x2048 .bf16) :
    m.view.read (Elt F) (m.view.writes (Elt F) f (wholeH w)) = w :=
  (View.read_writes_eq_canon _ _ _ fun y => ⟨_, List.mem_singleton.mpr rfl, View.mem_set_unit_zero zero2 inb_S512x2048_S512x2048_0_0 y⟩).trans
    (View.canon_unit_zero zero2 _ w)

theorem read_rope (m : Memref sig .tc .vmem S512x512 .f32) (f : m.view.ty.Contents (Elt F)) (z : Vec F S512x512 .f32) (cs sn : Vec F S512x128 .f32) :
    m.view.read (Elt F) (m.view.writes (Elt F) f (ropePieces z cs sn)) = ropeOut z cs sn :=
  View.read_writes_eq_canon _ _ _ (cover_rope z cs sn)

set_option maxHeartbeats 0 in
theorem piecesFirst6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : (atStart i)) (hc1 : ¬(k0_cond2 i = 1#1)) (hc2 : ¬(k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x5 : Vec F S512x512 .f32) :
    (runFirst c i arg2 harg2 arg3 harg3 arg4 harg4 arg5 harg5 arg6 harg6 arg7 harg7 arg8 harg8 arg9 harg9 arg10 harg10 hc0 hc1 hc2 hc3 hc4 x0 x1 x2 x3 x4 x5).1.1 = wholeH (k0_pay150 x0 x1) := by
  unfold runFirst
  dsimp only
  sl_unfold_words
  simp only [readAt_h, readAt_x, readAt_ln, readAt_w, readAt_band, readAt_table, readCov_h]
  rfl

set_option maxHeartbeats 0 in
theorem piecesFirst7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : (atStart i)) (hc1 : ¬(k0_cond2 i = 1#1)) (hc2 : ¬(k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x5 : Vec F S512x512 .f32) :
    (runFirst c i arg2 harg2 arg3 harg3 arg4 harg4 arg5 harg5 arg6 harg6 arg7 harg7 arg8 harg8 arg9 harg9 arg10 harg10 hc0 hc1 hc2 hc3 hc4 x0 x1 x2 x3 x4 x5).1.2 = wholeZ (k0_pay151 (k0_pay150 x0 x1) x2) := by
  unfold runFirst
  dsimp only
  sl_unfold_words
  simp only [readAt_h, readAt_x, readAt_ln, readAt_w, readAt_band, readAt_table, readCov_h]
  rfl

/-- The body at the first point (first). -/
theorem soundFirst (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : (atStart i)) (hc1 : ¬(k0_cond2 i = 1#1)) (hc2 : ¬(k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x5 : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay150 x0 x1) ∗ owns (c : Thread nD τ) arg9 fullShare (k0_pay151 (k0_pay150 x0 x1) x2) ∗ (∃ d, owns (c : Thread nD τ) arg10 fullShare d)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K := by
  have hrun := (runFirst c i arg2 harg2 arg3 harg3 arg4 harg4 arg5 harg5 arg6 harg6 arg7 harg7 arg8 harg8 arg9 harg9 arg10 harg10 hc0 hc1 hc2 hc3 hc4 x0 x1 x2 x3 x4 x5).2 E K
  rw [piecesFirst6] at hrun
  rw [piecesFirst7] at hrun
  iintro ⟨H0, H1, H2, H3, H4, H5, H6, H7, H8, Hk⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, ⟨%f6, H6⟩, ⟨%f7, H7⟩, H8⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact read_wholeH _ _ _
  isplitl [H7]
  · unfold owns; iexists _; isplitr
    swap; · iexact H7
    ipureintro; exact read_wholeZ _ _ _
  iexact H8

set_option maxHeartbeats 0 in
theorem piecesEven5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : (k0_cond2 i = 1#1)) (hc2 : ¬(k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x8 : Vec F S512x512 .f32) :
    (runEven c i arg2 harg2 arg3 harg3 arg4 harg4 arg5 harg5 arg6 harg6 arg7 harg7 arg8 harg8 arg9 harg9 arg10 harg10 hc0 hc1 hc2 hc3 hc4 x0 x1 x2 x3 x4 x6 x8).1.1 = ropePieces x8 x3 x4 := by
  unfold runEven
  dsimp only
  sl_unfold_words
  simp only [readAt_h, readAt_x, readAt_ln, readAt_w, readAt_band, readAt_table]
  rfl

set_option maxHeartbeats 0 in
theorem piecesEven7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : (k0_cond2 i = 1#1)) (hc2 : ¬(k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x8 : Vec F S512x512 .f32) :
    (runEven c i arg2 harg2 arg3 harg3 arg4 harg4 arg5 harg5 arg6 harg6 arg7 harg7 arg8 harg8 arg9 harg9 arg10 harg10 hc0 hc1 hc2 hc3 hc4 x0 x1 x2 x3 x4 x6 x8).1.2 = wholeZ (k0_pay151 x6 x2) := by
  unfold runEven
  dsimp only
  sl_unfold_words
  simp only [readAt_h, readAt_x, readAt_ln, readAt_w, readAt_band, readAt_table]
  rfl

/-- The body at such a point (even). -/
theorem soundEven (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : (k0_cond2 i = 1#1)) (hc2 : ¬(k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x8 : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ owns (c : Thread nD τ) arg10 fullShare x8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (ropeOut x8 x3 x4) ∗ owns (c : Thread nD τ) arg8 fullShare x6 ∗ owns (c : Thread nD τ) arg9 fullShare (k0_pay151 x6 x2) ∗ owns (c : Thread nD τ) arg10 fullShare x8) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K := by
  have hrun := (runEven c i arg2 harg2 arg3 harg3 arg4 harg4 arg5 harg5 arg6 harg6 arg7 harg7 arg8 harg8 arg9 harg9 arg10 harg10 hc0 hc1 hc2 hc3 hc4 x0 x1 x2 x3 x4 x6 x8).2 E K
  rw [piecesEven5] at hrun
  rw [piecesEven7] at hrun
  iintro ⟨H0, H1, H2, H3, H4, H5, H6, H7, H8, Hk⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, ⟨%f5, H5⟩, H6, ⟨%f7, H7⟩, H8⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_rope _ _ _ _ _
  isplitl [H6]; · iexact H6
  isplitl [H7]
  · unfold owns; iexists _; isplitr
    swap; · iexact H7
    ipureintro; exact read_wholeZ _ _ _
  iexact H8

set_option maxHeartbeats 0 in
theorem piecesOdd5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : (k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x7 : Vec F S512x512 .f32) :
    (runOdd c i arg2 harg2 arg3 harg3 arg4 harg4 arg5 harg5 arg6 harg6 arg7 harg7 arg8 harg8 arg9 harg9 arg10 harg10 hc0 hc1 hc2 hc3 hc4 x0 x1 x2 x3 x4 x6 x7).1.1 = ropePieces x7 x3 x4 := by
  unfold runOdd
  dsimp only
  sl_unfold_words
  simp only [readAt_h, readAt_x, readAt_ln, readAt_w, readAt_band, readAt_table]
  rfl

set_option maxHeartbeats 0 in
theorem piecesOdd8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : (k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x7 : Vec F S512x512 .f32) :
    (runOdd c i arg2 harg2 arg3 harg3 arg4 harg4 arg5 harg5 arg6 harg6 arg7 harg7 arg8 harg8 arg9 harg9 arg10 harg10 hc0 hc1 hc2 hc3 hc4 x0 x1 x2 x3 x4 x6 x7).1.2 = wholeZ (k0_pay151 x6 x2) := by
  unfold runOdd
  dsimp only
  sl_unfold_words
  simp only [readAt_h, readAt_x, readAt_ln, readAt_w, readAt_band, readAt_table]
  rfl

/-- The body at such a point (odd). -/
theorem soundOdd (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : (k0_cond3 i = 1#1)) (hc3 : ¬(k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x7 : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (ropeOut x7 x3 x4) ∗ owns (c : Thread nD τ) arg8 fullShare x6 ∗ owns (c : Thread nD τ) arg9 fullShare x7 ∗ owns (c : Thread nD τ) arg10 fullShare (k0_pay151 x6 x2)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K := by
  have hrun := (runOdd c i arg2 harg2 arg3 harg3 arg4 harg4 arg5 harg5 arg6 harg6 arg7 harg7 arg8 harg8 arg9 harg9 arg10 harg10 hc0 hc1 hc2 hc3 hc4 x0 x1 x2 x3 x4 x6 x7).2 E K
  rw [piecesOdd5] at hrun
  rw [piecesOdd8] at hrun
  iintro ⟨H0, H1, H2, H3, H4, H5, H6, H7, H8, Hk⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, ⟨%f5, H5⟩, H6, H7, ⟨%f8, H8⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_rope _ _ _ _ _
  isplitl [H6]; · iexact H6
  isplitl [H7]; · iexact H7
  unfold owns; iexists _; isplitr
  swap; · iexact H8
  ipureintro; exact read_wholeZ _ _ _

set_option maxHeartbeats 0 in
theorem piecesLast5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : ¬(k0_cond3 i = 1#1)) (hc3 : (k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x8 : Vec F S512x512 .f32) :
    (runLast c i arg2 harg2 arg3 harg3 arg4 harg4 arg5 harg5 arg6 harg6 arg7 harg7 arg8 harg8 arg9 harg9 arg10 harg10 hc0 hc1 hc2 hc3 hc4 x0 x1 x2 x3 x4 x6 x8).1 = ropePieces x8 x3 x4 := by
  unfold runLast
  dsimp only
  sl_unfold_words
  simp only [readAt_h, readAt_x, readAt_ln, readAt_w, readAt_band, readAt_table]
  rfl

/-- The body at such a point (last). -/
theorem soundLast (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : ¬(k0_cond3 i = 1#1)) (hc3 : (k0_cond4 i = 1#1)) (hc4 : ¬(k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (x8 : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ owns (c : Thread nD τ) arg10 fullShare x8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (ropeOut x8 x3 x4) ∗ owns (c : Thread nD τ) arg8 fullShare x6 ∗ (∃ d, owns (c : Thread nD τ) arg9 fullShare d) ∗ owns (c : Thread nD τ) arg10 fullShare x8) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K := by
  have hrun := (runLast c i arg2 harg2 arg3 harg3 arg4 harg4 arg5 harg5 arg6 harg6 arg7 harg7 arg8 harg8 arg9 harg9 arg10 harg10 hc0 hc1 hc2 hc3 hc4 x0 x1 x2 x3 x4 x6 x8).2 E K
  rw [piecesLast5] at hrun
  iintro ⟨H0, H1, H2, H3, H4, H5, H6, H7, H8, Hk⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, ⟨%f5, H5⟩, H6, H7, H8⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_rope _ _ _ _ _
  isplitl [H6]; · iexact H6
  isplitl [H7]; · iexact H7
  iexact H8

set_option maxHeartbeats 0 in
theorem piecesPlain5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : ¬(k0_cond3 i = 1#1)) (hc3 : ¬(k0_cond4 i = 1#1)) (hc4 : (k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) :
    (runPlain c i arg2 harg2 arg3 harg3 arg4 harg4 arg5 harg5 arg6 harg6 arg7 harg7 arg8 harg8 arg9 harg9 arg10 harg10 hc0 hc1 hc2 hc3 hc4 x0 x1 x2 x3 x4 x6).1 = wholeZ (k0_pay151 x6 x2) := by
  unfold runPlain
  dsimp only
  sl_unfold_words
  simp only [readAt_h, readAt_x, readAt_ln, readAt_w, readAt_band, readAt_table, pay7_eq]
  rfl

/-- The body at such a point (plain). -/
theorem soundPlain (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S512x512 .f32) (harg9 : arg9.IsWhole) (arg10 : Memref sig .tc .vmem S512x512 .f32) (harg10 : arg10.IsWhole)
    (hc0 : ¬(atStart i)) (hc1 : ¬(k0_cond2 i = 1#1)) (hc2 : ¬(k0_cond3 i = 1#1)) (hc3 : ¬(k0_cond4 i = 1#1)) (hc4 : (k0_cond5 i = 1#1))
    (x0 : Vec F S512x2048 .f32) (x1 : Vec F S1x2048 .f32) (x2 : Vec F S2048x512 .bf16) (x3 : Vec F S512x128 .f32) (x4 : Vec F S512x128 .f32) (x6 : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay151 x6 x2) ∗ owns (c : Thread nD τ) arg8 fullShare x6 ∗ (∃ d, owns (c : Thread nD τ) arg9 fullShare d) ∗ (∃ d, owns (c : Thread nD τ) arg10 fullShare d)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K := by
  have hrun := (runPlain c i arg2 harg2 arg3 harg3 arg4 harg4 arg5 harg5 arg6 harg6 arg7 harg7 arg8 harg8 arg9 harg9 arg10 harg10 hc0 hc1 hc2 hc3 hc4 x0 x1 x2 x3 x4 x6).2 E K
  rw [piecesPlain5] at hrun
  iintro ⟨H0, H1, H2, H3, H4, H5, H6, H7, H8, Hk⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, ⟨%f5, H5⟩, H6, H7, H8⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_wholeZ _ _ _
  isplitl [H6]; · iexact H6
  isplitl [H7]; · iexact H7
  iexact H8

end Cert.Kernel5Ideal.InProj
-- ==== Proof.InProjLaunch.lean ====
/- The input projection over its grid: what every point leaves, and the run of the whole call. -/
module

public import proofs.«01_k».proof.Proof.InProjBody
public import Idealize.ShloMosaic.Lib.Pipeline.FrameSuffix
public import Idealize.ShloMosaic.Lib.Claim

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## Which points are of which kind -/

theorem start_iff : ∀ t : Fin cfg0.N, atStart (grid0.coords t) ↔ t.val = 0 :=
  (by decide +kernel : ∀ t : Fin grid0.N, atStart (grid0.coords t) ↔ t.val = 0)

theorem even_iff : ∀ t : Fin cfg0.N, k0_cond2 (grid0.coords t) = 1#1 ↔ (t.val % 2 = 0 ∧ 1 ≤ t.val ∧ t.val < 12) :=
  (by decide +kernel : ∀ t : Fin grid0.N, k0_cond2 (grid0.coords t) = 1#1 ↔ (t.val % 2 = 0 ∧ 1 ≤ t.val ∧ t.val < 12))

theorem odd_iff : ∀ t : Fin cfg0.N, k0_cond3 (grid0.coords t) = 1#1 ↔ (t.val % 2 = 1 ∧ t.val < 12) :=
  (by decide +kernel : ∀ t : Fin grid0.N, k0_cond3 (grid0.coords t) = 1#1 ↔ (t.val % 2 = 1 ∧ t.val < 12))

theorem last_iff : ∀ t : Fin cfg0.N, k0_cond4 (grid0.coords t) = 1#1 ↔ t.val = 12 :=
  (by decide +kernel : ∀ t : Fin grid0.N, k0_cond4 (grid0.coords t) = 1#1 ↔ t.val = 12)

theorem plain_iff : ∀ t : Fin cfg0.N, k0_cond5 (grid0.coords t) = 1#1 ↔ 12 < t.val :=
  (by decide +kernel : ∀ t : Fin grid0.N, k0_cond5 (grid0.coords t) = 1#1 ↔ 12 < t.val)

theorem idle_out : ∀ t : Fin cfg0.N, cfg0.idle 5 (grid0.coords t) = decide (t.val = 0) :=
  (by decide +kernel : ∀ t : Fin grid0.N, cfg0.idle 5 (grid0.coords t) = decide (t.val = 0))

theorem noflush_start : ∀ t : Fin cfg0.N, t.val = 0 → (cfg0.win 5).flush t = false :=
  (by decide +kernel : ∀ t : Fin grid0.N, t.val = 0 → win0_5.flush t = false)

/-! ## What the points leave -/

variable (m : (ℓ : Loc nD τ sig) → Buf (Elt F) ℓ) (ρ : Dev nD → PrngReg)

/-- The point of number `n`. -/
def pt (n : ℕ) : Fin cfg0.N := ⟨n % 35, lt_of_lt_of_eq (Nat.mod_lt _ (by decide)) (show 35 = cfg0.N from N_0.symm)⟩

theorem pt_val (t : Fin cfg0.N) : pt t.val = t :=
  Fin.ext (Nat.mod_eq_of_lt (lt_of_lt_of_eq t.isLt (show cfg0.N = 35 from N_0)))

/-- The normalised rows. -/
def hRows (c : Dev nD) : Vec F S512x2048 .bf16 := k0_pay150 (iblk m c 0 (pt 0)) (iblk m c 1 (pt 0))

/-- Their product with the weights of point `n`. -/
def prodAt (c : Dev nD) (n : ℕ) : Vec F S512x512 .f32 := k0_pay151 (hRows m c) (iblk m c 2 (pt n))

/-- The output block at a point: the product of the point before, rotated, up to the twelfth point; from then on
    the point's own product. -/
def outAt (c : Dev nD) (t : Fin cfg0.N) : Vec F S512x512 .f32 :=
  if t.val ≤ 12 then ropeOut (prodAt m c (t.val - 1)) (iblk m c 3 t) (iblk m c 4 t) else prodAt m c t.val

abbrev scH : Memref sig .tc .vmem S512x2048 .bf16 := Memref.whole cc0_scratch0
abbrev scA : Memref sig .tc .vmem S512x512 .f32 := Memref.whole cc0_scratch1
abbrev scB : Memref sig .tc .vmem S512x512 .f32 := Memref.whole cc0_scratch2

/-- Before point `n`: the rows are normalised once a point has run, and the product of the point before waits in one
    of two buffers, by the point's parity, for as long as products are rotated. -/
def keeps (c : Dev nD) (n : ℕ) : sProp 𝕄 :=
  iprop(iprop((∃ d, ⌜1 ≤ n → d = hRows m c⌝ ∗ owns (c : Thread nD τ) scH fullShare d)
      ∗ (∃ d, ⌜n % 2 = 1 → n ≤ 12 → d = prodAt m c (n - 1)⌝ ∗ owns (c : Thread nD τ) scA fullShare d)
      ∗ (∃ d, ⌜n % 2 = 0 → 1 ≤ n → n ≤ 12 → d = prodAt m c (n - 1)⌝ ∗ owns (c : Thread nD τ) scB fullShare d))
    ∗ (∃ r, prngReg c r))

/-- The proof data: the arrays as the region finds them, and what each point leaves in each block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := keeps m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem inv_eq (c : Dev nD) :
    (Pipeline.ΦA spec0 c : sProp 𝕄)
      = iprop(iprop((∃ d, owns (c : Thread nD τ) scH fullShare d) ∗ (∃ d, owns (c : Thread nD τ) scA fullShare d) ∗ (∃ d, owns (c : Thread nD τ) scB fullShare d)) ∗ (∃ r, prngReg c r)) := by
  unfold Pipeline.ΦA; rw [scopedRest0_eq]; simp only [scH, scA, scB, owns_whole]; try rfl

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem leaves_live (c : Dev nD) (t : Fin cfg0.N) (h : t.val ≠ 0) :
    (dats m 0 c).leavesExact 5 t = owns (c : Thread nD τ) (st0_5 t) fullShare (outAt m c t) := by
  unfold Dat.leavesExact
  rw [show cfg0.idle 5 (cfg0.grid.coords t) = false from (idle_out t).trans (decide_eq_false h), after0_5]

theorem leaves_idle (c : Dev nD) (t : Fin cfg0.N) (h : t.val = 0) :
    (dats m 0 c).leavesExact 5 t = iprop(∃ d, owns (c : Thread nD τ) (st0_5 t) fullShare ((dats m 0 c).before 5 t d)) :=
  (dats m 0 c).leavesExact_idle 5 t ((idle_out t).trans (decide_eq_true h)) (noflush_start t h)

theorem out_rope (c : Dev nD) (t : Fin cfg0.N) (h : t.val ≤ 12) :
    outAt m c t = ropeOut (prodAt m c (t.val - 1)) (iblk m c 3 t) (iblk m c 4 t) := if_pos h

theorem out_plain (c : Dev nD) (t : Fin cfg0.N) (h : 12 < t.val) : outAt m c t = prodAt m c t.val := if_neg (by omega)

theorem prod_here (c : Dev nD) (t : Fin cfg0.N) : k0_pay151 (hRows m c) (iblk m c 2 t) = prodAt m c t.val := by
  unfold prodAt; rw [pt_val]

theorem rows_here (c : Dev nD) (t : Fin cfg0.N) (h : t.val = 0) : k0_pay150 (iblk m c 0 t) (iblk m c 1 t) = hRows m c := by
  unfold hRows; rw [show pt 0 = t from (congrArg pt h.symm).trans (pt_val t)]

set_option maxHeartbeats 1000000 in
theorem bodyFirst (c : Dev nD) (t : Fin cfg0.N) (ht : t.val = 0) :
    bodyPre m c t ⊢ wp frame (wpE (defs₀ (F := F)) Variants.none c none) Set.univ (bodyAt0 t) (fun _ => bodyPost m c t) := by
  have hN : t.val < 35 := lt_of_lt_of_eq t.isLt (show cfg0.N = 35 from N_0)
  unfold bodyPre bodyPost bodyAt0
  simp only [before0_0, before0_1, before0_2, before0_3, before0_4]
  rw [show (dats m 0 c).Φ t.succ = keeps m c (t.val + 1) from rfl, show (dats m 0 c).Φ t.castSucc = keeps m c t.val from rfl,
    show (dats m 0 c).owesAt () t.succ = (dats m 0 c).owesAt () t.castSucc from rfl,
    after0_0, after0_1, after0_2, after0_3, after0_4, leaves_idle m c t ht]
  unfold keeps
  iintro ⟨⟨⟨⟨%e0, %he0, HS0⟩, ⟨%e1, %he1, HS1⟩, ⟨%e2, %he2, HS2⟩⟩, Hg⟩, Ho, ⟨%d0, H0⟩, ⟨%d1, H1⟩, ⟨%d2, H2⟩, ⟨%d3, H3⟩, ⟨%d4, H4⟩, ⟨%d5, H5⟩⟩
  iapply (soundFirst c (grid0.coords t) _ _ _ _ _ _ _ _ _ _ _ _ _ _ _ _ _ _  ((start_iff t).mpr ht) (fun h => by have := (even_iff t).mp h; omega) (fun h => by have := (odd_iff t).mp h; omega) (fun h => by have := (last_iff t).mp h; omega) (fun h => by have := (plain_iff t).mp h; omega) (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  iintro ⟨H0, H1, H2, H3, H4, H5, HS0, HS1, ⟨%g2, HS2⟩⟩
  isplitl [HS0 HS1 HS2 Hg]
  · isplitl [HS0 HS1 HS2]
    · isplitl [HS0]
      · iexists _; isplitr
        swap; · iexact HS0
        ipureintro; exact fun _ => rows_here m c t ht
      isplitl [HS1]
      · iexists _; isplitr
        swap; · iexact HS1
        ipureintro; intro _ _; rw [rows_here m c t ht, prod_here]; rfl
      iexists _; isplitr
      swap; · iexact HS2
      ipureintro; intro h1 h2 h3; exfalso; omega
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1000000 in
theorem bodyEven (c : Dev nD) (t : Fin cfg0.N) (ht : t.val % 2 = 0 ∧ 1 ≤ t.val ∧ t.val < 12) :
    bodyPre m c t ⊢ wp frame (wpE (defs₀ (F := F)) Variants.none c none) Set.univ (bodyAt0 t) (fun _ => bodyPost m c t) := by
  have hN : t.val < 35 := lt_of_lt_of_eq t.isLt (show cfg0.N = 35 from N_0)
  unfold bodyPre bodyPost bodyAt0
  simp only [before0_0, before0_1, before0_2, before0_3, before0_4]
  rw [show (dats m 0 c).Φ t.succ = keeps m c (t.val + 1) from rfl, show (dats m 0 c).Φ t.castSucc = keeps m c t.val from rfl,
    show (dats m 0 c).owesAt () t.succ = (dats m 0 c).owesAt () t.castSucc from rfl,
    after0_0, after0_1, after0_2, after0_3, after0_4, leaves_live m c t (by omega), out_rope m c t (by omega)]
  unfold keeps
  iintro ⟨⟨⟨⟨%e0, %he0, HS0⟩, ⟨%e1, %he1, HS1⟩, ⟨%e2, %he2, HS2⟩⟩, Hg⟩, Ho, ⟨%d0, H0⟩, ⟨%d1, H1⟩, ⟨%d2, H2⟩, ⟨%d3, H3⟩, ⟨%d4, H4⟩, ⟨%d5, H5⟩⟩
  obtain rfl := he0 (by omega)
  obtain rfl := he2 (by omega) (by omega) (by omega)
  iapply (soundEven c (grid0.coords t) _ _ _ _ _ _ _ _ _ _ _ _ _ _ _ _ _ _  (fun h => by have := (start_iff t).mp h; omega) ((even_iff t).mpr ht) (fun h => by have := (odd_iff t).mp h; omega) (fun h => by have := (last_iff t).mp h; omega) (fun h => by have := (plain_iff t).mp h; omega) (iblk m c 0 t) (iblk m c 1 t) (iblk m c 2 t) (iblk m c 3 t) (iblk m c 4 t) (hRows m c) (prodAt m c (t.val - 1)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexists _; iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexists _; isplitr
        swap; · iexact HS0
        ipureintro; exact fun _ => rfl
      isplitl [HS1]
      · iexists _; isplitr
        swap; · iexact HS1
        ipureintro; intro _ _; exact prod_here m c t
      iexists _; isplitr
      swap; · iexact HS2
      ipureintro; intro h1 h2 h3; exfalso; omega
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1000000 in
theorem bodyOdd (c : Dev nD) (t : Fin cfg0.N) (ht : t.val % 2 = 1 ∧ t.val < 12) :
    bodyPre m c t ⊢ wp frame (wpE (defs₀ (F := F)) Variants.none c none) Set.univ (bodyAt0 t) (fun _ => bodyPost m c t) := by
  have hN : t.val < 35 := lt_of_lt_of_eq t.isLt (show cfg0.N = 35 from N_0)
  unfold bodyPre bodyPost bodyAt0
  simp only [before0_0, before0_1, before0_2, before0_3, before0_4]
  rw [show (dats m 0 c).Φ t.succ = keeps m c (t.val + 1) from rfl, show (dats m 0 c).Φ t.castSucc = keeps m c t.val from rfl,
    show (dats m 0 c).owesAt () t.succ = (dats m 0 c).owesAt () t.castSucc from rfl,
    after0_0, after0_1, after0_2, after0_3, after0_4, leaves_live m c t (by omega), out_rope m c t (by omega)]
  unfold keeps
  iintro ⟨⟨⟨⟨%e0, %he0, HS0⟩, ⟨%e1, %he1, HS1⟩, ⟨%e2, %he2, HS2⟩⟩, Hg⟩, Ho, ⟨%d0, H0⟩, ⟨%d1, H1⟩, ⟨%d2, H2⟩, ⟨%d3, H3⟩, ⟨%d4, H4⟩, ⟨%d5, H5⟩⟩
  obtain rfl := he0 (by omega)
  obtain rfl := he1 (by omega) (by omega)
  iapply (soundOdd c (grid0.coords t) _ _ _ _ _ _ _ _ _ _ _ _ _ _ _ _ _ _  (fun h => by have := (start_iff t).mp h; omega) (fun h => by have := (even_iff t).mp h; omega) ((odd_iff t).mpr ht) (fun h => by have := (last_iff t).mp h; omega) (fun h => by have := (plain_iff t).mp h; omega) (iblk m c 0 t) (iblk m c 1 t) (iblk m c 2 t) (iblk m c 3 t) (iblk m c 4 t) (hRows m c) (prodAt m c (t.val - 1)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexists _; iexact HS2
  iintro ⟨H0, H1, H2, H3, H4, H5, HS0, HS1, HS2⟩
  isplitl [HS0 HS1 HS2 Hg]
  · isplitl [HS0 HS1 HS2]
    · isplitl [HS0]
      · iexists _; isplitr
        swap; · iexact HS0
        ipureintro; exact fun _ => rfl
      isplitl [HS1]
      · iexists _; isplitr
        swap; · iexact HS1
        ipureintro; intro h1 h2; exfalso; omega
      iexists _; isplitr
      swap; · iexact HS2
      ipureintro; intro _ _ _; exact prod_here m c t
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1000000 in
theorem bodyLast (c : Dev nD) (t : Fin cfg0.N) (ht : t.val = 12) :
    bodyPre m c t ⊢ wp frame (wpE (defs₀ (F := F)) Variants.none c none) Set.univ (bodyAt0 t) (fun _ => bodyPost m c t) := by
  have hN : t.val < 35 := lt_of_lt_of_eq t.isLt (show cfg0.N = 35 from N_0)
  unfold bodyPre bodyPost bodyAt0
  simp only [before0_0, before0_1, before0_2, before0_3, before0_4]
  rw [show (dats m 0 c).Φ t.succ = keeps m c (t.val + 1) from rfl, show (dats m 0 c).Φ t.castSucc = keeps m c t.val from rfl,
    show (dats m 0 c).owesAt () t.succ = (dats m 0 c).owesAt () t.castSucc from rfl,
    after0_0, after0_1, after0_2, after0_3, after0_4, leaves_live m c t (by omega), out_rope m c t (by omega)]
  unfold keeps
  iintro ⟨⟨⟨⟨%e0, %he0, HS0⟩, ⟨%e1, %he1, HS1⟩, ⟨%e2, %he2, HS2⟩⟩, Hg⟩, Ho, ⟨%d0, H0⟩, ⟨%d1, H1⟩, ⟨%d2, H2⟩, ⟨%d3, H3⟩, ⟨%d4, H4⟩, ⟨%d5, H5⟩⟩
  obtain rfl := he0 (by omega)
  obtain rfl := he2 (by omega) (by omega) (by omega)
  iapply (soundLast c (grid0.coords t) _ _ _ _ _ _ _ _ _ _ _ _ _ _ _ _ _ _  (fun h => by have := (start_iff t).mp h; omega) (fun h => by have := (even_iff t).mp h; omega) (fun h => by have := (odd_iff t).mp h; omega) ((last_iff t).mpr ht) (fun h => by have := (plain_iff t).mp h; omega) (iblk m c 0 t) (iblk m c 1 t) (iblk m c 2 t) (iblk m c 3 t) (iblk m c 4 t) (hRows m c) (prodAt m c (t.val - 1)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexists _; iexact HS1
  isplitl [HS2]; · iexact HS2
  iintro ⟨H0, H1, H2, H3, H4, H5, HS0, ⟨%g1, HS1⟩, HS2⟩
  isplitl [HS0 HS1 HS2 Hg]
  · isplitl [HS0 HS1 HS2]
    · isplitl [HS0]
      · iexists _; isplitr
        swap; · iexact HS0
        ipureintro; exact fun _ => rfl
      isplitl [HS1]
      · iexists _; isplitr
        swap; · iexact HS1
        ipureintro; intro h1 h2; exfalso; omega
      iexists _; isplitr
      swap; · iexact HS2
      ipureintro; intro h1 h2 h3; exfalso; omega
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1000000 in
theorem bodyPlain (c : Dev nD) (t : Fin cfg0.N) (ht : 12 < t.val) :
    bodyPre m c t ⊢ wp frame (wpE (defs₀ (F := F)) Variants.none c none) Set.univ (bodyAt0 t) (fun _ => bodyPost m c t) := by
  have hN : t.val < 35 := lt_of_lt_of_eq t.isLt (show cfg0.N = 35 from N_0)
  unfold bodyPre bodyPost bodyAt0
  simp only [before0_0, before0_1, before0_2, before0_3, before0_4]
  rw [show (dats m 0 c).Φ t.succ = keeps m c (t.val + 1) from rfl, show (dats m 0 c).Φ t.castSucc = keeps m c t.val from rfl,
    show (dats m 0 c).owesAt () t.succ = (dats m 0 c).owesAt () t.castSucc from rfl,
    after0_0, after0_1, after0_2, after0_3, after0_4, leaves_live m c t (by omega), out_plain m c t ht, ← prod_here]
  unfold keeps
  iintro ⟨⟨⟨⟨%e0, %he0, HS0⟩, ⟨%e1, %he1, HS1⟩, ⟨%e2, %he2, HS2⟩⟩, Hg⟩, Ho, ⟨%d0, H0⟩, ⟨%d1, H1⟩, ⟨%d2, H2⟩, ⟨%d3, H3⟩, ⟨%d4, H4⟩, ⟨%d5, H5⟩⟩
  obtain rfl := he0 (by omega)
  iapply (soundPlain c (grid0.coords t) _ _ _ _ _ _ _ _ _ _ _ _ _ _ _ _ _ _  (fun h => by have := (start_iff t).mp h; omega) (fun h => by have := (even_iff t).mp h; omega) (fun h => by have := (odd_iff t).mp h; omega) (fun h => by have := (last_iff t).mp h; omega) ((plain_iff t).mpr ht) (iblk m c 0 t) (iblk m c 1 t) (iblk m c 2 t) (iblk m c 3 t) (iblk m c 4 t) (hRows m c) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexists _; iexact HS1
  isplitl [HS2]; · iexists _; iexact HS2
  iintro ⟨H0, H1, H2, H3, H4, H5, HS0, ⟨%g1, HS1⟩, ⟨%g2, HS2⟩⟩
  isplitl [HS0 HS1 HS2 Hg]
  · isplitl [HS0 HS1 HS2]
    · isplitl [HS0]
      · iexists _; isplitr
        swap; · iexact HS0
        ipureintro; exact fun _ => rfl
      isplitl [HS1]
      · iexists _; isplitr
        swap; · iexact HS1
        ipureintro; intro h1 h2; exfalso; omega
      iexists _; isplitr
      swap; · iexact HS2
      ipureintro; intro h1 h2 h3; exfalso; omega
    iexact Hg
  isplitl [Ho]; · iexact Ho
  isplitl [H0]; · iexact H0
  isplitl [H1]; · iexact H1
  isplitl [H2]; · iexact H2
  isplitl [H3]; · iexact H3
  isplitl [H4]; · iexact H4
  iexact H5

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyFirst m c t h0
  by_cases h4 : 12 < t.val
  · exact bodyPlain m c t h4
  by_cases h3 : t.val = 12
  · exact bodyLast m c t h3
  by_cases h2 : t.val % 2 = 1
  · exact bodyOdd m c t ⟨h2, by omega⟩
  exact bodyEven m c t ⟨by omega, by omega, by omega⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = keeps m c 0 from rfl, inv_eq]
  unfold keeps
  iintro ⟨⟨⟨%e0, HS0⟩, ⟨%e1, HS1⟩, ⟨%e2, HS2⟩⟩, Hg⟩
  isplitl [HS0 HS1 HS2]
  · isplitl [HS0]
    · iexists _; isplitr
      swap; · iexact HS0
      ipureintro; intro h; exfalso; omega
    isplitl [HS1]
    · iexists _; isplitr
      swap; · iexact HS1
      ipureintro; intro h; exfalso; omega
    iexists _; isplitr
    swap; · iexact HS2
    ipureintro; intro _ h; exfalso; omega
  iexact Hg

theorem hout (c : Dev nD) : (dats m 0 c).Φ (Fin.last cfg0.N) ⊢ Pipeline.ΦA spec0 c := by
  rw [show (dats m 0 c).Φ (Fin.last cfg0.N) = keeps m c (Fin.last cfg0.N).val from rfl, inv_eq]
  unfold keeps
  iintro ⟨⟨⟨%e0, %he0, HS0⟩, ⟨%e1, %he1, HS1⟩, ⟨%e2, %he2, HS2⟩⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
set_option maxHeartbeats 800000 in
/-- Every fair execution ends, with the arrays at what the proof data gives, the host lines after the call run on
    them, and no semaphore raised. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end unchanged and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Kernel5Ideal.InProj
-- ==== Proof.InProjRun.lean ====
module

public import proofs.«01_k».proof.Proof.Gen.Reference5Ideal
public import Idealize.ShloMosaic.Lib.StableHlo.Run
public import Idealize.ShloMosaic.Lib.Pipeline.Frame

@[expose] public section

/-! The input projection's reference as lists of its operations, and its run. -/

set_option maxRecDepth 16384

noncomputable section

namespace Cert.Reference5Ideal.InProj

open Cert.Reference5Ideal Cert.Reference5Ideal.Gen Idealize.ShloMosaic Idealize.ShloMosaic.TcCoe Idealize.SL.Sem Idealize.ShloMosaic.StableHlo

variable {F : FTy → Type} [FloatOps F]

/-- The projection and the rotation of its heads, -/
abbrev opsA : List (HloOp τ sig (Elt F)) :=
  [ nullary main_v0 (iotaInDim S4 32 0),
    nullary main_c (constantI S_ 32 2048#32),
    unary main_c main_v1 (broadcastInDim S4 ![] bcast_S_S4 : (⟨S_, .i32⟩ : BufTy).Contents (Elt F) → (⟨S4, .i32⟩ : BufTy).Contents (Elt F)),
    binary main_v1 main_v0 main_v2 (addi : (⟨S4, .i32⟩ : BufTy).Contents (Elt F) → (⟨S4, .i32⟩ : BufTy).Contents (Elt F) → (⟨S4, .i32⟩ : BufTy).Contents (Elt F)),
    binary main_arg0 main_arg0 main_v3 (mulf : (⟨S128x4x2048, .f32⟩ : BufTy).Contents (Elt F) → (⟨S128x4x2048, .f32⟩ : BufTy).Contents (Elt F) → (⟨S128x4x2048, .f32⟩ : BufTy).Contents (Elt F)),
    nullary main_cst (constant S_ .f32 0x00000000#32),
    binary main_v3 main_cst main_v4 ((fun x v => Host.reduceAdd x v reducesTo_S128x4x2048_S128x4_d2 h_S_) : (⟨S128x4x2048, .f32⟩ : BufTy).Contents (Elt F) → (⟨S_, .f32⟩ : BufTy).Contents (Elt F) → (⟨S128x4, .f32⟩ : BufTy).Contents (Elt F)),
    unary main_v4 main_v5 (broadcastInDim S128x4x1 ![0, 1] bcast_S128x4_S128x4x1_0_1 : (⟨S128x4, .f32⟩ : BufTy).Contents (Elt F) → (⟨S128x4x1, .f32⟩ : BufTy).Contents (Elt F)),
    nullary main_cst_0 (constant S_ .f32 0x45000000#32),
    unary main_cst_0 main_v6 (broadcastInDim S128x4x1 ![] bcast_S_S128x4x1 : (⟨S_, .f32⟩ : BufTy).Contents (Elt F) → (⟨S128x4x1, .f32⟩ : BufTy).Contents (Elt F)),
    binary main_v5 main_v6 main_v7 (Host.divf : (⟨S128x4x1, .f32⟩ : BufTy).Contents (Elt F) → (⟨S128x4x1, .f32⟩ : BufTy).Contents (Elt F) → (⟨S128x4x1, .f32⟩ : BufTy).Contents (Elt F)),
    nullary main_cst_1 (constant S_ .f32 0x358637BD#32),
    unary main_cst_1 main_v8 (broadcastInDim S128x4x1 ![] bcast_S_S128x4x1 : (⟨S_, .f32⟩ : BufTy).Contents (Elt F) → (⟨S128x4x1, .f32⟩ : BufTy).Contents (Elt F)),
    binary main_v7 main_v8 main_v9 (addf : (⟨S128x4x1, .f32⟩ : BufTy).Contents (Elt F) → (⟨S128x4x1, .f32⟩ : BufTy).Contents (Elt F) → (⟨S128x4x1, .f32⟩ : BufTy).Contents (Elt F)),
    unary main_v9 main_v10 (Host.rsqrt : (⟨S128x4x1, .f32⟩ : BufTy).Contents (Elt F) → (⟨S128x4x1, .f32⟩ : BufTy).Contents (Elt F)),
    unary main_v10 main_v11 (broadcastInDim S128x4x2048 ![0, 1, 2] bcast_S128x4x1_S128x4x2048_0_1_2 : (⟨S128x4x1, .f32⟩ : BufTy).Contents (Elt F) → (⟨S128x4x2048, .f32⟩ : BufTy).Contents (Elt F)),
    binary main_arg0 main_v11 main_v12 (mulf : (⟨S128x4x2048, .f32⟩ : BufTy).Contents (Elt F) → (⟨S128x4x2048, .f32⟩ : BufTy).Contents (Elt F) → (⟨S128x4x2048, .f32⟩ : BufTy).Contents (Elt F)),
    reshape main_arg2 main_v13 (rfl : (.f32 : EltTy) = .f32) shapeCasts_S1x2048_S2048,
    unary main_v13 main_v14 (broadcastInDim S1x1x2048 ![2] bcast_S2048_S1x1x2048_2 : (⟨S2048, .f32⟩ : BufTy).Contents (Elt F) → (⟨S1x1x2048, .f32⟩ : BufTy).Contents (Elt F)),
    unary main_v14 main_v15 (broadcastInDim S128x4x2048 ![0, 1, 2] bcast_S1x1x2048_S128x4x2048_0_1_2 : (⟨S1x1x2048, .f32⟩ : BufTy).Contents (Elt F) → (⟨S128x4x2048, .f32⟩ : BufTy).Contents (Elt F)),
    binary main_v12 main_v15 main_v16 (mulf : (⟨S128x4x2048, .f32⟩ : BufTy).Contents (Elt F) → (⟨S128x4x2048, .f32⟩ : BufTy).Contents (Elt F) → (⟨S128x4x2048, .f32⟩ : BufTy).Contents (Elt F)),
    reshape main_arg3 main_v17 (rfl : (.f32 : EltTy) = .f32) shapeCasts_S1x2048x17408_S2048x17408,
    binary main_v16 main_v17 main_v18 ((fun l r => Host.dotGeneral dot_S128x4x2048_S2048x17408_S128x4x17408_2_0_01_1_n_n none l r) : (⟨S128x4x2048, .f32⟩ : BufTy).Contents (Elt F) → (⟨S2048x17408, .f32⟩ : BufTy).Contents (Elt F) → (⟨S128x4x17408, .f32⟩ : BufTy).Contents (Elt F)),
    unary main_v18 main_v19 ((extractStridedSlice S128x4x6144 ![0, 0, 0] · slices_S128x4x17408_S128x4x6144_0_0_0) : (⟨S128x4x17408, .f32⟩ : BufTy).Contents (Elt F) → (⟨S128x4x6144, .f32⟩ : BufTy).Contents (Elt F)),
    reshape main_v19 main_v20 (rfl : (.f32 : EltTy) = .f32) shapeCasts_S128x4x6144_S128x4x48x128,
    unary main_v20 main_v21 ((transpose S128x48x4x128 [0, 2, 1, 3] · transposes_S128x4x48x128_S128x48x4x128_0_2_1_3) : (⟨S128x4x48x128, .f32⟩ : BufTy).Contents (Elt F) → (⟨S128x48x4x128, .f32⟩ : BufTy).Contents (Elt F)),
    nullary main_v22 (sitofp .f32 (iotaInDim S64 32 0)),
    nullary main_cst_2 (constant S_ .f32 0xC1135D8E#32),
    unary main_cst_2 main_v23 (broadcastInDim S64 ![] bcast_S_S64 : (⟨S_, .f32⟩ : BufTy).Contents (Elt F) → (⟨S64, .f32⟩ : BufTy).Contents (Elt F)),
    binary main_v23 main_v22 main_v24 (mulf : (⟨S64, .f32⟩ : BufTy).Contents (Elt F) → (⟨S64, .f32⟩ : BufTy).Contents (Elt F) → (⟨S64, .f32⟩ : BufTy).Contents (Elt F)),
    nullary main_cst_3 (constant S_ .f32 0x42800000#32),
    unary main_cst_3 main_v25 (broadcastInDim S64 ![] bcast_S_S64 : (⟨S_, .f32⟩ : BufTy).Contents (Elt F) → (⟨S64, .f32⟩ : BufTy).Contents (Elt F)),
    binary main_v24 main_v25 main_v26 (Host.divf : (⟨S64, .f32⟩ : BufTy).Contents (Elt F) → (⟨S64, .f32⟩ : BufTy).Contents (Elt F) → (⟨S64, .f32⟩ : BufTy).Contents (Elt F)),
    unary main_v26 main_v27 (Host.exp : (⟨S64, .f32⟩ : BufTy).Contents (Elt F) → (⟨S64, .f32⟩ : BufTy).Contents (Elt F)),
    unary main_v2 main_v28 (sitofp .f32 : (⟨S4, .i32⟩ : BufTy).Contents (Elt F) → (⟨S4, .f32⟩ : BufTy).Contents (Elt F)),
    unary main_v28 main_v29 (broadcastInDim S4x1 ![0] bcast_S4_S4x1_0 : (⟨S4, .f32⟩ : BufTy).Contents (Elt F) → (⟨S4x1, .f32⟩ : BufTy).Contents (Elt F)),
    unary main_v27 main_v30 (broadcastInDim S1x64 ![1] bcast_S64_S1x64_1 : (⟨S64, .f32⟩ : BufTy).Contents (Elt F) → (⟨S1x64, .f32⟩ : BufTy).Contents (Elt F)),
    unary main_v29 main_v31 (broadcastInDim S4x64 ![0, 1] bcast_S4x1_S4x64_0_1 : (⟨S4x1, .f32⟩ : BufTy).Contents (Elt F) → (⟨S4x64, .f32⟩ : BufTy).Contents (Elt F)),
    unary main_v30 main_v32 (broadcastInDim S4x64 ![0, 1] bcast_S1x64_S4x64_0_1 : (⟨S1x64, .f32⟩ : BufTy).Contents (Elt F) → (⟨S4x64, .f32⟩ : BufTy).Contents (Elt F)),
    binary main_v31 main_v32 main_v33 (mulf : (⟨S4x64, .f32⟩ : BufTy).Contents (Elt F) → (⟨S4x64, .f32⟩ : BufTy).Contents (Elt F) → (⟨S4x64, .f32⟩ : BufTy).Contents (Elt F)),
    unary main_v33 main_v34 (Host.cos : (⟨S4x64, .f32⟩ : BufTy).Contents (Elt F) → (⟨S4x64, .f32⟩ : BufTy).Contents (Elt F)),
    unary main_v33 main_v35 (Host.sin : (⟨S4x64, .f32⟩ : BufTy).Contents (Elt F) → (⟨S4x64, .f32⟩ : BufTy).Contents (Elt F)),
    unary main_v21 main_v36 ((extractStridedSlice S128x48x4x64 ![0, 0, 0, 0] · slices_S128x48x4x128_S128x48x4x64_0_0_0_0) : (⟨S128x48x4x128, .f32⟩ : BufTy).Contents (Elt F) → (⟨S128x48x4x64, .f32⟩ : BufTy).Contents (Elt F)),
    unary main_v21 main_v37 ((extractStridedSlice S128x48x4x64 ![0, 0, 0, 64] · slices_S128x48x4x128_S128x48x4x64_0_0_0_64) : (⟨S128x48x4x128, .f32⟩ : BufTy).Contents (Elt F) → (⟨S128x48x4x64, .f32⟩ : BufTy).Contents (Elt F)),
    unary main_v34 main_v38 (broadcastInDim S1x1x4x64 ![2, 3] bcast_S4x64_S1x1x4x64_2_3 : (⟨S4x64, .f32⟩ : BufTy).Contents (Elt F) → (⟨S1x1x4x64, .f32⟩ : BufTy).Contents (Elt F)),
    unary main_v38 main_v39 (broadcastInDim S128x48x4x64 ![0, 1, 2, 3] bcast_S1x1x4x64_S128x48x4x64_0_1_2_3 : (⟨S1x1x4x64, .f32⟩ : BufTy).Contents (Elt F) → (⟨S128x48x4x64, .f32⟩ : BufTy).Contents (Elt F)),
    binary main_v36 main_v39 main_v40 (mulf : (⟨S128x48x4x64, .f32⟩ : BufTy).Contents (Elt F) → (⟨S128x48x4x64, .f32⟩ : BufTy).Contents (Elt F) → (⟨S128x48x4x64, .f32⟩ : BufTy).Contents (Elt F)),
    unary main_v35 main_v41 (broadcastInDim S1x1x4x64 ![2, 3] bcast_S4x64_S1x1x4x64_2_3 : (⟨S4x64, .f32⟩ : BufTy).Contents (Elt F) → (⟨S1x1x4x64, .f32⟩ : BufTy).Contents (Elt F)),
    unary main_v41 main_v42 (broadcastInDim S128x48x4x64 ![0, 1, 2, 3] bcast_S1x1x4x64_S128x48x4x64_0_1_2_3 : (⟨S1x1x4x64, .f32⟩ : BufTy).Contents (Elt F) → (⟨S128x48x4x64, .f32⟩ : BufTy).Contents (Elt F)),
    binary main_v37 main_v42 main_v43 (mulf : (⟨S128x48x4x64, .f32⟩ : BufTy).Contents (Elt F) → (⟨S128x48x4x64, .f32⟩ : BufTy).Contents (Elt F) → (⟨S128x48x4x64, .f32⟩ : BufTy).Contents (Elt F)),
    binary main_v40 main_v43 main_v44 (subf : (⟨S128x48x4x64, .f32⟩ : BufTy).Contents (Elt F) → (⟨S128x48x4x64, .f32⟩ : BufTy).Contents (Elt F) → (⟨S128x48x4x64, .f32⟩ : BufTy).Contents (Elt F)),
    unary main_v34 main_v45 (broadcastInDim S1x1x4x64 ![2, 3] bcast_S4x64_S1x1x4x64_2_3 : (⟨S4x64, .f32⟩ : BufTy).Contents (Elt F) → (⟨S1x1x4x64, .f32⟩ : BufTy).Contents (Elt F)),
    unary main_v45 main_v46 (broadcastInDim S128x48x4x64 ![0, 1, 2, 3] bcast_S1x1x4x64_S128x48x4x64_0_1_2_3 : (⟨S1x1x4x64, .f32⟩ : BufTy).Contents (Elt F) → (⟨S128x48x4x64, .f32⟩ : BufTy).Contents (Elt F)),
    binary main_v37 main_v46 main_v47 (mulf : (⟨S128x48x4x64, .f32⟩ : BufTy).Contents (Elt F) → (⟨S128x48x4x64, .f32⟩ : BufTy).Contents (Elt F) → (⟨S128x48x4x64, .f32⟩ : BufTy).Contents (Elt F)),
    unary main_v35 main_v48 (broadcastInDim S1x1x4x64 ![2, 3] bcast_S4x64_S1x1x4x64_2_3 : (⟨S4x64, .f32⟩ : BufTy).Contents (Elt F) → (⟨S1x1x4x64, .f32⟩ : BufTy).Contents (Elt F)),
    unary main_v48 main_v49 (broadcastInDim S128x48x4x64 ![0, 1, 2, 3] bcast_S1x1x4x64_S128x48x4x64_0_1_2_3 : (⟨S1x1x4x64, .f32⟩ : BufTy).Contents (Elt F) → (⟨S128x48x4x64, .f32⟩ : BufTy).Contents (Elt F)),
    binary main_v36 main_v49 main_v50 (mulf : (⟨S128x48x4x64, .f32⟩ : BufTy).Contents (Elt F) → (⟨S128x48x4x64, .f32⟩ : BufTy).Contents (Elt F) → (⟨S128x48x4x64, .f32⟩ : BufTy).Contents (Elt F)),
    binary main_v47 main_v50 main_v51 (addf : (⟨S128x48x4x64, .f32⟩ : BufTy).Contents (Elt F) → (⟨S128x48x4x64, .f32⟩ : BufTy).Contents (Elt F) → (⟨S128x48x4x64, .f32⟩ : BufTy).Contents (Elt F)),
    binary main_v44 main_v51 main_v52 ((fun a b => concatenate S128x48x4x128 3 [⟨S128x48x4x64, a⟩, ⟨S128x48x4x64, b⟩] concatenates_S128x48x4x64_S128x48x4x64_S128x48x4x128_d3) : (⟨S128x48x4x64, .f32⟩ : BufTy).Contents (Elt F) → (⟨S128x48x4x64, .f32⟩ : BufTy).Contents (Elt F) → (⟨S128x48x4x128, .f32⟩ : BufTy).Contents (Elt F)),
    unary main_v52 main_v53 ((transpose S128x4x48x128 [0, 2, 1, 3] · transposes_S128x48x4x128_S128x4x48x128_0_2_1_3) : (⟨S128x48x4x128, .f32⟩ : BufTy).Contents (Elt F) → (⟨S128x4x48x128, .f32⟩ : BufTy).Contents (Elt F)) ]

/-- the rows put together, -/
abbrev opsB : List (HloOp τ sig (Elt F)) :=
  [ reshape main_v53 main_v54 (rfl : (.f32 : EltTy) = .f32) shapeCasts_S128x4x48x128_S128x4x6144,
    unary main_v18 main_v55 ((extractStridedSlice S128x4x11264 ![0, 0, 6144] · slices_S128x4x17408_S128x4x11264_0_0_6144) : (⟨S128x4x17408, .f32⟩ : BufTy).Contents (Elt F) → (⟨S128x4x11264, .f32⟩ : BufTy).Contents (Elt F)),
    binary main_v54 main_v55 main_v56 ((fun a b => concatenate S128x4x17408 2 [⟨S128x4x6144, a⟩, ⟨S128x4x11264, b⟩] concatenates_S128x4x6144_S128x4x11264_S128x4x17408_d2) : (⟨S128x4x6144, .f32⟩ : BufTy).Contents (Elt F) → (⟨S128x4x11264, .f32⟩ : BufTy).Contents (Elt F) → (⟨S128x4x17408, .f32⟩ : BufTy).Contents (Elt F)),
    reshape main_v56 main_v57 (rfl : (.f32 : EltTy) = .f32) shapeCasts_S128x4x17408_S512x17408 ]

/-- and the caches cut from them. -/
abbrev opsC : List (HloOp τ sig (Elt F)) :=
  [ unary main_v57 main_v58 ((extractStridedSlice S512x9216 ![0, 0] · slices_S512x17408_S512x9216_0_0) : (⟨S512x17408, .f32⟩ : BufTy).Contents (Elt F) → (⟨S512x9216, .f32⟩ : BufTy).Contents (Elt F)),
    reshape main_v58 main_v59 (rfl : (.f32 : EltTy) = .f32) shapeCasts_S512x9216_S128x4x3x3x8x128,
    unary main_v59 main_v60 ((transpose S3x128x3x8x4x128 [2, 0, 3, 4, 1, 5] · transposes_S128x4x3x3x8x128_S3x128x3x8x4x128_2_0_3_4_1_5) : (⟨S128x4x3x3x8x128, .f32⟩ : BufTy).Contents (Elt F) → (⟨S3x128x3x8x4x128, .f32⟩ : BufTy).Contents (Elt F)),
    unary main_v60 main_v61 ((extractStridedSlice S1x128x3x8x4x128 ![1, 0, 0, 0, 0, 0] · slices_S3x128x3x8x4x128_S1x128x3x8x4x128_1_0_0_0_0_0) : (⟨S3x128x3x8x4x128, .f32⟩ : BufTy).Contents (Elt F) → (⟨S1x128x3x8x4x128, .f32⟩ : BufTy).Contents (Elt F)),
    reshape main_v61 main_v62 (rfl : (.f32 : EltTy) = .f32) shapeCasts_S1x128x3x8x4x128_S128x3x8x4x128,
    unary main_v62 main_v63 ((extractStridedSlice S128x1x8x4x128 ![0, 0, 0, 0, 0] · slices_S128x3x8x4x128_S128x1x8x4x128_0_0_0_0_0) : (⟨S128x3x8x4x128, .f32⟩ : BufTy).Contents (Elt F) → (⟨S128x1x8x4x128, .f32⟩ : BufTy).Contents (Elt F)),
    reshape main_v63 main_v64 (rfl : (.f32 : EltTy) = .f32) shapeCasts_S128x1x8x4x128_S128x8x4x128,
    unary main_v60 main_v65 ((extractStridedSlice S1x128x3x8x4x128 ![2, 0, 0, 0, 0, 0] · slices_S3x128x3x8x4x128_S1x128x3x8x4x128_2_0_0_0_0_0) : (⟨S3x128x3x8x4x128, .f32⟩ : BufTy).Contents (Elt F) → (⟨S1x128x3x8x4x128, .f32⟩ : BufTy).Contents (Elt F)),
    reshape main_v65 main_v66 (rfl : (.f32 : EltTy) = .f32) shapeCasts_S1x128x3x8x4x128_S128x3x8x4x128,
    unary main_v66 main_v67 ((extractStridedSlice S128x1x8x4x128 ![0, 0, 0, 0, 0] · slices_S128x3x8x4x128_S128x1x8x4x128_0_0_0_0_0) : (⟨S128x3x8x4x128, .f32⟩ : BufTy).Contents (Elt F) → (⟨S128x1x8x4x128, .f32⟩ : BufTy).Contents (Elt F)),
    reshape main_v67 main_v68 (rfl : (.f32 : EltTy) = .f32) shapeCasts_S128x1x8x4x128_S128x8x4x128,
    unary main_v64 main_v69 (broadcastInDim S128x1x8x4x128 ![0, 2, 3, 4] bcast_S128x8x4x128_S128x1x8x4x128_0_2_3_4 : (⟨S128x8x4x128, .f32⟩ : BufTy).Contents (Elt F) → (⟨S128x1x8x4x128, .f32⟩ : BufTy).Contents (Elt F)),
    unary main_v68 main_v70 (broadcastInDim S128x1x8x4x128 ![0, 2, 3, 4] bcast_S128x8x4x128_S128x1x8x4x128_0_2_3_4 : (⟨S128x8x4x128, .f32⟩ : BufTy).Contents (Elt F) → (⟨S128x1x8x4x128, .f32⟩ : BufTy).Contents (Elt F)),
    binary main_v69 main_v70 main_v71 ((fun a b => concatenate S128x2x8x4x128 1 [⟨S128x1x8x4x128, a⟩, ⟨S128x1x8x4x128, b⟩] concatenates_S128x1x8x4x128_S128x1x8x4x128_S128x2x8x4x128_d1) : (⟨S128x1x8x4x128, .f32⟩ : BufTy).Contents (Elt F) → (⟨S128x1x8x4x128, .f32⟩ : BufTy).Contents (Elt F) → (⟨S128x2x8x4x128, .f32⟩ : BufTy).Contents (Elt F)),
    unary main_v71 main_v72 (broadcastInDim S1x128x2x8x4x128 ![1, 2, 3, 4, 5] bcast_S128x2x8x4x128_S1x128x2x8x4x128_1_2_3_4_5 : (⟨S128x2x8x4x128, .f32⟩ : BufTy).Contents (Elt F) → (⟨S1x128x2x8x4x128, .f32⟩ : BufTy).Contents (Elt F)),
    unary main_v60 main_v73 ((extractStridedSlice S1x128x3x8x4x128 ![1, 0, 0, 0, 0, 0] · slices_S3x128x3x8x4x128_S1x128x3x8x4x128_1_0_0_0_0_0) : (⟨S3x128x3x8x4x128, .f32⟩ : BufTy).Contents (Elt F) → (⟨S1x128x3x8x4x128, .f32⟩ : BufTy).Contents (Elt F)),
    reshape main_v73 main_v74 (rfl : (.f32 : EltTy) = .f32) shapeCasts_S1x128x3x8x4x128_S128x3x8x4x128,
    unary main_v74 main_v75 ((extractStridedSlice S128x1x8x4x128 ![0, 1, 0, 0, 0] · slices_S128x3x8x4x128_S128x1x8x4x128_0_1_0_0_0) : (⟨S128x3x8x4x128, .f32⟩ : BufTy).Contents (Elt F) → (⟨S128x1x8x4x128, .f32⟩ : BufTy).Contents (Elt F)),
    reshape main_v75 main_v76 (rfl : (.f32 : EltTy) = .f32) shapeCasts_S128x1x8x4x128_S128x8x4x128,
    unary main_v60 main_v77 ((extractStridedSlice S1x128x3x8x4x128 ![2, 0, 0, 0, 0, 0] · slices_S3x128x3x8x4x128_S1x128x3x8x4x128_2_0_0_0_0_0) : (⟨S3x128x3x8x4x128, .f32⟩ : BufTy).Contents (Elt F) → (⟨S1x128x3x8x4x128, .f32⟩ : BufTy).Contents (Elt F)),
    reshape main_v77 main_v78 (rfl : (.f32 : EltTy) = .f32) shapeCasts_S1x128x3x8x4x128_S128x3x8x4x128,
    unary main_v78 main_v79 ((extractStridedSlice S128x1x8x4x128 ![0, 1, 0, 0, 0] · slices_S128x3x8x4x128_S128x1x8x4x128_0_1_0_0_0) : (⟨S128x3x8x4x128, .f32⟩ : BufTy).Contents (Elt F) → (⟨S128x1x8x4x128, .f32⟩ : BufTy).Contents (Elt F)),
    reshape main_v79 main_v80 (rfl : (.f32 : EltTy) = .f32) shapeCasts_S128x1x8x4x128_S128x8x4x128,
    unary main_v76 main_v81 (broadcastInDim S128x1x8x4x128 ![0, 2, 3, 4] bcast_S128x8x4x128_S128x1x8x4x128_0_2_3_4 : (⟨S128x8x4x128, .f32⟩ : BufTy).Contents (Elt F) → (⟨S128x1x8x4x128, .f32⟩ : BufTy).Contents (Elt F)),
    unary main_v80 main_v82 (broadcastInDim S128x1x8x4x128 ![0, 2, 3, 4] bcast_S128x8x4x128_S128x1x8x4x128_0_2_3_4 : (⟨S128x8x4x128, .f32⟩ : BufTy).Contents (Elt F) → (⟨S128x1x8x4x128, .f32⟩ : BufTy).Contents (Elt F)),
    binary main_v81 main_v82 main_v83 ((fun a b => concatenate S128x2x8x4x128 1 [⟨S128x1x8x4x128, a⟩, ⟨S128x1x8x4x128, b⟩] concatenates_S128x1x8x4x128_S128x1x8x4x128_S128x2x8x4x128_d1) : (⟨S128x1x8x4x128, .f32⟩ : BufTy).Contents (Elt F) → (⟨S128x1x8x4x128, .f32⟩ : BufTy).Contents (Elt F) → (⟨S128x2x8x4x128, .f32⟩ : BufTy).Contents (Elt F)),
    unary main_v83 main_v84 (broadcastInDim S1x128x2x8x4x128 ![1, 2, 3, 4, 5] bcast_S128x2x8x4x128_S1x128x2x8x4x128_1_2_3_4_5 : (⟨S128x2x8x4x128, .f32⟩ : BufTy).Contents (Elt F) → (⟨S1x128x2x8x4x128, .f32⟩ : BufTy).Contents (Elt F)),
    unary main_v60 main_v85 ((extractStridedSlice S1x128x3x8x4x128 ![1, 0, 0, 0, 0, 0] · slices_S3x128x3x8x4x128_S1x128x3x8x4x128_1_0_0_0_0_0) : (⟨S3x128x3x8x4x128, .f32⟩ : BufTy).Contents (Elt F) → (⟨S1x128x3x8x4x128, .f32⟩ : BufTy).Contents (Elt F)),
    reshape main_v85 main_v86 (rfl : (.f32 : EltTy) = .f32) shapeCasts_S1x128x3x8x4x128_S128x3x8x4x128,
    unary main_v86 main_v87 ((extractStridedSlice S128x1x8x4x128 ![0, 2, 0, 0, 0] · slices_S128x3x8x4x128_S128x1x8x4x128_0_2_0_0_0) : (⟨S128x3x8x4x128, .f32⟩ : BufTy).Contents (Elt F) → (⟨S128x1x8x4x128, .f32⟩ : BufTy).Contents (Elt F)),
    reshape main_v87 main_v88 (rfl : (.f32 : EltTy) = .f32) shapeCasts_S128x1x8x4x128_S128x8x4x128,
    unary main_v60 main_v89 ((extractStridedSlice S1x128x3x8x4x128 ![2, 0, 0, 0, 0, 0] · slices_S3x128x3x8x4x128_S1x128x3x8x4x128_2_0_0_0_0_0) : (⟨S3x128x3x8x4x128, .f32⟩ : BufTy).Contents (Elt F) → (⟨S1x128x3x8x4x128, .f32⟩ : BufTy).Contents (Elt F)),
    reshape main_v89 main_v90 (rfl : (.f32 : EltTy) = .f32) shapeCasts_S1x128x3x8x4x128_S128x3x8x4x128,
    unary main_v90 main_v91 ((extractStridedSlice S128x1x8x4x128 ![0, 2, 0, 0, 0] · slices_S128x3x8x4x128_S128x1x8x4x128_0_2_0_0_0) : (⟨S128x3x8x4x128, .f32⟩ : BufTy).Contents (Elt F) → (⟨S128x1x8x4x128, .f32⟩ : BufTy).Contents (Elt F)),
    reshape main_v91 main_v92 (rfl : (.f32 : EltTy) = .f32) shapeCasts_S128x1x8x4x128_S128x8x4x128,
    unary main_v88 main_v93 (broadcastInDim S128x1x8x4x128 ![0, 2, 3, 4] bcast_S128x8x4x128_S128x1x8x4x128_0_2_3_4 : (⟨S128x8x4x128, .f32⟩ : BufTy).Contents (Elt F) → (⟨S128x1x8x4x128, .f32⟩ : BufTy).Contents (Elt F)),
    unary main_v92 main_v94 (broadcastInDim S128x1x8x4x128 ![0, 2, 3, 4] bcast_S128x8x4x128_S128x1x8x4x128_0_2_3_4 : (⟨S128x8x4x128, .f32⟩ : BufTy).Contents (Elt F) → (⟨S128x1x8x4x128, .f32⟩ : BufTy).Contents (Elt F)),
    binary main_v93 main_v94 main_v95 ((fun a b => concatenate S128x2x8x4x128 1 [⟨S128x1x8x4x128, a⟩, ⟨S128x1x8x4x128, b⟩] concatenates_S128x1x8x4x128_S128x1x8x4x128_S128x2x8x4x128_d1) : (⟨S128x1x8x4x128, .f32⟩ : BufTy).Contents (Elt F) → (⟨S128x1x8x4x128, .f32⟩ : BufTy).Contents (Elt F) → (⟨S128x2x8x4x128, .f32⟩ : BufTy).Contents (Elt F)),
    unary main_v95 main_v96 (broadcastInDim S1x128x2x8x4x128 ![1, 2, 3, 4, 5] bcast_S128x2x8x4x128_S1x128x2x8x4x128_1_2_3_4_5 : (⟨S128x2x8x4x128, .f32⟩ : BufTy).Contents (Elt F) → (⟨S1x128x2x8x4x128, .f32⟩ : BufTy).Contents (Elt F)),
    unary main_v57 main_v97 ((extractStridedSlice S512x2048 ![0, 9216] · slices_S512x17408_S512x2048_0_9216) : (⟨S512x17408, .f32⟩ : BufTy).Contents (Elt F) → (⟨S512x2048, .f32⟩ : BufTy).Contents (Elt F)),
    reshape main_v97 main_v98 (rfl : (.f32 : EltTy) = .f32) shapeCasts_S512x2048_S128x4x2048,
    reshape main_arg1 main_v99 (rfl : (.f32 : EltTy) = .f32) shapeCasts_S1x128x3x2048_S128x3x2048,
    binary main_v99 main_v98 main_v100 ((fun a b => concatenate S128x7x2048 1 [⟨S128x3x2048, a⟩, ⟨S128x4x2048, b⟩] concatenates_S128x3x2048_S128x4x2048_S128x7x2048_d1) : (⟨S128x3x2048, .f32⟩ : BufTy).Contents (Elt F) → (⟨S128x4x2048, .f32⟩ : BufTy).Contents (Elt F) → (⟨S128x7x2048, .f32⟩ : BufTy).Contents (Elt F)),
    unary main_v100 main_v101 ((extractStridedSlice S128x3x2048 ![0, 4, 0] · slices_S128x7x2048_S128x3x2048_0_4_0) : (⟨S128x7x2048, .f32⟩ : BufTy).Contents (Elt F) → (⟨S128x3x2048, .f32⟩ : BufTy).Contents (Elt F)),
    unary main_v101 main_v102 (broadcastInDim S1x128x3x2048 ![1, 2, 3] bcast_S128x3x2048_S1x128x3x2048_1_2_3 : (⟨S128x3x2048, .f32⟩ : BufTy).Contents (Elt F) → (⟨S1x128x3x2048, .f32⟩ : BufTy).Contents (Elt F)) ]

theorem opsA_sub : (opsA : List (HloOp τ sig (Elt F))).Forall fun op => op.bufs ⊆ tcRefs τ sig :=
  ⟨nullary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., reshape_bufs_sub .., binary_bufs_sub .., unary_bufs_sub .., reshape_bufs_sub .., unary_bufs_sub .., nullary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., binary_bufs_sub .., unary_bufs_sub ..⟩

theorem opsB_sub : (opsB : List (HloOp τ sig (Elt F))).Forall fun op => op.bufs ⊆ tcRefs τ sig :=
  ⟨reshape_bufs_sub .., unary_bufs_sub .., binary_bufs_sub .., reshape_bufs_sub ..⟩

theorem opsC_sub : (opsC : List (HloOp τ sig (Elt F))).Forall fun op => op.bufs ⊆ tcRefs τ sig :=
  ⟨unary_bufs_sub .., reshape_bufs_sub .., unary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., reshape_bufs_sub .., reshape_bufs_sub .., binary_bufs_sub .., unary_bufs_sub .., unary_bufs_sub ..⟩

theorem opsA_fresh : ∀ op ∈ (opsA : List (HloOp τ sig (Elt F))), op.fresh = ∅ := by intro _ h; (repeat (cases h with | head => rfl | tail _ h => ?_)); exact nomatch h

theorem opsB_fresh : ∀ op ∈ (opsB : List (HloOp τ sig (Elt F))), op.fresh = ∅ := by intro _ h; (repeat (cases h with | head => rfl | tail _ h => ?_)); exact nomatch h

theorem opsC_fresh : ∀ op ∈ (opsC : List (HloOp τ sig (Elt F))), op.fresh = ∅ := by intro _ h; (repeat (cases h with | head => rfl | tail _ h => ?_)); exact nomatch h

theorem part0_eq (c : Dev nD) : main_part0 (F := F) c = seq opsA := rfl
theorem part1_eq (c : Dev nD) : main_part1 (F := F) c = seq (opsB ++ opsC) := rfl

theorem main_eq (c : Dev nD) : main (F := F) c = seq (opsA ++ (opsB ++ opsC)) := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (opsA ++ (opsB ++ opsC) : List (HloOp τ sig (Elt F))).Forall fun op => op.bufs ⊆ tcRefs τ sig :=
  List.forall_iff_forall_mem.mpr fun op h => by
    rcases List.mem_append.mp h with h | h
    · exact List.forall_iff_forall_mem.mp opsA_sub op h
    rcases List.mem_append.mp h with h | h
    · exact List.forall_iff_forall_mem.mp opsB_sub op h
    · exact List.forall_iff_forall_mem.mp opsC_sub op h

theorem ops_fresh : ∀ op ∈ (opsA ++ (opsB ++ opsC) : List (HloOp τ sig (Elt F))), op.fresh = ∅ := fun op h => by
  rcases List.mem_append.mp h with h | h
  · exact opsA_fresh op h
  rcases List.mem_append.mp h with h | h
  · exact opsB_fresh op h
  · exact opsC_fresh op h

/-- What the buffers hold at the end, the three lists run one after the other. -/
def atEnd (m : (ℓ : Loc nD τ sig) → Buf (Elt F) ℓ) (c : Dev nD) : Valuation τ sig (Elt F) :=
  after opsC (after opsB (after opsA (launchContents m c)))

theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = atEnd m c (Proc.devRef .tc b) :=
  (θ_run defs _ _).mono (fun _ h c b => (h c b).trans (by unfold atEnd; rw [after_append, after_append]))
    (run_seq scopedRefs_eq scopedSems_eq defs main (fun _ => opsA ++ (opsB ++ opsC)) main_eq (fun _ => ops_sub) m ρ (fun _ => ops_fresh))

/-- One head group's keys and values, cut from the rows. -/
def kvOf (o : ℕ) (ho : S128x3x8x4x128.Slices ![0, o, 0, 0, 0] S128x1x8x4x128) (z : FVec F S512x17408 .f32) : FVec F S1x128x2x8x4x128 .f32 :=
  let h : FVec F S3x128x3x8x4x128 .f32 := transpose S3x128x3x8x4x128 [2, 0, 3, 4, 1, 5] (shapeCast S128x4x3x3x8x128 (extractStridedSlice S512x9216 ![0, 0] z slices_S512x17408_S512x9216_0_0) shapeCasts_S512x9216_S128x4x3x3x8x128) transposes_S128x4x3x3x8x128_S3x128x3x8x4x128_2_0_3_4_1_5
  broadcastInDim S1x128x2x8x4x128 ![1, 2, 3, 4, 5] bcast_S128x2x8x4x128_S1x128x2x8x4x128_1_2_3_4_5
    (concatenate S128x2x8x4x128 1
      [⟨S128x1x8x4x128, broadcastInDim S128x1x8x4x128 ![0, 2, 3, 4] bcast_S128x8x4x128_S128x1x8x4x128_0_2_3_4 (shapeCast S128x8x4x128 (extractStridedSlice S128x1x8x4x128 ![0, o, 0, 0, 0] (shapeCast S128x3x8x4x128 (extractStridedSlice S1x128x3x8x4x128 ![1, 0, 0, 0, 0, 0] h slices_S3x128x3x8x4x128_S1x128x3x8x4x128_1_0_0_0_0_0) shapeCasts_S1x128x3x8x4x128_S128x3x8x4x128) ho) shapeCasts_S128x1x8x4x128_S128x8x4x128)⟩,
       ⟨S128x1x8x4x128, broadcastInDim S128x1x8x4x128 ![0, 2, 3, 4] bcast_S128x8x4x128_S128x1x8x4x128_0_2_3_4 (shapeCast S128x8x4x128 (extractStridedSlice S128x1x8x4x128 ![0, o, 0, 0, 0] (shapeCast S128x3x8x4x128 (extractStridedSlice S1x128x3x8x4x128 ![2, 0, 0, 0, 0, 0] h slices_S3x128x3x8x4x128_S1x128x3x8x4x128_2_0_0_0_0_0) shapeCasts_S1x128x3x8x4x128_S128x3x8x4x128) ho) shapeCasts_S128x1x8x4x128_S128x8x4x128)⟩]
      concatenates_S128x1x8x4x128_S128x1x8x4x128_S128x2x8x4x128_d1)

/-- The convolution's last three inputs. -/
def convOf (s : FVec F S1x128x3x2048 .f32) (z : FVec F S512x17408 .f32) : FVec F S1x128x3x2048 .f32 :=
  broadcastInDim S1x128x3x2048 ![1, 2, 3] bcast_S128x3x2048_S1x128x3x2048_1_2_3
    (extractStridedSlice S128x3x2048 ![0, 4, 0]
      (concatenate S128x7x2048 1 [⟨S128x3x2048, shapeCast S128x3x2048 s shapeCasts_S1x128x3x2048_S128x3x2048⟩,
        ⟨S128x4x2048, shapeCast S128x4x2048 (extractStridedSlice S512x2048 ![0, 9216] z slices_S512x17408_S512x2048_0_9216) shapeCasts_S512x2048_S128x4x2048⟩] concatenates_S128x3x2048_S128x4x2048_S128x7x2048_d1)
      slices_S128x7x2048_S128x3x2048_0_4_0)

variable (W : Valuation τ sig (Elt F))

theorem tail_v72 : after opsC W (Proc.devRef .tc main_v72) = kvOf 0 slices_S128x3x8x4x128_S128x1x8x4x128_0_0_0_0_0 (W (Proc.devRef .tc main_v57)) := by
  after_results_simp <;> rfl

theorem tail_v84 : after opsC W (Proc.devRef .tc main_v84) = kvOf 1 slices_S128x3x8x4x128_S128x1x8x4x128_0_1_0_0_0 (W (Proc.devRef .tc main_v57)) := by
  after_results_simp <;> rfl

theorem tail_v96 : after opsC W (Proc.devRef .tc main_v96) = kvOf 2 slices_S128x3x8x4x128_S128x1x8x4x128_0_2_0_0_0 (W (Proc.devRef .tc main_v57)) := by
  after_results_simp <;> rfl

theorem tail_v102 : after opsC W (Proc.devRef .tc main_v102) = convOf (W (Proc.devRef .tc main_arg1)) (W (Proc.devRef .tc main_v57)) := by
  after_results_simp <;> rfl

theorem tail_v57 : after opsC W (Proc.devRef .tc main_v57) = W (Proc.devRef .tc main_v57) := by
  after_results_simp <;> rfl

theorem opsA_arg0 : after opsA W (Proc.devRef .tc main_arg0) = W (Proc.devRef .tc main_arg0) := by
  after_results_simp <;> rfl

theorem opsA_arg1 : after opsA W (Proc.devRef .tc main_arg1) = W (Proc.devRef .tc main_arg1) := by
  after_results_simp <;> rfl

theorem opsA_arg2 : after opsA W (Proc.devRef .tc main_arg2) = W (Proc.devRef .tc main_arg2) := by
  after_results_simp <;> rfl

theorem opsA_arg3 : after opsA W (Proc.devRef .tc main_arg3) = W (Proc.devRef .tc main_arg3) := by
  after_results_simp <;> rfl

theorem opsB_arg0 : after opsB W (Proc.devRef .tc main_arg0) = W (Proc.devRef .tc main_arg0) := by
  after_results_simp <;> rfl

theorem opsB_arg1 : after opsB W (Proc.devRef .tc main_arg1) = W (Proc.devRef .tc main_arg1) := by
  after_results_simp <;> rfl

theorem opsB_arg2 : after opsB W (Proc.devRef .tc main_arg2) = W (Proc.devRef .tc main_arg2) := by
  after_results_simp <;> rfl

theorem opsB_arg3 : after opsB W (Proc.devRef .tc main_arg3) = W (Proc.devRef .tc main_arg3) := by
  after_results_simp <;> rfl

theorem opsC_arg0 : after opsC W (Proc.devRef .tc main_arg0) = W (Proc.devRef .tc main_arg0) := by
  after_results_simp <;> rfl

theorem opsC_arg1 : after opsC W (Proc.devRef .tc main_arg1) = W (Proc.devRef .tc main_arg1) := by
  after_results_simp <;> rfl

theorem opsC_arg2 : after opsC W (Proc.devRef .tc main_arg2) = W (Proc.devRef .tc main_arg2) := by
  after_results_simp <;> rfl

theorem opsC_arg3 : after opsC W (Proc.devRef .tc main_arg3) = W (Proc.devRef .tc main_arg3) := by
  after_results_simp <;> rfl

theorem atEnd_arg0 (m : (ℓ : Loc nD τ sig) → Buf (Elt F) ℓ) (c : Dev nD) : atEnd m c (Proc.devRef .tc main_arg0) = m ((c.tc : Thread nD τ).loc main_arg0) :=
  (opsC_arg0 _).trans ((opsB_arg0 _).trans (opsA_arg0 _))

theorem atEnd_arg1 (m : (ℓ : Loc nD τ sig) → Buf (Elt F) ℓ) (c : Dev nD) : atEnd m c (Proc.devRef .tc main_arg1) = m ((c.tc : Thread nD τ).loc main_arg1) :=
  (opsC_arg1 _).trans ((opsB_arg1 _).trans (opsA_arg1 _))

theorem atEnd_arg2 (m : (ℓ : Loc nD τ sig) → Buf (Elt F) ℓ) (c : Dev nD) : atEnd m c (Proc.devRef .tc main_arg2) = m ((c.tc : Thread nD τ).loc main_arg2) :=
  (opsC_arg2 _).trans ((opsB_arg2 _).trans (opsA_arg2 _))

theorem atEnd_arg3 (m : (ℓ : Loc nD τ sig) → Buf (Elt F) ℓ) (c : Dev nD) : atEnd m c (Proc.devRef .tc main_arg3) = m ((c.tc : Thread nD τ).loc main_arg3) :=
  (opsC_arg3 _).trans ((opsB_arg3 _).trans (opsA_arg3 _))

end Cert.Reference5Ideal.InProj

end
-- ==== Proof.InProjFrames.lean ====
module

public import proofs.«01_k».proof.Defs
public import proofs.«01_k».proof.Proof.InProjLaunch
public import proofs.«01_k».proof.Proof.InProjRun
public import proofs.«01_k».proof.Proof.Gen.Kernel5
public import proofs.«01_k».proof.Proof.Gen.Kernel5Ideal
public import Idealize.ShloMosaic.Lib.Quiescent

@[expose] public section

set_option maxRecDepth 65536
set_option maxHeartbeats 0

noncomputable section

/-!
# The frames of the input projection

One run, for any values, serves both the kernel over machine words and the kernel over the extended reals.
-/

namespace Cert.Proof.InProj

open Idealize.ShloMosaic Idealize.SL.Sem

variable {F : FTy → Type} [FloatOps F]

theorem labels_eq : Cert.Kernel5.defs₀ (F := F) = Cert.Kernel5Ideal.defs₀ (F := F) := by
  unfold Cert.Kernel5.defs₀ Cert.Kernel5Ideal.defs₀
  refine congrArg Defs.onTc (funext fun ℓ => funext fun a => ?_)
  match ℓ, a with
  | 0, (t, s) => rfl

theorem defs_eq : Cert.Kernel5.defs (F := F) = Cert.Kernel5Ideal.defs (F := F) := by
  unfold Cert.Kernel5.defs Cert.Kernel5Ideal.defs
  rw [labels_eq]
  rfl

theorem main_eq : Cert.Kernel5.main (F := F) = Cert.Kernel5Ideal.main (F := F) := rfl

theorem frame_kernel : Cert.quiescent_Kernel5 := fun m ρ _ => by
  show (θ_run (Cert.Kernel5.defs (F := Bits)) _ _) _
  rw [defs_eq, main_eq]
  exact Cert.Kernel5Ideal.InProj.frame (F := Bits) m ρ

theorem frame_ideal : Cert.quiescent_Kernel5Ideal := fun m ρ _ => Cert.Kernel5Ideal.InProj.frame (F := Ideal) m ρ

theorem frame_reference : Cert.quiescent_Reference5Ideal := fun m ρ _ =>
  (θ_run Cert.Reference5Ideal.defs _ _).mono (fun r h => ⟨fun c =>
      ⟨(h c Cert.Reference5Ideal.main_arg0).trans (Cert.Reference5Ideal.InProj.atEnd_arg0 m c),
       (h c Cert.Reference5Ideal.main_arg1).trans (Cert.Reference5Ideal.InProj.atEnd_arg1 m c),
       (h c Cert.Reference5Ideal.main_arg2).trans (Cert.Reference5Ideal.InProj.atEnd_arg2 m c),
       (h c Cert.Reference5Ideal.main_arg3).trans (Cert.Reference5Ideal.InProj.atEnd_arg3 m c)⟩, sem_eq_zero_of_no_sems (by decide) r.2⟩)
    (Cert.Reference5Ideal.InProj.run (F := Ideal) m ρ)

end Cert.Proof.InProj

end
-- ==== Proof.InProjSpec.lean ====
module

public import Idealize.ShloMosaic.Lib.Pipeline.ValueKit.Geometry
public import Idealize.ShloMosaic.Lib.Tactic.ValueTie

@[expose] public section

/-! The input projection of a row and its rotary embedding, over extended reals. -/

noncomputable section

namespace Cert.InProjSpec

open Idealize.ShloMosaic

/-- One entry of a row divided by its root mean square and scaled. -/
def nrow (x ln : Fin 2048 → EReal) (k : Fin 2048) : EReal :=
  x k * Ideal.rsqrt (Ideal.div (∑ i, x i * x i) (Ideal.ofBits .f32 0x45000000#32) + Ideal.ofBits .f32 0x358637BD#32) * ln k

/-- One entry of the projection of the normalised row. -/
def zrow (x ln w : Fin 2048 → EReal) : EReal := ∑ k, nrow x ln k * w k

/-- The angle of pair `d` at position `p`. -/
def ang (p : BitVec 32) (d : Fin 64) : EReal :=
  (FloatOps.sitofp .f32 p : Ideal .f32) * Ideal.exp (Ideal.div (Ideal.ofBits .f32 0xC1135D8E#32 * (FloatOps.sitofp .f32 (BitVec.ofNat 32 d.val) : Ideal .f32)) (Ideal.ofBits .f32 0x42800000#32))

/-- The position of token `t` of the batch. -/
def posOf (t : ℕ) : BitVec 32 := 2048#32 + BitVec.ofNat 32 t

/-- Entry `n` of a rotated row: the first half of each head less the second times the sine, the second plus the first. -/
def rot (t : ℕ) (z : Fin 17408 → EReal) (n : Fin 17408) : EReal :=
  if n.val < 6144 then
    if h : n.val % 128 < 64 then
      z n * Ideal.cos (ang (posOf t) ⟨n.val % 128, h⟩) - z ⟨(n.val + 64) % 17408, Nat.mod_lt _ (by decide)⟩ * Ideal.sin (ang (posOf t) ⟨n.val % 128, h⟩)
    else
      z n * Ideal.cos (ang (posOf t) ⟨n.val % 128 - 64, by omega⟩) + z ⟨n.val - 64, by omega⟩ * Ideal.sin (ang (posOf t) ⟨n.val % 128 - 64, by omega⟩)
  else z n

end Cert.InProjSpec

end
-- ==== Proof.InProjMath.lean ====
module

public import proofs.«01_k».proof.Proof.InProjSpec
public import proofs.«01_k».proof.Proof.InProjBody
public import Idealize.ShloMosaic.Lib.KernelVsHost

@[expose] public section

/-! The body's stores, element by element. -/

set_option maxRecDepth 16384

noncomputable section

namespace Cert.Kernel5Ideal.InProj

open Cert.Kernel5Ideal Cert.Kernel5Ideal.Gen Cert.InProjSpec
open Idealize.ShloMosaic Idealize.ShloMosaic.TcCoe Idealize.ShloMosaic.Tactic

theorem rows_apply (x : FVec Ideal S512x2048 .f32) (ln : FVec Ideal S1x2048 .f32) (r : Fin 512) (k : Fin 2048) :
    k0_pay150 (F := Ideal) x ln (ix2 r k) = nrow (fun k => x (ix2 r k)) (fun k => ln (ix2 0 k)) k := by
  unfold k0_pay150 nrow
  pointwise

theorem prod_apply (h : FVec Ideal S512x2048 .bf16) (w : FVec Ideal S2048x512 .bf16) (r n : Fin 512) :
    k0_pay151 (F := Ideal) h w (ix2 r n) = ∑ k : Fin 2048, h (ix2 r k) * w (ix2 k n) := by
  unfold k0_pay151
  pointwise

theorem turned_apply (z : FVec Ideal S64x128 .f32) (r : Fin 64) (d : Fin 128) :
    dynamicRotate 1 64#32 none z rotates_S64x128_d1 (ix2 r d) = z (ix2 r ⟨(d.val + 64) % 128, Nat.mod_lt _ (by decide)⟩) := by
  refine dynamicRotate_apply (1 : Fin 2) 64#32 z rotates_S64x128_d1 _ _ fun b => ?_
  match b with
  | ⟨0, _⟩ => rfl
  | ⟨1, _⟩ => show (d.val + 64) % 128 = (d.val + 128 - 64 % 128) % 128; omega

theorem blk_apply (z cs sn : FVec Ideal S64x128 .f32) (r : Fin 64) (d : Fin 128) :
    ropeBlk (F := Ideal) z cs sn (ix2 r d) = z (ix2 r d) * cs (ix2 r d) + z (ix2 r ⟨(d.val + 64) % 128, Nat.mod_lt _ (by decide)⟩) * sn (ix2 r d) := by
  unfold ropeBlk
  rw [shapeCast_self, shapeCast_self, ← turned_apply z r d]
  rfl

/-- The rotated block, as one function of the block's index. -/
def ropeAll (z : FVec Ideal S512x512 .f32) (cs sn : FVec Ideal S512x128 .f32) : FVec Ideal S512x512 .f32 := fun y =>
  z y * cs (ix2 (y 0) ⟨(y 1).val % 128, Nat.mod_lt _ (by decide)⟩)
    + z (ix2 (y 0) ⟨128 * ((y 1).val / 128) + ((y 1).val % 128 + 64) % 128, by have := (y 1).isLt; show _ < 512; change (y 1).val < 512 at this; omega⟩)
      * sn (ix2 (y 0) ⟨(y 1).val % 128, Nat.mod_lt _ (by decide)⟩)

theorem band_idx (o : Fin 8) (q : Fin 4) (r : Fin 64) (d : Fin 128) :
    (bandAt o q).toLoadRect.idx (ix2 r d) = (ix2 ⟨64 * o.val + r.val, by omega⟩ ⟨128 * q.val + d.val, by omega⟩ : S512x512.Idx) := by
  refine funext fun b => Fin.ext ?_
  match b with
  | ⟨0, _⟩ => show 64 * o.val + 1 * r.val = 64 * o.val + r.val; omega
  | ⟨1, _⟩ => show 128 * q.val + 1 * d.val = 128 * q.val + d.val; omega

theorem rows_idx (o : Fin 8) (r : Fin 64) (d : Fin 128) :
    (rowsOf o).toLoadRect.idx (ix2 r d) = (ix2 ⟨64 * o.val + r.val, by omega⟩ d : S512x128.Idx) := by
  refine funext fun b => Fin.ext ?_
  match b with
  | ⟨0, _⟩ => show 64 * o.val + 1 * r.val = 64 * o.val + r.val; omega
  | ⟨1, _⟩ => show 0 + 1 * d.val = d.val; omega

theorem piece_apply (z : FVec Ideal S512x512 .f32) (cs sn : FVec Ideal S512x128 .f32) (o : Fin 8) (q : Fin 4) (r : Fin 64) (d : Fin 128) :
    (ropePiece (F := Ideal) z cs sn o q).2 (ix2 r d) = ropeAll z cs sn ((bandAt o q).toLoadRect.idx (ix2 r d)) := by
  refine (blk_apply _ _ _ r d).trans ?_
  simp only [band_idx, rows_idx]
  unfold ropeAll
  have e0 : (⟨(128 * q.val + d.val) % 128, Nat.mod_lt _ (by decide)⟩ : Fin 128) = d := Fin.ext (show (128 * q.val + d.val) % 128 = d.val by omega)
  have e1 : (⟨128 * ((128 * q.val + d.val) / 128) + ((128 * q.val + d.val) % 128 + 64) % 128, by omega⟩ : Fin 512) = ⟨128 * q.val + (d.val + 64) % 128, by omega⟩ :=
    Fin.ext (show 128 * ((128 * q.val + d.val) / 128) + ((128 * q.val + d.val) % 128 + 64) % 128 = 128 * q.val + (d.val + 64) % 128 by omega)
  show _ = z _ * cs (ix2 _ ⟨(128 * q.val + d.val) % 128, _⟩) + z (ix2 _ ⟨128 * ((128 * q.val + d.val) / 128) + ((128 * q.val + d.val) % 128 + 64) % 128, _⟩) * sn (ix2 _ ⟨(128 * q.val + d.val) % 128, _⟩)
  rw [e0, e1]
  rfl

theorem rope_apply (z : FVec Ideal S512x512 .f32) (cs sn : FVec Ideal S512x128 .f32) (y : S512x512.Idx) :
    ropeOut (F := Ideal) z cs sn y = ropeAll z cs sn y := by
  unfold ropeOut
  refine View.canon_apply_of_pieces (Val := Elt Ideal) (ropeAll z cs sn) _ (fun p hp => ?_) y (cover_rope (F := Ideal) z cs sn y)
  obtain ⟨o, -, hp⟩ := List.mem_flatMap.mp hp
  obtain ⟨q, -, rfl⟩ := List.mem_map.mp hp
  intro x
  revert x
  intro (x : S64x128.Idx)
  idx_vars x
  exact piece_apply z cs sn o q x0 x1

/-- The position of row `r`, as the host computes it. -/
def posK : IVec S512 32 :=
  addi (broadcastInDim S512 ![] bcast_S_S512 (constantI S_ 32 2048#32))
    (let q : IVec S_ 32 := select (cmpi .eq (constantI S_ 32 4#32) (constantI S_ 32 0#32)) (constantI S_ 32 1#32) (constantI S_ 32 4#32)
     let r : IVec S512 32 := Host.remsi (iotaInDim S512 32 0) (broadcastInDim S512 ![] bcast_S_S512 q)
     select (andi (cmpi .ne (cmpi .slt r (broadcastInDim S512 ![] bcast_S_S512 (constantI S_ 32 0#32))) (broadcastInDim S512 ![] bcast_S_S512 (cmpi .slt q (constantI S_ 32 0#32))))
       (cmpi .ne r (broadcastInDim S512 ![] bcast_S_S512 (constantI S_ 32 0#32)))) (addi r (broadcastInDim S512 ![] bcast_S_S512 q)) r)

theorem posK_apply (r : Fin 512) : posK (ix1 r) = posOf (r.val % 4) := by
  revert r
  decide +kernel

/-- The angle table, -/
def angK : FVec Ideal S512x64 .f32 :=
  mulf (broadcastInDim S512x64 ![0, 1] bcast_S512x1_S512x64_0_1 (broadcastInDim S512x1 ![0] bcast_S512_S512x1_0 (sitofp .f32 posK : FVec Ideal S512 .f32)))
    (broadcastInDim S512x64 ![0, 1] bcast_S1x64_S512x64_0_1 (broadcastInDim S1x64 ![1] bcast_S64_S1x64_1
      (Host.exp (Host.divf (mulf (broadcastInDim S64 ![] bcast_S_S64 (constant S_ .f32 0xC1135D8E#32)) (sitofp .f32 (iotaInDim S64 32 0)))
        (broadcastInDim S64 ![] bcast_S_S64 (constant S_ .f32 0x42800000#32))))))

/-- its cosines twice over, -/
def cosK : FVec Ideal S512x128 .f32 :=
  concatenate S512x128 1 [⟨S512x64, Host.cos angK⟩, ⟨S512x64, Host.cos angK⟩] concatenates_S512x64_S512x64_S512x128_d1

/-- and its sines, the first half negated. -/
def sinK : FVec Ideal S512x128 .f32 :=
  concatenate S512x128 1 [⟨S512x64, Host.negf (Host.sin angK)⟩, ⟨S512x64, Host.sin angK⟩] concatenates_S512x64_S512x64_S512x128_d1

theorem angK_of (p : IVec S512 32) (r : Fin 512) (d : Fin 64) :
    (mulf (broadcastInDim S512x64 ![0, 1] bcast_S512x1_S512x64_0_1 (broadcastInDim S512x1 ![0] bcast_S512_S512x1_0 (sitofp .f32 p : FVec Ideal S512 .f32)))
    (broadcastInDim S512x64 ![0, 1] bcast_S1x64_S512x64_0_1 (broadcastInDim S1x64 ![1] bcast_S64_S1x64_1
      (Host.exp (Host.divf (mulf (broadcastInDim S64 ![] bcast_S_S64 (constant S_ .f32 0xC1135D8E#32)) (sitofp .f32 (iotaInDim S64 32 0)))
        (broadcastInDim S64 ![] bcast_S_S64 (constant S_ .f32 0x42800000#32)))))) : FVec Ideal S512x64 .f32) (ix2 r d) = ang (p (ix1 r)) d := by
  unfold ang
  pointwise

theorem angK_apply (r : Fin 512) (d : Fin 64) : angK (ix2 r d) = ang (posOf (r.val % 4)) d := by
  rw [← posK_apply r]
  exact angK_of posK r d

theorem cat_apply (a b : FVec Ideal S512x64 .f32) (r : Fin 512) (d : Fin 128) :
    (concatenate S512x128 1 [⟨S512x64, a⟩, ⟨S512x64, b⟩] concatenates_S512x64_S512x64_S512x128_d1 : FVec Ideal S512x128 .f32) (ix2 r d)
      = if h : d.val < 64 then a (ix2 r ⟨d.val, h⟩) else b (ix2 r ⟨d.val - 64, by omega⟩) := by
  pointwise

theorem cosK_apply (r : Fin 512) (d : Fin 128) :
    cosK (ix2 r d) = if h : d.val < 64 then Ideal.cos (ang (posOf (r.val % 4)) ⟨d.val, h⟩) else Ideal.cos (ang (posOf (r.val % 4)) ⟨d.val - 64, by omega⟩) := by
  refine (cat_apply _ _ r d).trans ?_
  simp only [← angK_apply]
  rfl

theorem sinK_apply (r : Fin 512) (d : Fin 128) :
    sinK (ix2 r d) = if h : d.val < 64 then -Ideal.sin (ang (posOf (r.val % 4)) ⟨d.val, h⟩) else Ideal.sin (ang (posOf (r.val % 4)) ⟨d.val - 64, by omega⟩) := by
  refine (cat_apply _ _ r d).trans ?_
  simp only [← angK_apply]
  rfl

end Cert.Kernel5Ideal.InProj

end
-- ==== Proof.InProjHost.lean ====
module

public import proofs.«01_k».proof.Proof.InProjMath
public import proofs.«01_k».proof.Proof.InProjLaunch
public import Idealize.ShloMosaic.Lib.Tactic.ValueTie

@[expose] public section

/-! What the host lines around the input projection's call compute. -/

set_option maxRecDepth 16384

noncomputable section

namespace Cert.Kernel5Ideal.InProj

open Cert.Kernel5Ideal Cert.Kernel5Ideal.Gen Cert.InProjSpec
open Idealize.ShloMosaic Idealize.ShloMosaic.TcCoe Idealize.ShloMosaic.Tactic

section Tail

variable {F : FTy → Type} [FloatOps F]

/-- One head group's keys and values, cut from the rows. -/
def kvOf (o : ℕ) (ho : S128x3x8x4x128.Slices ![0, o, 0, 0, 0] S128x1x8x4x128) (z : FVec F S512x17408 .f32) : FVec F S1x128x2x8x4x128 .f32 :=
  let h : FVec F S3x128x3x8x4x128 .f32 := transpose S3x128x3x8x4x128 [2, 0, 3, 4, 1, 5] (shapeCast S128x4x3x3x8x128 (extractStridedSlice S512x9216 ![0, 0] z slices_S512x17408_S512x9216_0_0) shapeCasts_S512x9216_S128x4x3x3x8x128) transposes_S128x4x3x3x8x128_S3x128x3x8x4x128_2_0_3_4_1_5
  broadcastInDim S1x128x2x8x4x128 ![1, 2, 3, 4, 5] bcast_S128x2x8x4x128_S1x128x2x8x4x128_1_2_3_4_5
    (concatenate S128x2x8x4x128 1
      [⟨S128x1x8x4x128, broadcastInDim S128x1x8x4x128 ![0, 2, 3, 4] bcast_S128x8x4x128_S128x1x8x4x128_0_2_3_4 (shapeCast S128x8x4x128 (extractStridedSlice S128x1x8x4x128 ![0, o, 0, 0, 0] (shapeCast S128x3x8x4x128 (extractStridedSlice S1x128x3x8x4x128 ![1, 0, 0, 0, 0, 0] h slices_S3x128x3x8x4x128_S1x128x3x8x4x128_1_0_0_0_0_0) shapeCasts_S1x128x3x8x4x128_S128x3x8x4x128) ho) shapeCasts_S128x1x8x4x128_S128x8x4x128)⟩,
       ⟨S128x1x8x4x128, broadcastInDim S128x1x8x4x128 ![0, 2, 3, 4] bcast_S128x8x4x128_S128x1x8x4x128_0_2_3_4 (shapeCast S128x8x4x128 (extractStridedSlice S128x1x8x4x128 ![0, o, 0, 0, 0] (shapeCast S128x3x8x4x128 (extractStridedSlice S1x128x3x8x4x128 ![2, 0, 0, 0, 0, 0] h slices_S3x128x3x8x4x128_S1x128x3x8x4x128_2_0_0_0_0_0) shapeCasts_S1x128x3x8x4x128_S128x3x8x4x128) ho) shapeCasts_S128x1x8x4x128_S128x8x4x128)⟩]
      concatenates_S128x1x8x4x128_S128x1x8x4x128_S128x2x8x4x128_d1)

/-- The convolution's last three inputs. -/
def convOf (s : FVec F S1x128x3x2048 .f32) (z : FVec F S512x17408 .f32) : FVec F S1x128x3x2048 .f32 :=
  broadcastInDim S1x128x3x2048 ![1, 2, 3] bcast_S128x3x2048_S1x128x3x2048_1_2_3
    (extractStridedSlice S128x3x2048 ![0, 4, 0]
      (concatenate S128x7x2048 1 [⟨S128x3x2048, shapeCast S128x3x2048 s shapeCasts_S1x128x3x2048_S128x3x2048⟩,
        ⟨S128x4x2048, shapeCast S128x4x2048 (extractStridedSlice S512x2048 ![0, 9216] z slices_S512x17408_S512x2048_0_9216) shapeCasts_S512x2048_S128x4x2048⟩] concatenates_S128x3x2048_S128x4x2048_S128x7x2048_d1)
      slices_S128x7x2048_S128x3x2048_0_4_0)

variable (W : Valuation τ sig (Elt F))

theorem tail_v26 : StableHlo.after hostOps1 W (Proc.devRef .tc main_v26) = W (Proc.devRef .tc main_v26) := by
  unfold hostOps1
  after_results_simp <;> rfl

theorem tail_v41 : StableHlo.after hostOps1 W (Proc.devRef .tc main_v41) = kvOf 0 slices_S128x3x8x4x128_S128x1x8x4x128_0_0_0_0_0 (W (Proc.devRef .tc main_v26)) := by
  unfold hostOps1
  after_results_simp <;> rfl

theorem tail_v53 : StableHlo.after hostOps1 W (Proc.devRef .tc main_v53) = kvOf 1 slices_S128x3x8x4x128_S128x1x8x4x128_0_1_0_0_0 (W (Proc.devRef .tc main_v26)) := by
  unfold hostOps1
  after_results_simp <;> rfl

theorem tail_v65 : StableHlo.after hostOps1 W (Proc.devRef .tc main_v65) = kvOf 2 slices_S128x3x8x4x128_S128x1x8x4x128_0_2_0_0_0 (W (Proc.devRef .tc main_v26)) := by
  unfold hostOps1
  after_results_simp <;> rfl

theorem tail_v71 : StableHlo.after hostOps1 W (Proc.devRef .tc main_v71) = convOf (W (Proc.devRef .tc main_arg1)) (W (Proc.devRef .tc main_v26)) := by
  unfold hostOps1
  after_results_simp <;> rfl

end Tail

variable (m : (ℓ : Loc nD τ sig) → Buf (Elt Ideal) ℓ)

theorem V_v0 (c : Dev nD) : V m c main_v0 = (shapeCast S512x2048 (m ((c : Thread nD τ).loc main_arg0)) shapeCasts_S128x4x2048_S512x2048 : FVec Ideal S512x2048 .f32) := by
  simp only [V, V0, hostOps0, hostOps0_1, hostOps0_2, List.flatten_cons, List.flatten_nil, List.cons_append, List.nil_append, List.append_nil]
  after_results_simp <;> rfl

theorem V_v23 (c : Dev nD) : V m c main_v23 = truncf .bf16 (shapeCast S2048x17408 (m ((c : Thread nD τ).loc main_arg3)) shapeCasts_S1x2048x17408_S2048x17408 : FVec Ideal S2048x17408 .f32) bitsLt_bf16_f32 := by
  simp only [V, V0, hostOps0, hostOps0_1, hostOps0_2, List.flatten_cons, List.flatten_nil, List.cons_append, List.nil_append, List.append_nil]
  after_results_simp <;> rfl

theorem V_v25 (c : Dev nD) : V m c main_v25 = (shapeCast S1x2048 (shapeCast S2048 (m ((c : Thread nD τ).loc main_arg2)) shapeCasts_S1x2048_S2048 : FVec Ideal S2048 .f32) shapeCasts_S2048_S1x2048 : FVec Ideal S1x2048 .f32) := by
  simp only [V, V0, hostOps0, hostOps0_1, hostOps0_2, List.flatten_cons, List.flatten_nil, List.cons_append, List.nil_append, List.append_nil]
  after_results_simp <;> rfl

theorem V_v19 (c : Dev nD) : V m c main_v19 = cosK := by
  simp only [V, V0, hostOps0, hostOps0_1, hostOps0_2, List.flatten_cons, List.flatten_nil, List.cons_append, List.nil_append, List.append_nil]
  after_results_simp <;> rfl

theorem V_v21 (c : Dev nD) : V m c main_v21 = sinK := by
  simp only [V, V0, hostOps0, hostOps0_1, hostOps0_2, List.flatten_cons, List.flatten_nil, List.cons_append, List.nil_append, List.append_nil]
  after_results_simp <;> rfl

theorem flat_x (x : FVec Ideal S128x4x2048 .f32) (r : Fin 512) (k : Fin 2048) :
    (shapeCast S512x2048 x shapeCasts_S128x4x2048_S512x2048 : FVec Ideal S512x2048 .f32) (ix2 r k) = x (ix3 ⟨r.val / 4, by omega⟩ ⟨r.val % 4, by omega⟩ k) := by
  pointwise

theorem flat_w (w : FVec Ideal S1x2048x17408 .f32) (k : Fin 2048) (n : Fin 17408) :
    truncf .bf16 (shapeCast S2048x17408 w shapeCasts_S1x2048x17408_S2048x17408 : FVec Ideal S2048x17408 .f32) bitsLt_bf16_f32 (ix2 k n) = w (ix3 0 k n) := by
  pointwise

theorem flat_ln (x : FVec Ideal S1x2048 .f32) (k : Fin 2048) :
    (shapeCast S1x2048 (shapeCast S2048 x shapeCasts_S1x2048_S2048 : FVec Ideal S2048 .f32) shapeCasts_S2048_S1x2048 : FVec Ideal S1x2048 .f32) (ix2 0 k) = x (ix2 0 k) := by
  pointwise

end Cert.Kernel5Ideal.InProj

end
-- ==== Proof.InProjVal.lean ====
module

public import proofs.«01_k».proof.Proof.InProjHost
public import Idealize.ShloMosaic.Lib.Pipeline.ValueKit.Geometry

@[expose] public section

/-! The input projection: what the call leaves, element by element. -/

set_option maxRecDepth 16384

noncomputable section

namespace Cert.Kernel5Ideal.InProj

open Cert.Kernel5Ideal Cert.Kernel5Ideal.Gen Cert.InProjSpec
open Idealize.ShloMosaic Idealize.ShloMosaic.TcCoe Idealize.ShloMosaic.Tactic

variable (m : (ℓ : Loc nD τ sig) → Buf (Elt Ideal) ℓ)

abbrev aX (c : Dev nD) : FVec Ideal S512x2048 .f32 := V m c main_v0
abbrev aL (c : Dev nD) : FVec Ideal S1x2048 .f32 := V m c main_v25
abbrev aW (c : Dev nD) : FVec Ideal S2048x17408 .bf16 := V m c main_v23

theorem ix_0 : ∀ t : Fin cfg0.N, win0_0.index t = ![0, 0] := (by decide +kernel : ∀ t : Fin grid0.N, _)
theorem ix_1 : ∀ t : Fin cfg0.N, win0_1.index t = ![0, 0] := (by decide +kernel : ∀ t : Fin grid0.N, _)
theorem ix_2_low : ∀ t : Fin cfg0.N, t.val < 12 → win0_2.index t = ![0, t.val] := (by decide +kernel : ∀ t : Fin grid0.N, t.val < 12 → win0_2.index t = ![0, t.val])
theorem ix_2_high : ∀ t : Fin cfg0.N, 12 < t.val → win0_2.index t = ![0, t.val - 1] := (by decide +kernel : ∀ t : Fin grid0.N, 12 < t.val → win0_2.index t = ![0, t.val - 1])
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, t.val - 1] := (by decide +kernel : ∀ t : Fin grid0.N, _)

theorem in0 (c : Dev nD) (t : Fin cfg0.N) (r : Fin 512) (k : Fin 2048) : iblk m c 0 t (ix2 r k : S512x2048.Idx) = aX m c (ix2 r k) := by
  unfold iblk
  refine congrArg (V m c main_v0) (?_ : ((win0_0.blk t).view.emb (ix2 r k : S512x2048.Idx) : S512x2048.Idx) = _)
  blk_ext [ix_0]

theorem in1 (c : Dev nD) (t : Fin cfg0.N) (k : Fin 2048) : iblk m c 1 t (ix2 0 k : S1x2048.Idx) = aL m c (ix2 0 k) := by
  unfold iblk
  refine congrArg (V m c main_v25) (?_ : ((win0_1.blk t).view.emb (ix2 0 k : S1x2048.Idx) : S1x2048.Idx) = _)
  blk_ext [ix_1]

theorem in2 (c : Dev nD) (t : Fin cfg0.N) (o : Fin 34) (ho : win0_2.index t = ![0, o.val]) (k : Fin 2048) (j : Fin 512) :
    iblk m c 2 t (ix2 k j : S2048x512.Idx) = aW m c (ix2 k ⟨512 * o.val + j.val, by omega⟩) := by
  unfold iblk
  refine congrArg (V m c main_v23) (?_ : ((win0_2.blk t).view.emb (ix2 k j : S2048x512.Idx) : S2048x17408.Idx) = _)
  blk_ext [ho]

theorem in3 (c : Dev nD) (t : Fin cfg0.N) (r : Fin 512) (d : Fin 128) : iblk m c 3 t (ix2 r d : S512x128.Idx) = cosK (ix2 r d) := by
  refine Eq.trans ?_ (congrFun (V_v19 m c) (ix2 r d))
  unfold iblk
  refine congrArg (V m c main_v19) (?_ : ((win0_3.blk t).view.emb (ix2 r d : S512x128.Idx) : S512x128.Idx) = _)
  blk_ext [ix_3]

theorem in4 (c : Dev nD) (t : Fin cfg0.N) (r : Fin 512) (d : Fin 128) : iblk m c 4 t (ix2 r d : S512x128.Idx) = sinK (ix2 r d) := by
  refine Eq.trans ?_ (congrFun (V_v21 m c) (ix2 r d))
  unfold iblk
  refine congrArg (V m c main_v21) (?_ : ((win0_4.blk t).view.emb (ix2 r d : S512x128.Idx) : S512x128.Idx) = _)
  blk_ext [ix_4]

/-- Entry `n` of the projection of row `r`. -/
def Z (c : Dev nD) (r : Fin 512) (n : Fin 17408) : EReal := zrow (fun k => aX m c (ix2 r k)) (fun k => aL m c (ix2 0 k)) (fun k => aW m c (ix2 k n))

theorem hRows_apply (c : Dev nD) (r : Fin 512) (k : Fin 2048) : hRows m c (ix2 r k) = nrow (fun k => aX m c (ix2 r k)) (fun k => aL m c (ix2 0 k)) k := by
  unfold hRows
  refine (rows_apply _ _ r k).trans ?_
  have e0 : (fun k => iblk m c 0 (pt 0) (ix2 r k : S512x2048.Idx)) = fun k => aX m c (ix2 r k) := funext fun k => in0 m c (pt 0) r k
  have e1 : (fun k => iblk m c 1 (pt 0) (ix2 0 k : S1x2048.Idx)) = fun k => aL m c (ix2 0 k) := funext fun k => in1 m c (pt 0) k
  rw [e0, e1]

theorem prodAt_apply (c : Dev nD) (n : ℕ) (o : Fin 34) (ho : win0_2.index (pt n) = ![0, o.val]) (r j : Fin 512) :
    prodAt m c n (ix2 r j) = Z m c r ⟨512 * o.val + j.val, by omega⟩ := by
  unfold prodAt Z zrow
  refine (prod_apply _ _ r j).trans (Finset.sum_congr rfl fun k _ => ?_)
  rw [hRows_apply]
  exact congrArg _ (in2 m c (pt n) o ho k j)

/-- The array the call leaves. -/
def G (c : Dev nD) : FVec Ideal S512x17408 .f32 := fun y => rot ((y 0).val % 4) (fun n => Z m c (y 0) n) (y 1)

theorem emb5 (t : Fin cfg0.N) (o : Fin 34) (ho : t.val - 1 = o.val) (r j : Fin 512) :
    (win0_5.blk t).view.emb (ix2 r j : S512x512.Idx) = (ix2 r ⟨512 * o.val + j.val, by omega⟩ : S512x17408.Idx) := by
  have h : win0_5.index t = ![0, o.val] := (ix_5 t).trans (by rw [ho])
  blk_ext [h]

theorem rope_tie (z : Fin 17408 → EReal) (zb : FVec Ideal S512x512 .f32) (cs sn : FVec Ideal S512x128 .f32) (r j : Fin 512) (o : Fin 12)
    (hz : ∀ j : Fin 512, zb (ix2 r j) = z ⟨512 * o.val + j.val, by omega⟩) (hcs : ∀ d, cs (ix2 r d) = cosK (ix2 r d)) (hsn : ∀ d, sn (ix2 r d) = sinK (ix2 r d)) :
    ropeAll zb cs sn (ix2 r j) = rot (r.val % 4) z ⟨512 * o.val + j.val, by omega⟩ := by
  refine (show _ = zb (ix2 r j) * cs (ix2 r ⟨j.val % 128, Nat.mod_lt _ (by decide)⟩)
    + zb (ix2 r ⟨128 * (j.val / 128) + (j.val % 128 + 64) % 128, by omega⟩) * sn (ix2 r ⟨j.val % 128, Nat.mod_lt _ (by decide)⟩) from rfl).trans ?_
  rw [hz, hz, hcs, hsn, cosK_apply, sinK_apply]
  unfold rot
  have hm : (512 * o.val + j.val) % 128 = j.val % 128 := by omega
  rw [if_pos (show (⟨512 * o.val + j.val, by omega⟩ : Fin 17408).val < 6144 from (by omega : 512 * o.val + j.val < 6144))]
  by_cases hd : j.val % 128 < 64
  · have hd' : (512 * o.val + j.val) % 128 < 64 := by omega
    rw [dif_pos hd, dif_pos hd, dif_pos (show (⟨512 * o.val + j.val, by omega⟩ : Fin 17408).val % 128 < 64 from hd')]
    have e1 : (⟨512 * o.val + (128 * (j.val / 128) + (j.val % 128 + 64) % 128), by omega⟩ : Fin 17408) = ⟨(512 * o.val + j.val + 64) % 17408, Nat.mod_lt _ (by decide)⟩ :=
      Fin.ext (show 512 * o.val + (128 * (j.val / 128) + (j.val % 128 + 64) % 128) = (512 * o.val + j.val + 64) % 17408 by omega)
    have e2 : (⟨(512 * o.val + j.val) % 128, hd'⟩ : Fin 64) = ⟨j.val % 128, hd⟩ := Fin.ext hm
    show _ = _ * Ideal.cos (ang (posOf _) ⟨(512 * o.val + j.val) % 128, hd'⟩) - _ * Ideal.sin (ang (posOf _) ⟨(512 * o.val + j.val) % 128, hd'⟩)
    rw [e1, e2, mul_neg, sub_eq_add_neg]
  · have hd' : ¬ (512 * o.val + j.val) % 128 < 64 := by omega
    rw [dif_neg hd, dif_neg hd, dif_neg (show ¬ (⟨512 * o.val + j.val, by omega⟩ : Fin 17408).val % 128 < 64 from hd')]
    have e1 : (⟨512 * o.val + (128 * (j.val / 128) + (j.val % 128 + 64) % 128), by omega⟩ : Fin 17408) = ⟨512 * o.val + j.val - 64, by omega⟩ :=
      Fin.ext (show 512 * o.val + (128 * (j.val / 128) + (j.val % 128 + 64) % 128) = 512 * o.val + j.val - 64 by omega)
    have e2 : (⟨(512 * o.val + j.val) % 128 - 64, by omega⟩ : Fin 64) = ⟨j.val % 128 - 64, by omega⟩ := Fin.ext (by show (512 * o.val + j.val) % 128 - 64 = j.val % 128 - 64; omega)
    show _ = _ * Ideal.cos (ang (posOf _) ⟨(512 * o.val + j.val) % 128 - 64, by omega⟩) + _ * Ideal.sin (ang (posOf _) ⟨(512 * o.val + j.val) % 128 - 64, by omega⟩)
    rw [e1, e2]

theorem outAt_apply (c : Dev nD) (t : Fin cfg0.N) (ht : t.val ≠ 0) (o : Fin 34) (ho : t.val - 1 = o.val) (r j : Fin 512) :
    outAt m c t (ix2 r j) = rot (r.val % 4) (fun n => Z m c r n) ⟨512 * o.val + j.val, by omega⟩ := by
  unfold outAt
  have hN : t.val < 35 := lt_of_lt_of_eq t.isLt (show cfg0.N = 35 from N_0)
  by_cases h : t.val ≤ 12
  · rw [if_pos h]
    have hv : (pt (t.val - 1)).val = t.val - 1 := Nat.mod_eq_of_lt (by omega)
    refine (rope_apply _ _ _ (ix2 r j)).trans ?_
    exact rope_tie (fun n => Z m c r n) (prodAt m c (t.val - 1)) (iblk m c 3 t) (iblk m c 4 t) r j ⟨o.val, by omega⟩
      (fun j => prodAt_apply m c (t.val - 1) o ((ix_2_low _ (by omega)).trans (by rw [hv, ho])) r j) (fun d => in3 m c t r d) (fun d => in4 m c t r d)
  · rw [if_neg h]
    have hv : pt t.val = t := pt_val t
    refine (prodAt_apply m c t.val o (by rw [hv]; exact (ix_2_high t (by omega)).trans (by rw [ho])) r j).trans ?_
    unfold rot
    rw [if_neg (show ¬ (⟨512 * o.val + j.val, by omega⟩ : Fin 17408).val < 6144 from (by omega : ¬ 512 * o.val + j.val < 6144))]

theorem arr_eq (c : Dev nD) : (dats m 0 c).arrAt 5 cfg0.N = G m c := by
  refine (dats m 0 c).arrAt_eq_of_covers 5 (G m c) (by decide +kernel) fun t hf y => ?_
  have ht : t.val ≠ 0 := fun h => by have := noflush_start t h; rw [this] at hf; exact Bool.false_ne_true hf
  have hN : t.val < 35 := lt_of_lt_of_eq t.isLt (show cfg0.N = 35 from N_0)
  blk_simp
  rw [after0_5]
  revert y
  intro (y : S512x512.Idx)
  idx_vars y
  refine (outAt_apply m c t ht ⟨t.val - 1, by omega⟩ rfl y0 y1).trans (Eq.trans ?_ (congrArg (G m c) (emb5 t ⟨t.val - 1, by omega⟩ rfl y0 y1)).symm)
  rfl

end Cert.Kernel5Ideal.InProj

end
-- ==== Proof.InProjRef.lean ====
module

public import proofs.«01_k».proof.Proof.InProjRun
public import proofs.«01_k».proof.Proof.InProjSpec

@[expose] public section

/-! The input projection's reference, read element by element. -/

set_option maxRecDepth 16384

noncomputable section

namespace Cert.Reference5Ideal.InProj

open Cert.Reference5Ideal Cert.Reference5Ideal.Gen Cert.InProjSpec
open Idealize.ShloMosaic Idealize.ShloMosaic.TcCoe Idealize.ShloMosaic.Tactic Idealize.ShloMosaic.StableHlo

/-- The normalised rows. -/
def norm (x : FVec Ideal S128x4x2048 .f32) (ln : FVec Ideal S1x2048 .f32) : FVec Ideal S128x4x2048 .f32 :=
  mulf (mulf x (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 (shapeCast S2048 ln shapeCasts_S1x2048_S2048)))

/-- Their projection. -/
def proj (h : FVec Ideal S128x4x2048 .f32) (w : FVec Ideal S1x2048x17408 .f32) : FVec Ideal S128x4x17408 .f32 :=
  Host.dotGeneral dot_S128x4x2048_S2048x17408_S128x4x17408_2_0_01_1_n_n none h (shapeCast S2048x17408 w shapeCasts_S1x2048x17408_S2048x17408)

/-- The heads that are rotated. -/
def heads (z : FVec Ideal S128x4x17408 .f32) : FVec Ideal S128x48x4x128 .f32 :=
  transpose S128x48x4x128 [0, 2, 1, 3] (shapeCast S128x4x48x128 (extractStridedSlice S128x4x6144 ![0, 0, 0] z slices_S128x4x17408_S128x4x6144_0_0_0) shapeCasts_S128x4x6144_S128x4x48x128) transposes_S128x4x48x128_S128x48x4x128_0_2_1_3

/-- The angles of four positions. -/
def angOf (p : IVec S4 32) : FVec Ideal S4x64 .f32 :=
  mulf (broadcastInDim S4x64 ![0, 1] bcast_S4x1_S4x64_0_1 (broadcastInDim S4x1 ![0] bcast_S4_S4x1_0 (sitofp .f32 p : FVec Ideal S4 .f32)))
    (broadcastInDim S4x64 ![0, 1] bcast_S1x64_S4x64_0_1 (broadcastInDim S1x64 ![1] bcast_S64_S1x64_1
      (Host.exp (Host.divf (mulf (broadcastInDim S64 ![] bcast_S_S64 (constant S_ .f32 0xC1135D8E#32)) (sitofp .f32 (iotaInDim S64 32 0)))
        (broadcastInDim S64 ![] bcast_S_S64 (constant S_ .f32 0x42800000#32))))))

/-- The positions. -/
def posR : IVec S4 32 := addi (broadcastInDim S4 ![] bcast_S_S4 (constantI S_ 32 2048#32)) (iotaInDim S4 32 0)

/-- A table repeated for every sequence and head. -/
def spread (c : FVec Ideal S4x64 .f32) : FVec Ideal S128x48x4x64 .f32 :=
  broadcastInDim S128x48x4x64 ![0, 1, 2, 3] bcast_S1x1x4x64_S128x48x4x64_0_1_2_3 (broadcastInDim S1x1x4x64 ![2, 3] bcast_S4x64_S1x1x4x64_2_3 c)

/-- The two halves of every head, -/
def lo (h : FVec Ideal S128x48x4x128 .f32) : FVec Ideal S128x48x4x64 .f32 := extractStridedSlice S128x48x4x64 ![0, 0, 0, 0] h slices_S128x48x4x128_S128x48x4x64_0_0_0_0
def hi (h : FVec Ideal S128x48x4x128 .f32) : FVec Ideal S128x48x4x64 .f32 := extractStridedSlice S128x48x4x64 ![0, 0, 0, 64] h slices_S128x48x4x128_S128x48x4x64_0_0_0_64

/-- rotated. -/
def turned (h : FVec Ideal S128x48x4x128 .f32) (c s : FVec Ideal S4x64 .f32) : FVec Ideal S128x48x4x128 .f32 :=
  concatenate S128x48x4x128 3 [⟨S128x48x4x64, subf (mulf (lo h) (spread c)) (mulf (hi h) (spread s))⟩, ⟨S128x48x4x64, addf (mulf (hi h) (spread c)) (mulf (lo h) (spread s))⟩] concatenates_S128x48x4x64_S128x48x4x64_S128x48x4x128_d3

/-- The rotated heads put back beside the columns that are not rotated. -/
def joined (q : FVec Ideal S128x48x4x128 .f32) (z : FVec Ideal S128x4x17408 .f32) : FVec Ideal S512x17408 .f32 :=
  shapeCast S512x17408 (concatenate S128x4x17408 2 [⟨S128x4x6144, shapeCast S128x4x6144 (transpose S128x4x48x128 [0, 2, 1, 3] q transposes_S128x48x4x128_S128x4x48x128_0_2_1_3) shapeCasts_S128x4x48x128_S128x4x6144⟩,
    ⟨S128x4x11264, extractStridedSlice S128x4x11264 ![0, 0, 6144] z slices_S128x4x17408_S128x4x11264_0_0_6144⟩] concatenates_S128x4x6144_S128x4x11264_S128x4x17408_d2) shapeCasts_S128x4x17408_S512x17408

/-- The rows the layer works on. -/
def rows (x : FVec Ideal S128x4x2048 .f32) (ln : FVec Ideal S1x2048 .f32) (w : FVec Ideal S1x2048x17408 .f32) : FVec Ideal S512x17408 .f32 :=
  joined (turned (heads (proj (norm x ln) w)) (Host.cos (angOf posR)) (Host.sin (angOf posR))) (proj (norm x ln) w)

theorem norm_apply (x : FVec Ideal S128x4x2048 .f32) (ln : FVec Ideal S1x2048 .f32) (b : Fin 128) (t : Fin 4) (k : Fin 2048) :
    norm x ln (ix3 b t k) = nrow (fun k => x (ix3 b t k)) (fun k => ln (ix2 0 k)) k := by
  unfold norm nrow
  pointwise

theorem proj_apply (h : FVec Ideal S128x4x2048 .f32) (w : FVec Ideal S1x2048x17408 .f32) (b : Fin 128) (t : Fin 4) (n : Fin 17408) :
    proj h w (ix3 b t n) = ∑ k : Fin 2048, h (ix3 b t k) * w (ix3 0 k n) := by
  unfold proj
  pointwise

theorem heads_apply (z : FVec Ideal S128x4x17408 .f32) (b : Fin 128) (h : Fin 48) (t : Fin 4) (d : Fin 128) :
    heads z (ix4 b h t d) = z (ix3 b t ⟨128 * h.val + d.val, by omega⟩) := by
  have e : (⟨128 * h.val + d.val, by omega⟩ : Fin 17408) = ⟨h.val * 128 + d.val, by omega⟩ := Fin.ext (show 128 * h.val + d.val = h.val * 128 + d.val by omega)
  rw [e]
  unfold heads
  pointwise

theorem posR_apply (t : Fin 4) : posR (ix1 t) = posOf t.val := by
  revert t
  decide +kernel

theorem angOf_apply (p : IVec S4 32) (t : Fin 4) (d : Fin 64) : angOf p (ix2 t d) = ang (p (ix1 t)) d := by
  unfold angOf ang
  pointwise

theorem ang_apply (t : Fin 4) (d : Fin 64) : angOf posR (ix2 t d) = ang (posOf t.val) d := by
  rw [angOf_apply, posR_apply]

theorem spread_apply (c : FVec Ideal S4x64 .f32) (b : Fin 128) (h : Fin 48) (t : Fin 4) (d : Fin 64) : spread c (ix4 b h t d) = c (ix2 t d) := by
  unfold spread
  pointwise

theorem lo_apply (x : FVec Ideal S128x48x4x128 .f32) (b : Fin 128) (h : Fin 48) (t : Fin 4) (d : Fin 64) : lo x (ix4 b h t d) = x (ix4 b h t ⟨d.val, by omega⟩) := by
  unfold lo
  pointwise

theorem hi_apply (x : FVec Ideal S128x48x4x128 .f32) (b : Fin 128) (h : Fin 48) (t : Fin 4) (d : Fin 64) : hi x (ix4 b h t d) = x (ix4 b h t ⟨64 + d.val, by omega⟩) := by
  unfold hi
  pointwise

theorem cat_apply (a e : FVec Ideal S128x48x4x64 .f32) (b : Fin 128) (h : Fin 48) (t : Fin 4) (d : Fin 128) :
    (concatenate S128x48x4x128 3 [⟨S128x48x4x64, a⟩, ⟨S128x48x4x64, e⟩] concatenates_S128x48x4x64_S128x48x4x64_S128x48x4x128_d3 : FVec Ideal S128x48x4x128 .f32) (ix4 b h t d)
      = if hd : d.val < 64 then a (ix4 b h t ⟨d.val, hd⟩) else e (ix4 b h t ⟨d.val - 64, by omega⟩) := by
  pointwise

theorem turned_apply (x : FVec Ideal S128x48x4x128 .f32) (c s : FVec Ideal S4x64 .f32) (b : Fin 128) (h : Fin 48) (t : Fin 4) (d : Fin 128) :
    turned x c s (ix4 b h t d) = if hd : d.val < 64 then x (ix4 b h t ⟨d.val, by omega⟩) * c (ix2 t ⟨d.val, hd⟩) - x (ix4 b h t ⟨64 + d.val, by omega⟩) * s (ix2 t ⟨d.val, hd⟩)
      else x (ix4 b h t ⟨64 + (d.val - 64), by omega⟩) * c (ix2 t ⟨d.val - 64, by omega⟩) + x (ix4 b h t ⟨d.val - 64, by omega⟩) * s (ix2 t ⟨d.val - 64, by omega⟩) := by
  unfold turned
  refine (cat_apply _ _ b h t d).trans ?_
  by_cases hd : d.val < 64
  · rw [dif_pos hd, dif_pos hd]
    refine (show _ = lo x (ix4 b h t ⟨d.val, hd⟩) * spread c (ix4 b h t ⟨d.val, hd⟩) - hi x (ix4 b h t ⟨d.val, hd⟩) * spread s (ix4 b h t ⟨d.val, hd⟩) from rfl).trans ?_
    rw [lo_apply, hi_apply, spread_apply, spread_apply]
  · rw [dif_neg hd, dif_neg hd]
    refine (show _ = hi x (ix4 b h t ⟨d.val - 64, by omega⟩) * spread c (ix4 b h t ⟨d.val - 64, by omega⟩) + lo x (ix4 b h t ⟨d.val - 64, by omega⟩) * spread s (ix4 b h t ⟨d.val - 64, by omega⟩) from rfl).trans ?_
    rw [lo_apply, hi_apply, spread_apply, spread_apply]

theorem side_apply (a : FVec Ideal S128x4x6144 .f32) (e : FVec Ideal S128x4x11264 .f32) (r : Fin 512) (n : Fin 17408) :
    (shapeCast S512x17408 (concatenate S128x4x17408 2 [⟨S128x4x6144, a⟩, ⟨S128x4x11264, e⟩] concatenates_S128x4x6144_S128x4x11264_S128x4x17408_d2) shapeCasts_S128x4x17408_S512x17408 : FVec Ideal S512x17408 .f32) (ix2 r n)
      = if hn : n.val < 6144 then a (ix3 ⟨r.val / 4, by omega⟩ ⟨r.val % 4, by omega⟩ ⟨n.val, hn⟩) else e (ix3 ⟨r.val / 4, by omega⟩ ⟨r.val % 4, by omega⟩ ⟨n.val - 6144, by omega⟩) := by
  pointwise

theorem back_apply (q : FVec Ideal S128x48x4x128 .f32) (b : Fin 128) (t : Fin 4) (n : Fin 6144) :
    (shapeCast S128x4x6144 (transpose S128x4x48x128 [0, 2, 1, 3] q transposes_S128x48x4x128_S128x4x48x128_0_2_1_3) shapeCasts_S128x4x48x128_S128x4x6144 : FVec Ideal S128x4x6144 .f32) (ix3 b t n)
      = q (ix4 b ⟨n.val / 128, by omega⟩ t ⟨n.val % 128, by omega⟩) := by
  pointwise

theorem rest_apply (z : FVec Ideal S128x4x17408 .f32) (b : Fin 128) (t : Fin 4) (n : Fin 11264) :
    (extractStridedSlice S128x4x11264 ![0, 0, 6144] z slices_S128x4x17408_S128x4x11264_0_0_6144 : FVec Ideal S128x4x11264 .f32) (ix3 b t n) = z (ix3 b t ⟨6144 + n.val, by omega⟩) := by
  pointwise

theorem joined_apply (q : FVec Ideal S128x48x4x128 .f32) (z : FVec Ideal S128x4x17408 .f32) (r : Fin 512) (n : Fin 17408) :
    joined q z (ix2 r n) = if hn : n.val < 6144 then q (ix4 ⟨r.val / 4, by omega⟩ ⟨n.val / 128, by omega⟩ ⟨r.val % 4, by omega⟩ ⟨n.val % 128, by omega⟩)
      else z (ix3 ⟨r.val / 4, by omega⟩ ⟨r.val % 4, by omega⟩ ⟨6144 + (n.val - 6144), by omega⟩) := by
  unfold joined
  refine (side_apply _ _ r n).trans ?_
  by_cases hn : n.val < 6144
  · rw [dif_pos hn, dif_pos hn]; exact back_apply q _ _ ⟨n.val, hn⟩
  · rw [dif_neg hn, dif_neg hn]; exact rest_apply z _ _ ⟨n.val - 6144, by omega⟩

theorem rows_apply (x : FVec Ideal S128x4x2048 .f32) (ln : FVec Ideal S1x2048 .f32) (w : FVec Ideal S1x2048x17408 .f32) (r : Fin 512) (n : Fin 17408) :
    rows x ln w (ix2 r n) = rot (r.val % 4) (fun n => zrow (fun k => x (ix3 ⟨r.val / 4, by omega⟩ ⟨r.val % 4, by omega⟩ k)) (fun k => ln (ix2 0 k)) (fun k => w (ix3 0 k n))) n := by
  have hz : ∀ n : Fin 17408, proj (norm x ln) w (ix3 (⟨r.val / 4, by omega⟩ : Fin 128) (⟨r.val % 4, by omega⟩ : Fin 4) n)
      = zrow (fun k => x (ix3 ⟨r.val / 4, by omega⟩ ⟨r.val % 4, by omega⟩ k)) (fun k => ln (ix2 0 k)) (fun k => w (ix3 0 k n)) := fun n => by
    rw [proj_apply]
    unfold zrow
    exact Finset.sum_congr rfl fun k _ => by rw [norm_apply]
  unfold rows rot
  refine (joined_apply _ _ r n).trans ?_
  simp only [← hz]
  generalize proj (norm x ln) w = z
  by_cases hn : n.val < 6144
  · rw [dif_pos hn, if_pos hn, turned_apply]
    simp only [heads_apply]
    by_cases hd : n.val % 128 < 64
    · rw [dif_pos hd, dif_pos hd]
      have e0 : (⟨128 * (n.val / 128) + n.val % 128, by omega⟩ : Fin 17408) = n := Fin.ext (show 128 * (n.val / 128) + n.val % 128 = n.val by omega)
      have e1 : (⟨128 * (n.val / 128) + (64 + n.val % 128), by omega⟩ : Fin 17408) = ⟨(n.val + 64) % 17408, Nat.mod_lt _ (by decide)⟩ :=
        Fin.ext (show 128 * (n.val / 128) + (64 + n.val % 128) = (n.val + 64) % 17408 by omega)
      rw [e0, e1, ← ang_apply ⟨r.val % 4, by omega⟩]
      rfl
    · rw [dif_neg hd, dif_neg hd]
      have e0 : (⟨128 * (n.val / 128) + (64 + (n.val % 128 - 64)), by omega⟩ : Fin 17408) = n := Fin.ext (show 128 * (n.val / 128) + (64 + (n.val % 128 - 64)) = n.val by omega)
      have e1 : (⟨128 * (n.val / 128) + (n.val % 128 - 64), by omega⟩ : Fin 17408) = ⟨n.val - 64, by omega⟩ :=
        Fin.ext (show 128 * (n.val / 128) + (n.val % 128 - 64) = n.val - 64 by omega)
      rw [e0, e1, ← ang_apply ⟨r.val % 4, by omega⟩]
      rfl
  · rw [dif_neg hn, if_neg hn]
    exact congrArg z (congrArg (ix3 _ _) (Fin.ext (show 6144 + (n.val - 6144) = n.val by omega)))

/-- What the first two lists leave in the rows' buffer. -/
theorem rows_left (W : Valuation τ sig (Elt Ideal)) (x : FVec Ideal S128x4x2048 .f32) (hx : x = W (Proc.devRef .tc main_arg0))
    (ln : FVec Ideal S1x2048 .f32) (hln : ln = W (Proc.devRef .tc main_arg2)) (w : FVec Ideal S1x2048x17408 .f32) (hw : w = W (Proc.devRef .tc main_arg3)) :
    after opsB (after opsA W) (Proc.devRef .tc main_v57) = rows x ln w := by
  subst hx hln hw
  have hB : ∀ U : Valuation τ sig (Elt Ideal), after opsB U (Proc.devRef .tc main_v57)
      = shapeCast S512x17408 (concatenate S128x4x17408 2 [⟨S128x4x6144, shapeCast S128x4x6144 (U (Proc.devRef .tc main_v53) : FVec Ideal S128x4x48x128 .f32) shapeCasts_S128x4x48x128_S128x4x6144⟩,
        ⟨S128x4x11264, extractStridedSlice S128x4x11264 ![0, 0, 6144] (U (Proc.devRef .tc main_v18) : FVec Ideal S128x4x17408 .f32) slices_S128x4x17408_S128x4x11264_0_0_6144⟩] concatenates_S128x4x6144_S128x4x11264_S128x4x17408_d2) shapeCasts_S128x4x17408_S512x17408 := fun U => by
    after_results_simp <;> rfl
  have h18 : after opsA W (Proc.devRef .tc main_v18) = proj (norm (W (Proc.devRef .tc main_arg0)) (W (Proc.devRef .tc main_arg2))) (W (Proc.devRef .tc main_arg3)) := by
    after_results_simp <;> rfl
  have h53 : after opsA W (Proc.devRef .tc main_v53) = transpose S128x4x48x128 [0, 2, 1, 3] (turned (heads (proj (norm (W (Proc.devRef .tc main_arg0)) (W (Proc.devRef .tc main_arg2))) (W (Proc.devRef .tc main_arg3)))) (Host.cos (angOf posR)) (Host.sin (angOf posR))) transposes_S128x48x4x128_S128x4x48x128_0_2_1_3 := by
    after_results_simp <;> rfl
  rw [hB, h18, h53]
  rfl

end Cert.Reference5Ideal.InProj

end
-- ==== Proof.InProjAlg.lean ====
module

public import proofs.«01_k».proof.Proof.InProjVal
public import proofs.«01_k».proof.Proof.InProjRef
public import proofs.«01_k».proof.Defs

@[expose] public section

/-! The input projection's results are the reference's. -/

set_option maxRecDepth 16384

noncomputable section

namespace Cert.Kernel5Ideal.InProj

open Cert.Kernel5Ideal Cert.Kernel5Ideal.Gen Cert.InProjSpec
open Idealize.ShloMosaic Idealize.ShloMosaic.TcCoe Idealize.ShloMosaic.Tactic Idealize.SL Idealize.SL.Sem

variable (m : (ℓ : Loc nD τ sig) → Buf (Elt Ideal) ℓ) (ρ : Dev nD → PrngReg)

/-- The buffers the lines after the call start from. -/
def mid (c : Dev nD) : Valuation τ sig (Elt Ideal) := Pipeline.withArrays (cfgs 0).spec c (V0 m c) fun w => (dats m 0 c).arrAt w (cfgs 0).N

theorem mid_v26 (c : Dev nD) : mid m c (Proc.devRef .tc main_v26) = G m c :=
  (Pipeline.withArrays_arr (cfgs 0).spec (by exact (by decide : Function.Injective (Pipeline.arrRef spec0))) c (V0 m c) (fun w => (dats m 0 c).arrAt w (cfgs 0).N) 5).trans (arr_eq m c)

theorem mid_arg1 (c : Dev nD) : mid m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)

theorem tail_mid (c : Dev nD) (b : Ref sig .tc) : Pipeline.afterTail₀ cfgs (dats m) 0 (V0 m) [hostOps1] c b = StableHlo.after hostOps1 (mid m c) (Proc.devRef .tc b) := by
  unfold Pipeline.afterTail₀ mid
  rw [List.flatten_cons, List.flatten_nil, List.append_nil]

/-- The run with its five results named. -/
theorem run_results : θ_run defs (onTc (τ := τ) (main (F := Ideal))) ⟨m, fun _ => 0, ρ⟩ (fun r => ∀ c : Dev nD,
      r.2.mem ((c.tc : Thread nD τ).loc main_v26) = G m c
      ∧ r.2.mem ((c.tc : Thread nD τ).loc main_v41) = kvOf 0 slices_S128x3x8x4x128_S128x1x8x4x128_0_0_0_0_0 (G m c)
      ∧ r.2.mem ((c.tc : Thread nD τ).loc main_v53) = kvOf 1 slices_S128x3x8x4x128_S128x1x8x4x128_0_1_0_0_0 (G m c)
      ∧ r.2.mem ((c.tc : Thread nD τ).loc main_v65) = kvOf 2 slices_S128x3x8x4x128_S128x1x8x4x128_0_2_0_0_0 (G m c)
      ∧ r.2.mem ((c.tc : Thread nD τ).loc main_v71) = convOf (m ((c.tc : Thread nD τ).loc main_arg1)) (G m c)) :=
  (θ_run defs _ _).mono (fun r h c => by
    have hr (b : Ref sig .tc) (hb : b ∈ Pipeline.restRefs sig (cfgs 0).spec) :
        r.2.mem ((c.tc : Thread nD τ).loc b) = StableHlo.after hostOps1 (mid m c) (Proc.devRef .tc b) :=
      (h.1.rest_eq c b hb).trans (tail_mid m c b)
    refine ⟨(h.1.out_eq c 5).trans (arr_eq m c), ?_, ?_, ?_, ?_⟩
    · refine (hr main_v41 (Pipeline.mem_restRefs_of main_v41 (by decide) (by decide))).trans ((tail_v41 _).trans ?_)
      rw [mid_v26]
    · refine (hr main_v53 (Pipeline.mem_restRefs_of main_v53 (by decide) (by decide))).trans ((tail_v53 _).trans ?_)
      rw [mid_v26]
    · refine (hr main_v65 (Pipeline.mem_restRefs_of main_v65 (by decide) (by decide))).trans ((tail_v65 _).trans ?_)
      rw [mid_v26]
    · refine (hr main_v71 (Pipeline.mem_restRefs_of main_v71 (by decide) (by decide))).trans ((tail_v71 _).trans ?_)
      rw [mid_v26, mid_arg1]) (run_all m ρ)

theorem aX_apply (c : Dev nD) (x : FVec Ideal S128x4x2048 .f32) (hx : x = m ((c.tc : Thread nD τ).loc main_arg0)) (r : Fin 512) (k : Fin 2048) :
    aX m c (ix2 r k) = x (ix3 ⟨r.val / 4, by omega⟩ ⟨r.val % 4, by omega⟩ k) := by
  refine (congrFun (V_v0 m c) (ix2 r k)).trans ?_
  rw [← hx]
  exact flat_x x r k

theorem aL_apply (c : Dev nD) (ln : FVec Ideal S1x2048 .f32) (hln : ln = m ((c.tc : Thread nD τ).loc main_arg2)) (k : Fin 2048) :
    aL m c (ix2 0 k) = ln (ix2 0 k) := by
  refine (congrFun (V_v25 m c) (ix2 0 k)).trans ?_
  rw [← hln]
  exact flat_ln ln k

theorem aW_apply (c : Dev nD) (w : FVec Ideal S1x2048x17408 .f32) (hw : w = m ((c.tc : Thread nD τ).loc main_arg3)) (k : Fin 2048) (n : Fin 17408) :
    aW m c (ix2 k n) = w (ix3 0 k n) := by
  refine (congrFun (V_v23 m c) (ix2 k n)).trans ?_
  rw [← hw]
  exact flat_w w k n

end Cert.Kernel5Ideal.InProj

namespace Cert.InProjTie

open Idealize.ShloMosaic Idealize.ShloMosaic.TcCoe Idealize.ShloMosaic.Tactic Idealize.SL Idealize.SL.Sem Cert.InProjSpec
open Cert.Kernel5Ideal.InProj (G Z aX aL aW aX_apply aL_apply aW_apply)
open Cert.Reference5Ideal.InProj (rows rows_apply rows_left atEnd)

theorem rows_eq (m : (ℓ : Loc Cert.Kernel5Ideal.nD Cert.Kernel5Ideal.τ Cert.Kernel5Ideal.sig) → Buf (Elt Ideal) ℓ) (c : Dev Cert.Kernel5Ideal.nD)
    (x : FVec Ideal Cert.Reference5Ideal.S128x4x2048 .f32) (hx : x = m ((c.tc : Thread Cert.Kernel5Ideal.nD Cert.Kernel5Ideal.τ).loc Cert.Kernel5Ideal.main_arg0))
    (ln : FVec Ideal Cert.Reference5Ideal.S1x2048 .f32) (hln : ln = m ((c.tc : Thread Cert.Kernel5Ideal.nD Cert.Kernel5Ideal.τ).loc Cert.Kernel5Ideal.main_arg2))
    (w : FVec Ideal Cert.Reference5Ideal.S1x2048x17408 .f32) (hw : w = m ((c.tc : Thread Cert.Kernel5Ideal.nD Cert.Kernel5Ideal.τ).loc Cert.Kernel5Ideal.main_arg3)) :
    rows x ln w = G m c := by
  funext y
  revert y
  intro (y : Cert.Reference5Ideal.S512x17408.Idx)
  idx_vars y
  generalize y0 = r
  generalize y1 = n
  refine (rows_apply x ln w r n).trans ?_
  show _ = rot (r.val % 4) (fun n => Z m c r n) n
  refine congrArg (fun z => rot (r.val % 4) z n) (funext fun n => ?_)
  unfold Z
  simp only [aX_apply m c x hx, aL_apply m c ln hln, aW_apply m c w hw]

theorem kv_eq (o : ℕ) (ho : Cert.Kernel5Ideal.S128x3x8x4x128.Slices ![0, o, 0, 0, 0] Cert.Kernel5Ideal.S128x1x8x4x128) (z : FVec Ideal Cert.Kernel5Ideal.S512x17408 .f32) :
    Cert.Reference5Ideal.InProj.kvOf (F := Ideal) o ho z = Cert.Kernel5Ideal.InProj.kvOf (F := Ideal) o ho z := rfl

theorem conv_eq (s : FVec Ideal Cert.Kernel5Ideal.S1x128x3x2048 .f32) (z : FVec Ideal Cert.Kernel5Ideal.S512x17408 .f32) :
    Cert.Reference5Ideal.InProj.convOf (F := Ideal) s z = Cert.Kernel5Ideal.InProj.convOf (F := Ideal) s z := rfl

theorem algebraic : Cert.algebraic_Kernel5Ideal_Reference5Ideal := by
  intro m ρ m' ρ' _ hagree
  refine ⟨fun c => G m c, fun c => Cert.Kernel5Ideal.InProj.kvOf 0 Cert.Kernel5Ideal.Gen.slices_S128x3x8x4x128_S128x1x8x4x128_0_0_0_0_0 (G m c),
    fun c => Cert.Kernel5Ideal.InProj.kvOf 1 Cert.Kernel5Ideal.Gen.slices_S128x3x8x4x128_S128x1x8x4x128_0_1_0_0_0 (G m c),
    fun c => Cert.Kernel5Ideal.InProj.kvOf 2 Cert.Kernel5Ideal.Gen.slices_S128x3x8x4x128_S128x1x8x4x128_0_2_0_0_0 (G m c),
    fun c => Cert.Kernel5Ideal.InProj.convOf (m ((c.tc : Thread Cert.Kernel5Ideal.nD Cert.Kernel5Ideal.τ).loc Cert.Kernel5Ideal.main_arg1)) (G m c), ?_, ?_⟩
  · refine (θ_run Cert.Kernel5Ideal.defs _ _).mono (fun r h c => ?_) (θ_run_and (Cert.Kernel5Ideal.InProj.run_results m ρ) (Cert.Kernel5Ideal.InProj.frame (F := Ideal) m ρ))
    exact ⟨(h.1 c).1, (h.1 c).2.1, (h.1 c).2.2.1, (h.1 c).2.2.2.1, (h.1 c).2.2.2.2, h.2.1 c⟩
  · refine (θ_run Cert.Reference5Ideal.defs _ _).mono (fun r h c => ?_) (Cert.Reference5Ideal.InProj.run (F := Ideal) m' ρ')
    have hz : StableHlo.after Cert.Reference5Ideal.InProj.opsB (StableHlo.after Cert.Reference5Ideal.InProj.opsA (StableHlo.launchContents m' c)) (Proc.devRef .tc Cert.Reference5Ideal.main_v57) = G m c :=
      (rows_left _ _ rfl _ rfl _ rfl).trans (rows_eq m c _ (hagree c).1 _ (hagree c).2.2.1 _ (hagree c).2.2.2)
    refine ⟨(h c _).trans ((Cert.Reference5Ideal.InProj.tail_v57 _).trans hz), (h c _).trans ((Cert.Reference5Ideal.InProj.tail_v72 _).trans ?_), (h c _).trans ((Cert.Reference5Ideal.InProj.tail_v84 _).trans ?_),
      (h c _).trans ((Cert.Reference5Ideal.InProj.tail_v96 _).trans ?_), (h c _).trans ((Cert.Reference5Ideal.InProj.tail_v102 _).trans ?_),
      (h c _).trans (Cert.Reference5Ideal.InProj.atEnd_arg0 m' c), (h c _).trans (Cert.Reference5Ideal.InProj.atEnd_arg1 m' c),
      (h c _).trans (Cert.Reference5Ideal.InProj.atEnd_arg2 m' c), (h c _).trans (Cert.Reference5Ideal.InProj.atEnd_arg3 m' c)⟩
    · rw [hz]; exact kv_eq 0 _ _
    · rw [hz]; exact kv_eq 1 _ _
    · rw [hz]; exact kv_eq 2 _ _
    · rw [hz, Cert.Reference5Ideal.InProj.opsB_arg1, Cert.Reference5Ideal.InProj.opsA_arg1]
      exact (conv_eq _ _).trans (congrArg (fun s => Cert.Kernel5Ideal.InProj.convOf (F := Ideal) s (G m c)) (hagree c).2.1)

end Cert.InProjTie

end
-- ==== Proof.lean ====
module

public import proofs.«01_k».proof.Defs
public import proofs.«01_k».proof.Proof.Gen.ReferenceIdeal.Run
public import proofs.«01_k».proof.Proof.AttnFrames
public import proofs.«01_k».proof.Proof.AttnAlg
public import proofs.«01_k».proof.Proof.FfnAlg
public import proofs.«01_k».proof.Proof.MergeAlg
public import proofs.«01_k».proof.Proof.PleAlg
public import proofs.«01_k».proof.Proof.PleSampleAlg
public import proofs.«01_k».proof.Proof.InProjFrames
public import proofs.«01_k».proof.Proof.InProjAlg
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel6Ideal.Value
public import proofs.«01_k».proof.Proof.Gen.Reference6Ideal.Run
public import proofs.«01_k».proof.Proof.Gen.Kernel6.Frame
public import Idealize.ShloMosaic.Adequacy
public import Idealize.ShloMosaic.Init

@[expose] public section

noncomputable section

namespace Cert.Proof

open Idealize.ShloMosaic Idealize.SL.Sem Cert.Kernel

theorem quiescent_kernel2 : Cert.quiescent_Kernel2 := fun m ρ _ => Cert.Kernel2.Gen.frame m ρ

theorem quiescent_ideal2 : Cert.quiescent_Kernel2Ideal := fun m ρ _ => Cert.Kernel2Ideal.Gen.frame m ρ

theorem quiescent_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_kernel3 : Cert.quiescent_Kernel3 := fun m ρ _ => Cert.Kernel3.Gen.frame m ρ

theorem quiescent_ideal3 : Cert.quiescent_Kernel3Ideal := fun m ρ _ => Cert.Kernel3Ideal.Gen.frame m ρ

theorem quiescent_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_kernel4 : Cert.quiescent_Kernel4 := fun m ρ _ => Cert.Kernel4.Gen.frame m ρ

theorem quiescent_ideal4 : Cert.quiescent_Kernel4Ideal := fun m ρ _ => Cert.Kernel4Ideal.Gen.frame m ρ

theorem quiescent_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_kernel6 : Cert.quiescent_Kernel6 := fun m ρ _ => Cert.Kernel6.Gen.frame m ρ

theorem quiescent_ideal6 : Cert.quiescent_Kernel6Ideal := fun m ρ _ => Cert.Kernel6Ideal.Gen.frame m ρ

theorem quiescent_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_qk.Gen.facts,
  Attn.frame_kernel, Attn.frame_ideal, fun m ρ _ => Attn.frame_ideal m ρ trivial, Attn.frame_reference, fun m ρ _ => Attn.frame_reference m ρ trivial,
  quiescent_kernel2, quiescent_ideal2, quiescent_reference2, quiescent_kernel3, quiescent_ideal3, quiescent_reference3,
  quiescent_kernel4, quiescent_ideal4, quiescent_reference4, InProj.frame_kernel, InProj.frame_ideal, InProj.frame_reference,
  quiescent_kernel6, quiescent_ideal6, quiescent_reference6,
  (trivial : Cert.preserves_Kernel_KernelIdeal), Cert.Attn.algebraic,
  (trivial : Cert.preserves_Kernel2_Kernel2Ideal), Cert.FfnTie.algebraic,
  (trivial : Cert.preserves_Kernel3_Kernel3Ideal), Cert.MergeTie.algebraic,
  (trivial : Cert.preserves_Kernel4_Kernel4Ideal), Cert.PleTie.algebraic,
  (trivial : Cert.preserves_Kernel5_Kernel5Ideal), Cert.InProjTie.algebraic,
  (trivial : Cert.preserves_Kernel6_Kernel6Ideal), Cert.PleSampleTie.algebraic⟩

end Cert.Proof

end
